-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj0 (m : (ℓ : Loc Cert.Proj0.nD Cert.Proj0.τ Cert.Proj0.sig) → Buf (Elt Bits) ℓ) : Prop :=
  True

def Pre_Proj0Ideal (m : (ℓ : Loc Cert.Proj0Ideal.nD Cert.Proj0Ideal.τ Cert.Proj0Ideal.sig) → Buf (Elt Ideal) ℓ) : Prop :=
  True

def Pre_Proj0RefIdeal (m : (ℓ : Loc Cert.Proj0RefIdeal.nD Cert.Proj0RefIdeal.τ Cert.Proj0RefIdeal.sig) → Buf (Elt Ideal) ℓ) : Prop :=
  True

def Pre_Proj1 (m : (ℓ : Loc Cert.Proj1.nD Cert.Proj1.τ Cert.Proj1.sig) → Buf (Elt Bits) ℓ) : Prop :=
  True

def Pre_Proj1Ideal (m : (ℓ : Loc Cert.Proj1Ideal.nD Cert.Proj1Ideal.τ Cert.Proj1Ideal.sig) → Buf (Elt Ideal) ℓ) : Prop :=
  True

def Pre_Proj1RefIdeal (m : (ℓ : Loc Cert.Proj1RefIdeal.nD Cert.Proj1RefIdeal.τ Cert.Proj1RefIdeal.sig) → Buf (Elt Ideal) ℓ) : Prop :=
  True

def Pre_Proj2 (m : (ℓ : Loc Cert.Proj2.nD Cert.Proj2.τ Cert.Proj2.sig) → Buf (Elt Bits) ℓ) : Prop :=
  True

def Pre_Proj2Ideal (m : (ℓ : Loc Cert.Proj2Ideal.nD Cert.Proj2Ideal.τ Cert.Proj2Ideal.sig) → Buf (Elt Ideal) ℓ) : Prop :=
  True

def Pre_Proj2RefIdeal (m : (ℓ : Loc Cert.Proj2RefIdeal.nD Cert.Proj2RefIdeal.τ Cert.Proj2RefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_Proj0 [hProj0 : Cert.Proj0.Facts] : Prop :=
  ∀ (m : (ℓ : Loc Cert.Proj0.nD Cert.Proj0.τ Cert.Proj0.sig) → Buf (Elt Bits) ℓ) (g : Dev Cert.Proj0.nD → PrngReg), Pre_Proj0 m →
    θ_run (Cert.Proj0.defs (F := Bits)) (onTc (τ := Cert.Proj0.τ) (Cert.Proj0.main (F := Bits))) ⟨m, fun _ => 0, g⟩ (fun r => (∀ c : Dev Cert.Proj0.nD,
      r.2.mem ((c.tc : Thread Cert.Proj0.nD Cert.Proj0.τ).loc Cert.Proj0.main_arg0) = m ((c.tc : Thread Cert.Proj0.nD Cert.Proj0.τ).loc Cert.Proj0.main_arg0)
      ∧ r.2.mem ((c.tc : Thread Cert.Proj0.nD Cert.Proj0.τ).loc Cert.Proj0.main_arg1) = m ((c.tc : Thread Cert.Proj0.nD Cert.Proj0.τ).loc Cert.Proj0.main_arg1)
      ∧ r.2.mem ((c.tc : Thread Cert.Proj0.nD Cert.Proj0.τ).loc Cert.Proj0.main_arg2) = m ((c.tc : Thread Cert.Proj0.nD Cert.Proj0.τ).loc Cert.Proj0.main_arg2))
      ∧ r.2.sem = fun _ => 0)

def quiescent_Proj0Ideal [hProj0Ideal : Cert.Proj0Ideal.Facts] : Prop :=
  ∀ (m : (ℓ : Loc Cert.Proj0Ideal.nD Cert.Proj0Ideal.τ Cert.Proj0Ideal.sig) → Buf (Elt Ideal) ℓ) (g : Dev Cert.Proj0Ideal.nD → PrngReg), Pre_Proj0Ideal m →
    θ_run (Cert.Proj0Ideal.defs (F := Ideal)) (onTc (τ := Cert.Proj0Ideal.τ) (Cert.Proj0Ideal.main (F := Ideal))) ⟨m, fun _ => 0, g⟩ (fun r => (∀ c : Dev Cert.Proj0Ideal.nD,
      r.2.mem ((c.tc : Thread Cert.Proj0Ideal.nD Cert.Proj0Ideal.τ).loc Cert.Proj0Ideal.main_arg0) = m ((c.tc : Thread Cert.Proj0Ideal.nD Cert.Proj0Ideal.τ).loc Cert.Proj0Ideal.main_arg0)
      ∧ r.2.mem ((c.tc : Thread Cert.Proj0Ideal.nD Cert.Proj0Ideal.τ).loc Cert.Proj0Ideal.main_arg1) = m ((c.tc : Thread Cert.Proj0Ideal.nD Cert.Proj0Ideal.τ).loc Cert.Proj0Ideal.main_arg1)
      ∧ r.2.mem ((c.tc : Thread Cert.Proj0Ideal.nD Cert.Proj0Ideal.τ).loc Cert.Proj0Ideal.main_arg2) = m ((c.tc : Thread Cert.Proj0Ideal.nD Cert.Proj0Ideal.τ).loc Cert.Proj0Ideal.main_arg2))
      ∧ r.2.sem = fun _ => 0)

def quiescent_Proj0RefIdeal [hProj0RefIdeal : Cert.Proj0RefIdeal.Facts] : Prop :=
  ∀ (m : (ℓ : Loc Cert.Proj0RefIdeal.nD Cert.Proj0RefIdeal.τ Cert.Proj0RefIdeal.sig) → Buf (Elt Ideal) ℓ) (g : Dev Cert.Proj0RefIdeal.nD → PrngReg), Pre_Proj0RefIdeal m →
    θ_run (Cert.Proj0RefIdeal.defs (F := Ideal)) (onTc (τ := Cert.Proj0RefIdeal.τ) (Cert.Proj0RefIdeal.main (F := Ideal))) ⟨m, fun _ => 0, g⟩ (fun r => (∀ c : Dev Cert.Proj0RefIdeal.nD,
      r.2.mem ((c.tc : Thread Cert.Proj0RefIdeal.nD Cert.Proj0RefIdeal.τ).loc Cert.Proj0RefIdeal.main_arg0) = m ((c.tc : Thread Cert.Proj0RefIdeal.nD Cert.Proj0RefIdeal.τ).loc Cert.Proj0RefIdeal.main_arg0)
      ∧ r.2.mem ((c.tc : Thread Cert.Proj0RefIdeal.nD Cert.Proj0RefIdeal.τ).loc Cert.Proj0RefIdeal.main_arg1) = m ((c.tc : Thread Cert.Proj0RefIdeal.nD Cert.Proj0RefIdeal.τ).loc Cert.Proj0RefIdeal.main_arg1)
      ∧ r.2.mem ((c.tc : Thread Cert.Proj0RefIdeal.nD Cert.Proj0RefIdeal.τ).loc Cert.Proj0RefIdeal.main_arg2) = m ((c.tc : Thread Cert.Proj0RefIdeal.nD Cert.Proj0RefIdeal.τ).loc Cert.Proj0RefIdeal.main_arg2))
      ∧ r.2.sem = fun _ => 0)

def quiescent_Proj1 [hProj1 : Cert.Proj1.Facts] : Prop :=
  ∀ (m : (ℓ : Loc Cert.Proj1.nD Cert.Proj1.τ Cert.Proj1.sig) → Buf (Elt Bits) ℓ) (g : Dev Cert.Proj1.nD → PrngReg), Pre_Proj1 m →
    θ_run (Cert.Proj1.defs (F := Bits)) (onTc (τ := Cert.Proj1.τ) (Cert.Proj1.main (F := Bits))) ⟨m, fun _ => 0, g⟩ (fun r => (∀ c : Dev Cert.Proj1.nD,
      r.2.mem ((c.tc : Thread Cert.Proj1.nD Cert.Proj1.τ).loc Cert.Proj1.main_arg0) = m ((c.tc : Thread Cert.Proj1.nD Cert.Proj1.τ).loc Cert.Proj1.main_arg0)
      ∧ r.2.mem ((c.tc : Thread Cert.Proj1.nD Cert.Proj1.τ).loc Cert.Proj1.main_arg1) = m ((c.tc : Thread Cert.Proj1.nD Cert.Proj1.τ).loc Cert.Proj1.main_arg1))
      ∧ r.2.sem = fun _ => 0)

def quiescent_Proj1Ideal [hProj1Ideal : Cert.Proj1Ideal.Facts] : Prop :=
  ∀ (m : (ℓ : Loc Cert.Proj1Ideal.nD Cert.Proj1Ideal.τ Cert.Proj1Ideal.sig) → Buf (Elt Ideal) ℓ) (g : Dev Cert.Proj1Ideal.nD → PrngReg), Pre_Proj1Ideal m →
    θ_run (Cert.Proj1Ideal.defs (F := Ideal)) (onTc (τ := Cert.Proj1Ideal.τ) (Cert.Proj1Ideal.main (F := Ideal))) ⟨m, fun _ => 0, g⟩ (fun r => (∀ c : Dev Cert.Proj1Ideal.nD,
      r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
      ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1))
      ∧ r.2.sem = fun _ => 0)

def quiescent_Proj1RefIdeal [hProj1RefIdeal : Cert.Proj1RefIdeal.Facts] : Prop :=
  ∀ (m : (ℓ : Loc Cert.Proj1RefIdeal.nD Cert.Proj1RefIdeal.τ Cert.Proj1RefIdeal.sig) → Buf (Elt Ideal) ℓ) (g : Dev Cert.Proj1RefIdeal.nD → PrngReg), Pre_Proj1RefIdeal m →
    θ_run (Cert.Proj1RefIdeal.defs (F := Ideal)) (onTc (τ := Cert.Proj1RefIdeal.τ) (Cert.Proj1RefIdeal.main (F := Ideal))) ⟨m, fun _ => 0, g⟩ (fun r => (∀ c : Dev Cert.Proj1RefIdeal.nD,
      r.2.mem ((c.tc : Thread Cert.Proj1RefIdeal.nD Cert.Proj1RefIdeal.τ).loc Cert.Proj1RefIdeal.main_arg0) = m ((c.tc : Thread Cert.Proj1RefIdeal.nD Cert.Proj1RefIdeal.τ).loc Cert.Proj1RefIdeal.main_arg0)
      ∧ r.2.mem ((c.tc : Thread Cert.Proj1RefIdeal.nD Cert.Proj1RefIdeal.τ).loc Cert.Proj1RefIdeal.main_arg1) = m ((c.tc : Thread Cert.Proj1RefIdeal.nD Cert.Proj1RefIdeal.τ).loc Cert.Proj1RefIdeal.main_arg1))
      ∧ r.2.sem = fun _ => 0)

def quiescent_Proj2 [hProj2 : Cert.Proj2.Facts] : Prop :=
  ∀ (m : (ℓ : Loc Cert.Proj2.nD Cert.Proj2.τ Cert.Proj2.sig) → Buf (Elt Bits) ℓ) (g : Dev Cert.Proj2.nD → PrngReg), Pre_Proj2 m →
    θ_run (Cert.Proj2.defs (F := Bits)) (onTc (τ := Cert.Proj2.τ) (Cert.Proj2.main (F := Bits))) ⟨m, fun _ => 0, g⟩ (fun r => (∀ c : Dev Cert.Proj2.nD,
      r.2.mem ((c.tc : Thread Cert.Proj2.nD Cert.Proj2.τ).loc Cert.Proj2.main_arg0) = m ((c.tc : Thread Cert.Proj2.nD Cert.Proj2.τ).loc Cert.Proj2.main_arg0)
      ∧ r.2.mem ((c.tc : Thread Cert.Proj2.nD Cert.Proj2.τ).loc Cert.Proj2.main_arg1) = m ((c.tc : Thread Cert.Proj2.nD Cert.Proj2.τ).loc Cert.Proj2.main_arg1))
      ∧ r.2.sem = fun _ => 0)

def quiescent_Proj2Ideal [hProj2Ideal : Cert.Proj2Ideal.Facts] : Prop :=
  ∀ (m : (ℓ : Loc Cert.Proj2Ideal.nD Cert.Proj2Ideal.τ Cert.Proj2Ideal.sig) → Buf (Elt Ideal) ℓ) (g : Dev Cert.Proj2Ideal.nD → PrngReg), Pre_Proj2Ideal m →
    θ_run (Cert.Proj2Ideal.defs (F := Ideal)) (onTc (τ := Cert.Proj2Ideal.τ) (Cert.Proj2Ideal.main (F := Ideal))) ⟨m, fun _ => 0, g⟩ (fun r => (∀ c : Dev Cert.Proj2Ideal.nD,
      r.2.mem ((c.tc : Thread Cert.Proj2Ideal.nD Cert.Proj2Ideal.τ).loc Cert.Proj2Ideal.main_arg0) = m ((c.tc : Thread Cert.Proj2Ideal.nD Cert.Proj2Ideal.τ).loc Cert.Proj2Ideal.main_arg0)
      ∧ r.2.mem ((c.tc : Thread Cert.Proj2Ideal.nD Cert.Proj2Ideal.τ).loc Cert.Proj2Ideal.main_arg1) = m ((c.tc : Thread Cert.Proj2Ideal.nD Cert.Proj2Ideal.τ).loc Cert.Proj2Ideal.main_arg1))
      ∧ r.2.sem = fun _ => 0)

def quiescent_Proj2RefIdeal [hProj2RefIdeal : Cert.Proj2RefIdeal.Facts] : Prop :=
  ∀ (m : (ℓ : Loc Cert.Proj2RefIdeal.nD Cert.Proj2RefIdeal.τ Cert.Proj2RefIdeal.sig) → Buf (Elt Ideal) ℓ) (g : Dev Cert.Proj2RefIdeal.nD → PrngReg), Pre_Proj2RefIdeal m →
    θ_run (Cert.Proj2RefIdeal.defs (F := Ideal)) (onTc (τ := Cert.Proj2RefIdeal.τ) (Cert.Proj2RefIdeal.main (F := Ideal))) ⟨m, fun _ => 0, g⟩ (fun r => (∀ c : Dev Cert.Proj2RefIdeal.nD,
      r.2.mem ((c.tc : Thread Cert.Proj2RefIdeal.nD Cert.Proj2RefIdeal.τ).loc Cert.Proj2RefIdeal.main_arg0) = m ((c.tc : Thread Cert.Proj2RefIdeal.nD Cert.Proj2RefIdeal.τ).loc Cert.Proj2RefIdeal.main_arg0)
      ∧ r.2.mem ((c.tc : Thread Cert.Proj2RefIdeal.nD Cert.Proj2RefIdeal.τ).loc Cert.Proj2RefIdeal.main_arg1) = m ((c.tc : Thread Cert.Proj2RefIdeal.nD Cert.Proj2RefIdeal.τ).loc Cert.Proj2RefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6)
      ∧ r.2.mem ((c.tc : Thread Cert.Cmp.nD Cert.Cmp.τ).loc Cert.Cmp.main_arg7) = m ((c.tc : Thread Cert.Cmp.nD Cert.Cmp.τ).loc Cert.Cmp.main_arg7))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
      ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def preserves_Out_OutIdeal : Prop :=
  True

def preserves_Proj0_Proj0Ideal : Prop :=
  True

def preserves_Proj1_Proj1Ideal : Prop :=
  True

def preserves_Proj2_Proj2Ideal : Prop :=
  True

def preserves_Prep_PrepIdeal : Prop :=
  True

def preserves_Cmp_CmpIdeal : Prop :=
  True

def preserves_Attn_AttnIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v12)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v12) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v27) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def algebraic_Proj0Ideal_Proj0RefIdeal [hProj0Ideal : Cert.Proj0Ideal.Facts] [hProj0RefIdeal : Cert.Proj0RefIdeal.Facts] : Prop :=
  ∀ (m : (ℓ : Loc Cert.Proj0Ideal.nD Cert.Proj0Ideal.τ Cert.Proj0Ideal.sig) → Buf (Elt Ideal) ℓ) (g : Dev Cert.Proj0Ideal.nD → PrngReg)
    (m' : (ℓ : Loc Cert.Proj0RefIdeal.nD Cert.Proj0RefIdeal.τ Cert.Proj0RefIdeal.sig) → Buf (Elt Ideal) ℓ) (g' : Dev Cert.Proj0RefIdeal.nD → PrngReg), Pre_Proj0Ideal m →
    (∀ c : Dev Cert.Proj0Ideal.nD,
      m' ((c.tc : Thread Cert.Proj0RefIdeal.nD Cert.Proj0RefIdeal.τ).loc Cert.Proj0RefIdeal.main_arg0) = m ((c.tc : Thread Cert.Proj0Ideal.nD Cert.Proj0Ideal.τ).loc Cert.Proj0Ideal.main_arg0)
      ∧ m' ((c.tc : Thread Cert.Proj0RefIdeal.nD Cert.Proj0RefIdeal.τ).loc Cert.Proj0RefIdeal.main_arg1) = m ((c.tc : Thread Cert.Proj0Ideal.nD Cert.Proj0Ideal.τ).loc Cert.Proj0Ideal.main_arg1)
      ∧ m' ((c.tc : Thread Cert.Proj0RefIdeal.nD Cert.Proj0RefIdeal.τ).loc Cert.Proj0RefIdeal.main_arg2) = m ((c.tc : Thread Cert.Proj0Ideal.nD Cert.Proj0Ideal.τ).loc Cert.Proj0Ideal.main_arg2)) →
    ∃ (v0 : (c : Dev Cert.Proj0Ideal.nD) → Buf (Elt Ideal) ((c.tc : Thread Cert.Proj0Ideal.nD Cert.Proj0Ideal.τ).loc Cert.Proj0Ideal.main_v63_0)) (v1 : (c : Dev Cert.Proj0Ideal.nD) → Buf (Elt Ideal) ((c.tc : Thread Cert.Proj0Ideal.nD Cert.Proj0Ideal.τ).loc Cert.Proj0Ideal.main_v63_1)) (v2 : (c : Dev Cert.Proj0Ideal.nD) → Buf (Elt Ideal) ((c.tc : Thread Cert.Proj0Ideal.nD Cert.Proj0Ideal.τ).loc Cert.Proj0Ideal.main_v63_2)) (v3 : (c : Dev Cert.Proj0Ideal.nD) → Buf (Elt Ideal) ((c.tc : Thread Cert.Proj0Ideal.nD Cert.Proj0Ideal.τ).loc Cert.Proj0Ideal.main_v63_3)),
      θ_run (Cert.Proj0Ideal.defs (F := Ideal)) (onTc (τ := Cert.Proj0Ideal.τ) (Cert.Proj0Ideal.main (F := Ideal))) ⟨m, fun _ => 0, g⟩ (fun r => ∀ c : Dev Cert.Proj0Ideal.nD,
          r.2.mem ((c.tc : Thread Cert.Proj0Ideal.nD Cert.Proj0Ideal.τ).loc Cert.Proj0Ideal.main_v63_0) = v0 c
          ∧ r.2.mem ((c.tc : Thread Cert.Proj0Ideal.nD Cert.Proj0Ideal.τ).loc Cert.Proj0Ideal.main_v63_1) = v1 c
          ∧ r.2.mem ((c.tc : Thread Cert.Proj0Ideal.nD Cert.Proj0Ideal.τ).loc Cert.Proj0Ideal.main_v63_2) = v2 c
          ∧ r.2.mem ((c.tc : Thread Cert.Proj0Ideal.nD Cert.Proj0Ideal.τ).loc Cert.Proj0Ideal.main_v63_3) = v3 c
          ∧ r.2.mem ((c.tc : Thread Cert.Proj0Ideal.nD Cert.Proj0Ideal.τ).loc Cert.Proj0Ideal.main_arg0) = m ((c.tc : Thread Cert.Proj0Ideal.nD Cert.Proj0Ideal.τ).loc Cert.Proj0Ideal.main_arg0)
          ∧ r.2.mem ((c.tc : Thread Cert.Proj0Ideal.nD Cert.Proj0Ideal.τ).loc Cert.Proj0Ideal.main_arg1) = m ((c.tc : Thread Cert.Proj0Ideal.nD Cert.Proj0Ideal.τ).loc Cert.Proj0Ideal.main_arg1)
          ∧ r.2.mem ((c.tc : Thread Cert.Proj0Ideal.nD Cert.Proj0Ideal.τ).loc Cert.Proj0Ideal.main_arg2) = m ((c.tc : Thread Cert.Proj0Ideal.nD Cert.Proj0Ideal.τ).loc Cert.Proj0Ideal.main_arg2))
      ∧ θ_run (Cert.Proj0RefIdeal.defs (F := Ideal)) (onTc (τ := Cert.Proj0RefIdeal.τ) (Cert.Proj0RefIdeal.main (F := Ideal))) ⟨m', fun _ => 0, g'⟩ (fun r => ∀ c : Dev Cert.Proj0RefIdeal.nD,
          r.2.mem ((c.tc : Thread Cert.Proj0RefIdeal.nD Cert.Proj0RefIdeal.τ).loc Cert.Proj0RefIdeal.main_v167) = v0 c
          ∧ r.2.mem ((c.tc : Thread Cert.Proj0RefIdeal.nD Cert.Proj0RefIdeal.τ).loc Cert.Proj0RefIdeal.main_v169) = v1 c
          ∧ r.2.mem ((c.tc : Thread Cert.Proj0RefIdeal.nD Cert.Proj0RefIdeal.τ).loc Cert.Proj0RefIdeal.main_v173) = v2 c
          ∧ r.2.mem ((c.tc : Thread Cert.Proj0RefIdeal.nD Cert.Proj0RefIdeal.τ).loc Cert.Proj0RefIdeal.main_v177) = v3 c
          ∧ r.2.mem ((c.tc : Thread Cert.Proj0RefIdeal.nD Cert.Proj0RefIdeal.τ).loc Cert.Proj0RefIdeal.main_arg0) = m' ((c.tc : Thread Cert.Proj0RefIdeal.nD Cert.Proj0RefIdeal.τ).loc Cert.Proj0RefIdeal.main_arg0)
          ∧ r.2.mem ((c.tc : Thread Cert.Proj0RefIdeal.nD Cert.Proj0RefIdeal.τ).loc Cert.Proj0RefIdeal.main_arg1) = m' ((c.tc : Thread Cert.Proj0RefIdeal.nD Cert.Proj0RefIdeal.τ).loc Cert.Proj0RefIdeal.main_arg1)
          ∧ r.2.mem ((c.tc : Thread Cert.Proj0RefIdeal.nD Cert.Proj0RefIdeal.τ).loc Cert.Proj0RefIdeal.main_arg2) = m' ((c.tc : Thread Cert.Proj0RefIdeal.nD Cert.Proj0RefIdeal.τ).loc Cert.Proj0RefIdeal.main_arg2))

def algebraic_Proj1Ideal_Proj1RefIdeal [hProj1Ideal : Cert.Proj1Ideal.Facts] [hProj1RefIdeal : Cert.Proj1RefIdeal.Facts] : Prop :=
  ∀ (m : (ℓ : Loc Cert.Proj1Ideal.nD Cert.Proj1Ideal.τ Cert.Proj1Ideal.sig) → Buf (Elt Ideal) ℓ) (g : Dev Cert.Proj1Ideal.nD → PrngReg)
    (m' : (ℓ : Loc Cert.Proj1RefIdeal.nD Cert.Proj1RefIdeal.τ Cert.Proj1RefIdeal.sig) → Buf (Elt Ideal) ℓ) (g' : Dev Cert.Proj1RefIdeal.nD → PrngReg), Pre_Proj1Ideal m →
    (∀ c : Dev Cert.Proj1Ideal.nD,
      m' ((c.tc : Thread Cert.Proj1RefIdeal.nD Cert.Proj1RefIdeal.τ).loc Cert.Proj1RefIdeal.main_arg0) = m ((c.tc : Thread Cert.Proj1Ideal.nD Cert.Proj1Ideal.τ).loc Cert.Proj1Ideal.main_arg0)
      ∧ m' ((c.tc : Thread Cert.Proj1RefIdeal.nD Cert.Proj1RefIdeal.τ).loc Cert.Proj1RefIdeal.main_arg1) = m ((c.tc : Thread Cert.Proj1Ideal.nD Cert.Proj1Ideal.τ).loc Cert.Proj1Ideal.main_arg1)) →
    ∃ (v0 : (c : Dev Cert.Proj1Ideal.nD) → Buf (Elt Ideal) ((c.tc : Thread Cert.Proj1Ideal.nD Cert.Proj1Ideal.τ).loc Cert.Proj1Ideal.main_v59)),
      θ_run (Cert.Proj1Ideal.defs (F := Ideal)) (onTc (τ := Cert.Proj1Ideal.τ) (Cert.Proj1Ideal.main (F := Ideal))) ⟨m, fun _ => 0, g⟩ (fun r => ∀ c : Dev Cert.Proj1Ideal.nD,
          r.2.mem ((c.tc : Thread Cert.Proj1Ideal.nD Cert.Proj1Ideal.τ).loc Cert.Proj1Ideal.main_v59) = v0 c
          ∧ r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
          ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1))
      ∧ θ_run (Cert.Proj1RefIdeal.defs (F := Ideal)) (onTc (τ := Cert.Proj1RefIdeal.τ) (Cert.Proj1RefIdeal.main (F := Ideal))) ⟨m', fun _ => 0, g'⟩ (fun r => ∀ c : Dev Cert.Proj1RefIdeal.nD,
          r.2.mem ((c.tc : Thread Cert.Proj1RefIdeal.nD Cert.Proj1RefIdeal.τ).loc Cert.Proj1RefIdeal.main_v60) = v0 c
          ∧ r.2.mem ((c.tc : Thread Cert.Proj1RefIdeal.nD Cert.Proj1RefIdeal.τ).loc Cert.Proj1RefIdeal.main_arg0) = m' ((c.tc : Thread Cert.Proj1RefIdeal.nD Cert.Proj1RefIdeal.τ).loc Cert.Proj1RefIdeal.main_arg0)
          ∧ r.2.mem ((c.tc : Thread Cert.Proj1RefIdeal.nD Cert.Proj1RefIdeal.τ).loc Cert.Proj1RefIdeal.main_arg1) = m' ((c.tc : Thread Cert.Proj1RefIdeal.nD Cert.Proj1RefIdeal.τ).loc Cert.Proj1RefIdeal.main_arg1))

def algebraic_Proj2Ideal_Proj2RefIdeal [hProj2Ideal : Cert.Proj2Ideal.Facts] [hProj2RefIdeal : Cert.Proj2RefIdeal.Facts] : Prop :=
  ∀ (m : (ℓ : Loc Cert.Proj2Ideal.nD Cert.Proj2Ideal.τ Cert.Proj2Ideal.sig) → Buf (Elt Ideal) ℓ) (g : Dev Cert.Proj2Ideal.nD → PrngReg)
    (m' : (ℓ : Loc Cert.Proj2RefIdeal.nD Cert.Proj2RefIdeal.τ Cert.Proj2RefIdeal.sig) → Buf (Elt Ideal) ℓ) (g' : Dev Cert.Proj2RefIdeal.nD → PrngReg), Pre_Proj2Ideal m →
    (∀ c : Dev Cert.Proj2Ideal.nD,
      m' ((c.tc : Thread Cert.Proj2RefIdeal.nD Cert.Proj2RefIdeal.τ).loc Cert.Proj2RefIdeal.main_arg0) = m ((c.tc : Thread Cert.Proj2Ideal.nD Cert.Proj2Ideal.τ).loc Cert.Proj2Ideal.main_arg0)
      ∧ m' ((c.tc : Thread Cert.Proj2RefIdeal.nD Cert.Proj2RefIdeal.τ).loc Cert.Proj2RefIdeal.main_arg1) = m ((c.tc : Thread Cert.Proj2Ideal.nD Cert.Proj2Ideal.τ).loc Cert.Proj2Ideal.main_arg1)) →
    ∃ (v0 : (c : Dev Cert.Proj2Ideal.nD) → Buf (Elt Ideal) ((c.tc : Thread Cert.Proj2Ideal.nD Cert.Proj2Ideal.τ).loc Cert.Proj2Ideal.main_v59)),
      θ_run (Cert.Proj2Ideal.defs (F := Ideal)) (onTc (τ := Cert.Proj2Ideal.τ) (Cert.Proj2Ideal.main (F := Ideal))) ⟨m, fun _ => 0, g⟩ (fun r => ∀ c : Dev Cert.Proj2Ideal.nD,
          r.2.mem ((c.tc : Thread Cert.Proj2Ideal.nD Cert.Proj2Ideal.τ).loc Cert.Proj2Ideal.main_v59) = v0 c
          ∧ r.2.mem ((c.tc : Thread Cert.Proj2Ideal.nD Cert.Proj2Ideal.τ).loc Cert.Proj2Ideal.main_arg0) = m ((c.tc : Thread Cert.Proj2Ideal.nD Cert.Proj2Ideal.τ).loc Cert.Proj2Ideal.main_arg0)
          ∧ r.2.mem ((c.tc : Thread Cert.Proj2Ideal.nD Cert.Proj2Ideal.τ).loc Cert.Proj2Ideal.main_arg1) = m ((c.tc : Thread Cert.Proj2Ideal.nD Cert.Proj2Ideal.τ).loc Cert.Proj2Ideal.main_arg1))
      ∧ θ_run (Cert.Proj2RefIdeal.defs (F := Ideal)) (onTc (τ := Cert.Proj2RefIdeal.τ) (Cert.Proj2RefIdeal.main (F := Ideal))) ⟨m', fun _ => 0, g'⟩ (fun r => ∀ c : Dev Cert.Proj2RefIdeal.nD,
          r.2.mem ((c.tc : Thread Cert.Proj2RefIdeal.nD Cert.Proj2RefIdeal.τ).loc Cert.Proj2RefIdeal.main_v48) = v0 c
          ∧ r.2.mem ((c.tc : Thread Cert.Proj2RefIdeal.nD Cert.Proj2RefIdeal.τ).loc Cert.Proj2RefIdeal.main_arg0) = m' ((c.tc : Thread Cert.Proj2RefIdeal.nD Cert.Proj2RefIdeal.τ).loc Cert.Proj2RefIdeal.main_arg0)
          ∧ r.2.mem ((c.tc : Thread Cert.Proj2RefIdeal.nD Cert.Proj2RefIdeal.τ).loc Cert.Proj2RefIdeal.main_arg1) = m' ((c.tc : Thread Cert.Proj2RefIdeal.nD Cert.Proj2RefIdeal.τ).loc Cert.Proj2RefIdeal.main_arg1))

def Claim : Prop :=
  ∃ (hOut : Cert.Out.Facts) (hOutIdeal : Cert.OutIdeal.Facts) (hOutRefIdeal : Cert.OutRefIdeal.Facts) (hProj0 : Cert.Proj0.Facts) (hProj0Ideal : Cert.Proj0Ideal.Facts) (hProj0RefIdeal : Cert.Proj0RefIdeal.Facts) (hProj1 : Cert.Proj1.Facts) (hProj1Ideal : Cert.Proj1Ideal.Facts) (hProj1RefIdeal : Cert.Proj1RefIdeal.Facts) (hProj2 : Cert.Proj2.Facts) (hProj2Ideal : Cert.Proj2Ideal.Facts) (hProj2RefIdeal : Cert.Proj2RefIdeal.Facts) (hPrep : Cert.Prep.Facts) (hPrepIdeal : Cert.PrepIdeal.Facts) (hCmp : Cert.Cmp.Facts) (hCmpIdeal : Cert.CmpIdeal.Facts) (hAttn : Cert.Attn.Facts) (hAttnIdeal : Cert.AttnIdeal.Facts),
    quiescent_Out (hOut := hOut)
    ∧ quiescent_OutIdeal (hOutIdeal := hOutIdeal)
    ∧ quiescent_OutRefIdeal (hOutRefIdeal := hOutRefIdeal)
    ∧ quiescent_Proj0 (hProj0 := hProj0)
    ∧ quiescent_Proj0Ideal (hProj0Ideal := hProj0Ideal)
    ∧ quiescent_Proj0RefIdeal (hProj0RefIdeal := hProj0RefIdeal)
    ∧ quiescent_Proj1 (hProj1 := hProj1)
    ∧ quiescent_Proj1Ideal (hProj1Ideal := hProj1Ideal)
    ∧ quiescent_Proj1RefIdeal (hProj1RefIdeal := hProj1RefIdeal)
    ∧ quiescent_Proj2 (hProj2 := hProj2)
    ∧ quiescent_Proj2Ideal (hProj2Ideal := hProj2Ideal)
    ∧ quiescent_Proj2RefIdeal (hProj2RefIdeal := hProj2RefIdeal)
    ∧ quiescent_Prep (hPrep := hPrep)
    ∧ quiescent_PrepIdeal (hPrepIdeal := hPrepIdeal)
    ∧ quiescent_Cmp (hCmp := hCmp)
    ∧ quiescent_CmpIdeal (hCmpIdeal := hCmpIdeal)
    ∧ quiescent_Attn (hAttn := hAttn)
    ∧ quiescent_AttnIdeal (hAttnIdeal := hAttnIdeal)
    ∧ preserves_Out_OutIdeal
    ∧ preserves_Proj0_Proj0Ideal
    ∧ preserves_Proj1_Proj1Ideal
    ∧ preserves_Proj2_Proj2Ideal
    ∧ preserves_Prep_PrepIdeal
    ∧ preserves_Cmp_CmpIdeal
    ∧ preserves_Attn_AttnIdeal
    ∧ algebraic_OutIdeal_OutRefIdeal (hOutIdeal := hOutIdeal) (hOutRefIdeal := hOutRefIdeal)
    ∧ algebraic_Proj0Ideal_Proj0RefIdeal (hProj0Ideal := hProj0Ideal) (hProj0RefIdeal := hProj0RefIdeal)
    ∧ algebraic_Proj1Ideal_Proj1RefIdeal (hProj1Ideal := hProj1Ideal) (hProj1RefIdeal := hProj1RefIdeal)
    ∧ algebraic_Proj2Ideal_Proj2RefIdeal (hProj2Ideal := hProj2Ideal) (hProj2RefIdeal := hProj2RefIdeal)
-- ==== Out.lean ====
abbrev S8x512x1024 : Shape := ⟨3, ![8, 512, 1024]⟩
abbrev S1x2048x2048 : Shape := ⟨3, ![1, 2048, 2048]⟩
abbrev S8x2048x2048 : Shape := ⟨3, ![8, 2048, 2048]⟩
abbrev S2048 : Shape := ⟨1, ![2048]⟩
abbrev S4096x1024 : Shape := ⟨2, ![4096, 1024]⟩
abbrev S2048x2048 : Shape := ⟨2, ![2048, 2048]⟩
abbrev S16384x2048 : Shape := ⟨2, ![16384, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 24
  | .vmem => 23
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S8x512x1024, .bf16⟩
  | .hbm, ⟨5, _⟩ => ⟨S8x512x1024, .bf16⟩
  | .hbm, ⟨6, _⟩ => ⟨S8x512x1024, .bf16⟩
  | .hbm, ⟨7, _⟩ => ⟨S8x512x1024, .bf16⟩
  | .hbm, ⟨8, _⟩ => ⟨S1x2048x2048, .f32⟩
  | .hbm, ⟨9, _⟩ => ⟨S8x2048x2048, .f32⟩
  | .hbm, ⟨10, _⟩ => ⟨S2048, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S2048x2048, .f32⟩
  | .hbm, ⟨20, _⟩ => ⟨S2048x2048, .bf16⟩
  | .hbm, ⟨21, _⟩ => ⟨S16384x2048, .f32⟩
  | .hbm, ⟨22, _⟩ => ⟨S1x2048, .f32⟩
  | .hbm, ⟨23, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x2048, .bf16⟩
  | .local _ .vmem, ⟨17, _⟩ => ⟨S1024x2048, .bf16⟩
  | .local _ .vmem, ⟨18, _⟩ => ⟨S512x2048, .f32⟩
  | .local _ .vmem, ⟨19, _⟩ => ⟨S512x2048, .f32⟩
  | .local _ .vmem, ⟨20, _⟩ => ⟨S1x2048, .f32⟩
  | .local _ .vmem, ⟨21, _⟩ => ⟨S512x2048, .f32⟩
  | .local _ .vmem, ⟨22, _⟩ => ⟨S512x2048, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_5 : BitVec 32 := 1#32
  let v13 : BitVec 1 := Scalar.cmpi .eq v9 c1_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32 : BitVec 32 := 2#32
  let v16 : BitVec 1 := Scalar.cmpi .eq v9 c2_i32
  let v17 : BitVec 32 := Scalar.extui v16
  let c0_i32_7 : BitVec 32 := 0#32
  let v18 : BitVec 1 := Scalar.cmpi .ne v17 c0_i32_7
  v18

def k0_cond4 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v19 : BitVec 1 := Scalar.cmpi .eq v9 c3_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.subi v0 c1_i32
  let c0_i32 : BitVec 32 := 0#32
  let v2 : BitVec 32 := Scalar.subi v1 c0_i32
  let c4_i32_0 : BitVec 32 := 4#32
  let v3 : BitVec 32 := Scalar.divsi v2 c4_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32_0 c0_i32_3
  let v10 : BitVec 32 := Scalar.extui v9
  let c0_i32_4 : BitVec 32 := 0#32
  let v11 : BitVec 1 := Scalar.cmpi .slt c4_i32_0 c0_i32_4
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c7_i32 : BitVec 32 := 7#32
  let v20 : BitVec 32 := Scalar.minsi v19 c7_i32
  let c0_i32_7 : BitVec 32 := 0#32
  let c0_i32_8 : BitVec 32 := 0#32
  ![v20.toNat, c0_i32_7.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.subi v0 c1_i32
  let c1_i32_0 : BitVec 32 := 1#32
  let v2 : BitVec 32 := Scalar.subi v1 c1_i32_0
  let c4_i32_1 : BitVec 32 := 4#32
  let v3 : BitVec 32 := Scalar.divsi v2 c4_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32_1 c0_i32_3
  let v10 : BitVec 32 := Scalar.extui v9
  let c0_i32_4 : BitVec 32 := 0#32
  let v11 : BitVec 1 := Scalar.cmpi .slt c4_i32_1 c0_i32_4
  let v12 : BitVec 32 := Scalar.extui v11
  let v13 : BitVec 32 := Scalar.subi v10 v12
  let v14 : BitVec 1 := Scalar.cmpi .ne v8 v13
  let v15 : BitVec 32 := Scalar.remsi v2 c4_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c7_i32 : BitVec 32 := 7#32
  let v20 : BitVec 32 := Scalar.minsi v19 c7_i32
  let c0_i32_7 : BitVec 32 := 0#32
  let c0_i32_8 : BitVec 32 := 0#32
  ![v20.toNat, c0_i32_7.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.subi v0 c1_i32
  let c2_i32 : BitVec 32 := 2#32
  let v2 : BitVec 32 := Scalar.subi v1 c2_i32
  let c4_i32_0 : BitVec 32 := 4#32
  let v3 : BitVec 32 := Scalar.divsi v2 c4_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c7_i32 : BitVec 32 := 7#32
  let v20 : BitVec 32 := Scalar.minsi v19 c7_i32
  let c0_i32_6 : BitVec 32 := 0#32
  let c0_i32_7 : BitVec 32 := 0#32
  ![v20.toNat, c0_i32_6.toNat]

def cc0_transform_3 (i : grid0.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.subi v0 c1_i32
  let c3_i32 : BitVec 32 := 3#32
  let v2 : BitVec 32 := Scalar.subi v1 c3_i32
  let c4_i32_0 : BitVec 32 := 4#32
  let v3 : BitVec 32 := Scalar.divsi v2 c4_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c7_i32 : BitVec 32 := 7#32
  let v20 : BitVec 32 := Scalar.minsi v19 c7_i32
  let c0_i32_6 : BitVec 32 := 0#32
  let c0_i32_7 : BitVec 32 := 0#32
  ![v20.toNat, c0_i32_6.toNat]

def cc0_transform_4 (i : grid0.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.subi v0 c1_i32
  let c0_i32 : BitVec 32 := 0#32
  let v2 : BitVec 32 := Scalar.subi v1 c0_i32
  let c4_i32_0 : BitVec 32 := 4#32
  let v3 : BitVec 32 := Scalar.divsi v2 c4_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32_0 c0_i32_3
  let v10 : BitVec 32 := Scalar.extui v9
  let c0_i32_4 : BitVec 32 := 0#32
  let v11 : BitVec 1 := Scalar.cmpi .slt c4_i32_0 c0_i32_4
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c7_i32 : BitVec 32 := 7#32
  let v20 : BitVec 32 := Scalar.minsi v19 c7_i32
  let c0_i32_7 : BitVec 32 := 0#32
  let c0_i32_8 : BitVec 32 := 0#32
  ![v20.toNat, c0_i32_7.toNat]

def cc0_transform_5 (i : grid0.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.subi v0 c1_i32
  let c1_i32_0 : BitVec 32 := 1#32
  let v2 : BitVec 32 := Scalar.subi v1 c1_i32_0
  let c4_i32_1 : BitVec 32 := 4#32
  let v3 : BitVec 32 := Scalar.divsi v2 c4_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32_1 c0_i32_3
  let v10 : BitVec 32 := Scalar.extui v9
  let c0_i32_4 : BitVec 32 := 0#32
  let v11 : BitVec 1 := Scalar.cmpi .slt c4_i32_1 c0_i32_4
  let v12 : BitVec 32 := Scalar.extui v11
  let v13 : BitVec 32 := Scalar.subi v10 v12
  let v14 : BitVec 1 := Scalar.cmpi .ne v8 v13
  let v15 : BitVec 32 := Scalar.remsi v2 c4_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c7_i32 : BitVec 32 := 7#32
  let v20 : BitVec 32 := Scalar.minsi v19 c7_i32
  let c0_i32_7 : BitVec 32 := 0#32
  let c0_i32_8 : BitVec 32 := 0#32
  ![v20.toNat, c0_i32_7.toNat]

def cc0_transform_6 (i : grid0.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.subi v0 c1_i32
  let c2_i32 : BitVec 32 := 2#32
  let v2 : BitVec 32 := Scalar.subi v1 c2_i32
  let c4_i32_0 : BitVec 32 := 4#32
  let v3 : BitVec 32 := Scalar.divsi v2 c4_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c7_i32 : BitVec 32 := 7#32
  let v20 : BitVec 32 := Scalar.minsi v19 c7_i32
  let c0_i32_6 : BitVec 32 := 0#32
  let c0_i32_7 : BitVec 32 := 0#32
  ![v20.toNat, c0_i32_6.toNat]

def cc0_transform_7 (i : grid0.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.subi v0 c1_i32
  let c3_i32 : BitVec 32 := 3#32
  let v2 : BitVec 32 := Scalar.subi v1 c3_i32
  let c4_i32_0 : BitVec 32 := 4#32
  let v3 : BitVec 32 := Scalar.divsi v2 c4_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32_0 c0_i32_2
  let v10 : BitVec 32 := Scalar.extui v9
  let c0_i32_3 : BitVec 32 := 0#32
  let v11 : BitVec 1 := Scalar.cmpi .slt c4_i32_0 c0_i32_3
  let v12 : BitVec 32 := Scalar.extui v11
  let v13 : BitVec 32 := Scalar.subi v10 v12
  let v14 : BitVec 1 := Scalar.cmpi .ne v8 v13
  let v15 : BitVec 32 := Scalar.remsi v2 c4_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c7_i32 : BitVec 32 := 7#32
  let v20 : BitVec 32 := Scalar.minsi v19 c7_i32
  let c0_i32_6 : BitVec 32 := 0#32
  let c0_i32_7 : BitVec 32 := 0#32
  ![v20.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutRefIdeal.lean ====
abbrev S8x512x1024 : Shape := ⟨3, ![8, 512, 1024]⟩
abbrev S1x2048x2048 : Shape := ⟨3, ![1, 2048, 2048]⟩
abbrev S8x2048x2048 : Shape := ⟨3, ![8, 2048, 2048]⟩
abbrev S2048 : Shape := ⟨1, ![2048]⟩
abbrev S8x2048x1024 : Shape := ⟨3, ![8, 2048, 1024]⟩
abbrev S2048x2048 : Shape := ⟨2, ![2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S8x512x1024, .bf16⟩
  | .hbm, ⟨5, _⟩ => ⟨S8x512x1024, .bf16⟩
  | .hbm, ⟨6, _⟩ => ⟨S8x512x1024, .bf16⟩
  | .hbm, ⟨7, _⟩ => ⟨S8x512x1024, .bf16⟩
  | .hbm, ⟨8, _⟩ => ⟨S1x2048x2048, .f32⟩
  | .hbm, ⟨9, _⟩ => ⟨S8x2048x2048, .f32⟩
  | .hbm, ⟨10, _⟩ => ⟨S2048, .f32⟩
  | .hbm, ⟨11, _⟩ => ⟨S8x512x1024, .f32⟩
  | .hbm, ⟨12, _⟩ => ⟨S8x512x1024, .f32⟩
  | .hbm, ⟨13, _⟩ => ⟨S8x512x1024, .f32⟩
  | .hbm, ⟨14, _⟩ => ⟨S8x512x1024, .f32⟩
  | .hbm, ⟨15, _⟩ => ⟨S8x2048x1024, .f32⟩
  | .hbm, ⟨16, _⟩ => ⟨S8x512x1024, .f32⟩
  | .hbm, ⟨17, _⟩ => ⟨S8x512x1024, .f32⟩
  | .hbm, ⟨18, _⟩ => ⟨S8x512x1024, .f32⟩
  | .hbm, ⟨19, _⟩ => ⟨S8x512x1024, .f32⟩
  | .hbm, ⟨20, _⟩ => ⟨S8x2048x1024, .f32⟩
  | .hbm, ⟨21, _⟩ => ⟨S8x2048x2048, .f32⟩
  | .hbm, ⟨22, _⟩ => ⟨S2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S1x1x2048, .f32⟩
  | .hbm, ⟨39, _⟩ => ⟨S8x2048x2048, .f32⟩
  | .hbm, ⟨40, _⟩ => ⟨S8x2048x2048, .f32⟩
  | .hbm, ⟨41, _⟩ => ⟨S16384x2048, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proj0.lean ====
abbrev S8x2048x2048 : Shape := ⟨3, ![8, 2048, 2048]⟩
abbrev S1x2048 : Shape := ⟨2, ![1, 2048]⟩
abbrev S6144x2048 : Shape := ⟨2, ![6144, 2048]⟩
abbrev S16384x2048 : Shape := ⟨2, ![16384, 2048]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S32 : Shape := ⟨1, ![32]⟩
abbrev S1x32 : Shape := ⟨2, ![1, 32]⟩
abbrev S2048x32 : Shape := ⟨2, ![2048, 32]⟩
abbrev S2048x128 : Shape := ⟨2, ![2048, 128]⟩
abbrev S1x2048x128 : Shape := ⟨3, ![1, 2048, 128]⟩
abbrev S4x2048x128 : Shape := ⟨3, ![4, 2048, 128]⟩
abbrev S2x1024x2048 : Shape := ⟨3, ![2, 1024, 2048]⟩
abbrev S512x2048 : Shape := ⟨2, ![512, 2048]⟩
abbrev S2048x2048 : Shape := ⟨2, ![2048, 2048]⟩
abbrev S2x32x2048 : Shape := ⟨3, ![2, 32, 2048]⟩
abbrev S4x512x128 : Shape := ⟨3, ![4, 512, 128]⟩
abbrev S512 : Shape := ⟨1, ![512]⟩
abbrev S512x1 : Shape := ⟨2, ![512, 1]⟩
abbrev S256x2048 : Shape := ⟨2, ![256, 2048]⟩
abbrev S512x256 : Shape := ⟨2, ![512, 256]⟩
abbrev S512x128 : Shape := ⟨2, ![512, 128]⟩
abbrev S1x512x128 : Shape := ⟨3, ![1, 512, 128]⟩
abbrev S1x32x128 : Shape := ⟨3, ![1, 32, 128]⟩
abbrev S32x128 : Shape := ⟨2, ![32, 128]⟩

abbrev nBuf : Space → Nat
  | .hbm => 84
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S6144x2048, .bf16⟩
  | .hbm, ⟨3, _⟩ => ⟨S16384x2048, .f32⟩
  | .hbm, ⟨4, _⟩ => ⟨S2048, .f32⟩
  | .hbm, ⟨5, _⟩ => ⟨S1x2048, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S2048, .f32⟩
  | .hbm, ⟨21, _⟩ => ⟨S2048x1, .f32⟩
  | .hbm, ⟨22, _⟩ => ⟨S1x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S2048, .f32⟩
  | .hbm, ⟨43, _⟩ => ⟨S2048x1, .f32⟩
  | .hbm, ⟨44, _⟩ => ⟨S1x32, .f32⟩
  | .hbm, ⟨45, _⟩ => ⟨S2048x32, .f32⟩
  | .hbm, ⟨46, _⟩ => ⟨S2048x32, .f32⟩
  | .hbm, ⟨47, _⟩ => ⟨S2048x32, .f32⟩
  | .hbm, ⟨48, _⟩ => ⟨S2048x32, .f32⟩
  | .hbm, ⟨49, _⟩ => ⟨S2048x32, .f32⟩
  | .hbm, ⟨50, _⟩ => ⟨S_, .f32⟩
  | .hbm, ⟨51, _⟩ => ⟨S2048x32, .f32⟩
  | .hbm, ⟨52, _⟩ => ⟨S2048x128, .f32⟩
  | .hbm, ⟨53, _⟩ => ⟨S2048x64, .f32⟩
  | .hbm, ⟨54, _⟩ => ⟨S2048x128, .f32⟩
  | .hbm, ⟨55, _⟩ => ⟨S2048x128, .f32⟩
  | .hbm, ⟨56, _⟩ => ⟨S2048x32, .f32⟩
  | .hbm, ⟨57, _⟩ => ⟨S2048x32, .f32⟩
  | .hbm, ⟨58, _⟩ => ⟨S2048x128, .f32⟩
  | .hbm, ⟨59, _⟩ => ⟨S2048x128, .f32⟩
  | .hbm, ⟨60, _⟩ => ⟨S_, .f32⟩
  | .hbm, ⟨61, _⟩ => ⟨S2048x128, .f32⟩
  | .hbm, ⟨62, _⟩ => ⟨S2048x128, .f32⟩
  | .hbm, ⟨63, _⟩ => ⟨S_, .f32⟩
  | .hbm, ⟨64, _⟩ => ⟨S2048x128, .f32⟩
  | .hbm, ⟨65, _⟩ => ⟨S2048x128, .f32⟩
  | .hbm, ⟨66, _⟩ => ⟨S_, .f32⟩
  | .hbm, ⟨67, _⟩ => ⟨S2048x128, .f32⟩
  | .hbm, ⟨68, _⟩ => ⟨S2048x128, .f32⟩
  | .hbm, ⟨69, _⟩ => ⟨S_, .f32⟩
  | .hbm, ⟨70, _⟩ => ⟨S2048x128, .f32⟩
  | .hbm, ⟨71, _⟩ => ⟨S2048x128, .f32⟩
  | .hbm, ⟨72, _⟩ => ⟨S_, .f32⟩
  | .hbm, ⟨73, _⟩ => ⟨S2048x128, .f32⟩
  | .hbm, ⟨74, _⟩ => ⟨S2048x128, .f32⟩
  | .hbm, ⟨75, _⟩ => ⟨S1x2048x128, .f32⟩
  | .hbm, ⟨76, _⟩ => ⟨S1x2048x128, .f32⟩
  | .hbm, ⟨77, _⟩ => ⟨S1x2048x128, .f32⟩
  | .hbm, ⟨78, _⟩ => ⟨S1x2048x128, .f32⟩
  | .hbm, ⟨79, _⟩ => ⟨S4x2048x128, .f32⟩
  | .hbm, ⟨80, _⟩ => ⟨S16384x2048, .bf16⟩
  | .hbm, ⟨81, _⟩ => ⟨S16384x2048, .bf16⟩
  | .hbm, ⟨82, _⟩ => ⟨S2x1024x2048, .bf16⟩
  | .hbm, ⟨83, _⟩ => ⟨S2x1024x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S4x2048x128, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S2x32x2048, .bf16⟩
  | .local _ .vmem, ⟨10, _⟩ => ⟨S2x32x2048, .bf16⟩
  | .local _ .vmem, ⟨11, _⟩ => ⟨S2x32x2048, .bf16⟩
  | .local _ .vmem, ⟨12, _⟩ => ⟨S2x32x2048, .bf16⟩
  | .local _ .vmem, ⟨13, _⟩ => ⟨S4x512x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63_0 : Ref sig .tc := ⟨.hbm, 80, rfl⟩
abbrev main_v63_1 : Ref sig .tc := ⟨.hbm, 81, rfl⟩
abbrev main_v63_2 : Ref sig .tc := ⟨.hbm, 82, rfl⟩
abbrev main_v63_3 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_19 : BitVec 32 := 0#32
  let v38 : BitVec 32 := Scalar.addi v28 c0_i32_19
  v38
def k0_off1 (i : grid0.Coords) : Fin 3 → Nat :=
  let c0_20 : Index := 0#32
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_19 : BitVec 32 := 0#32
  let v38 : BitVec 32 := Scalar.addi v28 c0_i32_19
  let v39 : BitVec 32 := v38
  let v40 : Index := Scalar.indexCast v39
  let c0_21 : Index := 0#32
  ![0, v40.toNat, 0]
def k0_mult2 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_22 : BitVec 32 := 0#32
  let v45 : BitVec 32 := Scalar.addi v28 c0_i32_22
  v45
def k0_off2 (i : grid0.Coords) : Fin 3 → Nat :=
  let c1 : Index := 1#32
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_22 : BitVec 32 := 0#32
  let v45 : BitVec 32 := Scalar.addi v28 c0_i32_22
  let v46 : BitVec 32 := v45
  let v47 : Index := Scalar.indexCast v46
  let c0_23 : Index := 0#32
  ![1, v47.toNat, 0]
def k0_mult3 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_26 : BitVec 32 := 0#32
  let v55 : BitVec 32 := Scalar.addi v28 c0_i32_26
  v55
def k0_mult4 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_30 : BitVec 32 := 0#32
  let v62 : BitVec 32 := Scalar.addi v28 c0_i32_30
  v62
def k0_mult5 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_38 : BitVec 32 := 0#32
  let v76 : BitVec 32 := Scalar.addi v28 c0_i32_38
  v76
def k0_mult6 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_42 : BitVec 32 := 0#32
  let v83 : BitVec 32 := Scalar.addi v28 c0_i32_42
  v83
def k0_mult7 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_47 : BitVec 32 := 0#32
  let v93 : BitVec 32 := Scalar.addi v28 c0_i32_47
  v93
def k0_mult8 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_51 : BitVec 32 := 0#32
  let v100 : BitVec 32 := Scalar.addi v28 c0_i32_51
  v100
def k0_mult9 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_59 : BitVec 32 := 0#32
  let v114 : BitVec 32 := Scalar.addi v28 c0_i32_59
  v114
def k0_mult10 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_63 : BitVec 32 := 0#32
  let v121 : BitVec 32 := Scalar.addi v28 c0_i32_63
  v121
def k0_mult11 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_68 : BitVec 32 := 0#32
  let v131 : BitVec 32 := Scalar.addi v28 c0_i32_68
  v131
def k0_mult12 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_72 : BitVec 32 := 0#32
  let v138 : BitVec 32 := Scalar.addi v28 c0_i32_72
  v138
def k0_mult13 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_80 : BitVec 32 := 0#32
  let v152 : BitVec 32 := Scalar.addi v28 c0_i32_80
  v152
def k0_mult14 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_84 : BitVec 32 := 0#32
  let v159 : BitVec 32 := Scalar.addi v28 c0_i32_84
  v159
def k0_mult15 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_89 : BitVec 32 := 0#32
  let v169 : BitVec 32 := Scalar.addi v28 c0_i32_89
  v169
def k0_mult16 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_93 : BitVec 32 := 0#32
  let v176 : BitVec 32 := Scalar.addi v28 c0_i32_93
  v176
def k0_mult17 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_101 : BitVec 32 := 0#32
  let v190 : BitVec 32 := Scalar.addi v28 c0_i32_101
  v190
def k0_off3 (i : grid0.Coords) : Fin 3 → Nat :=
  let c2 : Index := 2#32
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_101 : BitVec 32 := 0#32
  let v190 : BitVec 32 := Scalar.addi v28 c0_i32_101
  let v191 : BitVec 32 := v190
  let v192 : Index := Scalar.indexCast v191
  let c0_102 : Index := 0#32
  ![2, v192.toNat, 0]
def k0_mult18 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_104 : BitVec 32 := 0#32
  let v197 : BitVec 32 := Scalar.addi v28 c0_i32_104
  v197
def k0_off4 (i : grid0.Coords) : Fin 3 → Nat :=
  let c3 : Index := 3#32
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_104 : BitVec 32 := 0#32
  let v197 : BitVec 32 := Scalar.addi v28 c0_i32_104
  let v198 : BitVec 32 := v197
  let v199 : Index := Scalar.indexCast v198
  let c0_105 : Index := 0#32
  ![3, v199.toNat, 0]
def k0_mult19 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_189 : BitVec 32 := 0#32
  let v306 : BitVec 32 := Scalar.addi v28 c0_i32_189
  v306
def k0_mult20 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_193 : BitVec 32 := 0#32
  let v313 : BitVec 32 := Scalar.addi v28 c0_i32_193
  v313
def k0_mult21 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_302 : BitVec 32 := 0#32
  let v426 : BitVec 32 := Scalar.addi v28 c0_i32_302
  v426
def k0_mult22 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_306 : BitVec 32 := 0#32
  let v433 : BitVec 32 := Scalar.addi v28 c0_i32_306
  v433
def k0_mult23 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_311 : BitVec 32 := 0#32
  let v443 : BitVec 32 := Scalar.addi v28 c0_i32_311
  v443
def k0_mult24 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_315 : BitVec 32 := 0#32
  let v450 : BitVec 32 := Scalar.addi v28 c0_i32_315
  v450
def k0_mult25 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_325 : BitVec 32 := 0#32
  let v464 : BitVec 32 := Scalar.addi v28 c0_i32_325
  v464
def k0_mult26 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_329 : BitVec 32 := 0#32
  let v471 : BitVec 32 := Scalar.addi v28 c0_i32_329
  v471
def k0_mult27 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_334 : BitVec 32 := 0#32
  let v481 : BitVec 32 := Scalar.addi v28 c0_i32_334
  v481
def k0_mult28 (i : grid0.Coords) : BitVec 32 :=
  let arg0 : BitVec 32 := BitVec.ofNat 32 (i 0).val
  let c4_i32 : BitVec 32 := 4#32
  let c0_i32 : BitVec 32 := 0#32
  let v18 : BitVec 1 := Scalar.cmpi .eq c4_i32 c0_i32
  let c1_i32 : BitVec 32 := 1#32
  let v19 : BitVec 32 := Scalar.select v18 c1_i32 c4_i32
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c0_i32_338 : BitVec 32 := 0#32
  let v488 : BitVec 32 := Scalar.addi v28 c0_i32_338
  v488
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Proj0RefIdeal.lean ====
abbrev S8x2048x2048 : Shape := ⟨3, ![8, 2048, 2048]⟩
abbrev S1x2048 : Shape := ⟨2, ![1, 2048]⟩
abbrev S6144x2048 : Shape := ⟨2, ![6144, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x2048 : Shape := ⟨2, ![2048, 2048]⟩
abbrev S8x2048x1024 : Shape := ⟨3, ![8, 2048, 1024]⟩
abbrev S8x2048x256 : Shape := ⟨3, ![8, 2048, 256]⟩
abbrev S8x2048x8x128 : Shape := ⟨4, ![8, 2048, 8, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x8x64 : Shape := ⟨4, ![8, 2048, 8, 64]⟩
abbrev S8x2048x2x128 : Shape := ⟨4, ![8, 2048, 2, 128]⟩
abbrev S8x2048x2x64 : Shape := ⟨4, ![8, 2048, 2, 64]⟩
abbrev S16384x1024 : Shape := ⟨2, ![16384, 1024]⟩
abbrev S16384x256 : Shape := ⟨2, ![16384, 256]⟩
abbrev S16384x2048 : Shape := ⟨2, ![16384, 2048]⟩
abbrev S1024x16x2x128 : Shape := ⟨4, ![1024, 16, 2, 128]⟩
abbrev S2x1024x16x128 : Shape := ⟨4, ![2, 1024, 16, 128]⟩
abbrev S2x1024x2048 : Shape := ⟨3, ![2, 1024, 2048]⟩

abbrev nBuf : Space → Nat
  | .hbm => 201
  | .vmem => 0
  | .smem => 0
  | _ => 0

abbrev hbmTy0_0 (i : Nat) : BufTy := match i % 128 with
  | 0 => ⟨S8x2048x2048, .f32⟩
  | 1 => ⟨S1x2048, .f32⟩
  | 2 => ⟨S6144x2048, .bf16⟩
  | 3 => ⟨S2048, .f32⟩
  | 4 => ⟨S8x2048x2048, .f32⟩
  | 5 => ⟨S_, .f32⟩
  | 6 => ⟨S8x2048, .f32⟩
  | 7 => ⟨S8x2048x1, .f32⟩
  | 8 => ⟨S_, .f32⟩
  | 9 => ⟨S8x2048x1, .f32⟩
  | 10 => ⟨S8x2048x1, .f32⟩
  | 11 => ⟨S_, .f32⟩
  | 12 => ⟨S8x2048x1, .f32⟩
  | 13 => ⟨S8x2048x1, .f32⟩
  | 14 => ⟨S8x2048x1, .f32⟩
  | 15 => ⟨S8x2048x2048, .f32⟩
  | 16 => ⟨S8x2048x2048, .f32⟩
  | 17 => ⟨S1x1x2048, .f32⟩
  | 18 => ⟨S8x2048x2048, .f32⟩
  | 19 => ⟨S8x2048x2048, .f32⟩
  | 20 => ⟨S2048x2048, .bf16⟩
  | 21 => ⟨S2048x2048, .f32⟩
  | 22 => ⟨S2048x2048, .f32⟩
  | 23 => ⟨S8x2048x2048, .f32⟩
  | 24 => ⟨S8x2048x1024, .f32⟩
  | 25 => ⟨S8x2048x256, .f32⟩
  | 26 => ⟨S8x2048x256, .f32⟩
  | 27 => ⟨S8x2048x256, .f32⟩
  | 28 => ⟨S8x2048x256, .f32⟩
  | 29 => ⟨S8x2048x8x128, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S2048, .f32⟩
  | 45 => ⟨S2048x1, .f32⟩
  | 46 => ⟨S1x64, .f32⟩
  | 47 => ⟨S2048x64, .f32⟩
  | 48 => ⟨S2048x64, .f32⟩
  | 49 => ⟨S2048x64, .f32⟩
  | 50 => ⟨S2048x64, .f32⟩
  | 51 => ⟨S1x2048x1x64, .f32⟩
  | 52 => ⟨S2048x64, .f32⟩
  | 53 => ⟨S1x2048x1x64, .f32⟩
  | 54 => ⟨S8x2048x8x64, .f32⟩
  | 55 => ⟨S8x2048x8x64, .f32⟩
  | 56 => ⟨S8x2048x8x64, .f32⟩
  | 57 => ⟨S8x2048x8x64, .f32⟩
  | 58 => ⟨S8x2048x8x64, .f32⟩
  | 59 => ⟨S8x2048x8x64, .f32⟩
  | 60 => ⟨S8x2048x8x64, .f32⟩
  | 61 => ⟨S8x2048x8x64, .f32⟩
  | 62 => ⟨S8x2048x8x64, .f32⟩
  | 63 => ⟨S8x2048x8x64, .f32⟩
  | 64 => ⟨S8x2048x8x64, .f32⟩
  | 65 => ⟨S8x2048x8x64, .f32⟩
  | 66 => ⟨S8x2048x8x128, .f32⟩
  | 67 => ⟨S_, .f32⟩
  | 68 => ⟨S8x2048x8x128, .f32⟩
  | 69 => ⟨S8x2048x8x128, .f32⟩
  | 70 => ⟨S8x2048x2x128, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S2048, .f32⟩
  | 86 => ⟨S2048x1, .f32⟩
  | 87 => ⟨S1x64, .f32⟩
  | 88 => ⟨S2048x64, .f32⟩
  | 89 => ⟨S2048x64, .f32⟩
  | 90 => ⟨S2048x64, .f32⟩
  | 91 => ⟨S2048x64, .f32⟩
  | 92 => ⟨S1x2048x1x64, .f32⟩
  | 93 => ⟨S2048x64, .f32⟩
  | 94 => ⟨S1x2048x1x64, .f32⟩
  | 95 => ⟨S8x2048x2x64, .f32⟩
  | 96 => ⟨S8x2048x2x64, .f32⟩
  | 97 => ⟨S8x2048x2x64, .f32⟩
  | 98 => ⟨S8x2048x2x64, .f32⟩
  | 99 => ⟨S8x2048x2x64, .f32⟩
  | 100 => ⟨S8x2048x2x64, .f32⟩
  | 101 => ⟨S8x2048x2x64, .f32⟩
  | 102 => ⟨S8x2048x2x64, .f32⟩
  | 103 => ⟨S8x2048x2x64, .f32⟩
  | 104 => ⟨S8x2048x2x64, .f32⟩
  | 105 => ⟨S8x2048x2x64, .f32⟩
  | 106 => ⟨S8x2048x2x64, .f32⟩
  | 107 => ⟨S8x2048x2x128, .f32⟩
  | 108 => ⟨S8x2048x2x128, .f32⟩
  | 109 => ⟨S64, .f32⟩
  | 110 => ⟨S_, .f32⟩
  | 111 => ⟨S64, .f32⟩
  | 112 => ⟨S64, .f32⟩
  | 113 => ⟨S_, .f32⟩
  | 114 => ⟨S64, .f32⟩
  | 115 => ⟨S64, .f32⟩
  | 116 => ⟨S64, .f32⟩
  | 117 => ⟨S_, .f32⟩
  | 118 => ⟨S64, .f32⟩
  | 119 => ⟨S64, .f32⟩
  | 120 => ⟨S_, .f32⟩
  | 121 => ⟨S64, .f32⟩
  | 122 => ⟨S64, .f32⟩
  | 123 => ⟨S2048, .f32⟩
  | 124 => ⟨S2048x1, .f32⟩
  | 125 => ⟨S1x64, .f32⟩
  | 126 => ⟨S2048x64, .f32⟩
  | 127 => ⟨S2048x64, .f32⟩
  | _ => ⟨S8x2048x2048, .f32⟩

abbrev hbmTy0_1 (i : Nat) : BufTy := match i % 128 with
  | 0 => ⟨S2048x64, .f32⟩
  | 1 => ⟨S2048x64, .f32⟩
  | 2 => ⟨S1x2048x1x64, .f32⟩
  | 3 => ⟨S2048x64, .f32⟩
  | 4 => ⟨S1x2048x1x64, .f32⟩
  | 5 => ⟨S8x2048x2x64, .f32⟩
  | 6 => ⟨S8x2048x2x64, .f32⟩
  | 7 => ⟨S8x2048x2x64, .f32⟩
  | 8 => ⟨S8x2048x2x64, .f32⟩
  | 9 => ⟨S8x2048x2x64, .f32⟩
  | 10 => ⟨S8x2048x2x64, .f32⟩
  | 11 => ⟨S8x2048x2x64, .f32⟩
  | 12 => ⟨S8x2048x2x64, .f32⟩
  | 13 => ⟨S8x2048x2x64, .f32⟩
  | 14 => ⟨S8x2048x2x64, .f32⟩
  | 15 => ⟨S8x2048x2x64, .f32⟩
  | 16 => ⟨S8x2048x2x64, .f32⟩
  | 17 => ⟨S8x2048x2x128, .f32⟩
  | 18 => ⟨S8x2048x2x128, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S2048, .f32⟩
  | 34 => ⟨S2048x1, .f32⟩
  | 35 => ⟨S1x64, .f32⟩
  | 36 => ⟨S2048x64, .f32⟩
  | 37 => ⟨S2048x64, .f32⟩
  | 38 => ⟨S2048x64, .f32⟩
  | 39 => ⟨S2048x64, .f32⟩
  | 40 => ⟨S1x2048x1x64, .f32⟩
  | 41 => ⟨S2048x64, .f32⟩
  | 42 => ⟨S1x2048x1x64, .f32⟩
  | 43 => ⟨S8x2048x2x64, .f32⟩
  | 44 => ⟨S8x2048x2x64, .f32⟩
  | 45 => ⟨S8x2048x2x64, .f32⟩
  | 46 => ⟨S8x2048x2x64, .f32⟩
  | 47 => ⟨S8x2048x2x64, .f32⟩
  | 48 => ⟨S8x2048x2x64, .f32⟩
  | 49 => ⟨S8x2048x2x64, .f32⟩
  | 50 => ⟨S8x2048x2x64, .f32⟩
  | 51 => ⟨S8x2048x2x64, .f32⟩
  | 52 => ⟨S8x2048x2x64, .f32⟩
  | 53 => ⟨S8x2048x2x64, .f32⟩
  | 54 => ⟨S8x2048x2x64, .f32⟩
  | 55 => ⟨S8x2048x2x128, .f32⟩
  | 56 => ⟨S16384x1024, .f32⟩
  | 57 => ⟨S16384x256, .f32⟩
  | 58 => ⟨S16384x256, .f32⟩
  | 59 => ⟨S16384x256, .f32⟩
  | 60 => ⟨S16384x256, .f32⟩
  | 61 => ⟨S16384x2048, .f32⟩
  | 62 => ⟨S16384x2048, .bf16⟩
  | 63 => ⟨S16384x2048, .f32⟩
  | 64 => ⟨S16384x2048, .bf16⟩
  | 65 => ⟨S1024x16x2x128, .f32⟩
  | 66 => ⟨S2x1024x16x128, .f32⟩
  | 67 => ⟨S2x1024x2048, .f32⟩
  | 68 => ⟨S2x1024x2048, .bf16⟩
  | 69 => ⟨S1024x16x2x128, .f32⟩
  | 70 => ⟨S2x1024x16x128, .f32⟩
  | 71 => ⟨S2x1024x2048, .f32⟩
  | 72 => ⟨S2x1024x2048, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_7 : Ref sig .tc := ⟨.hbm, 72, rfl⟩
abbrev main_v61 : Ref sig .tc := ⟨.hbm, 73, rfl⟩
abbrev main_v62 : Ref sig .tc := ⟨.hbm, 74, rfl⟩
abbrev main_cst_8 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_9 : Ref sig .tc := ⟨.hbm, 79, rfl⟩
abbrev main_v66 : Ref sig .tc := ⟨.hbm, 80, rfl⟩
abbrev main_v67 : Ref sig .tc := ⟨.hbm, 81, rfl⟩
abbrev main_cst_10 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_11 : Ref sig .tc := ⟨.hbm, 110, rfl⟩
abbrev main_v95 : Ref sig .tc := ⟨.hbm, 111, rfl⟩
abbrev main_v96 : Ref sig .tc := ⟨.hbm, 112, rfl⟩
abbrev main_cst_12 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_cst_13 : Ref sig .tc := ⟨.hbm, 117, rfl⟩
abbrev main_v100 : Ref sig .tc := ⟨.hbm, 118, rfl⟩
abbrev main_v101 : Ref sig .tc := ⟨.hbm, 119, rfl⟩
abbrev main_cst_14 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_15 : Ref sig .tc := ⟨.hbm, 148, rfl⟩
abbrev main_v129 : Ref sig .tc := ⟨.hbm, 149, rfl⟩
abbrev main_v130 : Ref sig .tc := ⟨.hbm, 150, rfl⟩
abbrev main_cst_16 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_cst_17 : Ref sig .tc := ⟨.hbm, 155, rfl⟩
abbrev main_v134 : Ref sig .tc := ⟨.hbm, 156, rfl⟩
abbrev main_v135 : Ref sig .tc := ⟨.hbm, 157, rfl⟩
abbrev main_cst_18 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩

abbrev nD : Nat := 1
abbrev τ : Topo := Topo.v7x

variable {F : FTy → Type} [FloatOps F]
-- ==== Proj1.lean ====
abbrev S16384x2048 : Shape := ⟨2, ![16384, 2048]⟩
abbrev S6144x2048 : Shape := ⟨2, ![6144, 2048]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S32 : Shape := ⟨1, ![32]⟩
abbrev S1x32 : Shape := ⟨2, ![1, 32]⟩
abbrev S2048x32 : Shape := ⟨2, ![2048, 32]⟩
abbrev S2048x128 : Shape := ⟨2, ![2048, 128]⟩
abbrev S1x2048x128 : Shape := ⟨3, ![1, 2048, 128]⟩
abbrev S3x2048x128 : Shape := ⟨3, ![3, 2048, 128]⟩
abbrev S1024x2048 : Shape := ⟨2, ![1024, 2048]⟩
abbrev S2048x2048 : Shape := ⟨2, ![2048, 2048]⟩
abbrev S256x2048 : Shape := ⟨2, ![256, 2048]⟩
abbrev S256x256 : Shape := ⟨2, ![256, 256]⟩
abbrev S256x128 : Shape := ⟨2, ![256, 128]⟩
abbrev S1x256x128 : Shape := ⟨3, ![1, 256, 128]⟩

abbrev nBuf : Space → Nat
  | .hbm => 76
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S6144x2048, .bf16⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S2048, .f32⟩
  | .hbm, ⟨17, _⟩ => ⟨S2048x1, .f32⟩
  | .hbm, ⟨18, _⟩ => ⟨S1x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S_, .f32⟩
  | .hbm, ⟨47, _⟩ => ⟨S2048x32, .f32⟩
  | .hbm, ⟨48, _⟩ => ⟨S2048x128, .f32⟩
  | .hbm, ⟨49, _⟩ => ⟨S2048x64, .f32⟩
  | .hbm, ⟨50, _⟩ => ⟨S2048x128, .f32⟩
  | .hbm, ⟨51, _⟩ => ⟨S2048x128, .f32⟩
  | .hbm, ⟨52, _⟩ => ⟨S2048x32, .f32⟩
  | .hbm, ⟨53, _⟩ => ⟨S2048x32, .f32⟩
  | .hbm, ⟨54, _⟩ => ⟨S2048x128, .f32⟩
  | .hbm, ⟨55, _⟩ => ⟨S2048x128, .f32⟩
  | .hbm, ⟨56, _⟩ => ⟨S_, .f32⟩
  | .hbm, ⟨57, _⟩ => ⟨S2048x128, .f32⟩
  | .hbm, ⟨58, _⟩ => ⟨S2048x128, .f32⟩
  | .hbm, ⟨59, _⟩ => ⟨S_, .f32⟩
  | .hbm, ⟨60, _⟩ => ⟨S2048x128, .f32⟩
  | .hbm, ⟨61, _⟩ => ⟨S2048x128, .f32⟩
  | .hbm, ⟨62, _⟩ => ⟨S_, .f32⟩
  | .hbm, ⟨63, _⟩ => ⟨S2048x128, .f32⟩
  | .hbm, ⟨64, _⟩ => ⟨S2048x128, .f32⟩
  | .hbm, ⟨65, _⟩ => ⟨S_, .f32⟩
  | .hbm, ⟨66, _⟩ => ⟨S2048x128, .f32⟩
  | .hbm, ⟨67, _⟩ => ⟨S2048x128, .f32⟩
  | .hbm, ⟨68, _⟩ => ⟨S_, .f32⟩
  | .hbm, ⟨69, _⟩ => ⟨S2048x128, .f32⟩
  | .hbm, ⟨70, _⟩ => ⟨S2048x128, .f32⟩
  | .hbm, ⟨71, _⟩ => ⟨S1x2048x128, .f32⟩
  | .hbm, ⟨72, _⟩ => ⟨S1x2048x128, .f32⟩
  | .hbm, ⟨73, _⟩ => ⟨S1x2048x128, .f32⟩
  | .hbm, ⟨74, _⟩ => ⟨S3x2048x128, .f32⟩
  | .hbm, ⟨75, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S3x2048x128, .f32⟩
  | .local _ .vmem, ⟨4, _⟩ => ⟨S1024x2048, .bf16⟩
  | .local _ .vmem, ⟨5, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_8 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_cst_10 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_52 : BitVec 32 := 0#32
  let v88 : BitVec 32 := Scalar.addi v10 c0_i32_52
  v88
def k0_off1 (i : grid0.Coords) (c0_i32_52 : BitVec 32) : Fin 3 → Nat :=
  let c0_53 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v88 : BitVec 32 := Scalar.addi v10 c0_i32_52
  let v89 : BitVec 32 := v88
  let v90 : Index := Scalar.indexCast v89
  let c0_54 : Index := 0#32
  ![0, v90.toNat, 0]
def k0_mult2 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_55 : BitVec 32 := 0#32
  let v95 : BitVec 32 := Scalar.addi v10 c0_i32_55
  v95
def k0_off2 (i : grid0.Coords) (c0_i32_55 : BitVec 32) : Fin 3 → Nat :=
  let c1 : Index := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v95 : BitVec 32 := Scalar.addi v10 c0_i32_55
  let v96 : BitVec 32 := v95
  let v97 : Index := Scalar.indexCast v96
  let c0_56 : Index := 0#32
  ![1, v97.toNat, 0]
def k0_mult3 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_57 : BitVec 32 := 0#32
  let v103 : BitVec 32 := Scalar.addi v10 c0_i32_57
  v103
def k0_off3 (i : grid0.Coords) (c0_i32_57 : BitVec 32) : Fin 3 → Nat :=
  let c2 : Index := 2#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v103 : BitVec 32 := Scalar.addi v10 c0_i32_57
  let v104 : BitVec 32 := v103
  let v105 : Index := Scalar.indexCast v104
  let c0_58 : Index := 0#32
  ![2, v105.toNat, 0]
def k0_mult4 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_61 : BitVec 32 := 0#32
  let v113 : BitVec 32 := Scalar.addi v10 c0_i32_61
  v113
def k0_mult5 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_65 : BitVec 32 := 0#32
  let v120 : BitVec 32 := Scalar.addi v10 c0_i32_65
  v120
def k0_mult6 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_69 : BitVec 32 := 0#32
  let v128 : BitVec 32 := Scalar.addi v10 c0_i32_69
  v128
def k0_mult7 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32 : BitVec 32 := 256#32
  let v221 : BitVec 32 := Scalar.addi v10 c256_i32
  v221
def k0_mult8 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_143 : BitVec 32 := 256#32
  let v228 : BitVec 32 := Scalar.addi v10 c256_i32_143
  v228
def k0_mult9 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_147 : BitVec 32 := 256#32
  let v236 : BitVec 32 := Scalar.addi v10 c256_i32_147
  v236
def k0_mult10 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_152 : BitVec 32 := 256#32
  let v246 : BitVec 32 := Scalar.addi v10 c256_i32_152
  v246
def k0_mult11 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_156 : BitVec 32 := 256#32
  let v253 : BitVec 32 := Scalar.addi v10 c256_i32_156
  v253
def k0_mult12 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_160 : BitVec 32 := 256#32
  let v261 : BitVec 32 := Scalar.addi v10 c256_i32_160
  v261
def k0_mult13 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32 : BitVec 32 := 512#32
  let v354 : BitVec 32 := Scalar.addi v10 c512_i32
  v354
def k0_mult14 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_236 : BitVec 32 := 512#32
  let v361 : BitVec 32 := Scalar.addi v10 c512_i32_236
  v361
def k0_mult15 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_240 : BitVec 32 := 512#32
  let v369 : BitVec 32 := Scalar.addi v10 c512_i32_240
  v369
def k0_mult16 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_245 : BitVec 32 := 512#32
  let v379 : BitVec 32 := Scalar.addi v10 c512_i32_245
  v379
def k0_mult17 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_249 : BitVec 32 := 512#32
  let v386 : BitVec 32 := Scalar.addi v10 c512_i32_249
  v386
def k0_mult18 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_253 : BitVec 32 := 512#32
  let v394 : BitVec 32 := Scalar.addi v10 c512_i32_253
  v394
def k0_mult19 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32 : BitVec 32 := 768#32
  let v487 : BitVec 32 := Scalar.addi v10 c768_i32
  v487
def k0_mult20 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_329 : BitVec 32 := 768#32
  let v494 : BitVec 32 := Scalar.addi v10 c768_i32_329
  v494
def k0_mult21 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_333 : BitVec 32 := 768#32
  let v502 : BitVec 32 := Scalar.addi v10 c768_i32_333
  v502
def k0_mult22 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_338 : BitVec 32 := 768#32
  let v512 : BitVec 32 := Scalar.addi v10 c768_i32_338
  v512
def k0_mult23 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_342 : BitVec 32 := 768#32
  let v519 : BitVec 32 := Scalar.addi v10 c768_i32_342
  v519
def k0_mult24 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_346 : BitVec 32 := 768#32
  let v527 : BitVec 32 := Scalar.addi v10 c768_i32_346
  v527
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Proj1RefIdeal.lean ====
abbrev S16384x2048 : Shape := ⟨2, ![16384, 2048]⟩
abbrev S6144x2048 : Shape := ⟨2, ![6144, 2048]⟩
abbrev S2048x2048 : Shape := ⟨2, ![2048, 2048]⟩
abbrev S8x2048x2048 : Shape := ⟨3, ![8, 2048, 2048]⟩
abbrev S8x2048x256 : Shape := ⟨3, ![8, 2048, 256]⟩
abbrev S8x2048x1024 : Shape := ⟨3, ![8, 2048, 1024]⟩
abbrev S8x2048x128 : Shape := ⟨3, ![8, 2048, 128]⟩
abbrev S8x2048x4x64 : Shape := ⟨4, ![8, 2048, 4, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x4x32 : Shape := ⟨4, ![8, 2048, 4, 32]⟩
abbrev S16384x256 : Shape := ⟨2, ![16384, 256]⟩
abbrev S16384x1024 : Shape := ⟨2, ![16384, 1024]⟩
abbrev S16384x128 : Shape := ⟨2, ![16384, 128]⟩

abbrev nBuf : Space → Nat
  | .hbm => 77
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S6144x2048, .bf16⟩
  | .hbm, ⟨2, _⟩ => ⟨S16384x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S16384x2048, .f32⟩
  | .hbm, ⟨7, _⟩ => ⟨S8x2048x2048, .f32⟩
  | .hbm, ⟨8, _⟩ => ⟨S8x2048x256, .f32⟩
  | .hbm, ⟨9, _⟩ => ⟨S8x2048x256, .f32⟩
  | .hbm, ⟨10, _⟩ => ⟨S8x2048x1024, .f32⟩
  | .hbm, ⟨11, _⟩ => ⟨S8x2048x256, .f32⟩
  | .hbm, ⟨12, _⟩ => ⟨S8x2048x128, .f32⟩
  | .hbm, ⟨13, _⟩ => ⟨S8x2048x128, .f32⟩
  | .hbm, ⟨14, _⟩ => ⟨S8x2048x4x64, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S1x2048x1x32, .f32⟩
  | .hbm, ⟨37, _⟩ => ⟨S2048x32, .f32⟩
  | .hbm, ⟨38, _⟩ => ⟨S1x2048x1x32, .f32⟩
  | .hbm, ⟨39, _⟩ => ⟨S8x2048x4x32, .f32⟩
  | .hbm, ⟨40, _⟩ => ⟨S8x2048x4x32, .f32⟩
  | .hbm, ⟨41, _⟩ => ⟨S8x2048x4x32, .f32⟩
  | .hbm, ⟨42, _⟩ => ⟨S8x2048x4x32, .f32⟩
  | .hbm, ⟨43, _⟩ => ⟨S8x2048x4x32, .f32⟩
  | .hbm, ⟨44, _⟩ => ⟨S8x2048x4x32, .f32⟩
  | .hbm, ⟨45, _⟩ => ⟨S8x2048x4x32, .f32⟩
  | .hbm, ⟨46, _⟩ => ⟨S8x2048x4x32, .f32⟩
  | .hbm, ⟨47, _⟩ => ⟨S8x2048x4x32, .f32⟩
  | .hbm, ⟨48, _⟩ => ⟨S8x2048x4x32, .f32⟩
  | .hbm, ⟨49, _⟩ => ⟨S8x2048x4x32, .f32⟩
  | .hbm, ⟨50, _⟩ => ⟨S8x2048x4x32, .f32⟩
  | .hbm, ⟨51, _⟩ => ⟨S8x2048x4x64, .f32⟩
  | .hbm, ⟨52, _⟩ => ⟨S8x2048x1024, .f32⟩
  | .hbm, ⟨53, _⟩ => ⟨S8x2048x1024, .f32⟩
  | .hbm, ⟨54, _⟩ => ⟨S_, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x128, .f32⟩
  | .hbm, ⟨62, _⟩ => ⟨S8x2048x128, .f32⟩
  | .hbm, ⟨63, _⟩ => ⟨S_, .f32⟩
  | .hbm, ⟨64, _⟩ => ⟨S8x2048x128, .f32⟩
  | .hbm, ⟨65, _⟩ => ⟨S8x2048x128, .f32⟩
  | .hbm, ⟨66, _⟩ => ⟨S_, .f32⟩
  | .hbm, ⟨67, _⟩ => ⟨S8x2048x128, .f32⟩
  | .hbm, ⟨68, _⟩ => ⟨S8x2048x128, .f32⟩
  | .hbm, ⟨69, _⟩ => ⟨S16384x256, .f32⟩
  | .hbm, ⟨70, _⟩ => ⟨S16384x256, .f32⟩
  | .hbm, ⟨71, _⟩ => ⟨S16384x1024, .f32⟩
  | .hbm, ⟨72, _⟩ => ⟨S16384x256, .f32⟩
  | .hbm, ⟨73, _⟩ => ⟨S16384x128, .f32⟩
  | .hbm, ⟨74, _⟩ => ⟨S16384x128, .f32⟩
  | .hbm, ⟨75, _⟩ => ⟨S16384x2048, .f32⟩
  | .hbm, ⟨76, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Proj2.lean ====
abbrev S16384x2048 : Shape := ⟨2, ![16384, 2048]⟩
abbrev S6144x2048 : Shape := ⟨2, ![6144, 2048]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S32 : Shape := ⟨1, ![32]⟩
abbrev S1x32 : Shape := ⟨2, ![1, 32]⟩
abbrev S2048x32 : Shape := ⟨2, ![2048, 32]⟩
abbrev S2048x128 : Shape := ⟨2, ![2048, 128]⟩
abbrev S1x2048x128 : Shape := ⟨3, ![1, 2048, 128]⟩
abbrev S3x2048x128 : Shape := ⟨3, ![3, 2048, 128]⟩
abbrev S1024x2048 : Shape := ⟨2, ![1024, 2048]⟩
abbrev S2048x2048 : Shape := ⟨2, ![2048, 2048]⟩
abbrev S256x2048 : Shape := ⟨2, ![256, 2048]⟩
abbrev S256x256 : Shape := ⟨2, ![256, 256]⟩
abbrev S256x128 : Shape := ⟨2, ![256, 128]⟩
abbrev S1x256x128 : Shape := ⟨3, ![1, 256, 128]⟩

abbrev nBuf : Space → Nat
  | .hbm => 76
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S6144x2048, .bf16⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S2048, .f32⟩
  | .hbm, ⟨17, _⟩ => ⟨S2048x1, .f32⟩
  | .hbm, ⟨18, _⟩ => ⟨S1x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S_, .f32⟩
  | .hbm, ⟨47, _⟩ => ⟨S2048x32, .f32⟩
  | .hbm, ⟨48, _⟩ => ⟨S2048x128, .f32⟩
  | .hbm, ⟨49, _⟩ => ⟨S2048x64, .f32⟩
  | .hbm, ⟨50, _⟩ => ⟨S2048x128, .f32⟩
  | .hbm, ⟨51, _⟩ => ⟨S2048x128, .f32⟩
  | .hbm, ⟨52, _⟩ => ⟨S2048x32, .f32⟩
  | .hbm, ⟨53, _⟩ => ⟨S2048x32, .f32⟩
  | .hbm, ⟨54, _⟩ => ⟨S2048x128, .f32⟩
  | .hbm, ⟨55, _⟩ => ⟨S2048x128, .f32⟩
  | .hbm, ⟨56, _⟩ => ⟨S_, .f32⟩
  | .hbm, ⟨57, _⟩ => ⟨S2048x128, .f32⟩
  | .hbm, ⟨58, _⟩ => ⟨S2048x128, .f32⟩
  | .hbm, ⟨59, _⟩ => ⟨S_, .f32⟩
  | .hbm, ⟨60, _⟩ => ⟨S2048x128, .f32⟩
  | .hbm, ⟨61, _⟩ => ⟨S2048x128, .f32⟩
  | .hbm, ⟨62, _⟩ => ⟨S_, .f32⟩
  | .hbm, ⟨63, _⟩ => ⟨S2048x128, .f32⟩
  | .hbm, ⟨64, _⟩ => ⟨S2048x128, .f32⟩
  | .hbm, ⟨65, _⟩ => ⟨S_, .f32⟩
  | .hbm, ⟨66, _⟩ => ⟨S2048x128, .f32⟩
  | .hbm, ⟨67, _⟩ => ⟨S2048x128, .f32⟩
  | .hbm, ⟨68, _⟩ => ⟨S_, .f32⟩
  | .hbm, ⟨69, _⟩ => ⟨S2048x128, .f32⟩
  | .hbm, ⟨70, _⟩ => ⟨S2048x128, .f32⟩
  | .hbm, ⟨71, _⟩ => ⟨S1x2048x128, .f32⟩
  | .hbm, ⟨72, _⟩ => ⟨S1x2048x128, .f32⟩
  | .hbm, ⟨73, _⟩ => ⟨S1x2048x128, .f32⟩
  | .hbm, ⟨74, _⟩ => ⟨S3x2048x128, .f32⟩
  | .hbm, ⟨75, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S3x2048x128, .f32⟩
  | .local _ .vmem, ⟨4, _⟩ => ⟨S1024x2048, .bf16⟩
  | .local _ .vmem, ⟨5, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_8 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_cst_10 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_38 : BitVec 32 := 0#32
  let v70 : BitVec 32 := Scalar.addi v10 c0_i32_38
  v70
def k0_off1 (i : grid0.Coords) (c0_i32_38 : BitVec 32) : Fin 3 → Nat :=
  let c0_39 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v70 : BitVec 32 := Scalar.addi v10 c0_i32_38
  let v71 : BitVec 32 := v70
  let v72 : Index := Scalar.indexCast v71
  let c0_40 : Index := 0#32
  ![0, v72.toNat, 0]
def k0_mult2 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_41 : BitVec 32 := 0#32
  let v77 : BitVec 32 := Scalar.addi v10 c0_i32_41
  v77
def k0_off2 (i : grid0.Coords) (c0_i32_41 : BitVec 32) : Fin 3 → Nat :=
  let c1 : Index := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v77 : BitVec 32 := Scalar.addi v10 c0_i32_41
  let v78 : BitVec 32 := v77
  let v79 : Index := Scalar.indexCast v78
  let c0_42 : Index := 0#32
  ![1, v79.toNat, 0]
def k0_mult3 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_43 : BitVec 32 := 0#32
  let v85 : BitVec 32 := Scalar.addi v10 c0_i32_43
  v85
def k0_off3 (i : grid0.Coords) (c0_i32_43 : BitVec 32) : Fin 3 → Nat :=
  let c2 : Index := 2#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v85 : BitVec 32 := Scalar.addi v10 c0_i32_43
  let v86 : BitVec 32 := v85
  let v87 : Index := Scalar.indexCast v86
  let c0_44 : Index := 0#32
  ![2, v87.toNat, 0]
def k0_mult4 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_47 : BitVec 32 := 0#32
  let v95 : BitVec 32 := Scalar.addi v10 c0_i32_47
  v95
def k0_mult5 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_51 : BitVec 32 := 0#32
  let v102 : BitVec 32 := Scalar.addi v10 c0_i32_51
  v102
def k0_mult6 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_55 : BitVec 32 := 0#32
  let v110 : BitVec 32 := Scalar.addi v10 c0_i32_55
  v110
def k0_mult7 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_63 : BitVec 32 := 0#32
  let v123 : BitVec 32 := Scalar.addi v10 c0_i32_63
  v123
def k0_mult8 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_67 : BitVec 32 := 0#32
  let v130 : BitVec 32 := Scalar.addi v10 c0_i32_67
  v130
def k0_mult9 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_71 : BitVec 32 := 0#32
  let v138 : BitVec 32 := Scalar.addi v10 c0_i32_71
  v138
def k0_mult10 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_76 : BitVec 32 := 0#32
  let v148 : BitVec 32 := Scalar.addi v10 c0_i32_76
  v148
def k0_mult11 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_80 : BitVec 32 := 0#32
  let v155 : BitVec 32 := Scalar.addi v10 c0_i32_80
  v155
def k0_mult12 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_84 : BitVec 32 := 0#32
  let v163 : BitVec 32 := Scalar.addi v10 c0_i32_84
  v163
def k0_mult13 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_92 : BitVec 32 := 0#32
  let v176 : BitVec 32 := Scalar.addi v10 c0_i32_92
  v176
def k0_mult14 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_96 : BitVec 32 := 0#32
  let v183 : BitVec 32 := Scalar.addi v10 c0_i32_96
  v183
def k0_mult15 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_100 : BitVec 32 := 0#32
  let v191 : BitVec 32 := Scalar.addi v10 c0_i32_100
  v191
def k0_mult16 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_105 : BitVec 32 := 0#32
  let v201 : BitVec 32 := Scalar.addi v10 c0_i32_105
  v201
def k0_mult17 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_109 : BitVec 32 := 0#32
  let v208 : BitVec 32 := Scalar.addi v10 c0_i32_109
  v208
def k0_mult18 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_113 : BitVec 32 := 0#32
  let v216 : BitVec 32 := Scalar.addi v10 c0_i32_113
  v216
def k0_mult19 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_122 : BitVec 32 := 0#32
  let v229 : BitVec 32 := Scalar.addi v10 c0_i32_122
  v229
def k0_mult20 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_126 : BitVec 32 := 0#32
  let v236 : BitVec 32 := Scalar.addi v10 c0_i32_126
  v236
def k0_mult21 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_130 : BitVec 32 := 0#32
  let v244 : BitVec 32 := Scalar.addi v10 c0_i32_130
  v244
def k0_mult22 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_135 : BitVec 32 := 0#32
  let v254 : BitVec 32 := Scalar.addi v10 c0_i32_135
  v254
def k0_mult23 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_139 : BitVec 32 := 0#32
  let v261 : BitVec 32 := Scalar.addi v10 c0_i32_139
  v261
def k0_mult24 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_143 : BitVec 32 := 0#32
  let v269 : BitVec 32 := Scalar.addi v10 c0_i32_143
  v269
def k0_mult25 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32 : BitVec 32 := 256#32
  let v334 : BitVec 32 := Scalar.addi v10 c256_i32
  v334
def k0_mult26 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_191 : BitVec 32 := 256#32
  let v341 : BitVec 32 := Scalar.addi v10 c256_i32_191
  v341
def k0_mult27 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_195 : BitVec 32 := 256#32
  let v349 : BitVec 32 := Scalar.addi v10 c256_i32_195
  v349
def k0_mult28 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_200 : BitVec 32 := 256#32
  let v359 : BitVec 32 := Scalar.addi v10 c256_i32_200
  v359
def k0_mult29 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_204 : BitVec 32 := 256#32
  let v366 : BitVec 32 := Scalar.addi v10 c256_i32_204
  v366
def k0_mult30 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_208 : BitVec 32 := 256#32
  let v374 : BitVec 32 := Scalar.addi v10 c256_i32_208
  v374
def k0_mult31 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_218 : BitVec 32 := 256#32
  let v387 : BitVec 32 := Scalar.addi v10 c256_i32_218
  v387
def k0_mult32 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_222 : BitVec 32 := 256#32
  let v394 : BitVec 32 := Scalar.addi v10 c256_i32_222
  v394
def k0_mult33 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_226 : BitVec 32 := 256#32
  let v402 : BitVec 32 := Scalar.addi v10 c256_i32_226
  v402
def k0_mult34 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_231 : BitVec 32 := 256#32
  let v412 : BitVec 32 := Scalar.addi v10 c256_i32_231
  v412
def k0_mult35 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_235 : BitVec 32 := 256#32
  let v419 : BitVec 32 := Scalar.addi v10 c256_i32_235
  v419
def k0_mult36 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_239 : BitVec 32 := 256#32
  let v427 : BitVec 32 := Scalar.addi v10 c256_i32_239
  v427
def k0_mult37 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_249 : BitVec 32 := 256#32
  let v440 : BitVec 32 := Scalar.addi v10 c256_i32_249
  v440
def k0_mult38 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_253 : BitVec 32 := 256#32
  let v447 : BitVec 32 := Scalar.addi v10 c256_i32_253
  v447
def k0_mult39 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_257 : BitVec 32 := 256#32
  let v455 : BitVec 32 := Scalar.addi v10 c256_i32_257
  v455
def k0_mult40 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_262 : BitVec 32 := 256#32
  let v465 : BitVec 32 := Scalar.addi v10 c256_i32_262
  v465
def k0_mult41 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_266 : BitVec 32 := 256#32
  let v472 : BitVec 32 := Scalar.addi v10 c256_i32_266
  v472
def k0_mult42 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_270 : BitVec 32 := 256#32
  let v480 : BitVec 32 := Scalar.addi v10 c256_i32_270
  v480
def k0_mult43 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_280 : BitVec 32 := 256#32
  let v493 : BitVec 32 := Scalar.addi v10 c256_i32_280
  v493
def k0_mult44 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_284 : BitVec 32 := 256#32
  let v500 : BitVec 32 := Scalar.addi v10 c256_i32_284
  v500
def k0_mult45 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_288 : BitVec 32 := 256#32
  let v508 : BitVec 32 := Scalar.addi v10 c256_i32_288
  v508
def k0_mult46 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_293 : BitVec 32 := 256#32
  let v518 : BitVec 32 := Scalar.addi v10 c256_i32_293
  v518
def k0_mult47 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_297 : BitVec 32 := 256#32
  let v525 : BitVec 32 := Scalar.addi v10 c256_i32_297
  v525
def k0_mult48 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32_301 : BitVec 32 := 256#32
  let v533 : BitVec 32 := Scalar.addi v10 c256_i32_301
  v533
def k0_mult49 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32 : BitVec 32 := 512#32
  let v598 : BitVec 32 := Scalar.addi v10 c512_i32
  v598
def k0_mult50 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_350 : BitVec 32 := 512#32
  let v605 : BitVec 32 := Scalar.addi v10 c512_i32_350
  v605
def k0_mult51 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_354 : BitVec 32 := 512#32
  let v613 : BitVec 32 := Scalar.addi v10 c512_i32_354
  v613
def k0_mult52 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_359 : BitVec 32 := 512#32
  let v623 : BitVec 32 := Scalar.addi v10 c512_i32_359
  v623
def k0_mult53 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_363 : BitVec 32 := 512#32
  let v630 : BitVec 32 := Scalar.addi v10 c512_i32_363
  v630
def k0_mult54 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_367 : BitVec 32 := 512#32
  let v638 : BitVec 32 := Scalar.addi v10 c512_i32_367
  v638
def k0_mult55 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_377 : BitVec 32 := 512#32
  let v651 : BitVec 32 := Scalar.addi v10 c512_i32_377
  v651
def k0_mult56 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_381 : BitVec 32 := 512#32
  let v658 : BitVec 32 := Scalar.addi v10 c512_i32_381
  v658
def k0_mult57 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_385 : BitVec 32 := 512#32
  let v666 : BitVec 32 := Scalar.addi v10 c512_i32_385
  v666
def k0_mult58 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_390 : BitVec 32 := 512#32
  let v676 : BitVec 32 := Scalar.addi v10 c512_i32_390
  v676
def k0_mult59 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_394 : BitVec 32 := 512#32
  let v683 : BitVec 32 := Scalar.addi v10 c512_i32_394
  v683
def k0_mult60 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_398 : BitVec 32 := 512#32
  let v691 : BitVec 32 := Scalar.addi v10 c512_i32_398
  v691
def k0_mult61 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_408 : BitVec 32 := 512#32
  let v704 : BitVec 32 := Scalar.addi v10 c512_i32_408
  v704
def k0_mult62 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_412 : BitVec 32 := 512#32
  let v711 : BitVec 32 := Scalar.addi v10 c512_i32_412
  v711
def k0_mult63 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_416 : BitVec 32 := 512#32
  let v719 : BitVec 32 := Scalar.addi v10 c512_i32_416
  v719
def k0_mult64 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_421 : BitVec 32 := 512#32
  let v729 : BitVec 32 := Scalar.addi v10 c512_i32_421
  v729
def k0_mult65 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_425 : BitVec 32 := 512#32
  let v736 : BitVec 32 := Scalar.addi v10 c512_i32_425
  v736
def k0_mult66 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_429 : BitVec 32 := 512#32
  let v744 : BitVec 32 := Scalar.addi v10 c512_i32_429
  v744
def k0_mult67 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_439 : BitVec 32 := 512#32
  let v757 : BitVec 32 := Scalar.addi v10 c512_i32_439
  v757
def k0_mult68 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_443 : BitVec 32 := 512#32
  let v764 : BitVec 32 := Scalar.addi v10 c512_i32_443
  v764
def k0_mult69 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_447 : BitVec 32 := 512#32
  let v772 : BitVec 32 := Scalar.addi v10 c512_i32_447
  v772
def k0_mult70 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_452 : BitVec 32 := 512#32
  let v782 : BitVec 32 := Scalar.addi v10 c512_i32_452
  v782
def k0_mult71 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_456 : BitVec 32 := 512#32
  let v789 : BitVec 32 := Scalar.addi v10 c512_i32_456
  v789
def k0_mult72 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32_460 : BitVec 32 := 512#32
  let v797 : BitVec 32 := Scalar.addi v10 c512_i32_460
  v797
def k0_mult73 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32 : BitVec 32 := 768#32
  let v862 : BitVec 32 := Scalar.addi v10 c768_i32
  v862
def k0_mult74 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_509 : BitVec 32 := 768#32
  let v869 : BitVec 32 := Scalar.addi v10 c768_i32_509
  v869
def k0_mult75 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_513 : BitVec 32 := 768#32
  let v877 : BitVec 32 := Scalar.addi v10 c768_i32_513
  v877
def k0_mult76 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_518 : BitVec 32 := 768#32
  let v887 : BitVec 32 := Scalar.addi v10 c768_i32_518
  v887
def k0_mult77 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_522 : BitVec 32 := 768#32
  let v894 : BitVec 32 := Scalar.addi v10 c768_i32_522
  v894
def k0_mult78 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_526 : BitVec 32 := 768#32
  let v902 : BitVec 32 := Scalar.addi v10 c768_i32_526
  v902
def k0_mult79 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_536 : BitVec 32 := 768#32
  let v915 : BitVec 32 := Scalar.addi v10 c768_i32_536
  v915
def k0_mult80 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_540 : BitVec 32 := 768#32
  let v922 : BitVec 32 := Scalar.addi v10 c768_i32_540
  v922
def k0_mult81 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_544 : BitVec 32 := 768#32
  let v930 : BitVec 32 := Scalar.addi v10 c768_i32_544
  v930
def k0_mult82 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_549 : BitVec 32 := 768#32
  let v940 : BitVec 32 := Scalar.addi v10 c768_i32_549
  v940
def k0_mult83 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_553 : BitVec 32 := 768#32
  let v947 : BitVec 32 := Scalar.addi v10 c768_i32_553
  v947
def k0_mult84 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_557 : BitVec 32 := 768#32
  let v955 : BitVec 32 := Scalar.addi v10 c768_i32_557
  v955
def k0_mult85 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_567 : BitVec 32 := 768#32
  let v968 : BitVec 32 := Scalar.addi v10 c768_i32_567
  v968
def k0_mult86 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_571 : BitVec 32 := 768#32
  let v975 : BitVec 32 := Scalar.addi v10 c768_i32_571
  v975
def k0_mult87 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_575 : BitVec 32 := 768#32
  let v983 : BitVec 32 := Scalar.addi v10 c768_i32_575
  v983
def k0_mult88 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_580 : BitVec 32 := 768#32
  let v993 : BitVec 32 := Scalar.addi v10 c768_i32_580
  v993
def k0_mult89 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_584 : BitVec 32 := 768#32
  let v1000 : BitVec 32 := Scalar.addi v10 c768_i32_584
  v1000
def k0_mult90 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_588 : BitVec 32 := 768#32
  let v1008 : BitVec 32 := Scalar.addi v10 c768_i32_588
  v1008
def k0_mult91 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_593 : BitVec 32 := 768#32
  let v1018 : BitVec 32 := Scalar.addi v10 c768_i32_593
  v1018
def k0_mult92 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_597 : BitVec 32 := 768#32
  let v1025 : BitVec 32 := Scalar.addi v10 c768_i32_597
  v1025
def k0_mult93 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_601 : BitVec 32 := 768#32
  let v1033 : BitVec 32 := Scalar.addi v10 c768_i32_601
  v1033
def k0_mult94 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_606 : BitVec 32 := 768#32
  let v1043 : BitVec 32 := Scalar.addi v10 c768_i32_606
  v1043
def k0_mult95 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_610 : BitVec 32 := 768#32
  let v1050 : BitVec 32 := Scalar.addi v10 c768_i32_610
  v1050
def k0_mult96 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32_614 : BitVec 32 := 768#32
  let v1058 : BitVec 32 := Scalar.addi v10 c768_i32_614
  v1058
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Proj2RefIdeal.lean ====
abbrev S16384x2048 : Shape := ⟨2, ![16384, 2048]⟩
abbrev S6144x2048 : Shape := ⟨2, ![6144, 2048]⟩
abbrev S2048x2048 : Shape := ⟨2, ![2048, 2048]⟩
abbrev S8x2048x2048 : Shape := ⟨3, ![8, 2048, 2048]⟩
abbrev S8x2048x1024 : Shape := ⟨3, ![8, 2048, 1024]⟩
abbrev S8x2048x16x64 : Shape := ⟨4, ![8, 2048, 16, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x16x32 : Shape := ⟨4, ![8, 2048, 16, 32]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S6144x2048, .bf16⟩
  | .hbm, ⟨2, _⟩ => ⟨S16384x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S16384x2048, .f32⟩
  | .hbm, ⟨7, _⟩ => ⟨S8x2048x2048, .f32⟩
  | .hbm, ⟨8, _⟩ => ⟨S8x2048x1024, .f32⟩
  | .hbm, ⟨9, _⟩ => ⟨S8x2048x1024, .f32⟩
  | .hbm, ⟨10, _⟩ => ⟨S8x2048x16x64, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S2048, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S1x2048x1x32, .f32⟩
  | .hbm, ⟨33, _⟩ => ⟨S2048x32, .f32⟩
  | .hbm, ⟨34, _⟩ => ⟨S1x2048x1x32, .f32⟩
  | .hbm, ⟨35, _⟩ => ⟨S8x2048x16x32, .f32⟩
  | .hbm, ⟨36, _⟩ => ⟨S8x2048x16x32, .f32⟩
  | .hbm, ⟨37, _⟩ => ⟨S8x2048x16x32, .f32⟩
  | .hbm, ⟨38, _⟩ => ⟨S8x2048x16x32, .f32⟩
  | .hbm, ⟨39, _⟩ => ⟨S8x2048x16x32, .f32⟩
  | .hbm, ⟨40, _⟩ => ⟨S8x2048x16x32, .f32⟩
  | .hbm, ⟨41, _⟩ => ⟨S8x2048x16x32, .f32⟩
  | .hbm, ⟨42, _⟩ => ⟨S8x2048x16x32, .f32⟩
  | .hbm, ⟨43, _⟩ => ⟨S8x2048x16x32, .f32⟩
  | .hbm, ⟨44, _⟩ => ⟨S8x2048x16x32, .f32⟩
  | .hbm, ⟨45, _⟩ => ⟨S8x2048x16x32, .f32⟩
  | .hbm, ⟨46, _⟩ => ⟨S8x2048x16x32, .f32⟩
  | .hbm, ⟨47, _⟩ => ⟨S8x2048x16x64, .f32⟩
  | .hbm, ⟨48, _⟩ => ⟨S_, .f32⟩
  | .hbm, ⟨49, _⟩ => ⟨S8x2048x16x64, .f32⟩
  | .hbm, ⟨50, _⟩ => ⟨S8x2048x16x64, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S16384x1024, .f32⟩
  | .hbm, ⟨61, _⟩ => ⟨S16384x1024, .f32⟩
  | .hbm, ⟨62, _⟩ => ⟨S16384x2048, .f32⟩
  | .hbm, ⟨63, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Prep.lean ====
abbrev S1x2048x5912 : Shape := ⟨3, ![1, 2048, 5912]⟩
abbrev S2048x5912 : Shape := ⟨2, ![2048, 5912]⟩
abbrev S5912x2048 : Shape := ⟨2, ![5912, 2048]⟩
abbrev S6144x2048 : Shape := ⟨2, ![6144, 2048]⟩
abbrev S5912x256 : Shape := ⟨2, ![5912, 256]⟩
abbrev S6144x256 : Shape := ⟨2, ![6144, 256]⟩
abbrev S128x256 : Shape := ⟨2, ![128, 256]⟩
abbrev S64x256 : Shape := ⟨2, ![64, 256]⟩
abbrev S12x256 : Shape := ⟨2, ![12, 256]⟩
abbrev S52x256 : Shape := ⟨2, ![52, 256]⟩

abbrev nBuf : Space → Nat
  | .hbm => 4
  | .vmem => 4
  | .smem => 0
  | _ => 0

abbrev bufTy : (tb : Table) → Fin (tcTables nBuf tb) → BufTy
  | .hbm, ⟨0, _⟩ => ⟨S1x2048x5912, .f32⟩
  | .hbm, ⟨1, _⟩ => ⟨S2048x5912, .f32⟩
  | .hbm, ⟨2, _⟩ => ⟨S5912x2048, .f32⟩
  | .hbm, ⟨3, _⟩ => ⟨S6144x2048, .bf16⟩
  | .local _ .vmem, ⟨0, _⟩ => ⟨S5912x256, .f32⟩
  | .local _ .vmem, ⟨1, _⟩ => ⟨S5912x256, .f32⟩
  | .local _ .vmem, ⟨2, _⟩ => ⟨S6144x256, .bf16⟩
  | .local _ .vmem, ⟨3, _⟩ => ⟨S6144x256, .bf16⟩
  | _, _ => ⟨S1x2048x5912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5912x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6144x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Cmp.lean ====
abbrev S2048x2048 : Shape := ⟨2, ![2048, 2048]⟩
abbrev S1x4096x256 : Shape := ⟨3, ![1, 4096, 256]⟩
abbrev S1x256x128 : Shape := ⟨3, ![1, 256, 128]⟩
abbrev S1x32x128 : Shape := ⟨3, ![1, 32, 128]⟩
abbrev S4096x256 : Shape := ⟨2, ![4096, 256]⟩
abbrev S256x128 : Shape := ⟨2, ![256, 128]⟩
abbrev S32x128 : Shape := ⟨2, ![32, 128]⟩
abbrev S1x4096 : Shape := ⟨2, ![1, 4096]⟩
abbrev S8x4096 : Shape := ⟨2, ![8, 4096]⟩
abbrev S2048x128 : Shape := ⟨2, ![2048, 128]⟩
abbrev S256x2048 : Shape := ⟨2, ![256, 2048]⟩
abbrev S2x8x256 : Shape := ⟨3, ![2, 8, 256]⟩
abbrev S8x256 : Shape := ⟨2, ![8, 256]⟩
abbrev S1x8x256 : Shape := ⟨3, ![1, 8, 256]⟩
abbrev S2048x256 : Shape := ⟨2, ![2048, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 26
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x4096x256, .f32⟩
  | .hbm, ⟨3, _⟩ => ⟨S1x4096x256, .f32⟩
  | .hbm, ⟨4, _⟩ => ⟨S1x256x128, .f32⟩
  | .hbm, ⟨5, _⟩ => ⟨S1x256x128, .f32⟩
  | .hbm, ⟨6, _⟩ => ⟨S1x32x128, .f32⟩
  | .hbm, ⟨7, _⟩ => ⟨S1x32x128, .f32⟩
  | .hbm, ⟨8, _⟩ => ⟨S4096x256, .f32⟩
  | .hbm, ⟨9, _⟩ => ⟨S4096x256, .bf16⟩
  | .hbm, ⟨10, _⟩ => ⟨S4096x256, .f32⟩
  | .hbm, ⟨11, _⟩ => ⟨S4096x256, .bf16⟩
  | .hbm, ⟨12, _⟩ => ⟨S256x128, .f32⟩
  | .hbm, ⟨13, _⟩ => ⟨S256x128, .bf16⟩
  | .hbm, ⟨14, _⟩ => ⟨S256x128, .f32⟩
  | .hbm, ⟨15, _⟩ => ⟨S256x128, .bf16⟩
  | .hbm, ⟨16, _⟩ => ⟨S32x128, .f32⟩
  | .hbm, ⟨17, _⟩ => ⟨S1x4096, .f32⟩
  | .hbm, ⟨18, _⟩ => ⟨S8x4096, .f32⟩
  | .hbm, ⟨19, _⟩ => ⟨S8x4096, .bf16⟩
  | .hbm, ⟨20, _⟩ => ⟨S32x128, .f32⟩
  | .hbm, ⟨21, _⟩ => ⟨S1x4096, .f32⟩
  | .hbm, ⟨22, _⟩ => ⟨S8x4096, .f32⟩
  | .hbm, ⟨23, _⟩ => ⟨S8x4096, .bf16⟩
  | .hbm, ⟨24, _⟩ => ⟨S2048x128, .bf16⟩
  | .hbm, ⟨25, _⟩ => ⟨S2048x128, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S4096x256, .bf16⟩
  | .local _ .vmem, ⟨5, _⟩ => ⟨S4096x256, .bf16⟩
  | .local _ .vmem, ⟨6, _⟩ => ⟨S256x128, .bf16⟩
  | .local _ .vmem, ⟨7, _⟩ => ⟨S256x128, .bf16⟩
  | .local _ .vmem, ⟨8, _⟩ => ⟨S8x4096, .bf16⟩
  | .local _ .vmem, ⟨9, _⟩ => ⟨S8x4096, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S2x8x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Attn.lean ====
abbrev S8x2048x2048 : Shape := ⟨3, ![8, 2048, 2048]⟩
abbrev S16x128x128 : Shape := ⟨3, ![16, 128, 128]⟩
abbrev S16 : Shape := ⟨1, ![16]⟩
abbrev S32x128 : Shape := ⟨2, ![32, 128]⟩
abbrev S3x256x128 : Shape := ⟨3, ![3, 256, 128]⟩
abbrev S_ : Shape := ⟨0, ![]⟩
abbrev S5x640x128 : Shape := ⟨3, ![5, 640, 128]⟩
abbrev S2x256x128 : Shape := ⟨3, ![2, 256, 128]⟩
abbrev S8x512x1024 : Shape := ⟨3, ![8, 512, 1024]⟩
abbrev S1x128x512 : Shape := ⟨3, ![1, 128, 512]⟩
abbrev S1x2048x128 : Shape := ⟨3, ![1, 2048, 128]⟩
abbrev S1x128x128 : Shape := ⟨3, ![1, 128, 128]⟩
abbrev S16x144x128 : Shape := ⟨3, ![16, 144, 128]⟩
abbrev S16x80x128 : Shape := ⟨3, ![16, 80, 128]⟩
abbrev S4x2x256x128 : Shape := ⟨4, ![4, 2, 256, 128]⟩
abbrev S4x32x8x128 : Shape := ⟨4, ![4, 32, 8, 128]⟩
abbrev S4x2x144x256 : Shape := ⟨4, ![4, 2, 144, 256]⟩
abbrev S4x2x128x256 : Shape := ⟨4, ![4, 2, 128, 256]⟩
abbrev S128x128 : Shape := ⟨2, ![128, 128]⟩
abbrev S16x128 : Shape := ⟨2, ![16, 128]⟩
abbrev S1x16x128 : Shape := ⟨3, ![1, 16, 128]⟩
abbrev S64x128 : Shape := ⟨2, ![64, 128]⟩
abbrev S1x64x128 : Shape := ⟨3, ![1, 64, 128]⟩
abbrev S1x128 : Shape := ⟨2, ![1, 128]⟩
abbrev S1x256 : Shape := ⟨2, ![1, 256]⟩
abbrev S128x512 : Shape := ⟨2, ![128, 512]⟩
abbrev S256x128 : Shape := ⟨2, ![256, 128]⟩
abbrev S1x1x256x128 : Shape := ⟨4, ![1, 1, 256, 128]⟩
abbrev S128x256 : Shape := ⟨2, ![128, 256]⟩
abbrev S1x256x128 : Shape := ⟨3, ![1, 256, 128]⟩
abbrev S256x256 : Shape := ⟨2, ![256, 256]⟩
abbrev S256 : Shape := ⟨1, ![256]⟩
abbrev S1x1x128x256 : Shape := ⟨4, ![1, 1, 128, 256]⟩
abbrev S640x256 : Shape := ⟨2, ![640, 256]⟩
abbrev S1x144x128 : Shape := ⟨3, ![1, 144, 128]⟩
abbrev S144x128 : Shape := ⟨2, ![144, 128]⟩
abbrev S144x640 : Shape := ⟨2, ![144, 640]⟩
abbrev S144x256 : Shape := ⟨2, ![144, 256]⟩
abbrev S8x128 : Shape := ⟨2, ![8, 128]⟩
abbrev S1x1x8x128 : Shape := ⟨4, ![1, 1, 8, 128]⟩
abbrev S1x80x128 : Shape := ⟨3, ![1, 80, 128]⟩
abbrev S80x128 : Shape := ⟨2, ![80, 128]⟩
abbrev S80x256 : Shape := ⟨2, ![80, 256]⟩
abbrev S1 : Shape := ⟨1, ![1]⟩
abbrev S64x256 : Shape := ⟨2, ![64, 256]⟩
abbrev S1x1x144x256 : Shape := ⟨4, ![1, 1, 144, 256]⟩

abbrev nBuf : Space → Nat
  | .hbm => 89
  | .vmem => 83
  | .smem => 1
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S8x2048x2048, .bf16⟩
  | .hbm, ⟨3, _⟩ => ⟨S16x128x128, .bf16⟩
  | .hbm, ⟨4, _⟩ => ⟨S16x128x128, .bf16⟩
  | .hbm, ⟨5, _⟩ => ⟨S16, .f32⟩
  | .hbm, ⟨6, _⟩ => ⟨S32x128, .bf16⟩
  | .hbm, ⟨7, _⟩ => ⟨S3x256x128, .i32⟩
  | .hbm, ⟨8, _⟩ => ⟨S3x256x128, .i32⟩
  | .hbm, ⟨9, _⟩ => ⟨S3x256x128, .i32⟩
  | .hbm, ⟨10, _⟩ => ⟨S_, .i32⟩
  | .hbm, ⟨11, _⟩ => ⟨S3x256x128, .i32⟩
  | .hbm, ⟨12, _⟩ => ⟨S3x256x128, .i1⟩
  | .hbm, ⟨13, _⟩ => ⟨S_, .i32⟩
  | .hbm, ⟨14, _⟩ => ⟨S3x256x128, .i32⟩
  | .hbm, ⟨15, _⟩ => ⟨S3x256x128, .i32⟩
  | .hbm, ⟨16, _⟩ => ⟨S_, .i32⟩
  | .hbm, ⟨17, _⟩ => ⟨S3x256x128, .i32⟩
  | .hbm, ⟨18, _⟩ => ⟨S3x256x128, .i32⟩
  | .hbm, ⟨19, _⟩ => ⟨S3x256x128, .i32⟩
  | .hbm, ⟨20, _⟩ => ⟨S3x256x128, .i1⟩
  | .hbm, ⟨21, _⟩ => ⟨S3x256x128, .i1⟩
  | .hbm, ⟨22, _⟩ => ⟨S_, .f32⟩
  | .hbm, ⟨23, _⟩ => ⟨S_, .f32⟩
  | .hbm, ⟨24, _⟩ => ⟨S3x256x128, .f32⟩
  | .hbm, ⟨25, _⟩ => ⟨S3x256x128, .f32⟩
  | .hbm, ⟨26, _⟩ => ⟨S3x256x128, .f32⟩
  | .hbm, ⟨27, _⟩ => ⟨S5x640x128, .i32⟩
  | .hbm, ⟨28, _⟩ => ⟨S_, .i32⟩
  | .hbm, ⟨29, _⟩ => ⟨S5x640x128, .i32⟩
  | .hbm, ⟨30, _⟩ => ⟨S5x640x128, .i32⟩
  | .hbm, ⟨31, _⟩ => ⟨S5x640x128, .i32⟩
  | .hbm, ⟨32, _⟩ => ⟨S5x640x128, .i32⟩
  | .hbm, ⟨33, _⟩ => ⟨S5x640x128, .i32⟩
  | .hbm, ⟨34, _⟩ => ⟨S_, .i32⟩
  | .hbm, ⟨35, _⟩ => ⟨S5x640x128, .i32⟩
  | .hbm, ⟨36, _⟩ => ⟨S5x640x128, .i32⟩
  | .hbm, ⟨37, _⟩ => ⟨S_, .i32⟩
  | .hbm, ⟨38, _⟩ => ⟨S5x640x128, .i32⟩
  | .hbm, ⟨39, _⟩ => ⟨S5x640x128, .i32⟩
  | .hbm, ⟨40, _⟩ => ⟨S5x640x128, .i32⟩
  | .hbm, ⟨41, _⟩ => ⟨S5x640x128, .i32⟩
  | .hbm, ⟨42, _⟩ => ⟨S_, .i32⟩
  | .hbm, ⟨43, _⟩ => ⟨S5x640x128, .i32⟩
  | .hbm, ⟨44, _⟩ => ⟨S5x640x128, .i1⟩
  | .hbm, ⟨45, _⟩ => ⟨S_, .i32⟩
  | .hbm, ⟨46, _⟩ => ⟨S5x640x128, .i32⟩
  | .hbm, ⟨47, _⟩ => ⟨S5x640x128, .i1⟩
  | .hbm, ⟨48, _⟩ => ⟨S5x640x128, .i1⟩
  | .hbm, ⟨49, _⟩ => ⟨S_, .f32⟩
  | .hbm, ⟨50, _⟩ => ⟨S_, .f32⟩
  | .hbm, ⟨51, _⟩ => ⟨S5x640x128, .f32⟩
  | .hbm, ⟨52, _⟩ => ⟨S5x640x128, .f32⟩
  | .hbm, ⟨53, _⟩ => ⟨S5x640x128, .f32⟩
  | .hbm, ⟨54, _⟩ => ⟨S2x256x128, .i32⟩
  | .hbm, ⟨55, _⟩ => ⟨S_, .i32⟩
  | .hbm, ⟨56, _⟩ => ⟨S2x256x128, .i32⟩
  | .hbm, ⟨57, _⟩ => ⟨S2x256x128, .i32⟩
  | .hbm, ⟨58, _⟩ => ⟨S2x256x128, .i32⟩
  | .hbm, ⟨59, _⟩ => ⟨S2x256x128, .i32⟩
  | .hbm, ⟨60, _⟩ => ⟨S2x256x128, .i32⟩
  | .hbm, ⟨61, _⟩ => ⟨S_, .i32⟩
  | .hbm, ⟨62, _⟩ => ⟨S2x256x128, .i32⟩
  | .hbm, ⟨63, _⟩ => ⟨S2x256x128, .i32⟩
  | .hbm, ⟨64, _⟩ => ⟨S_, .i32⟩
  | .hbm, ⟨65, _⟩ => ⟨S2x256x128, .i32⟩
  | .hbm, ⟨66, _⟩ => ⟨S2x256x128, .i32⟩
  | .hbm, ⟨67, _⟩ => ⟨S2x256x128, .i32⟩
  | .hbm, ⟨68, _⟩ => ⟨S2x256x128, .i32⟩
  | .hbm, ⟨69, _⟩ => ⟨S_, .i32⟩
  | .hbm, ⟨70, _⟩ => ⟨S2x256x128, .i32⟩
  | .hbm, ⟨71, _⟩ => ⟨S2x256x128, .i1⟩
  | .hbm, ⟨72, _⟩ => ⟨S_, .i32⟩
  | .hbm, ⟨73, _⟩ => ⟨S2x256x128, .i32⟩
  | .hbm, ⟨74, _⟩ => ⟨S2x256x128, .i1⟩
  | .hbm, ⟨75, _⟩ => ⟨S2x256x128, .i1⟩
  | .hbm, ⟨76, _⟩ => ⟨S_, .f32⟩
  | .hbm, ⟨77, _⟩ => ⟨S_, .f32⟩
  | .hbm, ⟨78, _⟩ => ⟨S2x256x128, .f32⟩
  | .hbm, ⟨79, _⟩ => ⟨S2x256x128, .f32⟩
  | .hbm, ⟨80, _⟩ => ⟨S2x256x128, .f32⟩
  | .hbm, ⟨81, _⟩ => ⟨S8x512x1024, .bf16⟩
  | .hbm, ⟨82, _⟩ => ⟨S8x512x1024, .bf16⟩
  | .hbm, ⟨83, _⟩ => ⟨S8x512x1024, .bf16⟩
  | .hbm, ⟨84, _⟩ => ⟨S8x512x1024, .bf16⟩
  | .hbm, ⟨85, _⟩ => ⟨S8x512x1024, .bf16⟩
  | .hbm, ⟨86, _⟩ => ⟨S8x512x1024, .bf16⟩
  | .hbm, ⟨87, _⟩ => ⟨S8x512x1024, .bf16⟩
  | .hbm, ⟨88, _⟩ => ⟨S8x512x1024, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x128x128, .bf16⟩
  | .local _ .vmem, ⟨17, _⟩ => ⟨S1x128x128, .bf16⟩
  | .local _ .vmem, ⟨18, _⟩ => ⟨S1x128x128, .bf16⟩
  | .local _ .vmem, ⟨19, _⟩ => ⟨S1x128x128, .bf16⟩
  | .local _ .vmem, ⟨20, _⟩ => ⟨S1x128x128, .bf16⟩
  | .local _ .vmem, ⟨21, _⟩ => ⟨S1x128x128, .bf16⟩
  | .local _ .vmem, ⟨22, _⟩ => ⟨S1x128x128, .bf16⟩
  | .local _ .vmem, ⟨23, _⟩ => ⟨S1x128x128, .bf16⟩
  | .local _ .vmem, ⟨24, _⟩ => ⟨S1x128x128, .bf16⟩
  | .local _ .vmem, ⟨25, _⟩ => ⟨S1x128x128, .bf16⟩
  | .local _ .vmem, ⟨26, _⟩ => ⟨S1x128x128, .bf16⟩
  | .local _ .vmem, ⟨27, _⟩ => ⟨S1x128x128, .bf16⟩
  | .local _ .vmem, ⟨28, _⟩ => ⟨S1x128x512, .bf16⟩
  | .local _ .vmem, ⟨29, _⟩ => ⟨S1x128x512, .bf16⟩
  | .local _ .vmem, ⟨30, _⟩ => ⟨S1x128x512, .bf16⟩
  | .local _ .vmem, ⟨31, _⟩ => ⟨S1x128x512, .bf16⟩
  | .local _ .vmem, ⟨32, _⟩ => ⟨S1x128x512, .bf16⟩
  | .local _ .vmem, ⟨33, _⟩ => ⟨S1x128x512, .bf16⟩
  | .local _ .vmem, ⟨34, _⟩ => ⟨S1x128x512, .bf16⟩
  | .local _ .vmem, ⟨35, _⟩ => ⟨S1x128x512, .bf16⟩
  | .local _ .vmem, ⟨36, _⟩ => ⟨S32x128, .bf16⟩
  | .local _ .vmem, ⟨37, _⟩ => ⟨S5x640x128, .f32⟩
  | .local _ .vmem, ⟨38, _⟩ => ⟨S3x256x128, .f32⟩
  | .local _ .vmem, ⟨39, _⟩ => ⟨S1x128x512, .bf16⟩
  | .local _ .vmem, ⟨40, _⟩ => ⟨S1x128x512, .bf16⟩
  | .local _ .vmem, ⟨41, _⟩ => ⟨S1x128x512, .bf16⟩
  | .local _ .vmem, ⟨42, _⟩ => ⟨S1x128x512, .bf16⟩
  | .local _ .vmem, ⟨43, _⟩ => ⟨S1x128x512, .bf16⟩
  | .local _ .vmem, ⟨44, _⟩ => ⟨S1x128x512, .bf16⟩
  | .local _ .vmem, ⟨45, _⟩ => ⟨S1x128x512, .bf16⟩
  | .local _ .vmem, ⟨46, _⟩ => ⟨S1x128x512, .bf16⟩
  | .local _ .vmem, ⟨47, _⟩ => ⟨S1x2048x128, .bf16⟩
  | .local _ .vmem, ⟨48, _⟩ => ⟨S1x2048x128, .bf16⟩
  | .local _ .vmem, ⟨49, _⟩ => ⟨S1x2048x128, .bf16⟩
  | .local _ .vmem, ⟨50, _⟩ => ⟨S1x2048x128, .bf16⟩
  | .local _ .vmem, ⟨51, _⟩ => ⟨S1x128x512, .bf16⟩
  | .local _ .vmem, ⟨52, _⟩ => ⟨S1x128x512, .bf16⟩
  | .local _ .vmem, ⟨53, _⟩ => ⟨S1x128x512, .bf16⟩
  | .local _ .vmem, ⟨54, _⟩ => ⟨S1x128x512, .bf16⟩
  | .local _ .vmem, ⟨55, _⟩ => ⟨S1x128x512, .bf16⟩
  | .local _ .vmem, ⟨56, _⟩ => ⟨S1x128x512, .bf16⟩
  | .local _ .vmem, ⟨57, _⟩ => ⟨S1x128x512, .bf16⟩
  | .local _ .vmem, ⟨58, _⟩ => ⟨S1x128x512, .bf16⟩
  | .local _ .vmem, ⟨59, _⟩ => ⟨S2x256x128, .f32⟩
  | .local _ .vmem, ⟨60, _⟩ => ⟨S1x128x512, .bf16⟩
  | .local _ .vmem, ⟨61, _⟩ => ⟨S1x128x512, .bf16⟩
  | .local _ .vmem, ⟨62, _⟩ => ⟨S1x128x512, .bf16⟩
  | .local _ .vmem, ⟨63, _⟩ => ⟨S1x128x512, .bf16⟩
  | .local _ .vmem, ⟨64, _⟩ => ⟨S1x128x512, .bf16⟩
  | .local _ .vmem, ⟨65, _⟩ => ⟨S1x128x512, .bf16⟩
  | .local _ .vmem, ⟨66, _⟩ => ⟨S1x128x512, .bf16⟩
  | .local _ .vmem, ⟨67, _⟩ => ⟨S1x128x512, .bf16⟩
  | .local _ .vmem, ⟨68, _⟩ => ⟨S1x128x512, .bf16⟩
  | .local _ .vmem, ⟨69, _⟩ => ⟨S1x128x512, .bf16⟩
  | .local _ .vmem, ⟨70, _⟩ => ⟨S1x128x512, .bf16⟩
  | .local _ .vmem, ⟨71, _⟩ => ⟨S1x128x512, .bf16⟩
  | .local _ .vmem, ⟨72, _⟩ => ⟨S1x128x512, .bf16⟩
  | .local _ .vmem, ⟨73, _⟩ => ⟨S1x128x512, .bf16⟩
  | .local _ .vmem, ⟨74, _⟩ => ⟨S1x128x512, .bf16⟩
  | .local _ .vmem, ⟨75, _⟩ => ⟨S1x128x512, .bf16⟩
  | .local _ .vmem, ⟨76, _⟩ => ⟨S16x144x128, .bf16⟩
  | .local _ .vmem, ⟨77, _⟩ => ⟨S16x144x128, .bf16⟩
  | .local _ .vmem, ⟨78, _⟩ => ⟨S16x80x128, .bf16⟩
  | .local _ .vmem, ⟨79, _⟩ => ⟨S4x2x256x128, .bf16⟩
  | .local _ .vmem, ⟨80, _⟩ => ⟨S4x32x8x128, .f32⟩
  | .local _ .vmem, ⟨81, _⟩ => ⟨S4x2x144x256, .f32⟩
  | .local _ .vmem, ⟨82, _⟩ => ⟨S4x2x128x256, .f32⟩
  | .local _ .smem, ⟨0, _⟩ => ⟨S16, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .smem, ⟨0, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_cst_10 : Ref sig .tc := ⟨.hbm, 50, rfl⟩
abbrev main_call1_v0 : Ref sig .tc := ⟨.hbm, 51, rfl⟩
abbrev main_call1_v1 : Ref sig .tc := ⟨.hbm, 52, rfl⟩
abbrev main_v30 : Ref sig .tc := ⟨.hbm, 53, rfl⟩
abbrev main_v31 : Ref sig .tc := ⟨.hbm, 54, rfl⟩
abbrev main_c_11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_12 : Ref sig .tc := ⟨.hbm, 61, rfl⟩
abbrev main_v37 : Ref sig .tc := ⟨.hbm, 62, rfl⟩
abbrev main_v38 : Ref sig .tc := ⟨.hbm, 63, rfl⟩
abbrev main_c_13 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_14 : Ref sig .tc := ⟨.hbm, 69, rfl⟩
abbrev main_v43 : Ref sig .tc := ⟨.hbm, 70, rfl⟩
abbrev main_v44 : Ref sig .tc := ⟨.hbm, 71, rfl⟩
abbrev main_c_15 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_16 : Ref sig .tc := ⟨.hbm, 76, rfl⟩
abbrev main_cst_17 : Ref sig .tc := ⟨.hbm, 77, rfl⟩
abbrev main_call2_v0 : Ref sig .tc := ⟨.hbm, 78, rfl⟩
abbrev main_call2_v1 : Ref sig .tc := ⟨.hbm, 79, rfl⟩
abbrev main_v48 : Ref sig .tc := ⟨.hbm, 80, rfl⟩
abbrev main_v49_0 : Ref sig .tc := ⟨.hbm, 81, rfl⟩
abbrev main_v49_1 : Ref sig .tc := ⟨.hbm, 82, rfl⟩
abbrev main_v49_2 : Ref sig .tc := ⟨.hbm, 83, rfl⟩
abbrev main_v49_3 : Ref sig .tc := ⟨.hbm, 84, rfl⟩
abbrev main_v49_4 : Ref sig .tc := ⟨.hbm, 85, rfl⟩
abbrev main_v49_5 : Ref sig .tc := ⟨.hbm, 86, rfl⟩
abbrev main_v49_6 : Ref sig .tc := ⟨.hbm, 87, rfl⟩
abbrev main_v49_7 : Ref sig .tc := ⟨.hbm, 88, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg20_0 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg25_1 : Ref sig .tc := ⟨.vmem, 46, rfl⟩
abbrev cc0_stg26_0 : Ref sig .tc := ⟨.vmem, 47, rfl⟩
abbrev cc0_stg26_1 : Ref sig .tc := ⟨.vmem, 48, rfl⟩
abbrev cc0_stg27_0 : Ref sig .tc := ⟨.vmem, 49, rfl⟩
abbrev cc0_stg27_1 : Ref sig .tc := ⟨.vmem, 50, rfl⟩
abbrev cc0_stg28_0 : Ref sig .tc := ⟨.vmem, 51, rfl⟩
abbrev cc0_stg28_1 : Ref sig .tc := ⟨.vmem, 52, rfl⟩
abbrev cc0_stg29_0 : Ref sig .tc := ⟨.vmem, 53, rfl⟩
abbrev cc0_stg29_1 : Ref sig .tc := ⟨.vmem, 54, rfl⟩
abbrev cc0_stg30_0 : Ref sig .tc := ⟨.vmem, 55, rfl⟩
abbrev cc0_stg30_1 : Ref sig .tc := ⟨.vmem, 56, rfl⟩
abbrev cc0_stg31_0 : Ref sig .tc := ⟨.vmem, 57, rfl⟩
abbrev cc0_stg31_1 : Ref sig .tc := ⟨.vmem, 58, rfl⟩
abbrev cc0_stg32_0 : Ref sig .tc := ⟨.vmem, 59, rfl⟩
abbrev cc0_stg33_0 : Ref sig .tc := ⟨.vmem, 60, rfl⟩
abbrev cc0_stg33_1 : Ref sig .tc := ⟨.vmem, 61, rfl⟩
abbrev cc0_stg34_0 : Ref sig .tc := ⟨.vmem, 62, rfl⟩
abbrev cc0_stg34_1 : Ref sig .tc := ⟨.vmem, 63, rfl⟩
abbrev cc0_stg35_0 : Ref sig .tc := ⟨.vmem, 64, rfl⟩
abbrev cc0_stg35_1 : Ref sig .tc := ⟨.vmem, 65, rfl⟩
abbrev cc0_stg36_0 : Ref sig .tc := ⟨.vmem, 66, rfl⟩
abbrev cc0_stg36_1 : Ref sig .tc := ⟨.vmem, 67, rfl⟩
abbrev cc0_stg37_0 : Ref sig .tc := ⟨.vmem, 68, rfl⟩
abbrev cc0_stg37_1 : Ref sig .tc := ⟨.vmem, 69, rfl⟩
abbrev cc0_stg38_0 : Ref sig .tc := ⟨.vmem, 70, rfl⟩
abbrev cc0_stg38_1 : Ref sig .tc := ⟨.vmem, 71, rfl⟩
abbrev cc0_stg39_0 : Ref sig .tc := ⟨.vmem, 72, rfl⟩
abbrev cc0_stg39_1 : Ref sig .tc := ⟨.vmem, 73, rfl⟩
abbrev cc0_stg40_0 : Ref sig .tc := ⟨.vmem, 74, rfl⟩
abbrev cc0_stg40_1 : Ref sig .tc := ⟨.vmem, 75, rfl⟩
abbrev cc0_scratch0 : Ref sig .tc := ⟨.vmem, 76, rfl⟩
abbrev cc0_scratch1 : Ref sig .tc := ⟨.vmem, 77, rfl⟩
abbrev cc0_scratch2 : Ref sig .tc := ⟨.vmem, 78, rfl⟩
abbrev cc0_scratch3 : Ref sig .tc := ⟨.vmem, 79, rfl⟩
abbrev cc0_scratch4 : Ref sig .tc := ⟨.vmem, 80, rfl⟩
abbrev cc0_scratch5 : Ref sig .tc := ⟨.vmem, 81, rfl⟩
abbrev cc0_scratch6 : Ref sig .tc := ⟨.vmem, 82, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem20_0 : DmaSem sig := 38
abbrev cc0_sem21_0 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47
abbrev cc0_sem26_0 : DmaSem sig := 48
abbrev cc0_sem26_1 : DmaSem sig := 49
abbrev cc0_sem27_0 : DmaSem sig := 50
abbrev cc0_sem27_1 : DmaSem sig := 51
abbrev cc0_sem28_0 : DmaSem sig := 52
abbrev cc0_sem28_1 : DmaSem sig := 53
abbrev cc0_sem29_0 : DmaSem sig := 54
abbrev cc0_sem29_1 : DmaSem sig := 55
abbrev cc0_sem30_0 : DmaSem sig := 56
abbrev cc0_sem30_1 : DmaSem sig := 57
abbrev cc0_sem31_0 : DmaSem sig := 58
abbrev cc0_sem31_1 : DmaSem sig := 59
abbrev cc0_sem32_0 : DmaSem sig := 60
abbrev cc0_sem33_0 : DmaSem sig := 61
abbrev cc0_sem33_1 : DmaSem sig := 62
abbrev cc0_sem34_0 : DmaSem sig := 63
abbrev cc0_sem34_1 : DmaSem sig := 64
abbrev cc0_sem35_0 : DmaSem sig := 65
abbrev cc0_sem35_1 : DmaSem sig := 66
abbrev cc0_sem36_0 : DmaSem sig := 67
abbrev cc0_sem36_1 : DmaSem sig := 68
abbrev cc0_sem37_0 : DmaSem sig := 69
abbrev cc0_sem37_1 : DmaSem sig := 70
abbrev cc0_sem38_0 : DmaSem sig := 71
abbrev cc0_sem38_1 : DmaSem sig := 72
abbrev cc0_sem39_0 : DmaSem sig := 73
abbrev cc0_sem39_1 : DmaSem sig := 74
abbrev cc0_sem40_0 : DmaSem sig := 75
abbrev cc0_sem40_1 : DmaSem sig := 76

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c128_i32 : BitVec 32 := 128#32
  let v4 : BitVec 32 := Scalar.muli arg2 c128_i32
  let c512_i32 : BitVec 32 := 512#32
  let v113 : BitVec 32 := Scalar.subi v4 c512_i32
  let c0_i32_68 : BitVec 32 := 0#32
  let v114 : BitVec 32 := Scalar.maxsi v113 c0_i32_68
  v114
def k0_mult2 (i : grid0.Coords) : BitVec 32 :=
  let c15_i32 : BitVec 32 := 15#32
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c512_i32_69 : BitVec 32 := 512#32
  let v116 : BitVec 32 := Scalar.subi v5 c512_i32_69
  let c0_i32_70 : BitVec 32 := 0#32
  let v117 : BitVec 32 := Scalar.maxsi v116 c0_i32_70
  v117
def k0_mult3 (i : grid0.Coords) : BitVec 32 :=
  let c7_i32 : BitVec 32 := 7#32
  let arg2 : BitVec 32 := BitVec.ofNat 32 (i 2).val
  let v1 : BitVec 32 := Scalar.subi c7_i32 arg2
  let c128_i32_3 : BitVec 32 := 128#32
  let v6 : BitVec 32 := Scalar.muli v1 c128_i32_3
  let c512_i32_71 : BitVec 32 := 512#32
  let v119 : BitVec 32 := Scalar.subi v6 c512_i32_71
  let c0_i32_72 : BitVec 32 := 0#32
  let v120 : BitVec 32 := Scalar.maxsi v119 c0_i32_72
  v120
def k0_mult4 (i : grid0.Coords) : BitVec 32 :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c512_i32_73 : BitVec 32 := 512#32
  let v122 : BitVec 32 := Scalar.subi v7 c512_i32_73
  let c0_i32_74 : BitVec 32 := 0#32
  let v123 : BitVec 32 := Scalar.maxsi v122 c0_i32_74
  v123
def k0_mult5 (i : grid0.Coords) : BitVec 32 :=
  let arg2 : BitVec 32 := BitVec.ofNat 32 (i 2).val
  let c128_i32 : BitVec 32 := 128#32
  let v4 : BitVec 32 := Scalar.muli arg2 c128_i32
  let c128_i32_78 : BitVec 32 := 128#32
  let v133 : BitVec 32 := Scalar.subi v4 c128_i32_78
  let c0_i32_79 : BitVec 32 := 0#32
  let v134 : BitVec 32 := Scalar.maxsi v133 c0_i32_79
  v134
def k0_mult6 (i : grid0.Coords) : BitVec 32 :=
  let c15_i32 : BitVec 32 := 15#32
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c128_i32_80 : BitVec 32 := 128#32
  let v136 : BitVec 32 := Scalar.subi v5 c128_i32_80
  let c0_i32_81 : BitVec 32 := 0#32
  let v137 : BitVec 32 := Scalar.maxsi v136 c0_i32_81
  v137
def k0_mult7 (i : grid0.Coords) : BitVec 32 :=
  let c7_i32 : BitVec 32 := 7#32
  let arg2 : BitVec 32 := BitVec.ofNat 32 (i 2).val
  let v1 : BitVec 32 := Scalar.subi c7_i32 arg2
  let c128_i32_3 : BitVec 32 := 128#32
  let v6 : BitVec 32 := Scalar.muli v1 c128_i32_3
  let c128_i32_82 : BitVec 32 := 128#32
  let v139 : BitVec 32 := Scalar.subi v6 c128_i32_82
  let c0_i32_83 : BitVec 32 := 0#32
  let v140 : BitVec 32 := Scalar.maxsi v139 c0_i32_83
  v140
def k0_mult8 (i : grid0.Coords) : BitVec 32 :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c128_i32_84 : BitVec 32 := 128#32
  let v142 : BitVec 32 := Scalar.subi v7 c128_i32_84
  let c0_i32_85 : BitVec 32 := 0#32
  let v143 : BitVec 32 := Scalar.maxsi v142 c0_i32_85
  v143
def k0_mult9 (i : grid0.Coords) : BitVec 32 :=
  let arg2 : BitVec 32 := BitVec.ofNat 32 (i 2).val
  let c128_i32 : BitVec 32 := 128#32
  let v4 : BitVec 32 := Scalar.muli arg2 c128_i32
  let c512_i32 : BitVec 32 := 512#32
  let v113 : BitVec 32 := Scalar.subi v4 c512_i32
  let c0_i32_68 : BitVec 32 := 0#32
  let v114 : BitVec 32 := Scalar.maxsi v113 c0_i32_68
  let v115 : BitVec 32 := v114
  let c0_i32_118 : BitVec 32 := 0#32
  let v217 : BitVec 32 := Scalar.addi v115 c0_i32_118
  v217
def k0_off1 (i : grid0.Coords) (c0_i32_118 : BitVec 32) : Fin 3 → Nat :=
  let c0_119 : Index := 0#32
  let arg2 : BitVec 32 := BitVec.ofNat 32 (i 2).val
  let c128_i32 : BitVec 32 := 128#32
  let v4 : BitVec 32 := Scalar.muli arg2 c128_i32
  let c512_i32 : BitVec 32 := 512#32
  let v113 : BitVec 32 := Scalar.subi v4 c512_i32
  let c0_i32_68 : BitVec 32 := 0#32
  let v114 : BitVec 32 := Scalar.maxsi v113 c0_i32_68
  let v115 : BitVec 32 := v114
  let v217 : BitVec 32 := Scalar.addi v115 c0_i32_118
  let v218 : BitVec 32 := v217
  let v219 : Index := Scalar.indexCast v218
  let c0_120 : Index := 0#32
  ![0, v219.toNat, 0]
def k0_off2 (i : grid0.Coords) : Fin 3 → Nat :=
  let arg2 : BitVec 32 := BitVec.ofNat 32 (i 2).val
  let c4_i32 : BitVec 32 := 4#32
  let v125 : BitVec 32 := Scalar.minsi arg2 c4_i32
  let v222 : Index := Scalar.indexCast v125
  let c0_121 : Index := 0#32
  let c0_122 : Index := 0#32
  ![v222.toNat, 0, 0]
def k0_mult10 (i : grid0.Coords) : BitVec 32 :=
  let arg2 : BitVec 32 := BitVec.ofNat 32 (i 2).val
  let c128_i32 : BitVec 32 := 128#32
  let v4 : BitVec 32 := Scalar.muli arg2 c128_i32
  let c512_i32 : BitVec 32 := 512#32
  let v113 : BitVec 32 := Scalar.subi v4 c512_i32
  let c0_i32_68 : BitVec 32 := 0#32
  let v114 : BitVec 32 := Scalar.maxsi v113 c0_i32_68
  let v115 : BitVec 32 := v114
  let c256_i32 : BitVec 32 := 256#32
  let v228 : BitVec 32 := Scalar.addi v115 c256_i32
  v228
def k0_off3 (i : grid0.Coords) : Fin 3 → Nat :=
  let arg2 : BitVec 32 := BitVec.ofNat 32 (i 2).val
  let c4_i32 : BitVec 32 := 4#32
  let v125 : BitVec 32 := Scalar.minsi arg2 c4_i32
  let v233 : Index := Scalar.indexCast v125
  let c256 : Index := 256#32
  let c0_126 : Index := 0#32
  ![v233.toNat, 256, 0]
def k0_mult11 (i : grid0.Coords) : BitVec 32 :=
  let arg2 : BitVec 32 := BitVec.ofNat 32 (i 2).val
  let c128_i32 : BitVec 32 := 128#32
  let v4 : BitVec 32 := Scalar.muli arg2 c128_i32
  let c512_i32 : BitVec 32 := 512#32
  let v113 : BitVec 32 := Scalar.subi v4 c512_i32
  let c0_i32_68 : BitVec 32 := 0#32
  let v114 : BitVec 32 := Scalar.maxsi v113 c0_i32_68
  let v115 : BitVec 32 := v114
  let c512_i32_128 : BitVec 32 := 512#32
  let v239 : BitVec 32 := Scalar.addi v115 c512_i32_128
  v239
def k0_off4 (i : grid0.Coords) : Fin 3 → Nat :=
  let c0_129 : Index := 0#32
  let arg2 : BitVec 32 := BitVec.ofNat 32 (i 2).val
  let c128_i32 : BitVec 32 := 128#32
  let v4 : BitVec 32 := Scalar.muli arg2 c128_i32
  let c512_i32 : BitVec 32 := 512#32
  let v113 : BitVec 32 := Scalar.subi v4 c512_i32
  let c0_i32_68 : BitVec 32 := 0#32
  let v114 : BitVec 32 := Scalar.maxsi v113 c0_i32_68
  let v115 : BitVec 32 := v114
  let c512_i32_128 : BitVec 32 := 512#32
  let v239 : BitVec 32 := Scalar.addi v115 c512_i32_128
  let v240 : BitVec 32 := v239
  let v241 : Index := Scalar.indexCast v240
  let c0_130 : Index := 0#32
  ![0, v241.toNat, 0]
def k0_off5 (i : grid0.Coords) : Fin 3 → Nat :=
  let arg2 : BitVec 32 := BitVec.ofNat 32 (i 2).val
  let c4_i32 : BitVec 32 := 4#32
  let v125 : BitVec 32 := Scalar.minsi arg2 c4_i32
  let v244 : Index := Scalar.indexCast v125
  let c512 : Index := 512#32
  let c0_131 : Index := 0#32
  ![v244.toNat, 512, 0]
def k0_mult12 (i : grid0.Coords) : BitVec 32 :=
  let arg2 : BitVec 32 := BitVec.ofNat 32 (i 2).val
  let c128_i32 : BitVec 32 := 128#32
  let v4 : BitVec 32 := Scalar.muli arg2 c128_i32
  let c512_i32 : BitVec 32 := 512#32
  let v113 : BitVec 32 := Scalar.subi v4 c512_i32
  let c0_i32_68 : BitVec 32 := 0#32
  let v114 : BitVec 32 := Scalar.maxsi v113 c0_i32_68
  let v115 : BitVec 32 := v114
  let c0_i32_142 : BitVec 32 := 0#32
  let v280 : BitVec 32 := Scalar.addi v115 c0_i32_142
  v280
def k0_mult13 (i : grid0.Coords) : BitVec 32 :=
  let arg2 : BitVec 32 := BitVec.ofNat 32 (i 2).val
  let c128_i32 : BitVec 32 := 128#32
  let v4 : BitVec 32 := Scalar.muli arg2 c128_i32
  let c512_i32 : BitVec 32 := 512#32
  let v113 : BitVec 32 := Scalar.subi v4 c512_i32
  let c0_i32_68 : BitVec 32 := 0#32
  let v114 : BitVec 32 := Scalar.maxsi v113 c0_i32_68
  let v115 : BitVec 32 := v114
  let c256_i32_148 : BitVec 32 := 256#32
  let v291 : BitVec 32 := Scalar.addi v115 c256_i32_148
  v291
def k0_mult14 (i : grid0.Coords) : BitVec 32 :=
  let arg2 : BitVec 32 := BitVec.ofNat 32 (i 2).val
  let c128_i32 : BitVec 32 := 128#32
  let v4 : BitVec 32 := Scalar.muli arg2 c128_i32
  let c512_i32 : BitVec 32 := 512#32
  let v113 : BitVec 32 := Scalar.subi v4 c512_i32
  let c0_i32_68 : BitVec 32 := 0#32
  let v114 : BitVec 32 := Scalar.maxsi v113 c0_i32_68
  let v115 : BitVec 32 := v114
  let c512_i32_154 : BitVec 32 := 512#32
  let v302 : BitVec 32 := Scalar.addi v115 c512_i32_154
  v302
def k0_mult15 (i : grid0.Coords) : BitVec 32 :=
  let c15_i32 : BitVec 32 := 15#32
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c512_i32_69 : BitVec 32 := 512#32
  let v116 : BitVec 32 := Scalar.subi v5 c512_i32_69
  let c0_i32_70 : BitVec 32 := 0#32
  let v117 : BitVec 32 := Scalar.maxsi v116 c0_i32_70
  let v118 : BitVec 32 := v117
  let c0_i32_169 : BitVec 32 := 0#32
  let v343 : BitVec 32 := Scalar.addi v118 c0_i32_169
  v343
def k0_off6 (i : grid0.Coords) (c15_i32 : BitVec 32) (c0_i32_169 : BitVec 32) : Fin 3 → Nat :=
  let c0_170 : Index := 0#32
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c512_i32_69 : BitVec 32 := 512#32
  let v116 : BitVec 32 := Scalar.subi v5 c512_i32_69
  let c0_i32_70 : BitVec 32 := 0#32
  let v117 : BitVec 32 := Scalar.maxsi v116 c0_i32_70
  let v118 : BitVec 32 := v117
  let v343 : BitVec 32 := Scalar.addi v118 c0_i32_169
  let v344 : BitVec 32 := v343
  let v345 : Index := Scalar.indexCast v344
  let c0_171 : Index := 0#32
  ![0, v345.toNat, 0]
def k0_off7 (i : grid0.Coords) (c15_i32 : BitVec 32) : Fin 3 → Nat :=
  let arg2 : BitVec 32 := BitVec.ofNat 32 (i 2).val
  let v0 : BitVec 32 := Scalar.subi c15_i32 arg2
  let c4_i32_75 : BitVec 32 := 4#32
  let v126 : BitVec 32 := Scalar.minsi v0 c4_i32_75
  let v348 : Index := Scalar.indexCast v126
  let c0_172 : Index := 0#32
  let c0_173 : Index := 0#32
  ![v348.toNat, 0, 0]
def k0_mult16 (i : grid0.Coords) : BitVec 32 :=
  let c15_i32 : BitVec 32 := 15#32
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c512_i32_69 : BitVec 32 := 512#32
  let v116 : BitVec 32 := Scalar.subi v5 c512_i32_69
  let c0_i32_70 : BitVec 32 := 0#32
  let v117 : BitVec 32 := Scalar.maxsi v116 c0_i32_70
  let v118 : BitVec 32 := v117
  let c256_i32_175 : BitVec 32 := 256#32
  let v354 : BitVec 32 := Scalar.addi v118 c256_i32_175
  v354
def k0_off8 (i : grid0.Coords) (c15_i32 : BitVec 32) : Fin 3 → Nat :=
  let arg2 : BitVec 32 := BitVec.ofNat 32 (i 2).val
  let v0 : BitVec 32 := Scalar.subi c15_i32 arg2
  let c4_i32_75 : BitVec 32 := 4#32
  let v126 : BitVec 32 := Scalar.minsi v0 c4_i32_75
  let v359 : Index := Scalar.indexCast v126
  let c256_178 : Index := 256#32
  let c0_179 : Index := 0#32
  ![v359.toNat, 256, 0]
def k0_mult17 (i : grid0.Coords) : BitVec 32 :=
  let c15_i32 : BitVec 32 := 15#32
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c512_i32_69 : BitVec 32 := 512#32
  let v116 : BitVec 32 := Scalar.subi v5 c512_i32_69
  let c0_i32_70 : BitVec 32 := 0#32
  let v117 : BitVec 32 := Scalar.maxsi v116 c0_i32_70
  let v118 : BitVec 32 := v117
  let c512_i32_181 : BitVec 32 := 512#32
  let v365 : BitVec 32 := Scalar.addi v118 c512_i32_181
  v365
def k0_off9 (i : grid0.Coords) (c15_i32 : BitVec 32) : Fin 3 → Nat :=
  let c0_182 : Index := 0#32
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c512_i32_69 : BitVec 32 := 512#32
  let v116 : BitVec 32 := Scalar.subi v5 c512_i32_69
  let c0_i32_70 : BitVec 32 := 0#32
  let v117 : BitVec 32 := Scalar.maxsi v116 c0_i32_70
  let v118 : BitVec 32 := v117
  let c512_i32_181 : BitVec 32 := 512#32
  let v365 : BitVec 32 := Scalar.addi v118 c512_i32_181
  let v366 : BitVec 32 := v365
  let v367 : Index := Scalar.indexCast v366
  let c0_183 : Index := 0#32
  ![0, v367.toNat, 0]
def k0_off10 (i : grid0.Coords) (c15_i32 : BitVec 32) : Fin 3 → Nat :=
  let arg2 : BitVec 32 := BitVec.ofNat 32 (i 2).val
  let v0 : BitVec 32 := Scalar.subi c15_i32 arg2
  let c4_i32_75 : BitVec 32 := 4#32
  let v126 : BitVec 32 := Scalar.minsi v0 c4_i32_75
  let v370 : Index := Scalar.indexCast v126
  let c512_184 : Index := 512#32
  let c0_185 : Index := 0#32
  ![v370.toNat, 512, 0]
def k0_mult18 (i : grid0.Coords) : BitVec 32 :=
  let c15_i32 : BitVec 32 := 15#32
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c512_i32_69 : BitVec 32 := 512#32
  let v116 : BitVec 32 := Scalar.subi v5 c512_i32_69
  let c0_i32_70 : BitVec 32 := 0#32
  let v117 : BitVec 32 := Scalar.maxsi v116 c0_i32_70
  let v118 : BitVec 32 := v117
  let c0_i32_196 : BitVec 32 := 0#32
  let v406 : BitVec 32 := Scalar.addi v118 c0_i32_196
  v406
def k0_mult19 (i : grid0.Coords) : BitVec 32 :=
  let c15_i32 : BitVec 32 := 15#32
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c512_i32_69 : BitVec 32 := 512#32
  let v116 : BitVec 32 := Scalar.subi v5 c512_i32_69
  let c0_i32_70 : BitVec 32 := 0#32
  let v117 : BitVec 32 := Scalar.maxsi v116 c0_i32_70
  let v118 : BitVec 32 := v117
  let c256_i32_202 : BitVec 32 := 256#32
  let v417 : BitVec 32 := Scalar.addi v118 c256_i32_202
  v417
def k0_mult20 (i : grid0.Coords) : BitVec 32 :=
  let c15_i32 : BitVec 32 := 15#32
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c512_i32_69 : BitVec 32 := 512#32
  let v116 : BitVec 32 := Scalar.subi v5 c512_i32_69
  let c0_i32_70 : BitVec 32 := 0#32
  let v117 : BitVec 32 := Scalar.maxsi v116 c0_i32_70
  let v118 : BitVec 32 := v117
  let c512_i32_208 : BitVec 32 := 512#32
  let v428 : BitVec 32 := Scalar.addi v118 c512_i32_208
  v428
def k0_mult21 (i : grid0.Coords) : BitVec 32 :=
  let c7_i32 : BitVec 32 := 7#32
  let arg2 : BitVec 32 := BitVec.ofNat 32 (i 2).val
  let v1 : BitVec 32 := Scalar.subi c7_i32 arg2
  let c128_i32_3 : BitVec 32 := 128#32
  let v6 : BitVec 32 := Scalar.muli v1 c128_i32_3
  let c512_i32_71 : BitVec 32 := 512#32
  let v119 : BitVec 32 := Scalar.subi v6 c512_i32_71
  let c0_i32_72 : BitVec 32 := 0#32
  let v120 : BitVec 32 := Scalar.maxsi v119 c0_i32_72
  let v121 : BitVec 32 := v120
  let c0_i32_223 : BitVec 32 := 0#32
  let v469 : BitVec 32 := Scalar.addi v121 c0_i32_223
  v469
def k0_mult22 (i : grid0.Coords) : BitVec 32 :=
  let c7_i32 : BitVec 32 := 7#32
  let arg2 : BitVec 32 := BitVec.ofNat 32 (i 2).val
  let v1 : BitVec 32 := Scalar.subi c7_i32 arg2
  let c128_i32_3 : BitVec 32 := 128#32
  let v6 : BitVec 32 := Scalar.muli v1 c128_i32_3
  let c512_i32_71 : BitVec 32 := 512#32
  let v119 : BitVec 32 := Scalar.subi v6 c512_i32_71
  let c0_i32_72 : BitVec 32 := 0#32
  let v120 : BitVec 32 := Scalar.maxsi v119 c0_i32_72
  let v121 : BitVec 32 := v120
  let c256_i32_229 : BitVec 32 := 256#32
  let v480 : BitVec 32 := Scalar.addi v121 c256_i32_229
  v480
def k0_mult23 (i : grid0.Coords) : BitVec 32 :=
  let c7_i32 : BitVec 32 := 7#32
  let arg2 : BitVec 32 := BitVec.ofNat 32 (i 2).val
  let v1 : BitVec 32 := Scalar.subi c7_i32 arg2
  let c128_i32_3 : BitVec 32 := 128#32
  let v6 : BitVec 32 := Scalar.muli v1 c128_i32_3
  let c512_i32_71 : BitVec 32 := 512#32
  let v119 : BitVec 32 := Scalar.subi v6 c512_i32_71
  let c0_i32_72 : BitVec 32 := 0#32
  let v120 : BitVec 32 := Scalar.maxsi v119 c0_i32_72
  let v121 : BitVec 32 := v120
  let c512_i32_235 : BitVec 32 := 512#32
  let v491 : BitVec 32 := Scalar.addi v121 c512_i32_235
  v491
def k0_mult24 (i : grid0.Coords) : BitVec 32 :=
  let c7_i32 : BitVec 32 := 7#32
  let arg2 : BitVec 32 := BitVec.ofNat 32 (i 2).val
  let v1 : BitVec 32 := Scalar.subi c7_i32 arg2
  let c128_i32_3 : BitVec 32 := 128#32
  let v6 : BitVec 32 := Scalar.muli v1 c128_i32_3
  let c512_i32_71 : BitVec 32 := 512#32
  let v119 : BitVec 32 := Scalar.subi v6 c512_i32_71
  let c0_i32_72 : BitVec 32 := 0#32
  let v120 : BitVec 32 := Scalar.maxsi v119 c0_i32_72
  let v121 : BitVec 32 := v120
  let c0_i32_250 : BitVec 32 := 0#32
  let v532 : BitVec 32 := Scalar.addi v121 c0_i32_250
  v532
def k0_mult25 (i : grid0.Coords) : BitVec 32 :=
  let c7_i32 : BitVec 32 := 7#32
  let arg2 : BitVec 32 := BitVec.ofNat 32 (i 2).val
  let v1 : BitVec 32 := Scalar.subi c7_i32 arg2
  let c128_i32_3 : BitVec 32 := 128#32
  let v6 : BitVec 32 := Scalar.muli v1 c128_i32_3
  let c512_i32_71 : BitVec 32 := 512#32
  let v119 : BitVec 32 := Scalar.subi v6 c512_i32_71
  let c0_i32_72 : BitVec 32 := 0#32
  let v120 : BitVec 32 := Scalar.maxsi v119 c0_i32_72
  let v121 : BitVec 32 := v120
  let c256_i32_256 : BitVec 32 := 256#32
  let v543 : BitVec 32 := Scalar.addi v121 c256_i32_256
  v543
def k0_mult26 (i : grid0.Coords) : BitVec 32 :=
  let c7_i32 : BitVec 32 := 7#32
  let arg2 : BitVec 32 := BitVec.ofNat 32 (i 2).val
  let v1 : BitVec 32 := Scalar.subi c7_i32 arg2
  let c128_i32_3 : BitVec 32 := 128#32
  let v6 : BitVec 32 := Scalar.muli v1 c128_i32_3
  let c512_i32_71 : BitVec 32 := 512#32
  let v119 : BitVec 32 := Scalar.subi v6 c512_i32_71
  let c0_i32_72 : BitVec 32 := 0#32
  let v120 : BitVec 32 := Scalar.maxsi v119 c0_i32_72
  let v121 : BitVec 32 := v120
  let c512_i32_262 : BitVec 32 := 512#32
  let v554 : BitVec 32 := Scalar.addi v121 c512_i32_262
  v554
def k0_mult27 (i : grid0.Coords) : BitVec 32 :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c512_i32_73 : BitVec 32 := 512#32
  let v122 : BitVec 32 := Scalar.subi v7 c512_i32_73
  let c0_i32_74 : BitVec 32 := 0#32
  let v123 : BitVec 32 := Scalar.maxsi v122 c0_i32_74
  let v124 : BitVec 32 := v123
  let c0_i32_277 : BitVec 32 := 0#32
  let v595 : BitVec 32 := Scalar.addi v124 c0_i32_277
  v595
def k0_off11 (i : grid0.Coords) (c0_i32_277 : BitVec 32) : Fin 3 → Nat :=
  let c0_278 : Index := 0#32
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c512_i32_73 : BitVec 32 := 512#32
  let v122 : BitVec 32 := Scalar.subi v7 c512_i32_73
  let c0_i32_74 : BitVec 32 := 0#32
  let v123 : BitVec 32 := Scalar.maxsi v122 c0_i32_74
  let v124 : BitVec 32 := v123
  let v595 : BitVec 32 := Scalar.addi v124 c0_i32_277
  let v596 : BitVec 32 := v595
  let v597 : Index := Scalar.indexCast v596
  let c0_279 : Index := 0#32
  ![0, v597.toNat, 0]
def k0_off12 (i : grid0.Coords) : Fin 3 → Nat :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c4_i32_77 : BitVec 32 := 4#32
  let v128 : BitVec 32 := Scalar.minsi v3 c4_i32_77
  let v600 : Index := Scalar.indexCast v128
  let c0_280 : Index := 0#32
  let c0_281 : Index := 0#32
  ![v600.toNat, 0, 0]
def k0_mult28 (i : grid0.Coords) : BitVec 32 :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c512_i32_73 : BitVec 32 := 512#32
  let v122 : BitVec 32 := Scalar.subi v7 c512_i32_73
  let c0_i32_74 : BitVec 32 := 0#32
  let v123 : BitVec 32 := Scalar.maxsi v122 c0_i32_74
  let v124 : BitVec 32 := v123
  let c256_i32_283 : BitVec 32 := 256#32
  let v606 : BitVec 32 := Scalar.addi v124 c256_i32_283
  v606
def k0_off13 (i : grid0.Coords) : Fin 3 → Nat :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c4_i32_77 : BitVec 32 := 4#32
  let v128 : BitVec 32 := Scalar.minsi v3 c4_i32_77
  let v611 : Index := Scalar.indexCast v128
  let c256_286 : Index := 256#32
  let c0_287 : Index := 0#32
  ![v611.toNat, 256, 0]
def k0_mult29 (i : grid0.Coords) : BitVec 32 :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c512_i32_73 : BitVec 32 := 512#32
  let v122 : BitVec 32 := Scalar.subi v7 c512_i32_73
  let c0_i32_74 : BitVec 32 := 0#32
  let v123 : BitVec 32 := Scalar.maxsi v122 c0_i32_74
  let v124 : BitVec 32 := v123
  let c512_i32_289 : BitVec 32 := 512#32
  let v617 : BitVec 32 := Scalar.addi v124 c512_i32_289
  v617
def k0_off14 (i : grid0.Coords) : Fin 3 → Nat :=
  let c0_290 : Index := 0#32
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c512_i32_73 : BitVec 32 := 512#32
  let v122 : BitVec 32 := Scalar.subi v7 c512_i32_73
  let c0_i32_74 : BitVec 32 := 0#32
  let v123 : BitVec 32 := Scalar.maxsi v122 c0_i32_74
  let v124 : BitVec 32 := v123
  let c512_i32_289 : BitVec 32 := 512#32
  let v617 : BitVec 32 := Scalar.addi v124 c512_i32_289
  let v618 : BitVec 32 := v617
  let v619 : Index := Scalar.indexCast v618
  let c0_291 : Index := 0#32
  ![0, v619.toNat, 0]
def k0_off15 (i : grid0.Coords) : Fin 3 → Nat :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c4_i32_77 : BitVec 32 := 4#32
  let v128 : BitVec 32 := Scalar.minsi v3 c4_i32_77
  let v622 : Index := Scalar.indexCast v128
  let c512_292 : Index := 512#32
  let c0_293 : Index := 0#32
  ![v622.toNat, 512, 0]
def k0_mult30 (i : grid0.Coords) : BitVec 32 :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c512_i32_73 : BitVec 32 := 512#32
  let v122 : BitVec 32 := Scalar.subi v7 c512_i32_73
  let c0_i32_74 : BitVec 32 := 0#32
  let v123 : BitVec 32 := Scalar.maxsi v122 c0_i32_74
  let v124 : BitVec 32 := v123
  let c0_i32_304 : BitVec 32 := 0#32
  let v658 : BitVec 32 := Scalar.addi v124 c0_i32_304
  v658
def k0_mult31 (i : grid0.Coords) : BitVec 32 :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c512_i32_73 : BitVec 32 := 512#32
  let v122 : BitVec 32 := Scalar.subi v7 c512_i32_73
  let c0_i32_74 : BitVec 32 := 0#32
  let v123 : BitVec 32 := Scalar.maxsi v122 c0_i32_74
  let v124 : BitVec 32 := v123
  let c256_i32_310 : BitVec 32 := 256#32
  let v669 : BitVec 32 := Scalar.addi v124 c256_i32_310
  v669
def k0_mult32 (i : grid0.Coords) : BitVec 32 :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c512_i32_73 : BitVec 32 := 512#32
  let v122 : BitVec 32 := Scalar.subi v7 c512_i32_73
  let c0_i32_74 : BitVec 32 := 0#32
  let v123 : BitVec 32 := Scalar.maxsi v122 c0_i32_74
  let v124 : BitVec 32 := v123
  let c512_i32_316 : BitVec 32 := 512#32
  let v680 : BitVec 32 := Scalar.addi v124 c512_i32_316
  v680
def k0_off16 (i : grid0.Coords) : Fin 3 → Nat :=
  let arg2 : BitVec 32 := BitVec.ofNat 32 (i 2).val
  let c1_i32 : BitVec 32 := 1#32
  let v145 : BitVec 32 := Scalar.minsi arg2 c1_i32
  let v726 : Index := Scalar.indexCast v145
  let c0_334 : Index := 0#32
  let c0_335 : Index := 0#32
  ![v726.toNat, 0, 0]
def k0_off17 (i : grid0.Coords) : Fin 3 → Nat :=
  let c0_336 : Index := 0#32
  let arg2 : BitVec 32 := BitVec.ofNat 32 (i 2).val
  let c128_i32 : BitVec 32 := 128#32
  let v4 : BitVec 32 := Scalar.muli arg2 c128_i32
  let c128_i32_78 : BitVec 32 := 128#32
  let v133 : BitVec 32 := Scalar.subi v4 c128_i32_78
  let c0_i32_79 : BitVec 32 := 0#32
  let v134 : BitVec 32 := Scalar.maxsi v133 c0_i32_79
  let v135 : BitVec 32 := v134
  let v729 : Index := Scalar.indexCast v135
  let c0_337 : Index := 0#32
  ![0, v729.toNat, 0]
def k0_off18 (i : grid0.Coords) (c0_i32_349 : BitVec 32) : Fin 3 → Nat :=
  let arg2 : BitVec 32 := BitVec.ofNat 32 (i 2).val
  let c128_i32 : BitVec 32 := 128#32
  let v4 : BitVec 32 := Scalar.muli arg2 c128_i32
  let c512_i32 : BitVec 32 := 512#32
  let v113 : BitVec 32 := Scalar.subi v4 c512_i32
  let c0_i32_68 : BitVec 32 := 0#32
  let v114 : BitVec 32 := Scalar.maxsi v113 c0_i32_68
  let v115 : BitVec 32 := v114
  let c0_i32_343 : BitVec 32 := 0#32
  let v757 : BitVec 1 := Scalar.cmpi .sgt v115 c0_i32_343
  let v758 : BitVec 32 := Scalar.extui v757
  let c0_i32_344 : BitVec 32 := 0#32
  let v759 : BitVec 1 := Scalar.cmpi .slt v115 c0_i32_344
  let v760 : BitVec 32 := Scalar.extui v759
  let v761 : BitVec 32 := Scalar.subi v758 v760
  let c128_i32_342 : BitVec 32 := 128#32
  let c0_i32_345 : BitVec 32 := 0#32
  let v762 : BitVec 1 := Scalar.cmpi .sgt c128_i32_342 c0_i32_345
  let v763 : BitVec 32 := Scalar.extui v762
  let c0_i32_346 : BitVec 32 := 0#32
  let v764 : BitVec 1 := Scalar.cmpi .slt c128_i32_342 c0_i32_346
  let v765 : BitVec 32 := Scalar.extui v764
  let v766 : BitVec 32 := Scalar.subi v763 v765
  let v767 : BitVec 1 := Scalar.cmpi .ne v761 v766
  let v768 : BitVec 32 := Scalar.remsi v115 c128_i32_342
  let c0_i32_347 : BitVec 32 := 0#32
  let v769 : BitVec 1 := Scalar.cmpi .ne v768 c0_i32_347
  let v770 : BitVec 1 := Scalar.andi v767 v769
  let v756 : BitVec 32 := Scalar.divsi v115 c128_i32_342
  let c1_i32_348 : BitVec 32 := 1#32
  let v771 : BitVec 32 := Scalar.subi v756 c1_i32_348
  let v772 : BitVec 32 := Scalar.select v770 v771 v756
  let v773 : BitVec 32 := Scalar.addi v772 c0_i32_349
  let v774 : Index := Scalar.indexCast v773
  let c0_350 : Index := 0#32
  let c0_351 : Index := 0#32
  ![v774.toNat, 0, 0]
def k0_off19 (i : grid0.Coords) (c15_i32 : BitVec 32) (c0_i32_488 : BitVec 32) : Fin 3 → Nat :=
  let arg2 : BitVec 32 := BitVec.ofNat 32 (i 2).val
  let v0 : BitVec 32 := Scalar.subi c15_i32 arg2
  let c128_i32_2 : BitVec 32 := 128#32
  let v5 : BitVec 32 := Scalar.muli v0 c128_i32_2
  let c512_i32_69 : BitVec 32 := 512#32
  let v116 : BitVec 32 := Scalar.subi v5 c512_i32_69
  let c0_i32_70 : BitVec 32 := 0#32
  let v117 : BitVec 32 := Scalar.maxsi v116 c0_i32_70
  let v118 : BitVec 32 := v117
  let c0_i32_482 : BitVec 32 := 0#32
  let v1073 : BitVec 1 := Scalar.cmpi .sgt v118 c0_i32_482
  let v1074 : BitVec 32 := Scalar.extui v1073
  let c0_i32_483 : BitVec 32 := 0#32
  let v1075 : BitVec 1 := Scalar.cmpi .slt v118 c0_i32_483
  let v1076 : BitVec 32 := Scalar.extui v1075
  let v1077 : BitVec 32 := Scalar.subi v1074 v1076
  let c128_i32_481 : BitVec 32 := 128#32
  let c0_i32_484 : BitVec 32 := 0#32
  let v1078 : BitVec 1 := Scalar.cmpi .sgt c128_i32_481 c0_i32_484
  let v1079 : BitVec 32 := Scalar.extui v1078
  let c0_i32_485 : BitVec 32 := 0#32
  let v1080 : BitVec 1 := Scalar.cmpi .slt c128_i32_481 c0_i32_485
  let v1081 : BitVec 32 := Scalar.extui v1080
  let v1082 : BitVec 32 := Scalar.subi v1079 v1081
  let v1083 : BitVec 1 := Scalar.cmpi .ne v1077 v1082
  let v1084 : BitVec 32 := Scalar.remsi v118 c128_i32_481
  let c0_i32_486 : BitVec 32 := 0#32
  let v1085 : BitVec 1 := Scalar.cmpi .ne v1084 c0_i32_486
  let v1086 : BitVec 1 := Scalar.andi v1083 v1085
  let v1072 : BitVec 32 := Scalar.divsi v118 c128_i32_481
  let c1_i32_487 : BitVec 32 := 1#32
  let v1087 : BitVec 32 := Scalar.subi v1072 c1_i32_487
  let v1088 : BitVec 32 := Scalar.select v1086 v1087 v1072
  let v1089 : BitVec 32 := Scalar.addi v1088 c0_i32_488
  let v1090 : Index := Scalar.indexCast v1089
  let c0_489 : Index := 0#32
  let c0_490 : Index := 0#32
  ![v1090.toNat, 0, 0]
def k0_off20 (i : grid0.Coords) (c7_i32 : BitVec 32) : Fin 3 → Nat :=
  let arg2 : BitVec 32 := BitVec.ofNat 32 (i 2).val
  let v1 : BitVec 32 := Scalar.subi c7_i32 arg2
  let c1_i32_87 : BitVec 32 := 1#32
  let v147 : BitVec 32 := Scalar.minsi v1 c1_i32_87
  let v1358 : Index := Scalar.indexCast v147
  let c0_614 : Index := 0#32
  let c0_615 : Index := 0#32
  ![v1358.toNat, 0, 0]
def k0_off21 (i : grid0.Coords) (c7_i32 : BitVec 32) : Fin 3 → Nat :=
  let c0_616 : Index := 0#32
  let arg2 : BitVec 32 := BitVec.ofNat 32 (i 2).val
  let v1 : BitVec 32 := Scalar.subi c7_i32 arg2
  let c128_i32_3 : BitVec 32 := 128#32
  let v6 : BitVec 32 := Scalar.muli v1 c128_i32_3
  let c128_i32_82 : BitVec 32 := 128#32
  let v139 : BitVec 32 := Scalar.subi v6 c128_i32_82
  let c0_i32_83 : BitVec 32 := 0#32
  let v140 : BitVec 32 := Scalar.maxsi v139 c0_i32_83
  let v141 : BitVec 32 := v140
  let v1361 : Index := Scalar.indexCast v141
  let c0_617 : Index := 0#32
  ![0, v1361.toNat, 0]
def k0_off22 (i : grid0.Coords) (c0_i32_771 : BitVec 32) : Fin 3 → Nat :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c512_i32_73 : BitVec 32 := 512#32
  let v122 : BitVec 32 := Scalar.subi v7 c512_i32_73
  let c0_i32_74 : BitVec 32 := 0#32
  let v123 : BitVec 32 := Scalar.maxsi v122 c0_i32_74
  let v124 : BitVec 32 := v123
  let c0_i32_765 : BitVec 32 := 0#32
  let v1705 : BitVec 1 := Scalar.cmpi .sgt v124 c0_i32_765
  let v1706 : BitVec 32 := Scalar.extui v1705
  let c0_i32_766 : BitVec 32 := 0#32
  let v1707 : BitVec 1 := Scalar.cmpi .slt v124 c0_i32_766
  let v1708 : BitVec 32 := Scalar.extui v1707
  let v1709 : BitVec 32 := Scalar.subi v1706 v1708
  let c128_i32_764 : BitVec 32 := 128#32
  let c0_i32_767 : BitVec 32 := 0#32
  let v1710 : BitVec 1 := Scalar.cmpi .sgt c128_i32_764 c0_i32_767
  let v1711 : BitVec 32 := Scalar.extui v1710
  let c0_i32_768 : BitVec 32 := 0#32
  let v1712 : BitVec 1 := Scalar.cmpi .slt c128_i32_764 c0_i32_768
  let v1713 : BitVec 32 := Scalar.extui v1712
  let v1714 : BitVec 32 := Scalar.subi v1711 v1713
  let v1715 : BitVec 1 := Scalar.cmpi .ne v1709 v1714
  let v1716 : BitVec 32 := Scalar.remsi v124 c128_i32_764
  let c0_i32_769 : BitVec 32 := 0#32
  let v1717 : BitVec 1 := Scalar.cmpi .ne v1716 c0_i32_769
  let v1718 : BitVec 1 := Scalar.andi v1715 v1717
  let v1704 : BitVec 32 := Scalar.divsi v124 c128_i32_764
  let c1_i32_770 : BitVec 32 := 1#32
  let v1719 : BitVec 32 := Scalar.subi v1704 c1_i32_770
  let v1720 : BitVec 32 := Scalar.select v1718 v1719 v1704
  let v1721 : BitVec 32 := Scalar.addi v1720 c0_i32_771
  let v1722 : Index := Scalar.indexCast v1721
  let c0_772 : Index := 0#32
  let c0_773 : Index := 0#32
  ![v1722.toNat, 0, 0]
def k0_mult33 (i : grid0.Coords) : BitVec 32 :=
  let arg2 : BitVec 32 := BitVec.ofNat 32 (i 2).val
  let c0_i32_2081 : BitVec 32 := 0#32
  let v4934 : BitVec 1 := Scalar.cmpi .sgt arg2 c0_i32_2081
  let v4935 : BitVec 32 := Scalar.extui v4934
  let c0_i32_2082 : BitVec 32 := 0#32
  let v4936 : BitVec 1 := Scalar.cmpi .slt arg2 c0_i32_2082
  let v4937 : BitVec 32 := Scalar.extui v4936
  let v4938 : BitVec 32 := Scalar.subi v4935 v4937
  let c2_i32_2080 : BitVec 32 := 2#32
  let c0_i32_2083 : BitVec 32 := 0#32
  let v4939 : BitVec 1 := Scalar.cmpi .sgt c2_i32_2080 c0_i32_2083
  let v4940 : BitVec 32 := Scalar.extui v4939
  let c0_i32_2084 : BitVec 32 := 0#32
  let v4941 : BitVec 1 := Scalar.cmpi .slt c2_i32_2080 c0_i32_2084
  let v4942 : BitVec 32 := Scalar.extui v4941
  let v4943 : BitVec 32 := Scalar.subi v4940 v4942
  let v4944 : BitVec 1 := Scalar.cmpi .ne v4938 v4943
  let v4945 : BitVec 32 := Scalar.remsi arg2 c2_i32_2080
  let c0_i32_2085 : BitVec 32 := 0#32
  let v4946 : BitVec 1 := Scalar.cmpi .ne v4945 c0_i32_2085
  let v4947 : BitVec 1 := Scalar.andi v4944 v4946
  let v4933 : BitVec 32 := Scalar.divsi arg2 c2_i32_2080
  let c1_i32_2086 : BitVec 32 := 1#32
  let v4948 : BitVec 32 := Scalar.subi v4933 c1_i32_2086
  let v4949 : BitVec 32 := Scalar.select v4947 v4948 v4933
  let c1_i32_2087 : BitVec 32 := 1#32
  let v4950 : BitVec 32 := Scalar.addi v4949 c1_i32_2087
  let c0_i32_2088 : BitVec 32 := 0#32
  let v4951 : BitVec 1 := Scalar.cmpi .sle v4950 c0_i32_2088
  let c0_i32_2090 : BitVec 32 := 0#32
  let v4954 : BitVec 32 := Scalar.subi c0_i32_2090 v4950
  let c0_i32_2091 : BitVec 32 := 0#32
  let v4955 : BitVec 32 := Scalar.select v4951 v4954 c0_i32_2091
  let c256_i32_2092 : BitVec 32 := 256#32
  let v4956 : BitVec 32 := Scalar.muli v4955 c256_i32_2092
  v4956
def k0_off23 (i : grid0.Coords) (c0_i32_2088 : BitVec 32) (c0_i32_2090 : BitVec 32) (c0_i32_2091 : BitVec 32) (c0_i32_2094 : BitVec 32) : Fin 4 → Nat :=
  let c0_i32_2089 : BitVec 32 := 0#32
  let arg2 : BitVec 32 := BitVec.ofNat 32 (i 2).val
  let c0_i32_2081 : BitVec 32 := 0#32
  let v4934 : BitVec 1 := Scalar.cmpi .sgt arg2 c0_i32_2081
  let v4935 : BitVec 32 := Scalar.extui v4934
  let c0_i32_2082 : BitVec 32 := 0#32
  let v4936 : BitVec 1 := Scalar.cmpi .slt arg2 c0_i32_2082
  let v4937 : BitVec 32 := Scalar.extui v4936
  let v4938 : BitVec 32 := Scalar.subi v4935 v4937
  let c2_i32_2080 : BitVec 32 := 2#32
  let c0_i32_2083 : BitVec 32 := 0#32
  let v4939 : BitVec 1 := Scalar.cmpi .sgt c2_i32_2080 c0_i32_2083
  let v4940 : BitVec 32 := Scalar.extui v4939
  let c0_i32_2084 : BitVec 32 := 0#32
  let v4941 : BitVec 1 := Scalar.cmpi .slt c2_i32_2080 c0_i32_2084
  let v4942 : BitVec 32 := Scalar.extui v4941
  let v4943 : BitVec 32 := Scalar.subi v4940 v4942
  let v4944 : BitVec 1 := Scalar.cmpi .ne v4938 v4943
  let v4945 : BitVec 32 := Scalar.remsi arg2 c2_i32_2080
  let c0_i32_2085 : BitVec 32 := 0#32
  let v4946 : BitVec 1 := Scalar.cmpi .ne v4945 c0_i32_2085
  let v4947 : BitVec 1 := Scalar.andi v4944 v4946
  let v4933 : BitVec 32 := Scalar.divsi arg2 c2_i32_2080
  let c1_i32_2086 : BitVec 32 := 1#32
  let v4948 : BitVec 32 := Scalar.subi v4933 c1_i32_2086
  let v4949 : BitVec 32 := Scalar.select v4947 v4948 v4933
  let c1_i32_2087 : BitVec 32 := 1#32
  let v4950 : BitVec 32 := Scalar.addi v4949 c1_i32_2087
  let v4951 : BitVec 1 := Scalar.cmpi .sle v4950 c0_i32_2088
  let v4952 : BitVec 32 := Scalar.extui v4951
  let v4953 : BitVec 32 := Scalar.addi c0_i32_2089 v4952
  let v4960 : Index := Scalar.indexCast v4953
  let v4954 : BitVec 32 := Scalar.subi c0_i32_2090 v4950
  let v4955 : BitVec 32 := Scalar.select v4951 v4954 c0_i32_2091
  let c4_i32_2093 : BitVec 32 := 4#32
  let v4958 : BitVec 32 := Scalar.muli v4955 c4_i32_2093
  let v4959 : BitVec 32 := Scalar.addi v4958 c0_i32_2094
  let v4961 : Index := Scalar.indexCast v4959
  let c0_2095 : Index := 0#32
  let c0_2096 : Index := 0#32
  ![v4960.toNat, v4961.toNat, 0, 0]
def k0_off23_at (r : Fin 36) : BitVec 32 × BitVec 32 × BitVec 32 × BitVec 32 :=
  if r.val < 18 then
    if r.val < 9 then
      if r.val < 4 then
        if r.val < 2 then
          if r.val < 1 then
            (0#32, 0#32, 0#32, 0#32)
          else
            (0#32, 0#32, 0#32, 1#32)
        else
          if r.val < 3 then
            (0#32, 0#32, 0#32, 2#32)
          else
            (0#32, 0#32, 0#32, 3#32)
      else
        if r.val < 6 then
          if r.val < 5 then
            (1#32, 1#32, 1#32, 0#32)
          else
            (1#32, 1#32, 1#32, 1#32)
        else
          if r.val < 7 then
            (1#32, 1#32, 1#32, 2#32)
          else
            if r.val < 8 then
              (1#32, 1#32, 1#32, 3#32)
            else
              (2#32, 2#32, 2#32, 0#32)
    else
      if r.val < 13 then
        if r.val < 11 then
          if r.val < 10 then
            (2#32, 2#32, 2#32, 1#32)
          else
            (2#32, 2#32, 2#32, 2#32)
        else
          if r.val < 12 then
            (2#32, 2#32, 2#32, 3#32)
          else
            (3#32, 3#32, 3#32, 0#32)
      else
        if r.val < 15 then
          if r.val < 14 then
            (3#32, 3#32, 3#32, 1#32)
          else
            (3#32, 3#32, 3#32, 2#32)
        else
          if r.val < 16 then
            (3#32, 3#32, 3#32, 3#32)
          else
            if r.val < 17 then
              (4#32, 4#32, 4#32, 0#32)
            else
              (4#32, 4#32, 4#32, 1#32)
  else
    if r.val < 27 then
      if r.val < 22 then
        if r.val < 20 then
          if r.val < 19 then
            (4#32, 4#32, 4#32, 2#32)
          else
            (4#32, 4#32, 4#32, 3#32)
        else
          if r.val < 21 then
            (5#32, 5#32, 5#32, 0#32)
          else
            (5#32, 5#32, 5#32, 1#32)
      else
        if r.val < 24 then
          if r.val < 23 then
            (5#32, 5#32, 5#32, 2#32)
          else
            (5#32, 5#32, 5#32, 3#32)
        else
          if r.val < 25 then
            (6#32, 6#32, 6#32, 0#32)
          else
            if r.val < 26 then
              (6#32, 6#32, 6#32, 1#32)
            else
              (6#32, 6#32, 6#32, 2#32)
    else
      if r.val < 31 then
        if r.val < 29 then
          if r.val < 28 then
            (6#32, 6#32, 6#32, 3#32)
          else
            (7#32, 7#32, 7#32, 0#32)
        else
          if r.val < 30 then
            (7#32, 7#32, 7#32, 1#32)
          else
            (7#32, 7#32, 7#32, 2#32)
      else
        if r.val < 33 then
          if r.val < 32 then
            (7#32, 7#32, 7#32, 3#32)
          else
            (8#32, 8#32, 8#32, 0#32)
        else
          if r.val < 34 then
            (8#32, 8#32, 8#32, 1#32)
          else
            if r.val < 35 then
              (8#32, 8#32, 8#32, 2#32)
            else
              (8#32, 8#32, 8#32, 3#32)
def k0_off24 (i : grid0.Coords) (c0_i32_2088 : BitVec 32) (c0_i32_2090 : BitVec 32) (c0_i32_2091 : BitVec 32) : Fin 3 → Nat :=
  let arg2 : BitVec 32 := BitVec.ofNat 32 (i 2).val
  let c0_i32_2081 : BitVec 32 := 0#32
  let v4934 : BitVec 1 := Scalar.cmpi .sgt arg2 c0_i32_2081
  let v4935 : BitVec 32 := Scalar.extui v4934
  let c0_i32_2082 : BitVec 32 := 0#32
  let v4936 : BitVec 1 := Scalar.cmpi .slt arg2 c0_i32_2082
  let v4937 : BitVec 32 := Scalar.extui v4936
  let v4938 : BitVec 32 := Scalar.subi v4935 v4937
  let c2_i32_2080 : BitVec 32 := 2#32
  let c0_i32_2083 : BitVec 32 := 0#32
  let v4939 : BitVec 1 := Scalar.cmpi .sgt c2_i32_2080 c0_i32_2083
  let v4940 : BitVec 32 := Scalar.extui v4939
  let c0_i32_2084 : BitVec 32 := 0#32
  let v4941 : BitVec 1 := Scalar.cmpi .slt c2_i32_2080 c0_i32_2084
  let v4942 : BitVec 32 := Scalar.extui v4941
  let v4943 : BitVec 32 := Scalar.subi v4940 v4942
  let v4944 : BitVec 1 := Scalar.cmpi .ne v4938 v4943
  let v4945 : BitVec 32 := Scalar.remsi arg2 c2_i32_2080
  let c0_i32_2085 : BitVec 32 := 0#32
  let v4946 : BitVec 1 := Scalar.cmpi .ne v4945 c0_i32_2085
  let v4947 : BitVec 1 := Scalar.andi v4944 v4946
  let v4933 : BitVec 32 := Scalar.divsi arg2 c2_i32_2080
  let c1_i32_2086 : BitVec 32 := 1#32
  let v4948 : BitVec 32 := Scalar.subi v4933 c1_i32_2086
  let v4949 : BitVec 32 := Scalar.select v4947 v4948 v4933
  let c1_i32_2087 : BitVec 32 := 1#32
  let v4950 : BitVec 32 := Scalar.addi v4949 c1_i32_2087
  let v4951 : BitVec 1 := Scalar.cmpi .sle v4950 c0_i32_2088
  let v4954 : BitVec 32 := Scalar.subi c0_i32_2090 v4950
  let v4955 : BitVec 32 := Scalar.select v4951 v4954 c0_i32_2091
  let c15_i32 : BitVec 32 := 15#32
  let v0 : BitVec 32 := Scalar.subi c15_i32 arg2
  let v5151 : BitVec 32 := Scalar.select v4951 v0 arg2
  let c0_i32_2222 : BitVec 32 := 0#32
  let v5153 : BitVec 1 := Scalar.cmpi .sgt v5151 c0_i32_2222
  let v5154 : BitVec 32 := Scalar.extui v5153
  let c0_i32_2223 : BitVec 32 := 0#32
  let v5155 : BitVec 1 := Scalar.cmpi .slt v5151 c0_i32_2223
  let v5156 : BitVec 32 := Scalar.extui v5155
  let v5157 : BitVec 32 := Scalar.subi v5154 v5156
  let c2_i32_2221 : BitVec 32 := 2#32
  let c0_i32_2224 : BitVec 32 := 0#32
  let v5158 : BitVec 1 := Scalar.cmpi .sgt c2_i32_2221 c0_i32_2224
  let v5159 : BitVec 32 := Scalar.extui v5158
  let c0_i32_2225 : BitVec 32 := 0#32
  let v5160 : BitVec 1 := Scalar.cmpi .slt c2_i32_2221 c0_i32_2225
  let v5161 : BitVec 32 := Scalar.extui v5160
  let v5162 : BitVec 32 := Scalar.subi v5159 v5161
  let v5163 : BitVec 1 := Scalar.cmpi .ne v5157 v5162
  let v5164 : BitVec 32 := Scalar.remsi v5151 c2_i32_2221
  let c0_i32_2226 : BitVec 32 := 0#32
  let v5165 : BitVec 1 := Scalar.cmpi .ne v5164 c0_i32_2226
  let v5166 : BitVec 1 := Scalar.andi v5163 v5165
  let v5152 : BitVec 32 := Scalar.divsi v5151 c2_i32_2221
  let c1_i32_2227 : BitVec 32 := 1#32
  let v5167 : BitVec 32 := Scalar.subi v5152 c1_i32_2227
  let v5168 : BitVec 32 := Scalar.select v5166 v5167 v5152
  let v5169 : BitVec 1 := Scalar.cmpi .eq v4955 v5168
  let c1_i32_2234 : BitVec 32 := 1#32
  let c2_i32_2228 : BitVec 32 := 2#32
  let c0_i32_2229 : BitVec 32 := 0#32
  let v5170 : BitVec 1 := Scalar.cmpi .eq c2_i32_2228 c0_i32_2229
  let c1_i32_2230 : BitVec 32 := 1#32
  let v5171 : BitVec 32 := Scalar.select v5170 c1_i32_2230 c2_i32_2228
  let v5172 : BitVec 32 := Scalar.remsi v5151 v5171
  let c0_i32_2232 : BitVec 32 := 0#32
  let v5174 : BitVec 1 := Scalar.cmpi .slt v5172 c0_i32_2232
  let c0_i32_2233 : BitVec 32 := 0#32
  let v5175 : BitVec 1 := Scalar.cmpi .slt v5171 c0_i32_2233
  let v5176 : BitVec 1 := Scalar.xori v5174 v5175
  let c0_i32_2231 : BitVec 32 := 0#32
  let v5173 : BitVec 1 := Scalar.cmpi .ne v5172 c0_i32_2231
  let v5177 : BitVec 1 := Scalar.andi v5176 v5173
  let v5178 : BitVec 32 := Scalar.addi v5172 v5171
  let v5179 : BitVec 32 := Scalar.select v5177 v5178 v5172
  let v5180 : BitVec 32 := Scalar.addi c1_i32_2234 v5179
  let c0_i32_2235 : BitVec 32 := 0#32
  let v5181 : BitVec 32 := Scalar.select v5169 v5180 c0_i32_2235
  let v5182 : Index := Scalar.indexCast v5181
  let c0_2236 : Index := 0#32
  let c0_2237 : Index := 0#32
  ![v5182.toNat, 0, 0]
def k0_off24_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off25 (i : grid0.Coords) (c0_i32_2088 : BitVec 32) (c0_i32_2090 : BitVec 32) (c0_i32_2091 : BitVec 32) : Fin 3 → Nat :=
  let c0_2238 : Index := 0#32
  let arg2 : BitVec 32 := BitVec.ofNat 32 (i 2).val
  let c0_i32_2081 : BitVec 32 := 0#32
  let v4934 : BitVec 1 := Scalar.cmpi .sgt arg2 c0_i32_2081
  let v4935 : BitVec 32 := Scalar.extui v4934
  let c0_i32_2082 : BitVec 32 := 0#32
  let v4936 : BitVec 1 := Scalar.cmpi .slt arg2 c0_i32_2082
  let v4937 : BitVec 32 := Scalar.extui v4936
  let v4938 : BitVec 32 := Scalar.subi v4935 v4937
  let c2_i32_2080 : BitVec 32 := 2#32
  let c0_i32_2083 : BitVec 32 := 0#32
  let v4939 : BitVec 1 := Scalar.cmpi .sgt c2_i32_2080 c0_i32_2083
  let v4940 : BitVec 32 := Scalar.extui v4939
  let c0_i32_2084 : BitVec 32 := 0#32
  let v4941 : BitVec 1 := Scalar.cmpi .slt c2_i32_2080 c0_i32_2084
  let v4942 : BitVec 32 := Scalar.extui v4941
  let v4943 : BitVec 32 := Scalar.subi v4940 v4942
  let v4944 : BitVec 1 := Scalar.cmpi .ne v4938 v4943
  let v4945 : BitVec 32 := Scalar.remsi arg2 c2_i32_2080
  let c0_i32_2085 : BitVec 32 := 0#32
  let v4946 : BitVec 1 := Scalar.cmpi .ne v4945 c0_i32_2085
  let v4947 : BitVec 1 := Scalar.andi v4944 v4946
  let v4933 : BitVec 32 := Scalar.divsi arg2 c2_i32_2080
  let c1_i32_2086 : BitVec 32 := 1#32
  let v4948 : BitVec 32 := Scalar.subi v4933 c1_i32_2086
  let v4949 : BitVec 32 := Scalar.select v4947 v4948 v4933
  let c1_i32_2087 : BitVec 32 := 1#32
  let v4950 : BitVec 32 := Scalar.addi v4949 c1_i32_2087
  let v4951 : BitVec 1 := Scalar.cmpi .sle v4950 c0_i32_2088
  let v4954 : BitVec 32 := Scalar.subi c0_i32_2090 v4950
  let v4955 : BitVec 32 := Scalar.select v4951 v4954 c0_i32_2091
  let c256_i32_2092 : BitVec 32 := 256#32
  let v4956 : BitVec 32 := Scalar.muli v4955 c256_i32_2092
  let v4957 : BitVec 32 := v4956
  let v5187 : Index := Scalar.indexCast v4957
  let c0_2239 : Index := 0#32
  ![0, v5187.toNat, 0]
def k0_off25_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off26 (i : grid0.Coords) (c0_i32_2088 : BitVec 32) : Fin 4 → Nat :=
  let c0_i32_2089 : BitVec 32 := 0#32
  let arg2 : BitVec 32 := BitVec.ofNat 32 (i 2).val
  let c0_i32_2081 : BitVec 32 := 0#32
  let v4934 : BitVec 1 := Scalar.cmpi .sgt arg2 c0_i32_2081
  let v4935 : BitVec 32 := Scalar.extui v4934
  let c0_i32_2082 : BitVec 32 := 0#32
  let v4936 : BitVec 1 := Scalar.cmpi .slt arg2 c0_i32_2082
  let v4937 : BitVec 32 := Scalar.extui v4936
  let v4938 : BitVec 32 := Scalar.subi v4935 v4937
  let c2_i32_2080 : BitVec 32 := 2#32
  let c0_i32_2083 : BitVec 32 := 0#32
  let v4939 : BitVec 1 := Scalar.cmpi .sgt c2_i32_2080 c0_i32_2083
  let v4940 : BitVec 32 := Scalar.extui v4939
  let c0_i32_2084 : BitVec 32 := 0#32
  let v4941 : BitVec 1 := Scalar.cmpi .slt c2_i32_2080 c0_i32_2084
  let v4942 : BitVec 32 := Scalar.extui v4941
  let v4943 : BitVec 32 := Scalar.subi v4940 v4942
  let v4944 : BitVec 1 := Scalar.cmpi .ne v4938 v4943
  let v4945 : BitVec 32 := Scalar.remsi arg2 c2_i32_2080
  let c0_i32_2085 : BitVec 32 := 0#32
  let v4946 : BitVec 1 := Scalar.cmpi .ne v4945 c0_i32_2085
  let v4947 : BitVec 1 := Scalar.andi v4944 v4946
  let v4933 : BitVec 32 := Scalar.divsi arg2 c2_i32_2080
  let c1_i32_2086 : BitVec 32 := 1#32
  let v4948 : BitVec 32 := Scalar.subi v4933 c1_i32_2086
  let v4949 : BitVec 32 := Scalar.select v4947 v4948 v4933
  let c1_i32_2087 : BitVec 32 := 1#32
  let v4950 : BitVec 32 := Scalar.addi v4949 c1_i32_2087
  let v4951 : BitVec 1 := Scalar.cmpi .sle v4950 c0_i32_2088
  let v4952 : BitVec 32 := Scalar.extui v4951
  let v4953 : BitVec 32 := Scalar.addi c0_i32_2089 v4952
  let v5190 : Index := Scalar.indexCast v4953
  let c0_2240 : Index := 0#32
  let c0_2241 : Index := 0#32
  let c0_2242 : Index := 0#32
  ![v5190.toNat, 0, 0, 0]
def k0_off27 (i : grid0.Coords) (c0_i32_2251 : BitVec 32) : Fin 3 → Nat :=
  let arg2 : BitVec 32 := BitVec.ofNat 32 (i 2).val
  let c128_i32 : BitVec 32 := 128#32
  let v4 : BitVec 32 := Scalar.muli arg2 c128_i32
  let c128_i32_78 : BitVec 32 := 128#32
  let v133 : BitVec 32 := Scalar.subi v4 c128_i32_78
  let c0_i32_79 : BitVec 32 := 0#32
  let v134 : BitVec 32 := Scalar.maxsi v133 c0_i32_79
  let v135 : BitVec 32 := v134
  let c0_i32_2245 : BitVec 32 := 0#32
  let v5196 : BitVec 1 := Scalar.cmpi .sgt v135 c0_i32_2245
  let v5197 : BitVec 32 := Scalar.extui v5196
  let c0_i32_2246 : BitVec 32 := 0#32
  let v5198 : BitVec 1 := Scalar.cmpi .slt v135 c0_i32_2246
  let v5199 : BitVec 32 := Scalar.extui v5198
  let v5200 : BitVec 32 := Scalar.subi v5197 v5199
  let c128_i32_2244 : BitVec 32 := 128#32
  let c0_i32_2247 : BitVec 32 := 0#32
  let v5201 : BitVec 1 := Scalar.cmpi .sgt c128_i32_2244 c0_i32_2247
  let v5202 : BitVec 32 := Scalar.extui v5201
  let c0_i32_2248 : BitVec 32 := 0#32
  let v5203 : BitVec 1 := Scalar.cmpi .slt c128_i32_2244 c0_i32_2248
  let v5204 : BitVec 32 := Scalar.extui v5203
  let v5205 : BitVec 32 := Scalar.subi v5202 v5204
  let v5206 : BitVec 1 := Scalar.cmpi .ne v5200 v5205
  let v5207 : BitVec 32 := Scalar.remsi v135 c128_i32_2244
  let c0_i32_2249 : BitVec 32 := 0#32
  let v5208 : BitVec 1 := Scalar.cmpi .ne v5207 c0_i32_2249
  let v5209 : BitVec 1 := Scalar.andi v5206 v5208
  let v5195 : BitVec 32 := Scalar.divsi v135 c128_i32_2244
  let c1_i32_2250 : BitVec 32 := 1#32
  let v5210 : BitVec 32 := Scalar.subi v5195 c1_i32_2250
  let v5211 : BitVec 32 := Scalar.select v5209 v5210 v5195
  let v5212 : BitVec 32 := Scalar.addi v5211 c0_i32_2251
  let v5213 : Index := Scalar.indexCast v5212
  let c0_2252 : Index := 0#32
  let c0_2253 : Index := 0#32
  ![v5213.toNat, 0, 0]
def k0_off28 (i : grid0.Coords) (c0_i32_2265 : BitVec 32) (c0_i32_2266 : BitVec 32) : Fin 1 → Nat :=
  let arg1 : BitVec 32 := BitVec.ofNat 32 (i 1).val
  let c8_i32_2264 : BitVec 32 := 8#32
  let v5238 : BitVec 32 := Scalar.muli arg1 c8_i32_2264
  let v5239 : BitVec 32 := Scalar.addi v5238 c0_i32_2265
  let v5240 : BitVec 32 := Scalar.addi v5239 c0_i32_2266
  let v5241 : Index := Scalar.indexCast v5240
  ![v5241.toNat]
def k0_off29 (i : grid0.Coords) (c0_i32_2088 : BitVec 32) : Fin 4 → Nat :=
  let c0_i32_2089 : BitVec 32 := 0#32
  let arg2 : BitVec 32 := BitVec.ofNat 32 (i 2).val
  let c0_i32_2081 : BitVec 32 := 0#32
  let v4934 : BitVec 1 := Scalar.cmpi .sgt arg2 c0_i32_2081
  let v4935 : BitVec 32 := Scalar.extui v4934
  let c0_i32_2082 : BitVec 32 := 0#32
  let v4936 : BitVec 1 := Scalar.cmpi .slt arg2 c0_i32_2082
  let v4937 : BitVec 32 := Scalar.extui v4936
  let v4938 : BitVec 32 := Scalar.subi v4935 v4937
  let c2_i32_2080 : BitVec 32 := 2#32
  let c0_i32_2083 : BitVec 32 := 0#32
  let v4939 : BitVec 1 := Scalar.cmpi .sgt c2_i32_2080 c0_i32_2083
  let v4940 : BitVec 32 := Scalar.extui v4939
  let c0_i32_2084 : BitVec 32 := 0#32
  let v4941 : BitVec 1 := Scalar.cmpi .slt c2_i32_2080 c0_i32_2084
  let v4942 : BitVec 32 := Scalar.extui v4941
  let v4943 : BitVec 32 := Scalar.subi v4940 v4942
  let v4944 : BitVec 1 := Scalar.cmpi .ne v4938 v4943
  let v4945 : BitVec 32 := Scalar.remsi arg2 c2_i32_2080
  let c0_i32_2085 : BitVec 32 := 0#32
  let v4946 : BitVec 1 := Scalar.cmpi .ne v4945 c0_i32_2085
  let v4947 : BitVec 1 := Scalar.andi v4944 v4946
  let v4933 : BitVec 32 := Scalar.divsi arg2 c2_i32_2080
  let c1_i32_2086 : BitVec 32 := 1#32
  let v4948 : BitVec 32 := Scalar.subi v4933 c1_i32_2086
  let v4949 : BitVec 32 := Scalar.select v4947 v4948 v4933
  let c1_i32_2087 : BitVec 32 := 1#32
  let v4950 : BitVec 32 := Scalar.addi v4949 c1_i32_2087
  let v4951 : BitVec 1 := Scalar.cmpi .sle v4950 c0_i32_2088
  let v4952 : BitVec 32 := Scalar.extui v4951
  let v4953 : BitVec 32 := Scalar.addi c0_i32_2089 v4952
  let v5285 : Index := Scalar.indexCast v4953
  let c1_2283 : Index := 1#32
  let c0_2284 : Index := 0#32
  let c0_2285 : Index := 0#32
  ![v5285.toNat, 1, 0, 0]
def k0_mult34 (i : grid0.Coords) : BitVec 32 :=
  let c7_i32 : BitVec 32 := 7#32
  let arg2 : BitVec 32 := BitVec.ofNat 32 (i 2).val
  let v1 : BitVec 32 := Scalar.subi c7_i32 arg2
  let c0_i32_2325 : BitVec 32 := 0#32
  let v5378 : BitVec 1 := Scalar.cmpi .sgt v1 c0_i32_2325
  let v5379 : BitVec 32 := Scalar.extui v5378
  let c0_i32_2326 : BitVec 32 := 0#32
  let v5380 : BitVec 1 := Scalar.cmpi .slt v1 c0_i32_2326
  let v5381 : BitVec 32 := Scalar.extui v5380
  let v5382 : BitVec 32 := Scalar.subi v5379 v5381
  let c2_i32_2324 : BitVec 32 := 2#32
  let c0_i32_2327 : BitVec 32 := 0#32
  let v5383 : BitVec 1 := Scalar.cmpi .sgt c2_i32_2324 c0_i32_2327
  let v5384 : BitVec 32 := Scalar.extui v5383
  let c0_i32_2328 : BitVec 32 := 0#32
  let v5385 : BitVec 1 := Scalar.cmpi .slt c2_i32_2324 c0_i32_2328
  let v5386 : BitVec 32 := Scalar.extui v5385
  let v5387 : BitVec 32 := Scalar.subi v5384 v5386
  let v5388 : BitVec 1 := Scalar.cmpi .ne v5382 v5387
  let v5389 : BitVec 32 := Scalar.remsi v1 c2_i32_2324
  let c0_i32_2329 : BitVec 32 := 0#32
  let v5390 : BitVec 1 := Scalar.cmpi .ne v5389 c0_i32_2329
  let v5391 : BitVec 1 := Scalar.andi v5388 v5390
  let v5377 : BitVec 32 := Scalar.divsi v1 c2_i32_2324
  let c1_i32_2330 : BitVec 32 := 1#32
  let v5392 : BitVec 32 := Scalar.subi v5377 c1_i32_2330
  let v5393 : BitVec 32 := Scalar.select v5391 v5392 v5377
  let c1_i32_2331 : BitVec 32 := 1#32
  let v5394 : BitVec 32 := Scalar.addi v5393 c1_i32_2331
  let c0_i32_2332 : BitVec 32 := 0#32
  let v5395 : BitVec 1 := Scalar.cmpi .sle v5394 c0_i32_2332
  let c0_i32_2334 : BitVec 32 := 0#32
  let v5398 : BitVec 32 := Scalar.subi c0_i32_2334 v5394
  let c0_i32_2335 : BitVec 32 := 0#32
  let v5399 : BitVec 32 := Scalar.select v5395 v5398 c0_i32_2335
  let c256_i32_2336 : BitVec 32 := 256#32
  let v5400 : BitVec 32 := Scalar.muli v5399 c256_i32_2336
  v5400
def k0_off30 (i : grid0.Coords) (c0_i32_2332 : BitVec 32) (c0_i32_2334 : BitVec 32) (c0_i32_2335 : BitVec 32) (c0_i32_2338 : BitVec 32) : Fin 4 → Nat :=
  let c2_i32_2333 : BitVec 32 := 2#32
  let c7_i32 : BitVec 32 := 7#32
  let arg2 : BitVec 32 := BitVec.ofNat 32 (i 2).val
  let v1 : BitVec 32 := Scalar.subi c7_i32 arg2
  let c0_i32_2325 : BitVec 32 := 0#32
  let v5378 : BitVec 1 := Scalar.cmpi .sgt v1 c0_i32_2325
  let v5379 : BitVec 32 := Scalar.extui v5378
  let c0_i32_2326 : BitVec 32 := 0#32
  let v5380 : BitVec 1 := Scalar.cmpi .slt v1 c0_i32_2326
  let v5381 : BitVec 32 := Scalar.extui v5380
  let v5382 : BitVec 32 := Scalar.subi v5379 v5381
  let c2_i32_2324 : BitVec 32 := 2#32
  let c0_i32_2327 : BitVec 32 := 0#32
  let v5383 : BitVec 1 := Scalar.cmpi .sgt c2_i32_2324 c0_i32_2327
  let v5384 : BitVec 32 := Scalar.extui v5383
  let c0_i32_2328 : BitVec 32 := 0#32
  let v5385 : BitVec 1 := Scalar.cmpi .slt c2_i32_2324 c0_i32_2328
  let v5386 : BitVec 32 := Scalar.extui v5385
  let v5387 : BitVec 32 := Scalar.subi v5384 v5386
  let v5388 : BitVec 1 := Scalar.cmpi .ne v5382 v5387
  let v5389 : BitVec 32 := Scalar.remsi v1 c2_i32_2324
  let c0_i32_2329 : BitVec 32 := 0#32
  let v5390 : BitVec 1 := Scalar.cmpi .ne v5389 c0_i32_2329
  let v5391 : BitVec 1 := Scalar.andi v5388 v5390
  let v5377 : BitVec 32 := Scalar.divsi v1 c2_i32_2324
  let c1_i32_2330 : BitVec 32 := 1#32
  let v5392 : BitVec 32 := Scalar.subi v5377 c1_i32_2330
  let v5393 : BitVec 32 := Scalar.select v5391 v5392 v5377
  let c1_i32_2331 : BitVec 32 := 1#32
  let v5394 : BitVec 32 := Scalar.addi v5393 c1_i32_2331
  let v5395 : BitVec 1 := Scalar.cmpi .sle v5394 c0_i32_2332
  let v5396 : BitVec 32 := Scalar.extui v5395
  let v5397 : BitVec 32 := Scalar.addi c2_i32_2333 v5396
  let v5404 : Index := Scalar.indexCast v5397
  let v5398 : BitVec 32 := Scalar.subi c0_i32_2334 v5394
  let v5399 : BitVec 32 := Scalar.select v5395 v5398 c0_i32_2335
  let c4_i32_2337 : BitVec 32 := 4#32
  let v5402 : BitVec 32 := Scalar.muli v5399 c4_i32_2337
  let v5403 : BitVec 32 := Scalar.addi v5402 c0_i32_2338
  let v5405 : Index := Scalar.indexCast v5403
  let c0_2339 : Index := 0#32
  let c0_2340 : Index := 0#32
  ![v5404.toNat, v5405.toNat, 0, 0]
def k0_off30_at (r : Fin 36) : BitVec 32 × BitVec 32 × BitVec 32 × BitVec 32 :=
  if r.val < 18 then
    if r.val < 9 then
      if r.val < 4 then
        if r.val < 2 then
          if r.val < 1 then
            (0#32, 0#32, 0#32, 0#32)
          else
            (0#32, 0#32, 0#32, 1#32)
        else
          if r.val < 3 then
            (0#32, 0#32, 0#32, 2#32)
          else
            (0#32, 0#32, 0#32, 3#32)
      else
        if r.val < 6 then
          if r.val < 5 then
            (1#32, 1#32, 1#32, 0#32)
          else
            (1#32, 1#32, 1#32, 1#32)
        else
          if r.val < 7 then
            (1#32, 1#32, 1#32, 2#32)
          else
            if r.val < 8 then
              (1#32, 1#32, 1#32, 3#32)
            else
              (2#32, 2#32, 2#32, 0#32)
    else
      if r.val < 13 then
        if r.val < 11 then
          if r.val < 10 then
            (2#32, 2#32, 2#32, 1#32)
          else
            (2#32, 2#32, 2#32, 2#32)
        else
          if r.val < 12 then
            (2#32, 2#32, 2#32, 3#32)
          else
            (3#32, 3#32, 3#32, 0#32)
      else
        if r.val < 15 then
          if r.val < 14 then
            (3#32, 3#32, 3#32, 1#32)
          else
            (3#32, 3#32, 3#32, 2#32)
        else
          if r.val < 16 then
            (3#32, 3#32, 3#32, 3#32)
          else
            if r.val < 17 then
              (4#32, 4#32, 4#32, 0#32)
            else
              (4#32, 4#32, 4#32, 1#32)
  else
    if r.val < 27 then
      if r.val < 22 then
        if r.val < 20 then
          if r.val < 19 then
            (4#32, 4#32, 4#32, 2#32)
          else
            (4#32, 4#32, 4#32, 3#32)
        else
          if r.val < 21 then
            (5#32, 5#32, 5#32, 0#32)
          else
            (5#32, 5#32, 5#32, 1#32)
      else
        if r.val < 24 then
          if r.val < 23 then
            (5#32, 5#32, 5#32, 2#32)
          else
            (5#32, 5#32, 5#32, 3#32)
        else
          if r.val < 25 then
            (6#32, 6#32, 6#32, 0#32)
          else
            if r.val < 26 then
              (6#32, 6#32, 6#32, 1#32)
            else
              (6#32, 6#32, 6#32, 2#32)
    else
      if r.val < 31 then
        if r.val < 29 then
          if r.val < 28 then
            (6#32, 6#32, 6#32, 3#32)
          else
            (7#32, 7#32, 7#32, 0#32)
        else
          if r.val < 30 then
            (7#32, 7#32, 7#32, 1#32)
          else
            (7#32, 7#32, 7#32, 2#32)
      else
        if r.val < 33 then
          if r.val < 32 then
            (7#32, 7#32, 7#32, 3#32)
          else
            (8#32, 8#32, 8#32, 0#32)
        else
          if r.val < 34 then
            (8#32, 8#32, 8#32, 1#32)
          else
            if r.val < 35 then
              (8#32, 8#32, 8#32, 2#32)
            else
              (8#32, 8#32, 8#32, 3#32)
def k0_off31 (i : grid0.Coords) (c0_i32_2332 : BitVec 32) (c0_i32_2334 : BitVec 32) (c0_i32_2335 : BitVec 32) : Fin 3 → Nat :=
  let c7_i32 : BitVec 32 := 7#32
  let arg2 : BitVec 32 := BitVec.ofNat 32 (i 2).val
  let v1 : BitVec 32 := Scalar.subi c7_i32 arg2
  let c0_i32_2325 : BitVec 32 := 0#32
  let v5378 : BitVec 1 := Scalar.cmpi .sgt v1 c0_i32_2325
  let v5379 : BitVec 32 := Scalar.extui v5378
  let c0_i32_2326 : BitVec 32 := 0#32
  let v5380 : BitVec 1 := Scalar.cmpi .slt v1 c0_i32_2326
  let v5381 : BitVec 32 := Scalar.extui v5380
  let v5382 : BitVec 32 := Scalar.subi v5379 v5381
  let c2_i32_2324 : BitVec 32 := 2#32
  let c0_i32_2327 : BitVec 32 := 0#32
  let v5383 : BitVec 1 := Scalar.cmpi .sgt c2_i32_2324 c0_i32_2327
  let v5384 : BitVec 32 := Scalar.extui v5383
  let c0_i32_2328 : BitVec 32 := 0#32
  let v5385 : BitVec 1 := Scalar.cmpi .slt c2_i32_2324 c0_i32_2328
  let v5386 : BitVec 32 := Scalar.extui v5385
  let v5387 : BitVec 32 := Scalar.subi v5384 v5386
  let v5388 : BitVec 1 := Scalar.cmpi .ne v5382 v5387
  let v5389 : BitVec 32 := Scalar.remsi v1 c2_i32_2324
  let c0_i32_2329 : BitVec 32 := 0#32
  let v5390 : BitVec 1 := Scalar.cmpi .ne v5389 c0_i32_2329
  let v5391 : BitVec 1 := Scalar.andi v5388 v5390
  let v5377 : BitVec 32 := Scalar.divsi v1 c2_i32_2324
  let c1_i32_2330 : BitVec 32 := 1#32
  let v5392 : BitVec 32 := Scalar.subi v5377 c1_i32_2330
  let v5393 : BitVec 32 := Scalar.select v5391 v5392 v5377
  let c1_i32_2331 : BitVec 32 := 1#32
  let v5394 : BitVec 32 := Scalar.addi v5393 c1_i32_2331
  let v5395 : BitVec 1 := Scalar.cmpi .sle v5394 c0_i32_2332
  let v5398 : BitVec 32 := Scalar.subi c0_i32_2334 v5394
  let v5399 : BitVec 32 := Scalar.select v5395 v5398 c0_i32_2335
  let c15_i32_1 : BitVec 32 := 15#32
  let c7_i32_0 : BitVec 32 := 7#32
  let v2 : BitVec 32 := Scalar.subi c7_i32_0 arg2
  let v3 : BitVec 32 := Scalar.subi c15_i32_1 v2
  let v5595 : BitVec 32 := Scalar.select v5395 v3 v1
  let c0_i32_2466 : BitVec 32 := 0#32
  let v5597 : BitVec 1 := Scalar.cmpi .sgt v5595 c0_i32_2466
  let v5598 : BitVec 32 := Scalar.extui v5597
  let c0_i32_2467 : BitVec 32 := 0#32
  let v5599 : BitVec 1 := Scalar.cmpi .slt v5595 c0_i32_2467
  let v5600 : BitVec 32 := Scalar.extui v5599
  let v5601 : BitVec 32 := Scalar.subi v5598 v5600
  let c2_i32_2465 : BitVec 32 := 2#32
  let c0_i32_2468 : BitVec 32 := 0#32
  let v5602 : BitVec 1 := Scalar.cmpi .sgt c2_i32_2465 c0_i32_2468
  let v5603 : BitVec 32 := Scalar.extui v5602
  let c0_i32_2469 : BitVec 32 := 0#32
  let v5604 : BitVec 1 := Scalar.cmpi .slt c2_i32_2465 c0_i32_2469
  let v5605 : BitVec 32 := Scalar.extui v5604
  let v5606 : BitVec 32 := Scalar.subi v5603 v5605
  let v5607 : BitVec 1 := Scalar.cmpi .ne v5601 v5606
  let v5608 : BitVec 32 := Scalar.remsi v5595 c2_i32_2465
  let c0_i32_2470 : BitVec 32 := 0#32
  let v5609 : BitVec 1 := Scalar.cmpi .ne v5608 c0_i32_2470
  let v5610 : BitVec 1 := Scalar.andi v5607 v5609
  let v5596 : BitVec 32 := Scalar.divsi v5595 c2_i32_2465
  let c1_i32_2471 : BitVec 32 := 1#32
  let v5611 : BitVec 32 := Scalar.subi v5596 c1_i32_2471
  let v5612 : BitVec 32 := Scalar.select v5610 v5611 v5596
  let v5613 : BitVec 1 := Scalar.cmpi .eq v5399 v5612
  let c1_i32_2478 : BitVec 32 := 1#32
  let c2_i32_2472 : BitVec 32 := 2#32
  let c0_i32_2473 : BitVec 32 := 0#32
  let v5614 : BitVec 1 := Scalar.cmpi .eq c2_i32_2472 c0_i32_2473
  let c1_i32_2474 : BitVec 32 := 1#32
  let v5615 : BitVec 32 := Scalar.select v5614 c1_i32_2474 c2_i32_2472
  let v5616 : BitVec 32 := Scalar.remsi v5595 v5615
  let c0_i32_2476 : BitVec 32 := 0#32
  let v5618 : BitVec 1 := Scalar.cmpi .slt v5616 c0_i32_2476
  let c0_i32_2477 : BitVec 32 := 0#32
  let v5619 : BitVec 1 := Scalar.cmpi .slt v5615 c0_i32_2477
  let v5620 : BitVec 1 := Scalar.xori v5618 v5619
  let c0_i32_2475 : BitVec 32 := 0#32
  let v5617 : BitVec 1 := Scalar.cmpi .ne v5616 c0_i32_2475
  let v5621 : BitVec 1 := Scalar.andi v5620 v5617
  let v5622 : BitVec 32 := Scalar.addi v5616 v5615
  let v5623 : BitVec 32 := Scalar.select v5621 v5622 v5616
  let v5624 : BitVec 32 := Scalar.addi c1_i32_2478 v5623
  let c0_i32_2479 : BitVec 32 := 0#32
  let v5625 : BitVec 32 := Scalar.select v5613 v5624 c0_i32_2479
  let v5626 : Index := Scalar.indexCast v5625
  let c0_2480 : Index := 0#32
  let c0_2481 : Index := 0#32
  ![v5626.toNat, 0, 0]
def k0_off31_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off32 (i : grid0.Coords) (c0_i32_2332 : BitVec 32) (c0_i32_2334 : BitVec 32) (c0_i32_2335 : BitVec 32) : Fin 3 → Nat :=
  let c0_2482 : Index := 0#32
  let c7_i32 : BitVec 32 := 7#32
  let arg2 : BitVec 32 := BitVec.ofNat 32 (i 2).val
  let v1 : BitVec 32 := Scalar.subi c7_i32 arg2
  let c0_i32_2325 : BitVec 32 := 0#32
  let v5378 : BitVec 1 := Scalar.cmpi .sgt v1 c0_i32_2325
  let v5379 : BitVec 32 := Scalar.extui v5378
  let c0_i32_2326 : BitVec 32 := 0#32
  let v5380 : BitVec 1 := Scalar.cmpi .slt v1 c0_i32_2326
  let v5381 : BitVec 32 := Scalar.extui v5380
  let v5382 : BitVec 32 := Scalar.subi v5379 v5381
  let c2_i32_2324 : BitVec 32 := 2#32
  let c0_i32_2327 : BitVec 32 := 0#32
  let v5383 : BitVec 1 := Scalar.cmpi .sgt c2_i32_2324 c0_i32_2327
  let v5384 : BitVec 32 := Scalar.extui v5383
  let c0_i32_2328 : BitVec 32 := 0#32
  let v5385 : BitVec 1 := Scalar.cmpi .slt c2_i32_2324 c0_i32_2328
  let v5386 : BitVec 32 := Scalar.extui v5385
  let v5387 : BitVec 32 := Scalar.subi v5384 v5386
  let v5388 : BitVec 1 := Scalar.cmpi .ne v5382 v5387
  let v5389 : BitVec 32 := Scalar.remsi v1 c2_i32_2324
  let c0_i32_2329 : BitVec 32 := 0#32
  let v5390 : BitVec 1 := Scalar.cmpi .ne v5389 c0_i32_2329
  let v5391 : BitVec 1 := Scalar.andi v5388 v5390
  let v5377 : BitVec 32 := Scalar.divsi v1 c2_i32_2324
  let c1_i32_2330 : BitVec 32 := 1#32
  let v5392 : BitVec 32 := Scalar.subi v5377 c1_i32_2330
  let v5393 : BitVec 32 := Scalar.select v5391 v5392 v5377
  let c1_i32_2331 : BitVec 32 := 1#32
  let v5394 : BitVec 32 := Scalar.addi v5393 c1_i32_2331
  let v5395 : BitVec 1 := Scalar.cmpi .sle v5394 c0_i32_2332
  let v5398 : BitVec 32 := Scalar.subi c0_i32_2334 v5394
  let v5399 : BitVec 32 := Scalar.select v5395 v5398 c0_i32_2335
  let c256_i32_2336 : BitVec 32 := 256#32
  let v5400 : BitVec 32 := Scalar.muli v5399 c256_i32_2336
  let v5401 : BitVec 32 := v5400
  let v5631 : Index := Scalar.indexCast v5401
  let c0_2483 : Index := 0#32
  ![0, v5631.toNat, 0]
def k0_off32_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off33 (i : grid0.Coords) (c0_i32_2332 : BitVec 32) : Fin 4 → Nat :=
  let c2_i32_2333 : BitVec 32 := 2#32
  let c7_i32 : BitVec 32 := 7#32
  let arg2 : BitVec 32 := BitVec.ofNat 32 (i 2).val
  let v1 : BitVec 32 := Scalar.subi c7_i32 arg2
  let c0_i32_2325 : BitVec 32 := 0#32
  let v5378 : BitVec 1 := Scalar.cmpi .sgt v1 c0_i32_2325
  let v5379 : BitVec 32 := Scalar.extui v5378
  let c0_i32_2326 : BitVec 32 := 0#32
  let v5380 : BitVec 1 := Scalar.cmpi .slt v1 c0_i32_2326
  let v5381 : BitVec 32 := Scalar.extui v5380
  let v5382 : BitVec 32 := Scalar.subi v5379 v5381
  let c2_i32_2324 : BitVec 32 := 2#32
  let c0_i32_2327 : BitVec 32 := 0#32
  let v5383 : BitVec 1 := Scalar.cmpi .sgt c2_i32_2324 c0_i32_2327
  let v5384 : BitVec 32 := Scalar.extui v5383
  let c0_i32_2328 : BitVec 32 := 0#32
  let v5385 : BitVec 1 := Scalar.cmpi .slt c2_i32_2324 c0_i32_2328
  let v5386 : BitVec 32 := Scalar.extui v5385
  let v5387 : BitVec 32 := Scalar.subi v5384 v5386
  let v5388 : BitVec 1 := Scalar.cmpi .ne v5382 v5387
  let v5389 : BitVec 32 := Scalar.remsi v1 c2_i32_2324
  let c0_i32_2329 : BitVec 32 := 0#32
  let v5390 : BitVec 1 := Scalar.cmpi .ne v5389 c0_i32_2329
  let v5391 : BitVec 1 := Scalar.andi v5388 v5390
  let v5377 : BitVec 32 := Scalar.divsi v1 c2_i32_2324
  let c1_i32_2330 : BitVec 32 := 1#32
  let v5392 : BitVec 32 := Scalar.subi v5377 c1_i32_2330
  let v5393 : BitVec 32 := Scalar.select v5391 v5392 v5377
  let c1_i32_2331 : BitVec 32 := 1#32
  let v5394 : BitVec 32 := Scalar.addi v5393 c1_i32_2331
  let v5395 : BitVec 1 := Scalar.cmpi .sle v5394 c0_i32_2332
  let v5396 : BitVec 32 := Scalar.extui v5395
  let v5397 : BitVec 32 := Scalar.addi c2_i32_2333 v5396
  let v5634 : Index := Scalar.indexCast v5397
  let c0_2484 : Index := 0#32
  let c0_2485 : Index := 0#32
  let c0_2486 : Index := 0#32
  ![v5634.toNat, 0, 0, 0]
def k0_off34 (i : grid0.Coords) (c0_i32_2332 : BitVec 32) : Fin 4 → Nat :=
  let c2_i32_2333 : BitVec 32 := 2#32
  let c7_i32 : BitVec 32 := 7#32
  let arg2 : BitVec 32 := BitVec.ofNat 32 (i 2).val
  let v1 : BitVec 32 := Scalar.subi c7_i32 arg2
  let c0_i32_2325 : BitVec 32 := 0#32
  let v5378 : BitVec 1 := Scalar.cmpi .sgt v1 c0_i32_2325
  let v5379 : BitVec 32 := Scalar.extui v5378
  let c0_i32_2326 : BitVec 32 := 0#32
  let v5380 : BitVec 1 := Scalar.cmpi .slt v1 c0_i32_2326
  let v5381 : BitVec 32 := Scalar.extui v5380
  let v5382 : BitVec 32 := Scalar.subi v5379 v5381
  let c2_i32_2324 : BitVec 32 := 2#32
  let c0_i32_2327 : BitVec 32 := 0#32
  let v5383 : BitVec 1 := Scalar.cmpi .sgt c2_i32_2324 c0_i32_2327
  let v5384 : BitVec 32 := Scalar.extui v5383
  let c0_i32_2328 : BitVec 32 := 0#32
  let v5385 : BitVec 1 := Scalar.cmpi .slt c2_i32_2324 c0_i32_2328
  let v5386 : BitVec 32 := Scalar.extui v5385
  let v5387 : BitVec 32 := Scalar.subi v5384 v5386
  let v5388 : BitVec 1 := Scalar.cmpi .ne v5382 v5387
  let v5389 : BitVec 32 := Scalar.remsi v1 c2_i32_2324
  let c0_i32_2329 : BitVec 32 := 0#32
  let v5390 : BitVec 1 := Scalar.cmpi .ne v5389 c0_i32_2329
  let v5391 : BitVec 1 := Scalar.andi v5388 v5390
  let v5377 : BitVec 32 := Scalar.divsi v1 c2_i32_2324
  let c1_i32_2330 : BitVec 32 := 1#32
  let v5392 : BitVec 32 := Scalar.subi v5377 c1_i32_2330
  let v5393 : BitVec 32 := Scalar.select v5391 v5392 v5377
  let c1_i32_2331 : BitVec 32 := 1#32
  let v5394 : BitVec 32 := Scalar.addi v5393 c1_i32_2331
  let v5395 : BitVec 1 := Scalar.cmpi .sle v5394 c0_i32_2332
  let v5396 : BitVec 32 := Scalar.extui v5395
  let v5397 : BitVec 32 := Scalar.addi c2_i32_2333 v5396
  let v5729 : Index := Scalar.indexCast v5397
  let c1_2527 : Index := 1#32
  let c0_2528 : Index := 0#32
  let c0_2529 : Index := 0#32
  ![v5729.toNat, 1, 0, 0]
def k0_mult35 (i : grid0.Coords) : BitVec 32 :=
  let arg2 : BitVec 32 := BitVec.ofNat 32 (i 2).val
  let c0_i32_2569 : BitVec 32 := 0#32
  let v5822 : BitVec 1 := Scalar.cmpi .sgt arg2 c0_i32_2569
  let v5823 : BitVec 32 := Scalar.extui v5822
  let c0_i32_2570 : BitVec 32 := 0#32
  let v5824 : BitVec 1 := Scalar.cmpi .slt arg2 c0_i32_2570
  let v5825 : BitVec 32 := Scalar.extui v5824
  let v5826 : BitVec 32 := Scalar.subi v5823 v5825
  let c2_i32_2568 : BitVec 32 := 2#32
  let c0_i32_2571 : BitVec 32 := 0#32
  let v5827 : BitVec 1 := Scalar.cmpi .sgt c2_i32_2568 c0_i32_2571
  let v5828 : BitVec 32 := Scalar.extui v5827
  let c0_i32_2572 : BitVec 32 := 0#32
  let v5829 : BitVec 1 := Scalar.cmpi .slt c2_i32_2568 c0_i32_2572
  let v5830 : BitVec 32 := Scalar.extui v5829
  let v5831 : BitVec 32 := Scalar.subi v5828 v5830
  let v5832 : BitVec 1 := Scalar.cmpi .ne v5826 v5831
  let v5833 : BitVec 32 := Scalar.remsi arg2 c2_i32_2568
  let c0_i32_2573 : BitVec 32 := 0#32
  let v5834 : BitVec 1 := Scalar.cmpi .ne v5833 c0_i32_2573
  let v5835 : BitVec 1 := Scalar.andi v5832 v5834
  let v5821 : BitVec 32 := Scalar.divsi arg2 c2_i32_2568
  let c1_i32_2574 : BitVec 32 := 1#32
  let v5836 : BitVec 32 := Scalar.subi v5821 c1_i32_2574
  let v5837 : BitVec 32 := Scalar.select v5835 v5836 v5821
  let c1_i32_2575 : BitVec 32 := 1#32
  let v5838 : BitVec 32 := Scalar.addi v5837 c1_i32_2575
  let c1_i32_2576 : BitVec 32 := 1#32
  let v5839 : BitVec 1 := Scalar.cmpi .sle v5838 c1_i32_2576
  let c1_i32_2578 : BitVec 32 := 1#32
  let v5842 : BitVec 32 := Scalar.subi c1_i32_2578 v5838
  let c1_i32_2579 : BitVec 32 := 1#32
  let v5843 : BitVec 32 := Scalar.select v5839 v5842 c1_i32_2579
  let c256_i32_2580 : BitVec 32 := 256#32
  let v5844 : BitVec 32 := Scalar.muli v5843 c256_i32_2580
  v5844
def k0_off35 (i : grid0.Coords) (c7_i32 : BitVec 32) (c0_i32_2739 : BitVec 32) : Fin 3 → Nat :=
  let arg2 : BitVec 32 := BitVec.ofNat 32 (i 2).val
  let v1 : BitVec 32 := Scalar.subi c7_i32 arg2
  let c128_i32_3 : BitVec 32 := 128#32
  let v6 : BitVec 32 := Scalar.muli v1 c128_i32_3
  let c128_i32_82 : BitVec 32 := 128#32
  let v139 : BitVec 32 := Scalar.subi v6 c128_i32_82
  let c0_i32_83 : BitVec 32 := 0#32
  let v140 : BitVec 32 := Scalar.maxsi v139 c0_i32_83
  let v141 : BitVec 32 := v140
  let c0_i32_2733 : BitVec 32 := 0#32
  let v6084 : BitVec 1 := Scalar.cmpi .sgt v141 c0_i32_2733
  let v6085 : BitVec 32 := Scalar.extui v6084
  let c0_i32_2734 : BitVec 32 := 0#32
  let v6086 : BitVec 1 := Scalar.cmpi .slt v141 c0_i32_2734
  let v6087 : BitVec 32 := Scalar.extui v6086
  let v6088 : BitVec 32 := Scalar.subi v6085 v6087
  let c128_i32_2732 : BitVec 32 := 128#32
  let c0_i32_2735 : BitVec 32 := 0#32
  let v6089 : BitVec 1 := Scalar.cmpi .sgt c128_i32_2732 c0_i32_2735
  let v6090 : BitVec 32 := Scalar.extui v6089
  let c0_i32_2736 : BitVec 32 := 0#32
  let v6091 : BitVec 1 := Scalar.cmpi .slt c128_i32_2732 c0_i32_2736
  let v6092 : BitVec 32 := Scalar.extui v6091
  let v6093 : BitVec 32 := Scalar.subi v6090 v6092
  let v6094 : BitVec 1 := Scalar.cmpi .ne v6088 v6093
  let v6095 : BitVec 32 := Scalar.remsi v141 c128_i32_2732
  let c0_i32_2737 : BitVec 32 := 0#32
  let v6096 : BitVec 1 := Scalar.cmpi .ne v6095 c0_i32_2737
  let v6097 : BitVec 1 := Scalar.andi v6094 v6096
  let v6083 : BitVec 32 := Scalar.divsi v141 c128_i32_2732
  let c1_i32_2738 : BitVec 32 := 1#32
  let v6098 : BitVec 32 := Scalar.subi v6083 c1_i32_2738
  let v6099 : BitVec 32 := Scalar.select v6097 v6098 v6083
  let v6100 : BitVec 32 := Scalar.addi v6099 c0_i32_2739
  let v6101 : Index := Scalar.indexCast v6100
  let c0_2740 : Index := 0#32
  let c0_2741 : Index := 0#32
  ![v6101.toNat, 0, 0]
def k0_mult36 (i : grid0.Coords) : BitVec 32 :=
  let c7_i32 : BitVec 32 := 7#32
  let arg2 : BitVec 32 := BitVec.ofNat 32 (i 2).val
  let v1 : BitVec 32 := Scalar.subi c7_i32 arg2
  let c0_i32_2813 : BitVec 32 := 0#32
  let v6266 : BitVec 1 := Scalar.cmpi .sgt v1 c0_i32_2813
  let v6267 : BitVec 32 := Scalar.extui v6266
  let c0_i32_2814 : BitVec 32 := 0#32
  let v6268 : BitVec 1 := Scalar.cmpi .slt v1 c0_i32_2814
  let v6269 : BitVec 32 := Scalar.extui v6268
  let v6270 : BitVec 32 := Scalar.subi v6267 v6269
  let c2_i32_2812 : BitVec 32 := 2#32
  let c0_i32_2815 : BitVec 32 := 0#32
  let v6271 : BitVec 1 := Scalar.cmpi .sgt c2_i32_2812 c0_i32_2815
  let v6272 : BitVec 32 := Scalar.extui v6271
  let c0_i32_2816 : BitVec 32 := 0#32
  let v6273 : BitVec 1 := Scalar.cmpi .slt c2_i32_2812 c0_i32_2816
  let v6274 : BitVec 32 := Scalar.extui v6273
  let v6275 : BitVec 32 := Scalar.subi v6272 v6274
  let v6276 : BitVec 1 := Scalar.cmpi .ne v6270 v6275
  let v6277 : BitVec 32 := Scalar.remsi v1 c2_i32_2812
  let c0_i32_2817 : BitVec 32 := 0#32
  let v6278 : BitVec 1 := Scalar.cmpi .ne v6277 c0_i32_2817
  let v6279 : BitVec 1 := Scalar.andi v6276 v6278
  let v6265 : BitVec 32 := Scalar.divsi v1 c2_i32_2812
  let c1_i32_2818 : BitVec 32 := 1#32
  let v6280 : BitVec 32 := Scalar.subi v6265 c1_i32_2818
  let v6281 : BitVec 32 := Scalar.select v6279 v6280 v6265
  let c1_i32_2819 : BitVec 32 := 1#32
  let v6282 : BitVec 32 := Scalar.addi v6281 c1_i32_2819
  let c1_i32_2820 : BitVec 32 := 1#32
  let v6283 : BitVec 1 := Scalar.cmpi .sle v6282 c1_i32_2820
  let c1_i32_2822 : BitVec 32 := 1#32
  let v6286 : BitVec 32 := Scalar.subi c1_i32_2822 v6282
  let c1_i32_2823 : BitVec 32 := 1#32
  let v6287 : BitVec 32 := Scalar.select v6283 v6286 c1_i32_2823
  let c256_i32_2824 : BitVec 32 := 256#32
  let v6288 : BitVec 32 := Scalar.muli v6287 c256_i32_2824
  v6288
def k0_mult37 (i : grid0.Coords) : BitVec 32 :=
  let arg2 : BitVec 32 := BitVec.ofNat 32 (i 2).val
  let c0_i32_3057 : BitVec 32 := 0#32
  let v6710 : BitVec 1 := Scalar.cmpi .sgt arg2 c0_i32_3057
  let v6711 : BitVec 32 := Scalar.extui v6710
  let c0_i32_3058 : BitVec 32 := 0#32
  let v6712 : BitVec 1 := Scalar.cmpi .slt arg2 c0_i32_3058
  let v6713 : BitVec 32 := Scalar.extui v6712
  let v6714 : BitVec 32 := Scalar.subi v6711 v6713
  let c2_i32_3056 : BitVec 32 := 2#32
  let c0_i32_3059 : BitVec 32 := 0#32
  let v6715 : BitVec 1 := Scalar.cmpi .sgt c2_i32_3056 c0_i32_3059
  let v6716 : BitVec 32 := Scalar.extui v6715
  let c0_i32_3060 : BitVec 32 := 0#32
  let v6717 : BitVec 1 := Scalar.cmpi .slt c2_i32_3056 c0_i32_3060
  let v6718 : BitVec 32 := Scalar.extui v6717
  let v6719 : BitVec 32 := Scalar.subi v6716 v6718
  let v6720 : BitVec 1 := Scalar.cmpi .ne v6714 v6719
  let v6721 : BitVec 32 := Scalar.remsi arg2 c2_i32_3056
  let c0_i32_3061 : BitVec 32 := 0#32
  let v6722 : BitVec 1 := Scalar.cmpi .ne v6721 c0_i32_3061
  let v6723 : BitVec 1 := Scalar.andi v6720 v6722
  let v6709 : BitVec 32 := Scalar.divsi arg2 c2_i32_3056
  let c1_i32_3062 : BitVec 32 := 1#32
  let v6724 : BitVec 32 := Scalar.subi v6709 c1_i32_3062
  let v6725 : BitVec 32 := Scalar.select v6723 v6724 v6709
  let c1_i32_3063 : BitVec 32 := 1#32
  let v6726 : BitVec 32 := Scalar.addi v6725 c1_i32_3063
  let c2_i32_3064 : BitVec 32 := 2#32
  let v6727 : BitVec 1 := Scalar.cmpi .sle v6726 c2_i32_3064
  let c2_i32_3066 : BitVec 32 := 2#32
  let v6730 : BitVec 32 := Scalar.subi c2_i32_3066 v6726
  let c2_i32_3067 : BitVec 32 := 2#32
  let v6731 : BitVec 32 := Scalar.select v6727 v6730 c2_i32_3067
  let c256_i32_3068 : BitVec 32 := 256#32
  let v6732 : BitVec 32 := Scalar.muli v6731 c256_i32_3068
  v6732
def k0_off36 (i : grid0.Coords) (c0_i32_2088 : BitVec 32) (c0_i32_2090 : BitVec 32) (c0_i32_2091 : BitVec 32) (c0_i32_3221 : BitVec 32) : Fin 3 → Nat :=
  let arg2 : BitVec 32 := BitVec.ofNat 32 (i 2).val
  let c0_i32_2081 : BitVec 32 := 0#32
  let v4934 : BitVec 1 := Scalar.cmpi .sgt arg2 c0_i32_2081
  let v4935 : BitVec 32 := Scalar.extui v4934
  let c0_i32_2082 : BitVec 32 := 0#32
  let v4936 : BitVec 1 := Scalar.cmpi .slt arg2 c0_i32_2082
  let v4937 : BitVec 32 := Scalar.extui v4936
  let v4938 : BitVec 32 := Scalar.subi v4935 v4937
  let c2_i32_2080 : BitVec 32 := 2#32
  let c0_i32_2083 : BitVec 32 := 0#32
  let v4939 : BitVec 1 := Scalar.cmpi .sgt c2_i32_2080 c0_i32_2083
  let v4940 : BitVec 32 := Scalar.extui v4939
  let c0_i32_2084 : BitVec 32 := 0#32
  let v4941 : BitVec 1 := Scalar.cmpi .slt c2_i32_2080 c0_i32_2084
  let v4942 : BitVec 32 := Scalar.extui v4941
  let v4943 : BitVec 32 := Scalar.subi v4940 v4942
  let v4944 : BitVec 1 := Scalar.cmpi .ne v4938 v4943
  let v4945 : BitVec 32 := Scalar.remsi arg2 c2_i32_2080
  let c0_i32_2085 : BitVec 32 := 0#32
  let v4946 : BitVec 1 := Scalar.cmpi .ne v4945 c0_i32_2085
  let v4947 : BitVec 1 := Scalar.andi v4944 v4946
  let v4933 : BitVec 32 := Scalar.divsi arg2 c2_i32_2080
  let c1_i32_2086 : BitVec 32 := 1#32
  let v4948 : BitVec 32 := Scalar.subi v4933 c1_i32_2086
  let v4949 : BitVec 32 := Scalar.select v4947 v4948 v4933
  let c1_i32_2087 : BitVec 32 := 1#32
  let v4950 : BitVec 32 := Scalar.addi v4949 c1_i32_2087
  let v4951 : BitVec 1 := Scalar.cmpi .sle v4950 c0_i32_2088
  let v4954 : BitVec 32 := Scalar.subi c0_i32_2090 v4950
  let v4955 : BitVec 32 := Scalar.select v4951 v4954 c0_i32_2091
  let c2_i32_3220 : BitVec 32 := 2#32
  let v6971 : BitVec 32 := Scalar.muli v4955 c2_i32_3220
  let v6972 : BitVec 32 := Scalar.addi v6971 c0_i32_3221
  let v6973 : Index := Scalar.indexCast v6972
  let c0_3222 : Index := 0#32
  let c0_3223 : Index := 0#32
  ![v6973.toNat, 0, 0]
def k0_off36_at (r : Fin 18) : BitVec 32 × BitVec 32 × BitVec 32 × BitVec 32 :=
  if r.val < 9 then
    if r.val < 4 then
      if r.val < 2 then
        if r.val < 1 then
          (0#32, 0#32, 0#32, 0#32)
        else
          (0#32, 0#32, 0#32, 1#32)
      else
        if r.val < 3 then
          (1#32, 1#32, 1#32, 0#32)
        else
          (1#32, 1#32, 1#32, 1#32)
    else
      if r.val < 6 then
        if r.val < 5 then
          (2#32, 2#32, 2#32, 0#32)
        else
          (2#32, 2#32, 2#32, 1#32)
      else
        if r.val < 7 then
          (3#32, 3#32, 3#32, 0#32)
        else
          if r.val < 8 then
            (3#32, 3#32, 3#32, 1#32)
          else
            (4#32, 4#32, 4#32, 0#32)
  else
    if r.val < 13 then
      if r.val < 11 then
        if r.val < 10 then
          (4#32, 4#32, 4#32, 1#32)
        else
          (5#32, 5#32, 5#32, 0#32)
      else
        if r.val < 12 then
          (5#32, 5#32, 5#32, 1#32)
        else
          (6#32, 6#32, 6#32, 0#32)
    else
      if r.val < 15 then
        if r.val < 14 then
          (6#32, 6#32, 6#32, 1#32)
        else
          (7#32, 7#32, 7#32, 0#32)
      else
        if r.val < 16 then
          (7#32, 7#32, 7#32, 1#32)
        else
          if r.val < 17 then
            (8#32, 8#32, 8#32, 0#32)
          else
            (8#32, 8#32, 8#32, 1#32)
def k0_off37 (i : grid0.Coords) (c0_i32_2088 : BitVec 32) : Fin 4 → Nat :=
  let c0_i32_2089 : BitVec 32 := 0#32
  let arg2 : BitVec 32 := BitVec.ofNat 32 (i 2).val
  let c0_i32_2081 : BitVec 32 := 0#32
  let v4934 : BitVec 1 := Scalar.cmpi .sgt arg2 c0_i32_2081
  let v4935 : BitVec 32 := Scalar.extui v4934
  let c0_i32_2082 : BitVec 32 := 0#32
  let v4936 : BitVec 1 := Scalar.cmpi .slt arg2 c0_i32_2082
  let v4937 : BitVec 32 := Scalar.extui v4936
  let v4938 : BitVec 32 := Scalar.subi v4935 v4937
  let c2_i32_2080 : BitVec 32 := 2#32
  let c0_i32_2083 : BitVec 32 := 0#32
  let v4939 : BitVec 1 := Scalar.cmpi .sgt c2_i32_2080 c0_i32_2083
  let v4940 : BitVec 32 := Scalar.extui v4939
  let c0_i32_2084 : BitVec 32 := 0#32
  let v4941 : BitVec 1 := Scalar.cmpi .slt c2_i32_2080 c0_i32_2084
  let v4942 : BitVec 32 := Scalar.extui v4941
  let v4943 : BitVec 32 := Scalar.subi v4940 v4942
  let v4944 : BitVec 1 := Scalar.cmpi .ne v4938 v4943
  let v4945 : BitVec 32 := Scalar.remsi arg2 c2_i32_2080
  let c0_i32_2085 : BitVec 32 := 0#32
  let v4946 : BitVec 1 := Scalar.cmpi .ne v4945 c0_i32_2085
  let v4947 : BitVec 1 := Scalar.andi v4944 v4946
  let v4933 : BitVec 32 := Scalar.divsi arg2 c2_i32_2080
  let c1_i32_2086 : BitVec 32 := 1#32
  let v4948 : BitVec 32 := Scalar.subi v4933 c1_i32_2086
  let v4949 : BitVec 32 := Scalar.select v4947 v4948 v4933
  let c1_i32_2087 : BitVec 32 := 1#32
  let v4950 : BitVec 32 := Scalar.addi v4949 c1_i32_2087
  let v4951 : BitVec 1 := Scalar.cmpi .sle v4950 c0_i32_2088
  let v4952 : BitVec 32 := Scalar.extui v4951
  let v4953 : BitVec 32 := Scalar.addi c0_i32_2089 v4952
  let v6983 : Index := Scalar.indexCast v4953
  let c0_3228 : Index := 0#32
  let c0_3229 : Index := 0#32
  let c0_3230 : Index := 0#32
  ![v6983.toNat, 0, 0, 0]
def k0_off38 (i : grid0.Coords) (c0_i32_2088 : BitVec 32) : Fin 4 → Nat :=
  let c0_i32_2089 : BitVec 32 := 0#32
  let arg2 : BitVec 32 := BitVec.ofNat 32 (i 2).val
  let c0_i32_2081 : BitVec 32 := 0#32
  let v4934 : BitVec 1 := Scalar.cmpi .sgt arg2 c0_i32_2081
  let v4935 : BitVec 32 := Scalar.extui v4934
  let c0_i32_2082 : BitVec 32 := 0#32
  let v4936 : BitVec 1 := Scalar.cmpi .slt arg2 c0_i32_2082
  let v4937 : BitVec 32 := Scalar.extui v4936
  let v4938 : BitVec 32 := Scalar.subi v4935 v4937
  let c2_i32_2080 : BitVec 32 := 2#32
  let c0_i32_2083 : BitVec 32 := 0#32
  let v4939 : BitVec 1 := Scalar.cmpi .sgt c2_i32_2080 c0_i32_2083
  let v4940 : BitVec 32 := Scalar.extui v4939
  let c0_i32_2084 : BitVec 32 := 0#32
  let v4941 : BitVec 1 := Scalar.cmpi .slt c2_i32_2080 c0_i32_2084
  let v4942 : BitVec 32 := Scalar.extui v4941
  let v4943 : BitVec 32 := Scalar.subi v4940 v4942
  let v4944 : BitVec 1 := Scalar.cmpi .ne v4938 v4943
  let v4945 : BitVec 32 := Scalar.remsi arg2 c2_i32_2080
  let c0_i32_2085 : BitVec 32 := 0#32
  let v4946 : BitVec 1 := Scalar.cmpi .ne v4945 c0_i32_2085
  let v4947 : BitVec 1 := Scalar.andi v4944 v4946
  let v4933 : BitVec 32 := Scalar.divsi arg2 c2_i32_2080
  let c1_i32_2086 : BitVec 32 := 1#32
  let v4948 : BitVec 32 := Scalar.subi v4933 c1_i32_2086
  let v4949 : BitVec 32 := Scalar.select v4947 v4948 v4933
  let c1_i32_2087 : BitVec 32 := 1#32
  let v4950 : BitVec 32 := Scalar.addi v4949 c1_i32_2087
  let v4951 : BitVec 1 := Scalar.cmpi .sle v4950 c0_i32_2088
  let v4952 : BitVec 32 := Scalar.extui v4951
  let v4953 : BitVec 32 := Scalar.addi c0_i32_2089 v4952
  let v7025 : Index := Scalar.indexCast v4953
  let c1_3250 : Index := 1#32
  let c0_3251 : Index := 0#32
  let c0_3252 : Index := 0#32
  ![v7025.toNat, 1, 0, 0]
def k0_mult38 (i : grid0.Coords) : BitVec 32 :=
  let c7_i32 : BitVec 32 := 7#32
  let arg2 : BitVec 32 := BitVec.ofNat 32 (i 2).val
  let v1 : BitVec 32 := Scalar.subi c7_i32 arg2
  let c0_i32_3259 : BitVec 32 := 0#32
  let v7048 : BitVec 1 := Scalar.cmpi .sgt v1 c0_i32_3259
  let v7049 : BitVec 32 := Scalar.extui v7048
  let c0_i32_3260 : BitVec 32 := 0#32
  let v7050 : BitVec 1 := Scalar.cmpi .slt v1 c0_i32_3260
  let v7051 : BitVec 32 := Scalar.extui v7050
  let v7052 : BitVec 32 := Scalar.subi v7049 v7051
  let c2_i32_3258 : BitVec 32 := 2#32
  let c0_i32_3261 : BitVec 32 := 0#32
  let v7053 : BitVec 1 := Scalar.cmpi .sgt c2_i32_3258 c0_i32_3261
  let v7054 : BitVec 32 := Scalar.extui v7053
  let c0_i32_3262 : BitVec 32 := 0#32
  let v7055 : BitVec 1 := Scalar.cmpi .slt c2_i32_3258 c0_i32_3262
  let v7056 : BitVec 32 := Scalar.extui v7055
  let v7057 : BitVec 32 := Scalar.subi v7054 v7056
  let v7058 : BitVec 1 := Scalar.cmpi .ne v7052 v7057
  let v7059 : BitVec 32 := Scalar.remsi v1 c2_i32_3258
  let c0_i32_3263 : BitVec 32 := 0#32
  let v7060 : BitVec 1 := Scalar.cmpi .ne v7059 c0_i32_3263
  let v7061 : BitVec 1 := Scalar.andi v7058 v7060
  let v7047 : BitVec 32 := Scalar.divsi v1 c2_i32_3258
  let c1_i32_3264 : BitVec 32 := 1#32
  let v7062 : BitVec 32 := Scalar.subi v7047 c1_i32_3264
  let v7063 : BitVec 32 := Scalar.select v7061 v7062 v7047
  let c1_i32_3265 : BitVec 32 := 1#32
  let v7064 : BitVec 32 := Scalar.addi v7063 c1_i32_3265
  let c2_i32_3266 : BitVec 32 := 2#32
  let v7065 : BitVec 1 := Scalar.cmpi .sle v7064 c2_i32_3266
  let c2_i32_3268 : BitVec 32 := 2#32
  let v7068 : BitVec 32 := Scalar.subi c2_i32_3268 v7064
  let c2_i32_3269 : BitVec 32 := 2#32
  let v7069 : BitVec 32 := Scalar.select v7065 v7068 c2_i32_3269
  let c256_i32_3270 : BitVec 32 := 256#32
  let v7070 : BitVec 32 := Scalar.muli v7069 c256_i32_3270
  v7070
def k0_off39 (i : grid0.Coords) (c0_i32_2332 : BitVec 32) (c0_i32_2334 : BitVec 32) (c0_i32_2335 : BitVec 32) (c0_i32_3423 : BitVec 32) : Fin 3 → Nat :=
  let c7_i32 : BitVec 32 := 7#32
  let arg2 : BitVec 32 := BitVec.ofNat 32 (i 2).val
  let v1 : BitVec 32 := Scalar.subi c7_i32 arg2
  let c0_i32_2325 : BitVec 32 := 0#32
  let v5378 : BitVec 1 := Scalar.cmpi .sgt v1 c0_i32_2325
  let v5379 : BitVec 32 := Scalar.extui v5378
  let c0_i32_2326 : BitVec 32 := 0#32
  let v5380 : BitVec 1 := Scalar.cmpi .slt v1 c0_i32_2326
  let v5381 : BitVec 32 := Scalar.extui v5380
  let v5382 : BitVec 32 := Scalar.subi v5379 v5381
  let c2_i32_2324 : BitVec 32 := 2#32
  let c0_i32_2327 : BitVec 32 := 0#32
  let v5383 : BitVec 1 := Scalar.cmpi .sgt c2_i32_2324 c0_i32_2327
  let v5384 : BitVec 32 := Scalar.extui v5383
  let c0_i32_2328 : BitVec 32 := 0#32
  let v5385 : BitVec 1 := Scalar.cmpi .slt c2_i32_2324 c0_i32_2328
  let v5386 : BitVec 32 := Scalar.extui v5385
  let v5387 : BitVec 32 := Scalar.subi v5384 v5386
  let v5388 : BitVec 1 := Scalar.cmpi .ne v5382 v5387
  let v5389 : BitVec 32 := Scalar.remsi v1 c2_i32_2324
  let c0_i32_2329 : BitVec 32 := 0#32
  let v5390 : BitVec 1 := Scalar.cmpi .ne v5389 c0_i32_2329
  let v5391 : BitVec 1 := Scalar.andi v5388 v5390
  let v5377 : BitVec 32 := Scalar.divsi v1 c2_i32_2324
  let c1_i32_2330 : BitVec 32 := 1#32
  let v5392 : BitVec 32 := Scalar.subi v5377 c1_i32_2330
  let v5393 : BitVec 32 := Scalar.select v5391 v5392 v5377
  let c1_i32_2331 : BitVec 32 := 1#32
  let v5394 : BitVec 32 := Scalar.addi v5393 c1_i32_2331
  let v5395 : BitVec 1 := Scalar.cmpi .sle v5394 c0_i32_2332
  let v5398 : BitVec 32 := Scalar.subi c0_i32_2334 v5394
  let v5399 : BitVec 32 := Scalar.select v5395 v5398 c0_i32_2335
  let c2_i32_3422 : BitVec 32 := 2#32
  let v7309 : BitVec 32 := Scalar.muli v5399 c2_i32_3422
  let v7310 : BitVec 32 := Scalar.addi v7309 c0_i32_3423
  let v7311 : Index := Scalar.indexCast v7310
  let c0_3424 : Index := 0#32
  let c0_3425 : Index := 0#32
  ![v7311.toNat, 0, 0]
def k0_off39_at (r : Fin 18) : BitVec 32 × BitVec 32 × BitVec 32 × BitVec 32 :=
  if r.val < 9 then
    if r.val < 4 then
      if r.val < 2 then
        if r.val < 1 then
          (0#32, 0#32, 0#32, 0#32)
        else
          (0#32, 0#32, 0#32, 1#32)
      else
        if r.val < 3 then
          (1#32, 1#32, 1#32, 0#32)
        else
          (1#32, 1#32, 1#32, 1#32)
    else
      if r.val < 6 then
        if r.val < 5 then
          (2#32, 2#32, 2#32, 0#32)
        else
          (2#32, 2#32, 2#32, 1#32)
      else
        if r.val < 7 then
          (3#32, 3#32, 3#32, 0#32)
        else
          if r.val < 8 then
            (3#32, 3#32, 3#32, 1#32)
          else
            (4#32, 4#32, 4#32, 0#32)
  else
    if r.val < 13 then
      if r.val < 11 then
        if r.val < 10 then
          (4#32, 4#32, 4#32, 1#32)
        else
          (5#32, 5#32, 5#32, 0#32)
      else
        if r.val < 12 then
          (5#32, 5#32, 5#32, 1#32)
        else
          (6#32, 6#32, 6#32, 0#32)
    else
      if r.val < 15 then
        if r.val < 14 then
          (6#32, 6#32, 6#32, 1#32)
        else
          (7#32, 7#32, 7#32, 0#32)
      else
        if r.val < 16 then
          (7#32, 7#32, 7#32, 1#32)
        else
          if r.val < 17 then
            (8#32, 8#32, 8#32, 0#32)
          else
            (8#32, 8#32, 8#32, 1#32)
def k0_off40 (i : grid0.Coords) (c0_i32_2332 : BitVec 32) : Fin 4 → Nat :=
  let c2_i32_2333 : BitVec 32 := 2#32
  let c7_i32 : BitVec 32 := 7#32
  let arg2 : BitVec 32 := BitVec.ofNat 32 (i 2).val
  let v1 : BitVec 32 := Scalar.subi c7_i32 arg2
  let c0_i32_2325 : BitVec 32 := 0#32
  let v5378 : BitVec 1 := Scalar.cmpi .sgt v1 c0_i32_2325
  let v5379 : BitVec 32 := Scalar.extui v5378
  let c0_i32_2326 : BitVec 32 := 0#32
  let v5380 : BitVec 1 := Scalar.cmpi .slt v1 c0_i32_2326
  let v5381 : BitVec 32 := Scalar.extui v5380
  let v5382 : BitVec 32 := Scalar.subi v5379 v5381
  let c2_i32_2324 : BitVec 32 := 2#32
  let c0_i32_2327 : BitVec 32 := 0#32
  let v5383 : BitVec 1 := Scalar.cmpi .sgt c2_i32_2324 c0_i32_2327
  let v5384 : BitVec 32 := Scalar.extui v5383
  let c0_i32_2328 : BitVec 32 := 0#32
  let v5385 : BitVec 1 := Scalar.cmpi .slt c2_i32_2324 c0_i32_2328
  let v5386 : BitVec 32 := Scalar.extui v5385
  let v5387 : BitVec 32 := Scalar.subi v5384 v5386
  let v5388 : BitVec 1 := Scalar.cmpi .ne v5382 v5387
  let v5389 : BitVec 32 := Scalar.remsi v1 c2_i32_2324
  let c0_i32_2329 : BitVec 32 := 0#32
  let v5390 : BitVec 1 := Scalar.cmpi .ne v5389 c0_i32_2329
  let v5391 : BitVec 1 := Scalar.andi v5388 v5390
  let v5377 : BitVec 32 := Scalar.divsi v1 c2_i32_2324
  let c1_i32_2330 : BitVec 32 := 1#32
  let v5392 : BitVec 32 := Scalar.subi v5377 c1_i32_2330
  let v5393 : BitVec 32 := Scalar.select v5391 v5392 v5377
  let c1_i32_2331 : BitVec 32 := 1#32
  let v5394 : BitVec 32 := Scalar.addi v5393 c1_i32_2331
  let v5395 : BitVec 1 := Scalar.cmpi .sle v5394 c0_i32_2332
  let v5396 : BitVec 32 := Scalar.extui v5395
  let v5397 : BitVec 32 := Scalar.addi c2_i32_2333 v5396
  let v7321 : Index := Scalar.indexCast v5397
  let c0_3430 : Index := 0#32
  let c0_3431 : Index := 0#32
  let c0_3432 : Index := 0#32
  ![v7321.toNat, 0, 0, 0]
def k0_off41 (i : grid0.Coords) (c0_i32_2332 : BitVec 32) : Fin 4 → Nat :=
  let c2_i32_2333 : BitVec 32 := 2#32
  let c7_i32 : BitVec 32 := 7#32
  let arg2 : BitVec 32 := BitVec.ofNat 32 (i 2).val
  let v1 : BitVec 32 := Scalar.subi c7_i32 arg2
  let c0_i32_2325 : BitVec 32 := 0#32
  let v5378 : BitVec 1 := Scalar.cmpi .sgt v1 c0_i32_2325
  let v5379 : BitVec 32 := Scalar.extui v5378
  let c0_i32_2326 : BitVec 32 := 0#32
  let v5380 : BitVec 1 := Scalar.cmpi .slt v1 c0_i32_2326
  let v5381 : BitVec 32 := Scalar.extui v5380
  let v5382 : BitVec 32 := Scalar.subi v5379 v5381
  let c2_i32_2324 : BitVec 32 := 2#32
  let c0_i32_2327 : BitVec 32 := 0#32
  let v5383 : BitVec 1 := Scalar.cmpi .sgt c2_i32_2324 c0_i32_2327
  let v5384 : BitVec 32 := Scalar.extui v5383
  let c0_i32_2328 : BitVec 32 := 0#32
  let v5385 : BitVec 1 := Scalar.cmpi .slt c2_i32_2324 c0_i32_2328
  let v5386 : BitVec 32 := Scalar.extui v5385
  let v5387 : BitVec 32 := Scalar.subi v5384 v5386
  let v5388 : BitVec 1 := Scalar.cmpi .ne v5382 v5387
  let v5389 : BitVec 32 := Scalar.remsi v1 c2_i32_2324
  let c0_i32_2329 : BitVec 32 := 0#32
  let v5390 : BitVec 1 := Scalar.cmpi .ne v5389 c0_i32_2329
  let v5391 : BitVec 1 := Scalar.andi v5388 v5390
  let v5377 : BitVec 32 := Scalar.divsi v1 c2_i32_2324
  let c1_i32_2330 : BitVec 32 := 1#32
  let v5392 : BitVec 32 := Scalar.subi v5377 c1_i32_2330
  let v5393 : BitVec 32 := Scalar.select v5391 v5392 v5377
  let c1_i32_2331 : BitVec 32 := 1#32
  let v5394 : BitVec 32 := Scalar.addi v5393 c1_i32_2331
  let v5395 : BitVec 1 := Scalar.cmpi .sle v5394 c0_i32_2332
  let v5396 : BitVec 32 := Scalar.extui v5395
  let v5397 : BitVec 32 := Scalar.addi c2_i32_2333 v5396
  let v7363 : Index := Scalar.indexCast v5397
  let c1_3452 : Index := 1#32
  let c0_3453 : Index := 0#32
  let c0_3454 : Index := 0#32
  ![v7363.toNat, 1, 0, 0]
def k0_mult39 (i : grid0.Coords) : BitVec 32 :=
  let arg2 : BitVec 32 := BitVec.ofNat 32 (i 2).val
  let c0_i32_3461 : BitVec 32 := 0#32
  let v7386 : BitVec 1 := Scalar.cmpi .sgt arg2 c0_i32_3461
  let v7387 : BitVec 32 := Scalar.extui v7386
  let c0_i32_3462 : BitVec 32 := 0#32
  let v7388 : BitVec 1 := Scalar.cmpi .slt arg2 c0_i32_3462
  let v7389 : BitVec 32 := Scalar.extui v7388
  let v7390 : BitVec 32 := Scalar.subi v7387 v7389
  let c2_i32_3460 : BitVec 32 := 2#32
  let c0_i32_3463 : BitVec 32 := 0#32
  let v7391 : BitVec 1 := Scalar.cmpi .sgt c2_i32_3460 c0_i32_3463
  let v7392 : BitVec 32 := Scalar.extui v7391
  let c0_i32_3464 : BitVec 32 := 0#32
  let v7393 : BitVec 1 := Scalar.cmpi .slt c2_i32_3460 c0_i32_3464
  let v7394 : BitVec 32 := Scalar.extui v7393
  let v7395 : BitVec 32 := Scalar.subi v7392 v7394
  let v7396 : BitVec 1 := Scalar.cmpi .ne v7390 v7395
  let v7397 : BitVec 32 := Scalar.remsi arg2 c2_i32_3460
  let c0_i32_3465 : BitVec 32 := 0#32
  let v7398 : BitVec 1 := Scalar.cmpi .ne v7397 c0_i32_3465
  let v7399 : BitVec 1 := Scalar.andi v7396 v7398
  let v7385 : BitVec 32 := Scalar.divsi arg2 c2_i32_3460
  let c1_i32_3466 : BitVec 32 := 1#32
  let v7400 : BitVec 32 := Scalar.subi v7385 c1_i32_3466
  let v7401 : BitVec 32 := Scalar.select v7399 v7400 v7385
  let c1_i32_3467 : BitVec 32 := 1#32
  let v7402 : BitVec 32 := Scalar.addi v7401 c1_i32_3467
  let c3_i32_3468 : BitVec 32 := 3#32
  let v7403 : BitVec 1 := Scalar.cmpi .sle v7402 c3_i32_3468
  let c3_i32_3470 : BitVec 32 := 3#32
  let v7406 : BitVec 32 := Scalar.subi c3_i32_3470 v7402
  let c3_i32_3471 : BitVec 32 := 3#32
  let v7407 : BitVec 32 := Scalar.select v7403 v7406 c3_i32_3471
  let c256_i32_3472 : BitVec 32 := 256#32
  let v7408 : BitVec 32 := Scalar.muli v7407 c256_i32_3472
  v7408
def k0_mult40 (i : grid0.Coords) : BitVec 32 :=
  let c7_i32 : BitVec 32 := 7#32
  let arg2 : BitVec 32 := BitVec.ofNat 32 (i 2).val
  let v1 : BitVec 32 := Scalar.subi c7_i32 arg2
  let c0_i32_3663 : BitVec 32 := 0#32
  let v7724 : BitVec 1 := Scalar.cmpi .sgt v1 c0_i32_3663
  let v7725 : BitVec 32 := Scalar.extui v7724
  let c0_i32_3664 : BitVec 32 := 0#32
  let v7726 : BitVec 1 := Scalar.cmpi .slt v1 c0_i32_3664
  let v7727 : BitVec 32 := Scalar.extui v7726
  let v7728 : BitVec 32 := Scalar.subi v7725 v7727
  let c2_i32_3662 : BitVec 32 := 2#32
  let c0_i32_3665 : BitVec 32 := 0#32
  let v7729 : BitVec 1 := Scalar.cmpi .sgt c2_i32_3662 c0_i32_3665
  let v7730 : BitVec 32 := Scalar.extui v7729
  let c0_i32_3666 : BitVec 32 := 0#32
  let v7731 : BitVec 1 := Scalar.cmpi .slt c2_i32_3662 c0_i32_3666
  let v7732 : BitVec 32 := Scalar.extui v7731
  let v7733 : BitVec 32 := Scalar.subi v7730 v7732
  let v7734 : BitVec 1 := Scalar.cmpi .ne v7728 v7733
  let v7735 : BitVec 32 := Scalar.remsi v1 c2_i32_3662
  let c0_i32_3667 : BitVec 32 := 0#32
  let v7736 : BitVec 1 := Scalar.cmpi .ne v7735 c0_i32_3667
  let v7737 : BitVec 1 := Scalar.andi v7734 v7736
  let v7723 : BitVec 32 := Scalar.divsi v1 c2_i32_3662
  let c1_i32_3668 : BitVec 32 := 1#32
  let v7738 : BitVec 32 := Scalar.subi v7723 c1_i32_3668
  let v7739 : BitVec 32 := Scalar.select v7737 v7738 v7723
  let c1_i32_3669 : BitVec 32 := 1#32
  let v7740 : BitVec 32 := Scalar.addi v7739 c1_i32_3669
  let c3_i32_3670 : BitVec 32 := 3#32
  let v7741 : BitVec 1 := Scalar.cmpi .sle v7740 c3_i32_3670
  let c3_i32_3672 : BitVec 32 := 3#32
  let v7744 : BitVec 32 := Scalar.subi c3_i32_3672 v7740
  let c3_i32_3673 : BitVec 32 := 3#32
  let v7745 : BitVec 32 := Scalar.select v7741 v7744 c3_i32_3673
  let c256_i32_3674 : BitVec 32 := 256#32
  let v7746 : BitVec 32 := Scalar.muli v7745 c256_i32_3674
  v7746
def k0_mult41 (i : grid0.Coords) : BitVec 32 :=
  let arg2 : BitVec 32 := BitVec.ofNat 32 (i 2).val
  let c0_i32_3865 : BitVec 32 := 0#32
  let v8062 : BitVec 1 := Scalar.cmpi .sgt arg2 c0_i32_3865
  let v8063 : BitVec 32 := Scalar.extui v8062
  let c0_i32_3866 : BitVec 32 := 0#32
  let v8064 : BitVec 1 := Scalar.cmpi .slt arg2 c0_i32_3866
  let v8065 : BitVec 32 := Scalar.extui v8064
  let v8066 : BitVec 32 := Scalar.subi v8063 v8065
  let c2_i32_3864 : BitVec 32 := 2#32
  let c0_i32_3867 : BitVec 32 := 0#32
  let v8067 : BitVec 1 := Scalar.cmpi .sgt c2_i32_3864 c0_i32_3867
  let v8068 : BitVec 32 := Scalar.extui v8067
  let c0_i32_3868 : BitVec 32 := 0#32
  let v8069 : BitVec 1 := Scalar.cmpi .slt c2_i32_3864 c0_i32_3868
  let v8070 : BitVec 32 := Scalar.extui v8069
  let v8071 : BitVec 32 := Scalar.subi v8068 v8070
  let v8072 : BitVec 1 := Scalar.cmpi .ne v8066 v8071
  let v8073 : BitVec 32 := Scalar.remsi arg2 c2_i32_3864
  let c0_i32_3869 : BitVec 32 := 0#32
  let v8074 : BitVec 1 := Scalar.cmpi .ne v8073 c0_i32_3869
  let v8075 : BitVec 1 := Scalar.andi v8072 v8074
  let v8061 : BitVec 32 := Scalar.divsi arg2 c2_i32_3864
  let c1_i32_3870 : BitVec 32 := 1#32
  let v8076 : BitVec 32 := Scalar.subi v8061 c1_i32_3870
  let v8077 : BitVec 32 := Scalar.select v8075 v8076 v8061
  let c1_i32_3871 : BitVec 32 := 1#32
  let v8078 : BitVec 32 := Scalar.addi v8077 c1_i32_3871
  let c4_i32_3872 : BitVec 32 := 4#32
  let v8079 : BitVec 1 := Scalar.cmpi .sle v8078 c4_i32_3872
  let c4_i32_3874 : BitVec 32 := 4#32
  let v8082 : BitVec 32 := Scalar.subi c4_i32_3874 v8078
  let c4_i32_3875 : BitVec 32 := 4#32
  let v8083 : BitVec 32 := Scalar.select v8079 v8082 c4_i32_3875
  let c256_i32_3876 : BitVec 32 := 256#32
  let v8084 : BitVec 32 := Scalar.muli v8083 c256_i32_3876
  v8084
def k0_mult42 (i : grid0.Coords) : BitVec 32 :=
  let c7_i32 : BitVec 32 := 7#32
  let arg2 : BitVec 32 := BitVec.ofNat 32 (i 2).val
  let v1 : BitVec 32 := Scalar.subi c7_i32 arg2
  let c0_i32_4067 : BitVec 32 := 0#32
  let v8400 : BitVec 1 := Scalar.cmpi .sgt v1 c0_i32_4067
  let v8401 : BitVec 32 := Scalar.extui v8400
  let c0_i32_4068 : BitVec 32 := 0#32
  let v8402 : BitVec 1 := Scalar.cmpi .slt v1 c0_i32_4068
  let v8403 : BitVec 32 := Scalar.extui v8402
  let v8404 : BitVec 32 := Scalar.subi v8401 v8403
  let c2_i32_4066 : BitVec 32 := 2#32
  let c0_i32_4069 : BitVec 32 := 0#32
  let v8405 : BitVec 1 := Scalar.cmpi .sgt c2_i32_4066 c0_i32_4069
  let v8406 : BitVec 32 := Scalar.extui v8405
  let c0_i32_4070 : BitVec 32 := 0#32
  let v8407 : BitVec 1 := Scalar.cmpi .slt c2_i32_4066 c0_i32_4070
  let v8408 : BitVec 32 := Scalar.extui v8407
  let v8409 : BitVec 32 := Scalar.subi v8406 v8408
  let v8410 : BitVec 1 := Scalar.cmpi .ne v8404 v8409
  let v8411 : BitVec 32 := Scalar.remsi v1 c2_i32_4066
  let c0_i32_4071 : BitVec 32 := 0#32
  let v8412 : BitVec 1 := Scalar.cmpi .ne v8411 c0_i32_4071
  let v8413 : BitVec 1 := Scalar.andi v8410 v8412
  let v8399 : BitVec 32 := Scalar.divsi v1 c2_i32_4066
  let c1_i32_4072 : BitVec 32 := 1#32
  let v8414 : BitVec 32 := Scalar.subi v8399 c1_i32_4072
  let v8415 : BitVec 32 := Scalar.select v8413 v8414 v8399
  let c1_i32_4073 : BitVec 32 := 1#32
  let v8416 : BitVec 32 := Scalar.addi v8415 c1_i32_4073
  let c4_i32_4074 : BitVec 32 := 4#32
  let v8417 : BitVec 1 := Scalar.cmpi .sle v8416 c4_i32_4074
  let c4_i32_4076 : BitVec 32 := 4#32
  let v8420 : BitVec 32 := Scalar.subi c4_i32_4076 v8416
  let c4_i32_4077 : BitVec 32 := 4#32
  let v8421 : BitVec 32 := Scalar.select v8417 v8420 c4_i32_4077
  let c256_i32_4078 : BitVec 32 := 256#32
  let v8422 : BitVec 32 := Scalar.muli v8421 c256_i32_4078
  v8422
def k0_mult43 (i : grid0.Coords) : BitVec 32 :=
  let arg2 : BitVec 32 := BitVec.ofNat 32 (i 2).val
  let c0_i32_4269 : BitVec 32 := 0#32
  let v8738 : BitVec 1 := Scalar.cmpi .sgt arg2 c0_i32_4269
  let v8739 : BitVec 32 := Scalar.extui v8738
  let c0_i32_4270 : BitVec 32 := 0#32
  let v8740 : BitVec 1 := Scalar.cmpi .slt arg2 c0_i32_4270
  let v8741 : BitVec 32 := Scalar.extui v8740
  let v8742 : BitVec 32 := Scalar.subi v8739 v8741
  let c2_i32_4268 : BitVec 32 := 2#32
  let c0_i32_4271 : BitVec 32 := 0#32
  let v8743 : BitVec 1 := Scalar.cmpi .sgt c2_i32_4268 c0_i32_4271
  let v8744 : BitVec 32 := Scalar.extui v8743
  let c0_i32_4272 : BitVec 32 := 0#32
  let v8745 : BitVec 1 := Scalar.cmpi .slt c2_i32_4268 c0_i32_4272
  let v8746 : BitVec 32 := Scalar.extui v8745
  let v8747 : BitVec 32 := Scalar.subi v8744 v8746
  let v8748 : BitVec 1 := Scalar.cmpi .ne v8742 v8747
  let v8749 : BitVec 32 := Scalar.remsi arg2 c2_i32_4268
  let c0_i32_4273 : BitVec 32 := 0#32
  let v8750 : BitVec 1 := Scalar.cmpi .ne v8749 c0_i32_4273
  let v8751 : BitVec 1 := Scalar.andi v8748 v8750
  let v8737 : BitVec 32 := Scalar.divsi arg2 c2_i32_4268
  let c1_i32_4274 : BitVec 32 := 1#32
  let v8752 : BitVec 32 := Scalar.subi v8737 c1_i32_4274
  let v8753 : BitVec 32 := Scalar.select v8751 v8752 v8737
  let c1_i32_4275 : BitVec 32 := 1#32
  let v8754 : BitVec 32 := Scalar.addi v8753 c1_i32_4275
  let c5_i32_4276 : BitVec 32 := 5#32
  let v8755 : BitVec 1 := Scalar.cmpi .sle v8754 c5_i32_4276
  let c5_i32_4278 : BitVec 32 := 5#32
  let v8758 : BitVec 32 := Scalar.subi c5_i32_4278 v8754
  let c5_i32_4279 : BitVec 32 := 5#32
  let v8759 : BitVec 32 := Scalar.select v8755 v8758 c5_i32_4279
  let c256_i32_4280 : BitVec 32 := 256#32
  let v8760 : BitVec 32 := Scalar.muli v8759 c256_i32_4280
  v8760
def k0_mult44 (i : grid0.Coords) : BitVec 32 :=
  let c7_i32 : BitVec 32 := 7#32
  let arg2 : BitVec 32 := BitVec.ofNat 32 (i 2).val
  let v1 : BitVec 32 := Scalar.subi c7_i32 arg2
  let c0_i32_4471 : BitVec 32 := 0#32
  let v9076 : BitVec 1 := Scalar.cmpi .sgt v1 c0_i32_4471
  let v9077 : BitVec 32 := Scalar.extui v9076
  let c0_i32_4472 : BitVec 32 := 0#32
  let v9078 : BitVec 1 := Scalar.cmpi .slt v1 c0_i32_4472
  let v9079 : BitVec 32 := Scalar.extui v9078
  let v9080 : BitVec 32 := Scalar.subi v9077 v9079
  let c2_i32_4470 : BitVec 32 := 2#32
  let c0_i32_4473 : BitVec 32 := 0#32
  let v9081 : BitVec 1 := Scalar.cmpi .sgt c2_i32_4470 c0_i32_4473
  let v9082 : BitVec 32 := Scalar.extui v9081
  let c0_i32_4474 : BitVec 32 := 0#32
  let v9083 : BitVec 1 := Scalar.cmpi .slt c2_i32_4470 c0_i32_4474
  let v9084 : BitVec 32 := Scalar.extui v9083
  let v9085 : BitVec 32 := Scalar.subi v9082 v9084
  let v9086 : BitVec 1 := Scalar.cmpi .ne v9080 v9085
  let v9087 : BitVec 32 := Scalar.remsi v1 c2_i32_4470
  let c0_i32_4475 : BitVec 32 := 0#32
  let v9088 : BitVec 1 := Scalar.cmpi .ne v9087 c0_i32_4475
  let v9089 : BitVec 1 := Scalar.andi v9086 v9088
  let v9075 : BitVec 32 := Scalar.divsi v1 c2_i32_4470
  let c1_i32_4476 : BitVec 32 := 1#32
  let v9090 : BitVec 32 := Scalar.subi v9075 c1_i32_4476
  let v9091 : BitVec 32 := Scalar.select v9089 v9090 v9075
  let c1_i32_4477 : BitVec 32 := 1#32
  let v9092 : BitVec 32 := Scalar.addi v9091 c1_i32_4477
  let c5_i32_4478 : BitVec 32 := 5#32
  let v9093 : BitVec 1 := Scalar.cmpi .sle v9092 c5_i32_4478
  let c5_i32_4480 : BitVec 32 := 5#32
  let v9096 : BitVec 32 := Scalar.subi c5_i32_4480 v9092
  let c5_i32_4481 : BitVec 32 := 5#32
  let v9097 : BitVec 32 := Scalar.select v9093 v9096 c5_i32_4481
  let c256_i32_4482 : BitVec 32 := 256#32
  let v9098 : BitVec 32 := Scalar.muli v9097 c256_i32_4482
  v9098
def k0_mult45 (i : grid0.Coords) : BitVec 32 :=
  let arg2 : BitVec 32 := BitVec.ofNat 32 (i 2).val
  let c0_i32_4673 : BitVec 32 := 0#32
  let v9414 : BitVec 1 := Scalar.cmpi .sgt arg2 c0_i32_4673
  let v9415 : BitVec 32 := Scalar.extui v9414
  let c0_i32_4674 : BitVec 32 := 0#32
  let v9416 : BitVec 1 := Scalar.cmpi .slt arg2 c0_i32_4674
  let v9417 : BitVec 32 := Scalar.extui v9416
  let v9418 : BitVec 32 := Scalar.subi v9415 v9417
  let c2_i32_4672 : BitVec 32 := 2#32
  let c0_i32_4675 : BitVec 32 := 0#32
  let v9419 : BitVec 1 := Scalar.cmpi .sgt c2_i32_4672 c0_i32_4675
  let v9420 : BitVec 32 := Scalar.extui v9419
  let c0_i32_4676 : BitVec 32 := 0#32
  let v9421 : BitVec 1 := Scalar.cmpi .slt c2_i32_4672 c0_i32_4676
  let v9422 : BitVec 32 := Scalar.extui v9421
  let v9423 : BitVec 32 := Scalar.subi v9420 v9422
  let v9424 : BitVec 1 := Scalar.cmpi .ne v9418 v9423
  let v9425 : BitVec 32 := Scalar.remsi arg2 c2_i32_4672
  let c0_i32_4677 : BitVec 32 := 0#32
  let v9426 : BitVec 1 := Scalar.cmpi .ne v9425 c0_i32_4677
  let v9427 : BitVec 1 := Scalar.andi v9424 v9426
  let v9413 : BitVec 32 := Scalar.divsi arg2 c2_i32_4672
  let c1_i32_4678 : BitVec 32 := 1#32
  let v9428 : BitVec 32 := Scalar.subi v9413 c1_i32_4678
  let v9429 : BitVec 32 := Scalar.select v9427 v9428 v9413
  let c1_i32_4679 : BitVec 32 := 1#32
  let v9430 : BitVec 32 := Scalar.addi v9429 c1_i32_4679
  let c6_i32_4680 : BitVec 32 := 6#32
  let v9431 : BitVec 1 := Scalar.cmpi .sle v9430 c6_i32_4680
  let c6_i32_4682 : BitVec 32 := 6#32
  let v9434 : BitVec 32 := Scalar.subi c6_i32_4682 v9430
  let c6_i32_4683 : BitVec 32 := 6#32
  let v9435 : BitVec 32 := Scalar.select v9431 v9434 c6_i32_4683
  let c256_i32_4684 : BitVec 32 := 256#32
  let v9436 : BitVec 32 := Scalar.muli v9435 c256_i32_4684
  v9436
def k0_mult46 (i : grid0.Coords) : BitVec 32 :=
  let c7_i32 : BitVec 32 := 7#32
  let arg2 : BitVec 32 := BitVec.ofNat 32 (i 2).val
  let v1 : BitVec 32 := Scalar.subi c7_i32 arg2
  let c0_i32_4875 : BitVec 32 := 0#32
  let v9752 : BitVec 1 := Scalar.cmpi .sgt v1 c0_i32_4875
  let v9753 : BitVec 32 := Scalar.extui v9752
  let c0_i32_4876 : BitVec 32 := 0#32
  let v9754 : BitVec 1 := Scalar.cmpi .slt v1 c0_i32_4876
  let v9755 : BitVec 32 := Scalar.extui v9754
  let v9756 : BitVec 32 := Scalar.subi v9753 v9755
  let c2_i32_4874 : BitVec 32 := 2#32
  let c0_i32_4877 : BitVec 32 := 0#32
  let v9757 : BitVec 1 := Scalar.cmpi .sgt c2_i32_4874 c0_i32_4877
  let v9758 : BitVec 32 := Scalar.extui v9757
  let c0_i32_4878 : BitVec 32 := 0#32
  let v9759 : BitVec 1 := Scalar.cmpi .slt c2_i32_4874 c0_i32_4878
  let v9760 : BitVec 32 := Scalar.extui v9759
  let v9761 : BitVec 32 := Scalar.subi v9758 v9760
  let v9762 : BitVec 1 := Scalar.cmpi .ne v9756 v9761
  let v9763 : BitVec 32 := Scalar.remsi v1 c2_i32_4874
  let c0_i32_4879 : BitVec 32 := 0#32
  let v9764 : BitVec 1 := Scalar.cmpi .ne v9763 c0_i32_4879
  let v9765 : BitVec 1 := Scalar.andi v9762 v9764
  let v9751 : BitVec 32 := Scalar.divsi v1 c2_i32_4874
  let c1_i32_4880 : BitVec 32 := 1#32
  let v9766 : BitVec 32 := Scalar.subi v9751 c1_i32_4880
  let v9767 : BitVec 32 := Scalar.select v9765 v9766 v9751
  let c1_i32_4881 : BitVec 32 := 1#32
  let v9768 : BitVec 32 := Scalar.addi v9767 c1_i32_4881
  let c6_i32_4882 : BitVec 32 := 6#32
  let v9769 : BitVec 1 := Scalar.cmpi .sle v9768 c6_i32_4882
  let c6_i32_4884 : BitVec 32 := 6#32
  let v9772 : BitVec 32 := Scalar.subi c6_i32_4884 v9768
  let c6_i32_4885 : BitVec 32 := 6#32
  let v9773 : BitVec 32 := Scalar.select v9769 v9772 c6_i32_4885
  let c256_i32_4886 : BitVec 32 := 256#32
  let v9774 : BitVec 32 := Scalar.muli v9773 c256_i32_4886
  v9774
def k0_mult47 (i : grid0.Coords) : BitVec 32 :=
  let arg2 : BitVec 32 := BitVec.ofNat 32 (i 2).val
  let c0_i32_5077 : BitVec 32 := 0#32
  let v10090 : BitVec 1 := Scalar.cmpi .sgt arg2 c0_i32_5077
  let v10091 : BitVec 32 := Scalar.extui v10090
  let c0_i32_5078 : BitVec 32 := 0#32
  let v10092 : BitVec 1 := Scalar.cmpi .slt arg2 c0_i32_5078
  let v10093 : BitVec 32 := Scalar.extui v10092
  let v10094 : BitVec 32 := Scalar.subi v10091 v10093
  let c2_i32_5076 : BitVec 32 := 2#32
  let c0_i32_5079 : BitVec 32 := 0#32
  let v10095 : BitVec 1 := Scalar.cmpi .sgt c2_i32_5076 c0_i32_5079
  let v10096 : BitVec 32 := Scalar.extui v10095
  let c0_i32_5080 : BitVec 32 := 0#32
  let v10097 : BitVec 1 := Scalar.cmpi .slt c2_i32_5076 c0_i32_5080
  let v10098 : BitVec 32 := Scalar.extui v10097
  let v10099 : BitVec 32 := Scalar.subi v10096 v10098
  let v10100 : BitVec 1 := Scalar.cmpi .ne v10094 v10099
  let v10101 : BitVec 32 := Scalar.remsi arg2 c2_i32_5076
  let c0_i32_5081 : BitVec 32 := 0#32
  let v10102 : BitVec 1 := Scalar.cmpi .ne v10101 c0_i32_5081
  let v10103 : BitVec 1 := Scalar.andi v10100 v10102
  let v10089 : BitVec 32 := Scalar.divsi arg2 c2_i32_5076
  let c1_i32_5082 : BitVec 32 := 1#32
  let v10104 : BitVec 32 := Scalar.subi v10089 c1_i32_5082
  let v10105 : BitVec 32 := Scalar.select v10103 v10104 v10089
  let c1_i32_5083 : BitVec 32 := 1#32
  let v10106 : BitVec 32 := Scalar.addi v10105 c1_i32_5083
  let c7_i32_5084 : BitVec 32 := 7#32
  let v10107 : BitVec 1 := Scalar.cmpi .sle v10106 c7_i32_5084
  let c7_i32_5086 : BitVec 32 := 7#32
  let v10110 : BitVec 32 := Scalar.subi c7_i32_5086 v10106
  let c7_i32_5087 : BitVec 32 := 7#32
  let v10111 : BitVec 32 := Scalar.select v10107 v10110 c7_i32_5087
  let c256_i32_5088 : BitVec 32 := 256#32
  let v10112 : BitVec 32 := Scalar.muli v10111 c256_i32_5088
  v10112
def k0_mult48 (i : grid0.Coords) : BitVec 32 :=
  let c7_i32 : BitVec 32 := 7#32
  let arg2 : BitVec 32 := BitVec.ofNat 32 (i 2).val
  let v1 : BitVec 32 := Scalar.subi c7_i32 arg2
  let c0_i32_5279 : BitVec 32 := 0#32
  let v10428 : BitVec 1 := Scalar.cmpi .sgt v1 c0_i32_5279
  let v10429 : BitVec 32 := Scalar.extui v10428
  let c0_i32_5280 : BitVec 32 := 0#32
  let v10430 : BitVec 1 := Scalar.cmpi .slt v1 c0_i32_5280
  let v10431 : BitVec 32 := Scalar.extui v10430
  let v10432 : BitVec 32 := Scalar.subi v10429 v10431
  let c2_i32_5278 : BitVec 32 := 2#32
  let c0_i32_5281 : BitVec 32 := 0#32
  let v10433 : BitVec 1 := Scalar.cmpi .sgt c2_i32_5278 c0_i32_5281
  let v10434 : BitVec 32 := Scalar.extui v10433
  let c0_i32_5282 : BitVec 32 := 0#32
  let v10435 : BitVec 1 := Scalar.cmpi .slt c2_i32_5278 c0_i32_5282
  let v10436 : BitVec 32 := Scalar.extui v10435
  let v10437 : BitVec 32 := Scalar.subi v10434 v10436
  let v10438 : BitVec 1 := Scalar.cmpi .ne v10432 v10437
  let v10439 : BitVec 32 := Scalar.remsi v1 c2_i32_5278
  let c0_i32_5283 : BitVec 32 := 0#32
  let v10440 : BitVec 1 := Scalar.cmpi .ne v10439 c0_i32_5283
  let v10441 : BitVec 1 := Scalar.andi v10438 v10440
  let v10427 : BitVec 32 := Scalar.divsi v1 c2_i32_5278
  let c1_i32_5284 : BitVec 32 := 1#32
  let v10442 : BitVec 32 := Scalar.subi v10427 c1_i32_5284
  let v10443 : BitVec 32 := Scalar.select v10441 v10442 v10427
  let c1_i32_5285 : BitVec 32 := 1#32
  let v10444 : BitVec 32 := Scalar.addi v10443 c1_i32_5285
  let c7_i32_5286 : BitVec 32 := 7#32
  let v10445 : BitVec 1 := Scalar.cmpi .sle v10444 c7_i32_5286
  let c7_i32_5288 : BitVec 32 := 7#32
  let v10448 : BitVec 32 := Scalar.subi c7_i32_5288 v10444
  let c7_i32_5289 : BitVec 32 := 7#32
  let v10449 : BitVec 32 := Scalar.select v10445 v10448 c7_i32_5289
  let c256_i32_5290 : BitVec 32 := 256#32
  let v10450 : BitVec 32 := Scalar.muli v10449 c256_i32_5290
  v10450
def k0_mult49 (i : grid0.Coords) : BitVec 32 :=
  let arg2 : BitVec 32 := BitVec.ofNat 32 (i 2).val
  let c0_i32_5481 : BitVec 32 := 0#32
  let v10766 : BitVec 1 := Scalar.cmpi .sgt arg2 c0_i32_5481
  let v10767 : BitVec 32 := Scalar.extui v10766
  let c0_i32_5482 : BitVec 32 := 0#32
  let v10768 : BitVec 1 := Scalar.cmpi .slt arg2 c0_i32_5482
  let v10769 : BitVec 32 := Scalar.extui v10768
  let v10770 : BitVec 32 := Scalar.subi v10767 v10769
  let c2_i32_5480 : BitVec 32 := 2#32
  let c0_i32_5483 : BitVec 32 := 0#32
  let v10771 : BitVec 1 := Scalar.cmpi .sgt c2_i32_5480 c0_i32_5483
  let v10772 : BitVec 32 := Scalar.extui v10771
  let c0_i32_5484 : BitVec 32 := 0#32
  let v10773 : BitVec 1 := Scalar.cmpi .slt c2_i32_5480 c0_i32_5484
  let v10774 : BitVec 32 := Scalar.extui v10773
  let v10775 : BitVec 32 := Scalar.subi v10772 v10774
  let v10776 : BitVec 1 := Scalar.cmpi .ne v10770 v10775
  let v10777 : BitVec 32 := Scalar.remsi arg2 c2_i32_5480
  let c0_i32_5485 : BitVec 32 := 0#32
  let v10778 : BitVec 1 := Scalar.cmpi .ne v10777 c0_i32_5485
  let v10779 : BitVec 1 := Scalar.andi v10776 v10778
  let v10765 : BitVec 32 := Scalar.divsi arg2 c2_i32_5480
  let c1_i32_5486 : BitVec 32 := 1#32
  let v10780 : BitVec 32 := Scalar.subi v10765 c1_i32_5486
  let v10781 : BitVec 32 := Scalar.select v10779 v10780 v10765
  let c1_i32_5487 : BitVec 32 := 1#32
  let v10782 : BitVec 32 := Scalar.addi v10781 c1_i32_5487
  let c8_i32_5488 : BitVec 32 := 8#32
  let v10783 : BitVec 1 := Scalar.cmpi .sle v10782 c8_i32_5488
  let c8_i32_5490 : BitVec 32 := 8#32
  let v10786 : BitVec 32 := Scalar.subi c8_i32_5490 v10782
  let c8_i32_5491 : BitVec 32 := 8#32
  let v10787 : BitVec 32 := Scalar.select v10783 v10786 c8_i32_5491
  let c256_i32_5492 : BitVec 32 := 256#32
  let v10788 : BitVec 32 := Scalar.muli v10787 c256_i32_5492
  v10788
def k0_mult50 (i : grid0.Coords) : BitVec 32 :=
  let c7_i32 : BitVec 32 := 7#32
  let arg2 : BitVec 32 := BitVec.ofNat 32 (i 2).val
  let v1 : BitVec 32 := Scalar.subi c7_i32 arg2
  let c0_i32_5683 : BitVec 32 := 0#32
  let v11104 : BitVec 1 := Scalar.cmpi .sgt v1 c0_i32_5683
  let v11105 : BitVec 32 := Scalar.extui v11104
  let c0_i32_5684 : BitVec 32 := 0#32
  let v11106 : BitVec 1 := Scalar.cmpi .slt v1 c0_i32_5684
  let v11107 : BitVec 32 := Scalar.extui v11106
  let v11108 : BitVec 32 := Scalar.subi v11105 v11107
  let c2_i32_5682 : BitVec 32 := 2#32
  let c0_i32_5685 : BitVec 32 := 0#32
  let v11109 : BitVec 1 := Scalar.cmpi .sgt c2_i32_5682 c0_i32_5685
  let v11110 : BitVec 32 := Scalar.extui v11109
  let c0_i32_5686 : BitVec 32 := 0#32
  let v11111 : BitVec 1 := Scalar.cmpi .slt c2_i32_5682 c0_i32_5686
  let v11112 : BitVec 32 := Scalar.extui v11111
  let v11113 : BitVec 32 := Scalar.subi v11110 v11112
  let v11114 : BitVec 1 := Scalar.cmpi .ne v11108 v11113
  let v11115 : BitVec 32 := Scalar.remsi v1 c2_i32_5682
  let c0_i32_5687 : BitVec 32 := 0#32
  let v11116 : BitVec 1 := Scalar.cmpi .ne v11115 c0_i32_5687
  let v11117 : BitVec 1 := Scalar.andi v11114 v11116
  let v11103 : BitVec 32 := Scalar.divsi v1 c2_i32_5682
  let c1_i32_5688 : BitVec 32 := 1#32
  let v11118 : BitVec 32 := Scalar.subi v11103 c1_i32_5688
  let v11119 : BitVec 32 := Scalar.select v11117 v11118 v11103
  let c1_i32_5689 : BitVec 32 := 1#32
  let v11120 : BitVec 32 := Scalar.addi v11119 c1_i32_5689
  let c8_i32_5690 : BitVec 32 := 8#32
  let v11121 : BitVec 1 := Scalar.cmpi .sle v11120 c8_i32_5690
  let c8_i32_5692 : BitVec 32 := 8#32
  let v11124 : BitVec 32 := Scalar.subi c8_i32_5692 v11120
  let c8_i32_5693 : BitVec 32 := 8#32
  let v11125 : BitVec 32 := Scalar.select v11121 v11124 c8_i32_5693
  let c256_i32_5694 : BitVec 32 := 256#32
  let v11126 : BitVec 32 := Scalar.muli v11125 c256_i32_5694
  v11126
def k0_off42 (i : grid0.Coords) : Fin 3 → Nat :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c1_i32_88 : BitVec 32 := 1#32
  let v148 : BitVec 32 := Scalar.minsi v3 c1_i32_88
  let v11638 : Index := Scalar.indexCast v148
  let c0_5983 : Index := 0#32
  let c0_5984 : Index := 0#32
  ![v11638.toNat, 0, 0]
def k0_off43 (i : grid0.Coords) : Fin 3 → Nat :=
  let c0_5985 : Index := 0#32
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c128_i32_84 : BitVec 32 := 128#32
  let v142 : BitVec 32 := Scalar.subi v7 c128_i32_84
  let c0_i32_85 : BitVec 32 := 0#32
  let v143 : BitVec 32 := Scalar.maxsi v142 c0_i32_85
  let v144 : BitVec 32 := v143
  let v11641 : Index := Scalar.indexCast v144
  let c0_5986 : Index := 0#32
  ![0, v11641.toNat, 0]
def k0_off44 (i : grid0.Coords) (c0_i32_6231 : BitVec 32) : Fin 3 → Nat :=
  let c15_i32_1 : BitVec 32 := 15#32
  let c7_i32_0 : BitVec 32 := 7#32
  let arg2 : BitVec 32 := BitVec.ofNat 32 (i 2).val
  let v2 : BitVec 32 := Scalar.subi c7_i32_0 arg2
  let v3 : BitVec 32 := Scalar.subi c15_i32_1 v2
  let c128_i32_4 : BitVec 32 := 128#32
  let v7 : BitVec 32 := Scalar.muli v3 c128_i32_4
  let c128_i32_84 : BitVec 32 := 128#32
  let v142 : BitVec 32 := Scalar.subi v7 c128_i32_84
  let c0_i32_85 : BitVec 32 := 0#32
  let v143 : BitVec 32 := Scalar.maxsi v142 c0_i32_85
  let v144 : BitVec 32 := v143
  let c0_i32_6225 : BitVec 32 := 0#32
  let v12166 : BitVec 1 := Scalar.cmpi .sgt v144 c0_i32_6225
  let v12167 : BitVec 32 := Scalar.extui v12166
  let c0_i32_6226 : BitVec 32 := 0#32
  let v12168 : BitVec 1 := Scalar.cmpi .slt v144 c0_i32_6226
  let v12169 : BitVec 32 := Scalar.extui v12168
  let v12170 : BitVec 32 := Scalar.subi v12167 v12169
  let c128_i32_6224 : BitVec 32 := 128#32
  let c0_i32_6227 : BitVec 32 := 0#32
  let v12171 : BitVec 1 := Scalar.cmpi .sgt c128_i32_6224 c0_i32_6227
  let v12172 : BitVec 32 := Scalar.extui v12171
  let c0_i32_6228 : BitVec 32 := 0#32
  let v12173 : BitVec 1 := Scalar.cmpi .slt c128_i32_6224 c0_i32_6228
  let v12174 : BitVec 32 := Scalar.extui v12173
  let v12175 : BitVec 32 := Scalar.subi v12172 v12174
  let v12176 : BitVec 1 := Scalar.cmpi .ne v12170 v12175
  let v12177 : BitVec 32 := Scalar.remsi v144 c128_i32_6224
  let c0_i32_6229 : BitVec 32 := 0#32
  let v12178 : BitVec 1 := Scalar.cmpi .ne v12177 c0_i32_6229
  let v12179 : BitVec 1 := Scalar.andi v12176 v12178
  let v12165 : BitVec 32 := Scalar.divsi v144 c128_i32_6224
  let c1_i32_6230 : BitVec 32 := 1#32
  let v12180 : BitVec 32 := Scalar.subi v12165 c1_i32_6230
  let v12181 : BitVec 32 := Scalar.select v12179 v12180 v12165
  let v12182 : BitVec 32 := Scalar.addi v12181 c0_i32_6231
  let v12183 : Index := Scalar.indexCast v12182
  let c0_6232 : Index := 0#32
  let c0_6233 : Index := 0#32
  ![v12183.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let v1 : BitVec 32 := Scalar.addi c0_i32 arg1
  let c0_i32_0 : BitVec 32 := 0#32
  ![arg0.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  let v1 : BitVec 32 := Scalar.addi c0_i32 arg1
  let c0_i32_0 : BitVec 32 := 0#32
  ![arg0.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c15_i32 : BitVec 32 := 15#32
  let v1 : BitVec 32 := Scalar.subi c15_i32 v0
  let c0_i32 : BitVec 32 := 0#32
  let v2 : BitVec 32 := Scalar.addi c0_i32 arg1
  let c0_i32_0 : BitVec 32 := 0#32
  ![arg0.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let c0_i32 : BitVec 32 := 0#32
  ![arg0.toNat, arg2.toNat, c14_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c14_i32 : BitVec 32 := 14#32
  let c0_i32 : BitVec 32 := 0#32
  ![arg0.toNat, v0.toNat, c14_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c14_i32 : BitVec 32 := 14#32
  let c0_i32 : BitVec 32 := 0#32
  ![arg0.toNat, v0.toNat, c14_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c15_i32 : BitVec 32 := 15#32
  let v1 : BitVec 32 := Scalar.subi c15_i32 v0
  let c14_i32 : BitVec 32 := 14#32
  let c0_i32 : BitVec 32 := 0#32
  ![arg0.toNat, v1.toNat, c14_i32.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c1_i32 : BitVec 32 := 1#32
  let v1 : BitVec 32 := Scalar.addi c1_i32 arg1
  let c0_i32 : BitVec 32 := 0#32
  ![arg0.toNat, v0.toNat, v1.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c1_i32 : BitVec 32 := 1#32
  let v1 : BitVec 32 := Scalar.addi c1_i32 arg1
  let c0_i32 : BitVec 32 := 0#32
  ![arg0.toNat, v0.toNat, v1.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c15_i32 : BitVec 32 := 15#32
  let v1 : BitVec 32 := Scalar.subi c15_i32 v0
  let c1_i32 : BitVec 32 := 1#32
  let v2 : BitVec 32 := Scalar.addi c1_i32 arg1
  let c0_i32 : BitVec 32 := 0#32
  ![arg0.toNat, v1.toNat, v2.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_23 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c2_i32 : BitVec 32 := 2#32
  let v1 : BitVec 32 := Scalar.addi c2_i32 arg1
  let c0_i32 : BitVec 32 := 0#32
  ![arg0.toNat, v0.toNat, v1.toNat]

def cc0_transform_24 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c2_i32 : BitVec 32 := 2#32
  let v1 : BitVec 32 := Scalar.addi c2_i32 arg1
  let c0_i32 : BitVec 32 := 0#32
  ![arg0.toNat, v0.toNat, v1.toNat]

def cc0_transform_25 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c15_i32 : BitVec 32 := 15#32
  let v1 : BitVec 32 := Scalar.subi c15_i32 v0
  let c2_i32 : BitVec 32 := 2#32
  let v2 : BitVec 32 := Scalar.addi c2_i32 arg1
  let c0_i32 : BitVec 32 := 0#32
  ![arg0.toNat, v1.toNat, v2.toNat]

def cc0_transform_26 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_27 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c15_i32 : BitVec 32 := 15#32
  let c0_i32_0 : BitVec 32 := 0#32
  ![arg0.toNat, c0_i32.toNat, c15_i32.toNat]

def cc0_transform_28 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_29 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let v1 : BitVec 32 := Scalar.addi c0_i32 arg1
  let c0_i32_0 : BitVec 32 := 0#32
  ![arg0.toNat, v0.toNat, v1.toNat]

def cc0_transform_30 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  let v1 : BitVec 32 := Scalar.addi c0_i32 arg1
  let c0_i32_0 : BitVec 32 := 0#32
  ![arg0.toNat, v0.toNat, v1.toNat]

def cc0_transform_31 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c15_i32 : BitVec 32 := 15#32
  let v1 : BitVec 32 := Scalar.subi c15_i32 v0
  let c0_i32 : BitVec 32 := 0#32
  let v2 : BitVec 32 := Scalar.addi c0_i32 arg1
  let c0_i32_0 : BitVec 32 := 0#32
  ![arg0.toNat, v1.toNat, v2.toNat]

def cc0_transform_32 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_33 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  ![arg0.toNat, v0.toNat, arg1.toNat]

def cc0_transform_34 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c12_i32 : BitVec 32 := 12#32
  let v1 : BitVec 32 := Scalar.subi v0 c12_i32
  let c0_i32 : BitVec 32 := 0#32
  ![arg0.toNat, v1.toNat, arg1.toNat]

def cc0_transform_35 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c4_i32 : BitVec 32 := 4#32
  let v1 : BitVec 32 := Scalar.subi v0 c4_i32
  let c0_i32 : BitVec 32 := 0#32
  ![arg0.toNat, v1.toNat, arg1.toNat]

def cc0_transform_36 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c15_i32 : BitVec 32 := 15#32
  let v1 : BitVec 32 := Scalar.subi c15_i32 v0
  let c8_i32 : BitVec 32 := 8#32
  let v2 : BitVec 32 := Scalar.subi v1 c8_i32
  let c0_i32 : BitVec 32 := 0#32
  ![arg0.toNat, v2.toNat, arg1.toNat]

def cc0_transform_37 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  ![arg0.toNat, v0.toNat, arg1.toNat]

def cc0_transform_38 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c12_i32 : BitVec 32 := 12#32
  let v1 : BitVec 32 := Scalar.subi v0 c12_i32
  let c0_i32 : BitVec 32 := 0#32
  ![arg0.toNat, v1.toNat, arg1.toNat]

def cc0_transform_39 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c4_i32 : BitVec 32 := 4#32
  let v1 : BitVec 32 := Scalar.subi v0 c4_i32
  let c0_i32 : BitVec 32 := 0#32
  ![arg0.toNat, v1.toNat, arg1.toNat]

def cc0_transform_40 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c15_i32 : BitVec 32 := 15#32
  let v1 : BitVec 32 := Scalar.subi c15_i32 v0
  let c8_i32 : BitVec 32 := 8#32
  let v2 : BitVec 32 := Scalar.subi v1 c8_i32
  let c0_i32 : BitVec 32 := 0#32
  ![arg0.toNat, v2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, true]

abbrev stage0_12 : Fin 2 → Memref sig .tc .vmem S1x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, true]

abbrev stage0_13 : Fin 2 → Memref sig .tc .vmem S1x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, true]

abbrev stage0_14 : Fin 2 → Memref sig .tc .vmem S1x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, true]

abbrev stage0_15 : Fin 2 → Memref sig .tc .vmem S1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 1 → Memref sig .tc .vmem S32x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false, false]

abbrev stage0_20 : Fin 1 → Memref sig .tc .vmem S5x640x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false, false]

abbrev stage0_21 : Fin 1 → Memref sig .tc .vmem S3x256x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false, false]

abbrev stage0_22 : Fin 2 → Memref sig .tc .vmem S1x128x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, true]

abbrev stage0_23 : Fin 2 → Memref sig .tc .vmem S1x128x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, true]

abbrev stage0_24 : Fin 2 → Memref sig .tc .vmem S1x128x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true, true]

abbrev stage0_25 : Fin 2 → Memref sig .tc .vmem S1x128x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true, true]

abbrev stage0_26 : Fin 2 → Memref sig .tc .vmem S1x2048x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true, false]

abbrev stage0_27 : Fin 2 → Memref sig .tc .vmem S1x2048x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false, false]

abbrev stage0_28 : Fin 2 → Memref sig .tc .vmem S1x128x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true, true]

abbrev stage0_29 : Fin 2 → Memref sig .tc .vmem S1x128x512 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true, true]

abbrev stage0_30 : Fin 2 → Memref sig .tc .vmem S1x128x512 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true, true]

abbrev stage0_31 : Fin 2 → Memref sig .tc .vmem S1x128x512 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true, true]

abbrev stage0_32 : Fin 1 → Memref sig .tc .vmem S2x256x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false, false, false]

abbrev stage0_33 : Fin 2 → Memref sig .tc .vmem S1x128x512 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true, true]

abbrev stage0_34 : Fin 2 → Memref sig .tc .vmem S1x128x512 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true, true]

abbrev stage0_35 : Fin 2 → Memref sig .tc .vmem S1x128x512 .bf16 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true, true]

abbrev stage0_36 : Fin 2 → Memref sig .tc .vmem S1x128x512 .bf16 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true, true, true]

abbrev stage0_37 : Fin 2 → Memref sig .tc .vmem S1x128x512 .bf16 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true, true, true]

abbrev stage0_38 : Fin 2 → Memref sig .tc .vmem S1x128x512 .bf16 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true, true, true]

abbrev stage0_39 : Fin 2 → Memref sig .tc .vmem S1x128x512 .bf16 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true, true, true]

abbrev stage0_40 : Fin 2 → Memref sig .tc .vmem S1x128x512 .bf16 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true, true, true]
-- ==== Proof.OutValue.lean ====
module

public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference's term, in stages -/

namespace Cert.OutRefIdeal.Stages

open Cert.OutRefIdeal Cert.OutRefIdeal.Gen

/-- Four sequence parts of eight sequences, one after the other. -/
def seqs (Y0 Y1 Y2 Y3 : FVec Ideal S8x512x1024 .bf16) : FVec Ideal S8x2048x1024 .f32 :=
  concatenate S8x2048x1024 1 [⟨S8x512x1024, extf .f32 Y0 bitsLt_bf16_f32⟩, ⟨S8x512x1024, extf .f32 Y1 bitsLt_bf16_f32⟩,
    ⟨S8x512x1024, extf .f32 Y2 bitsLt_bf16_f32⟩, ⟨S8x512x1024, extf .f32 Y3 bitsLt_bf16_f32⟩]
    concatenates_S8x512x1024_S8x512x1024_S8x512x1024_S8x512x1024_S8x2048x1024_d1

/-- The two halves of the features side by side. -/
def both (A B : FVec Ideal S8x2048x1024 .f32) : FVec Ideal S8x2048x2048 .f32 :=
  concatenate S8x2048x2048 2 [⟨S8x2048x1024, A⟩, ⟨S8x2048x1024, B⟩] concatenates_S8x2048x1024_S8x2048x1024_S8x2048x2048_d2

/-- The residual plus the projected features. -/
def pre (X : FVec Ideal S8x2048x2048 .f32) (Y : FVec Ideal S8x2048x2048 .f32) (W : FVec Ideal S1x2048x2048 .f32) :
    FVec Ideal S8x2048x2048 .f32 :=
  addf X (Host.dotGeneral dot_S8x2048x2048_S2048x2048_S8x2048x2048_2_0_01_1_n_n none Y
    (shapeCast S2048x2048 W shapeCasts_S1x2048x2048_S2048x2048))

/-- The root-mean-square normalisation of each row, times the gain. -/
def norm (Z : FVec Ideal S8x2048x2048 .f32) (g : FVec Ideal S2048 .f32) : FVec Ideal S16384x2048 .f32 :=
  shapeCast S16384x2048 (mulf (mulf Z (broadcastInDim S8x2048x2048 ![0, 1, 2] bcast_S8x2048x1_S8x2048x2048_0_1_2
    (Host.rsqrt (addf (Host.divf (broadcastInDim S8x2048x1 ![0, 1] bcast_S8x2048_S8x2048x1_0_1
      (Host.reduceAdd (mulf Z Z) (constant S_ .f32 0x00000000#32) reducesTo_S8x2048x2048_S8x2048_d2 h_S_))
      (broadcastInDim S8x2048x1 ![] bcast_S_S8x2048x1 (constant S_ .f32 0x45000000#32)))
      (broadcastInDim S8x2048x1 ![] bcast_S_S8x2048x1 (constant S_ .f32 0x358637BD#32))))))
    (broadcastInDim S8x2048x2048 ![0, 1, 2] bcast_S1x1x2048_S8x2048x2048_0_1_2
      (broadcastInDim S1x1x2048 ![2] bcast_S2048_S1x1x2048_2 g))) shapeCasts_S8x2048x2048_S16384x2048

/-- One row normalised: the mean of the squares, its inverse root, the gain. -/
def unit (z : Fin 2048 → EReal) (zj gj : EReal) : EReal :=
  zj * Ideal.rsqrt (Ideal.div (∑ x, z x * z x) (Ideal.ofBits .f32 0x45000000#32) + Ideal.ofBits .f32 0x358637BD#32) * gj

theorem norm_at (Z : FVec Ideal S8x2048x2048 .f32) (g : FVec Ideal S2048 .f32) (b : Fin 8) (s : Fin 2048) (r : Fin 16384)
    (hr : (r : ℕ) = b * 2048 + s) (j : Fin 2048) :
    norm Z g (ix2 r j) = unit (fun x => Z (ix3 b s x)) (Z (ix3 b s j)) (g (ix1 j)) := by
  have e0 : (r : ℕ) / 2048 = b := by omega
  have e1 : (r : ℕ) % 2048 = s := by omega
  pointwise [norm, unit]
  simp only [e0, e1, Fin.eta]

theorem both_lo (A B : FVec Ideal S8x2048x1024 .f32) (b : Fin 8) (s : Fin 2048) (k : Fin 1024) :
    both A B (ix3 b s ⟨k, by omega⟩) = A (ix3 b s k) := by
  pointwise [both]

theorem both_hi (A B : FVec Ideal S8x2048x1024 .f32) (b : Fin 8) (s : Fin 2048) (k : Fin 1024) :
    both A B (ix3 b s ⟨1024 + k, by omega⟩) = B (ix3 b s k) := by
  pointwise [both]

theorem seqs_0 (Y0 Y1 Y2 Y3 : FVec Ideal S8x512x1024 .bf16) (b : Fin 8) (p : Fin 512) (s : Fin 2048) (hs : (s : ℕ) = 0 + p)
    (k : Fin 1024) : seqs Y0 Y1 Y2 Y3 (ix3 b s k) = Y0 (ix3 b p k) := by
  have e : (s : ℕ) = p := by omega
  pointwise [seqs]
  rw [dif_pos (by omega : (s : ℕ) < 512)]
  simp only [e, Fin.eta]

theorem seqs_1 (Y0 Y1 Y2 Y3 : FVec Ideal S8x512x1024 .bf16) (b : Fin 8) (p : Fin 512) (s : Fin 2048) (hs : (s : ℕ) = 512 + p)
    (k : Fin 1024) : seqs Y0 Y1 Y2 Y3 (ix3 b s k) = Y1 (ix3 b p k) := by
  have e : (s : ℕ) - 512 = p := by omega
  pointwise [seqs]
  rw [dif_neg (by omega : ¬ (s : ℕ) < 512), dif_pos (by omega : (s : ℕ) - 512 < 512)]
  simp only [e, Fin.eta]

theorem seqs_2 (Y0 Y1 Y2 Y3 : FVec Ideal S8x512x1024 .bf16) (b : Fin 8) (p : Fin 512) (s : Fin 2048) (hs : (s : ℕ) = 1024 + p)
    (k : Fin 1024) : seqs Y0 Y1 Y2 Y3 (ix3 b s k) = Y2 (ix3 b p k) := by
  have e : (s : ℕ) - 512 - 512 = p := by omega
  pointwise [seqs]
  rw [dif_neg (by omega : ¬ (s : ℕ) < 512), dif_neg (by omega : ¬ (s : ℕ) - 512 < 512), dif_pos (by omega : (s : ℕ) - 512 - 512 < 512)]
  simp only [e, Fin.eta]

theorem seqs_3 (Y0 Y1 Y2 Y3 : FVec Ideal S8x512x1024 .bf16) (b : Fin 8) (p : Fin 512) (s : Fin 2048) (hs : (s : ℕ) = 1536 + p)
    (k : Fin 1024) : seqs Y0 Y1 Y2 Y3 (ix3 b s k) = Y3 (ix3 b p k) := by
  have e : (s : ℕ) - 512 - 512 - 512 = p := by omega
  pointwise [seqs]
  rw [dif_neg (by omega : ¬ (s : ℕ) < 512), dif_neg (by omega : ¬ (s : ℕ) - 512 < 512), dif_neg (by omega : ¬ (s : ℕ) - 512 - 512 < 512)]
  simp only [e, Fin.eta]

theorem pre_at (X : FVec Ideal S8x2048x2048 .f32) (A B : FVec Ideal S8x2048x1024 .f32) (W : FVec Ideal S1x2048x2048 .f32)
    (b : Fin 8) (s : Fin 2048) (j : Fin 2048) :
    pre X (both A B) W (ix3 b s j) = (X (ix3 b s j) + ∑ k : Fin 1024, A (ix3 b s k) * W (ix3 0 ⟨k, by omega⟩ j))
      + ∑ k : Fin 1024, B (ix3 b s k) * W (ix3 0 ⟨1024 + k, by omega⟩ j) := by
  have key : pre X (both A B) W (ix3 b s j) = X (ix3 b s j) + ∑ k : Fin 2048, both A B (ix3 b s k) * W (ix3 0 k j) := by
    pointwise [pre]
  rw [key, add_assoc]
  congr 1
  refine (Fin.sum_univ_add (a := 1024) (b := 1024) fun k : Fin 2048 => both A B (ix3 b s k) * W (ix3 0 k j)).trans ?_
  congr 1
  · exact Finset.sum_congr rfl fun k _ => by rw [← both_lo A B b s k]; rfl
  · exact Finset.sum_congr rfl fun k _ => by rw [← both_hi A B b s k]; rfl

/-- The reference's result is these stages. -/
theorem result_eq (m : (ℓ : Loc nD τ sig) → Buf (Elt Ideal) ℓ) (c : Dev nD) : Cert.OutRefIdeal.Value.res_main_v27 m c
    = norm (pre (m ((c.tc : Thread nD τ).loc main_arg9))
        (both (seqs (m ((c.tc : Thread nD τ).loc main_arg0)) (m ((c.tc : Thread nD τ).loc main_arg1))
            (m ((c.tc : Thread nD τ).loc main_arg2)) (m ((c.tc : Thread nD τ).loc main_arg3)))
          (seqs (m ((c.tc : Thread nD τ).loc main_arg4)) (m ((c.tc : Thread nD τ).loc main_arg5))
            (m ((c.tc : Thread nD τ).loc main_arg6)) (m ((c.tc : Thread nD τ).loc main_arg7))))
        (m ((c.tc : Thread nD τ).loc main_arg8))) (m ((c.tc : Thread nD τ).loc main_arg10)) := rfl

end Cert.OutRefIdeal.Stages

/-! ## The kernel's blocks -/

namespace Cert.OutIdeal.Final

open Cert.OutIdeal Cert.OutIdeal.Gen
open Cert.OutRefIdeal (S8x2048x2048 S8x2048x1024 S1x2048x2048 S2048 S16384x2048)
open Cert.OutRefIdeal.Stages (unit seqs both pre norm norm_at pre_at)

/-- One block read at an index: the row before normalisation, then the normalisation. -/
theorem pay_at (x : FVec Ideal S512x2048 .f32) (ya yb : FVec Ideal S512x1024 .bf16) (wa wb : FVec Ideal S1024x2048 .bf16)
    (g : FVec Ideal S1x2048 .f32) (p : Fin 512) (j : Fin 2048) :
    k0_pay1 (F := Ideal) x ya wa yb wb g (ix2 p j) = unit (fun q => (x (ix2 p q) + ∑ k, ya (ix2 p k) * wa (ix2 k q)) + ∑ k, yb (ix2 p k) * wb (ix2 k q))
      ((x (ix2 p j) + ∑ k, ya (ix2 p k) * wa (ix2 k j)) + ∑ k, yb (ix2 p k) * wb (ix2 k j)) (g (ix2 0 j)) := by
  pointwise [k0_pay1, unit]

/-- A block whose reads are the reference's row `r` holds the reference's row `r`. -/
theorem core (X : FVec Ideal S8x2048x2048 .f32) (A B : FVec Ideal S8x2048x1024 .f32) (W : FVec Ideal S1x2048x2048 .f32)
    (G : FVec Ideal S2048 .f32)
    (x : FVec Ideal S512x2048 .f32) (ya yb : FVec Ideal S512x1024 .bf16) (wa wb : FVec Ideal S1024x2048 .bf16)
    (g : FVec Ideal S1x2048 .f32) (b : Fin 8) (s : Fin 2048) (r : Fin 16384) (hr : (r : ℕ) = b * 2048 + s) (p : Fin 512)
    (hx : ∀ q, x (ix2 p q) = X (ix3 b s q)) (hya : ∀ k, ya (ix2 p k) = A (ix3 b s k)) (hyb : ∀ k, yb (ix2 p k) = B (ix3 b s k))
    (hwa : ∀ k q, wa (ix2 k q) = W (ix3 0 ⟨k, by omega⟩ q)) (hwb : ∀ k q, wb (ix2 k q) = W (ix3 0 ⟨1024 + k, by omega⟩ q))
    (hg : ∀ j, g (ix2 0 j) = G (ix1 j)) (j : Fin 2048) :
    k0_pay1 (F := Ideal) x ya wa yb wb g (ix2 p j) = norm (pre X (both A B) W) G (ix2 r j) := by
  rw [pay_at, norm_at _ _ b s r hr j]
  simp only [pre_at, hx, hya, hyb, hwa, hwb, hg]

variable (m : (ℓ : Loc nD τ sig) → Buf (Elt Ideal) ℓ) (c : Dev nD)

/-- The first group of heads, in order. -/
abbrev YA : FVec Ideal S8x2048x1024 .f32 :=
  seqs (m ((c.tc : Thread nD τ).loc main_arg0)) (m ((c.tc : Thread nD τ).loc main_arg1)) (m ((c.tc : Thread nD τ).loc main_arg2)) (m ((c.tc : Thread nD τ).loc main_arg3))
/-- The second group of heads, in order. -/
abbrev YB : FVec Ideal S8x2048x1024 .f32 :=
  seqs (m ((c.tc : Thread nD τ).loc main_arg4)) (m ((c.tc : Thread nD τ).loc main_arg5)) (m ((c.tc : Thread nD τ).loc main_arg6)) (m ((c.tc : Thread nD τ).loc main_arg7))
/-- The kernel's result, as the reference's stages say it. -/
def F : FVec Ideal S16384x2048 .f32 :=
  norm (pre (m ((c.tc : Thread nD τ).loc main_arg9)) (both (YA m c) (YB m c)) (m ((c.tc : Thread nD τ).loc main_arg8)))
    (m ((c.tc : Thread nD τ).loc main_arg10))

theorem idx : ∀ t : Fin cfg0.N, win0_8.index t = ![0, 0] ∧ win0_9.index t = ![1, 0] ∧ win0_10.index t = ![t.val, 0]
    ∧ win0_11.index t = ![0, 0] ∧ win0_12.index t = ![t.val, 0] :=
  (by decide +kernel : ∀ t : Fin grid0.N, _)

theorem idxA : ∀ t : Fin cfg0.N, t.val % 4 = 0 → win0_0.index t = ![t.val / 4, 0] ∧ win0_4.index t = ![t.val / 4, 0] :=
  (by decide +kernel : ∀ t : Fin grid0.N, _)
theorem idxB : ∀ t : Fin cfg0.N, t.val % 4 = 1 → win0_1.index t = ![t.val / 4, 0] ∧ win0_5.index t = ![t.val / 4, 0] :=
  (by decide +kernel : ∀ t : Fin grid0.N, _)
theorem idxC : ∀ t : Fin cfg0.N, t.val % 4 = 2 → win0_2.index t = ![t.val / 4, 0] ∧ win0_6.index t = ![t.val / 4, 0] :=
  (by decide +kernel : ∀ t : Fin grid0.N, _)
theorem idxD : ∀ t : Fin cfg0.N, t.val % 4 = 3 → win0_3.index t = ![t.val / 4, 0] ∧ win0_7.index t = ![t.val / 4, 0] :=
  (by decide +kernel : ∀ t : Fin grid0.N, _)

theorem readX (t : Fin cfg0.N) (p : Fin 512) (q : Fin 2048) :
    (iblk m c 10 t : FVec Ideal S512x2048 .f32) (ix2 p q)
      = m ((c.tc : Thread nD τ).loc main_arg9)
        (ix3 ⟨t.val / 4, by have := lt_of_lt_of_eq t.isLt N_0; omega⟩ ⟨t.val % 4 * 512 + p, by omega⟩ q) := by
  have ht := lt_of_lt_of_eq t.isLt N_0
  blk_simp [iblk]
  entry_read
  pointwise
  blk_ext [idx t]

theorem readWa (t : Fin cfg0.N) (k : Fin 1024) (q : Fin 2048) :
    (iblk m c 8 t : FVec Ideal S1024x2048 .bf16) (ix2 k q) = m ((c.tc : Thread nD τ).loc main_arg8) (ix3 0 ⟨k, by omega⟩ q) := by
  blk_simp [iblk]
  entry_read
  pointwise
  blk_ext [idx t]

theorem readWb (t : Fin cfg0.N) (k : Fin 1024) (q : Fin 2048) :
    (iblk m c 9 t : FVec Ideal S1024x2048 .bf16) (ix2 k q) = m ((c.tc : Thread nD τ).loc main_arg8) (ix3 0 ⟨1024 + k, by omega⟩ q) := by
  blk_simp [iblk]
  entry_read
  pointwise
  blk_ext [idx t]

theorem readG (t : Fin cfg0.N) (j : Fin 2048) :
    (iblk m c 11 t : FVec Ideal S1x2048 .f32) (ix2 0 j) = m ((c.tc : Thread nD τ).loc main_arg10) (ix1 j) := by
  blk_simp [iblk]
  entry_read
  pointwise
  blk_ext [idx t]

theorem readY0 (t : Fin cfg0.N) (h : t.val % 4 = 0) (p : Fin 512) (k : Fin 1024) :
    (iblk m c 0 t : FVec Ideal S512x1024 .bf16) (ix2 p k)
      = m ((c.tc : Thread nD τ).loc main_arg0) (ix3 ⟨t.val / 4, by have := lt_of_lt_of_eq t.isLt N_0; omega⟩ p k) := by
  have ht := lt_of_lt_of_eq t.isLt N_0
  have hw := idxA t h
  blk_simp [iblk]
  entry_read
  pointwise
  blk_ext [hw]

theorem readY1 (t : Fin cfg0.N) (h : t.val % 4 = 1) (p : Fin 512) (k : Fin 1024) :
    (iblk m c 1 t : FVec Ideal S512x1024 .bf16) (ix2 p k)
      = m ((c.tc : Thread nD τ).loc main_arg1) (ix3 ⟨t.val / 4, by have := lt_of_lt_of_eq t.isLt N_0; omega⟩ p k) := by
  have ht := lt_of_lt_of_eq t.isLt N_0
  have hw := idxB t h
  blk_simp [iblk]
  entry_read
  pointwise
  blk_ext [hw]

theorem readY2 (t : Fin cfg0.N) (h : t.val % 4 = 2) (p : Fin 512) (k : Fin 1024) :
    (iblk m c 2 t : FVec Ideal S512x1024 .bf16) (ix2 p k)
      = m ((c.tc : Thread nD τ).loc main_arg2) (ix3 ⟨t.val / 4, by have := lt_of_lt_of_eq t.isLt N_0; omega⟩ p k) := by
  have ht := lt_of_lt_of_eq t.isLt N_0
  have hw := idxC t h
  blk_simp [iblk]
  entry_read
  pointwise
  blk_ext [hw]

theorem readY3 (t : Fin cfg0.N) (h : t.val % 4 = 3) (p : Fin 512) (k : Fin 1024) :
    (iblk m c 3 t : FVec Ideal S512x1024 .bf16) (ix2 p k)
      = m ((c.tc : Thread nD τ).loc main_arg3) (ix3 ⟨t.val / 4, by have := lt_of_lt_of_eq t.isLt N_0; omega⟩ p k) := by
  have ht := lt_of_lt_of_eq t.isLt N_0
  have hw := idxD t h
  blk_simp [iblk]
  entry_read
  pointwise
  blk_ext [hw]

theorem readY4 (t : Fin cfg0.N) (h : t.val % 4 = 0) (p : Fin 512) (k : Fin 1024) :
    (iblk m c 4 t : FVec Ideal S512x1024 .bf16) (ix2 p k)
      = m ((c.tc : Thread nD τ).loc main_arg4) (ix3 ⟨t.val / 4, by have := lt_of_lt_of_eq t.isLt N_0; omega⟩ p k) := by
  have ht := lt_of_lt_of_eq t.isLt N_0
  have hw := idxA t h
  blk_simp [iblk]
  entry_read
  pointwise
  blk_ext [hw]

theorem readY5 (t : Fin cfg0.N) (h : t.val % 4 = 1) (p : Fin 512) (k : Fin 1024) :
    (iblk m c 5 t : FVec Ideal S512x1024 .bf16) (ix2 p k)
      = m ((c.tc : Thread nD τ).loc main_arg5) (ix3 ⟨t.val / 4, by have := lt_of_lt_of_eq t.isLt N_0; omega⟩ p k) := by
  have ht := lt_of_lt_of_eq t.isLt N_0
  have hw := idxB t h
  blk_simp [iblk]
  entry_read
  pointwise
  blk_ext [hw]

theorem readY6 (t : Fin cfg0.N) (h : t.val % 4 = 2) (p : Fin 512) (k : Fin 1024) :
    (iblk m c 6 t : FVec Ideal S512x1024 .bf16) (ix2 p k)
      = m ((c.tc : Thread nD τ).loc main_arg6) (ix3 ⟨t.val / 4, by have := lt_of_lt_of_eq t.isLt N_0; omega⟩ p k) := by
  have ht := lt_of_lt_of_eq t.isLt N_0
  have hw := idxC t h
  blk_simp [iblk]
  entry_read
  pointwise
  blk_ext [hw]

theorem readY7 (t : Fin cfg0.N) (h : t.val % 4 = 3) (p : Fin 512) (k : Fin 1024) :
    (iblk m c 7 t : FVec Ideal S512x1024 .bf16) (ix2 p k)
      = m ((c.tc : Thread nD τ).loc main_arg7) (ix3 ⟨t.val / 4, by have := lt_of_lt_of_eq t.isLt N_0; omega⟩ p k) := by
  have ht := lt_of_lt_of_eq t.isLt N_0
  have hw := idxD t h
  blk_simp [iblk]
  entry_read
  pointwise
  blk_ext [hw]

/-- A point of the first part of a sequence computes the reference's rows. -/
theorem rowA (t : Fin cfg0.N) (h : t.val % 4 = 0) (ht : t.val < 32) (p : Fin 512) (j : Fin 2048) :
    k0_pay1 (F := Ideal) (iblk m c 10 t) (iblk m c 0 t) (iblk m c 8 t) (iblk m c 4 t) (iblk m c 9 t) (iblk m c 11 t) (ix2 p j)
      = F m c (ix2 ⟨t.val * 512 + p, by omega⟩ j) :=
  core (m ((c.tc : Thread nD τ).loc main_arg9)) (YA m c) (YB m c) (m ((c.tc : Thread nD τ).loc main_arg8))
    (m ((c.tc : Thread nD τ).loc main_arg10)) _ _ _ _ _ _ ⟨t.val / 4, by omega⟩ ⟨t.val % 4 * 512 + p, by omega⟩
    ⟨t.val * 512 + p, by omega⟩ (by simp only []; omega) p (readX m c t p)
    (fun k => (readY0 m c t h p k).trans (Cert.OutRefIdeal.Stages.seqs_0 _ _ _ _ _ p _ (by simp only []; omega) k).symm)
    (fun k => (readY4 m c t h p k).trans (Cert.OutRefIdeal.Stages.seqs_0 _ _ _ _ _ p _ (by simp only []; omega) k).symm)
    (readWa m c t) (readWb m c t) (readG m c t) j

/-- A point of the second part of a sequence computes the reference's rows. -/
theorem rowB (t : Fin cfg0.N) (h : t.val % 4 = 1) (ht : t.val < 32) (p : Fin 512) (j : Fin 2048) :
    k0_pay1 (F := Ideal) (iblk m c 10 t) (iblk m c 1 t) (iblk m c 8 t) (iblk m c 5 t) (iblk m c 9 t) (iblk m c 11 t) (ix2 p j)
      = F m c (ix2 ⟨t.val * 512 + p, by omega⟩ j) :=
  core (m ((c.tc : Thread nD τ).loc main_arg9)) (YA m c) (YB m c) (m ((c.tc : Thread nD τ).loc main_arg8))
    (m ((c.tc : Thread nD τ).loc main_arg10)) _ _ _ _ _ _ ⟨t.val / 4, by omega⟩ ⟨t.val % 4 * 512 + p, by omega⟩
    ⟨t.val * 512 + p, by omega⟩ (by simp only []; omega) p (readX m c t p)
    (fun k => (readY1 m c t h p k).trans (Cert.OutRefIdeal.Stages.seqs_1 _ _ _ _ _ p _ (by simp only []; omega) k).symm)
    (fun k => (readY5 m c t h p k).trans (Cert.OutRefIdeal.Stages.seqs_1 _ _ _ _ _ p _ (by simp only []; omega) k).symm)
    (readWa m c t) (readWb m c t) (readG m c t) j

/-- A point of the third part of a sequence computes the reference's rows. -/
theorem rowC (t : Fin cfg0.N) (h : t.val % 4 = 2) (ht : t.val < 32) (p : Fin 512) (j : Fin 2048) :
    k0_pay1 (F := Ideal) (iblk m c 10 t) (iblk m c 2 t) (iblk m c 8 t) (iblk m c 6 t) (iblk m c 9 t) (iblk m c 11 t) (ix2 p j)
      = F m c (ix2 ⟨t.val * 512 + p, by omega⟩ j) :=
  core (m ((c.tc : Thread nD τ).loc main_arg9)) (YA m c) (YB m c) (m ((c.tc : Thread nD τ).loc main_arg8))
    (m ((c.tc : Thread nD τ).loc main_arg10)) _ _ _ _ _ _ ⟨t.val / 4, by omega⟩ ⟨t.val % 4 * 512 + p, by omega⟩
    ⟨t.val * 512 + p, by omega⟩ (by simp only []; omega) p (readX m c t p)
    (fun k => (readY2 m c t h p k).trans (Cert.OutRefIdeal.Stages.seqs_2 _ _ _ _ _ p _ (by simp only []; omega) k).symm)
    (fun k => (readY6 m c t h p k).trans (Cert.OutRefIdeal.Stages.seqs_2 _ _ _ _ _ p _ (by simp only []; omega) k).symm)
    (readWa m c t) (readWb m c t) (readG m c t) j

/-- A point of the fourth part of a sequence computes the reference's rows. -/
theorem rowD (t : Fin cfg0.N) (h : t.val % 4 = 3) (ht : t.val < 32) (p : Fin 512) (j : Fin 2048) :
    k0_pay1 (F := Ideal) (iblk m c 10 t) (iblk m c 3 t) (iblk m c 8 t) (iblk m c 7 t) (iblk m c 9 t) (iblk m c 11 t) (ix2 p j)
      = F m c (ix2 ⟨t.val * 512 + p, by omega⟩ j) :=
  core (m ((c.tc : Thread nD τ).loc main_arg9)) (YA m c) (YB m c) (m ((c.tc : Thread nD τ).loc main_arg8))
    (m ((c.tc : Thread nD τ).loc main_arg10)) _ _ _ _ _ _ ⟨t.val / 4, by omega⟩ ⟨t.val % 4 * 512 + p, by omega⟩
    ⟨t.val * 512 + p, by omega⟩ (by simp only []; omega) p (readX m c t p)
    (fun k => (readY3 m c t h p k).trans (Cert.OutRefIdeal.Stages.seqs_3 _ _ _ _ _ p _ (by simp only []; omega) k).symm)
    (fun k => (readY7 m c t h p k).trans (Cert.OutRefIdeal.Stages.seqs_3 _ _ _ _ _ p _ (by simp only []; omega) k).symm)
    (readWa m c t) (readWb m c t) (readG m c t) j

/-- The rows that a point writes. -/
theorem placed (t : Fin cfg0.N) (ht : t.val < 32) (p : Fin 512) (j : Fin 2048) :
    F m c (ix2 ⟨t.val * 512 + p, by omega⟩ j) = F m c (((View.whole main_v12).slice (win0_12.rect t)).emb (ix2 p j)) := by
  refine congrArg (F m c) ?_
  blk_ext [idx t]

/-- What the launch leaves in its result. -/
theorem final : (dats m 0 c).arrAt 12 (cfgs 0).N = F m c := by
  refine (dats m 0 c).arrAt_eq_of_covers 12 _ (by decide +kernel) fun t _ y => ?_
  blk_simp
  rw [after0_12]
  have ht := lt_of_lt_of_eq t.isLt N_0
  by_cases h0 : t.val % 4 = 0
  · rw [outsAt0_A m c t h0 (by omega) (by omega) (by omega)]
    frame_out
    idx_vars y
    exact (rowA m c t h0 ht _ _).trans (placed m c t ht _ _)
  by_cases h1 : t.val % 4 = 1
  · rw [outsAt0_B m c t (by omega) h1 (by omega) (by omega)]
    frame_out
    idx_vars y
    exact (rowB m c t h1 ht _ _).trans (placed m c t ht _ _)
  by_cases h2 : t.val % 4 = 2
  · rw [outsAt0_C m c t (by omega) (by omega) h2 (by omega)]
    frame_out
    idx_vars y
    exact (rowC m c t h2 ht _ _).trans (placed m c t ht _ _)
  · rw [outsAt0_D m c t (by omega) (by omega) (by omega) (by omega)]
    frame_out
    idx_vars y
    exact (rowD m c t (by omega) ht _ _).trans (placed m c t ht _ _)

end Cert.OutIdeal.Final
-- ==== Proof.Proj0Stages.lean ====
module

public import proofs.«01_k».proof.Proof.Gen.Proj0RefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proj0RefIdeal.Stages

open Cert.Proj0RefIdeal Cert.Proj0RefIdeal.Gen

/-- The activations, normalised to unit mean square and weighted. -/
def normed (X : FVec Ideal S8x2048x2048 .f32) (g : FVec Ideal S1x2048 .f32) : FVec Ideal S8x2048x2048 .f32 :=
  mulf (mulf X (broadcastInDim S8x2048x2048 ![0, 1, 2] bcast_S8x2048x1_S8x2048x2048_0_1_2 (Host.rsqrt (addf (Host.divf
    (broadcastInDim S8x2048x1 ![0, 1] bcast_S8x2048_S8x2048x1_0_1 (Host.reduceAdd (mulf X X) (constant S_ .f32 0x00000000#32)
      reducesTo_S8x2048x2048_S8x2048_d2 h_S_))
    (broadcastInDim S8x2048x1 ![] bcast_S_S8x2048x1 (constant S_ .f32 0x45000000#32)))
    (broadcastInDim S8x2048x1 ![] bcast_S_S8x2048x1 (constant S_ .f32 0x358637BD#32))))))
    (broadcastInDim S8x2048x2048 ![0, 1, 2] bcast_S1x1x2048_S8x2048x2048_0_1_2
      (broadcastInDim S1x1x2048 ![2] bcast_S2048_S1x1x2048_2 (shapeCast _ g shapeCasts_S1x2048_S2048)))

/-- The projection of normalised activations on this slab's columns. -/
def proj (H : FVec Ideal S8x2048x2048 .f32) (W : FVec Ideal S6144x2048 .bf16) : FVec Ideal S8x2048x2048 .f32 :=
  Host.dotGeneral dot_S8x2048x2048_S2048x2048_S8x2048x2048_2_0_01_1_n_n none H (transpose S2048x2048 [1, 0] (extf .f32
    (extractStridedSlice S2048x2048 ![0, 0] W slices_S6144x2048_S2048x2048_0_0) bitsLt_bf16_f32) transposes_S2048x2048_S2048x2048_1_0)

/-- The angle of each position at each of the 64 frequencies. -/
def angle : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1 (Host.powf
      (broadcastInDim S64 ![] bcast_S_S64 (constant S_ .f32 0x461C4000#32)) (Host.divf (Host.negf (addf
        (broadcastInDim S64 ![] bcast_S_S64 (constant S_ .f32 0x00000000#32)) (mulf (broadcastInDim S64 ![] bcast_S_S64 (constant S_ .f32 0x40000000#32))
          (sitofp .f32 (iotaInDim S64 32 0))))) (broadcastInDim S64 ![] bcast_S_S64 (constant S_ .f32 0x43000000#32))))))

/-- The rotation of eight heads. -/
def rope8 (Z : FVec Ideal S8x2048x8x128 .f32) (Cs Sn : FVec Ideal S2048x64 .f32) : FVec Ideal S8x2048x8x128 .f32 :=
  concatenate S8x2048x8x128 3 [
    ⟨S8x2048x8x64, subf
      (mulf (extractStridedSlice S8x2048x8x64 ![0, 0, 0, 0] Z slices_S8x2048x8x128_S8x2048x8x64_0_0_0_0)
        (broadcastInDim S8x2048x8x64 ![0, 1, 2, 3] bcast_S1x2048x1x64_S8x2048x8x64_0_1_2_3 (broadcastInDim S1x2048x1x64 ![1, 3] bcast_S2048x64_S1x2048x1x64_1_3 Cs)))
      (mulf (extractStridedSlice S8x2048x8x64 ![0, 0, 0, 64] Z slices_S8x2048x8x128_S8x2048x8x64_0_0_0_64)
        (broadcastInDim S8x2048x8x64 ![0, 1, 2, 3] bcast_S1x2048x1x64_S8x2048x8x64_0_1_2_3 (broadcastInDim S1x2048x1x64 ![1, 3] bcast_S2048x64_S1x2048x1x64_1_3 Sn)))⟩,
    ⟨S8x2048x8x64, addf
      (mulf (extractStridedSlice S8x2048x8x64 ![0, 0, 0, 64] Z slices_S8x2048x8x128_S8x2048x8x64_0_0_0_64)
        (broadcastInDim S8x2048x8x64 ![0, 1, 2, 3] bcast_S1x2048x1x64_S8x2048x8x64_0_1_2_3 (broadcastInDim S1x2048x1x64 ![1, 3] bcast_S2048x64_S1x2048x1x64_1_3 Cs)))
      (mulf (extractStridedSlice S8x2048x8x64 ![0, 0, 0, 0] Z slices_S8x2048x8x128_S8x2048x8x64_0_0_0_0)
        (broadcastInDim S8x2048x8x64 ![0, 1, 2, 3] bcast_S1x2048x1x64_S8x2048x8x64_0_1_2_3 (broadcastInDim S1x2048x1x64 ![1, 3] bcast_S2048x64_S1x2048x1x64_1_3 Sn)))⟩]
    concatenates_S8x2048x8x64_S8x2048x8x64_S8x2048x8x128_d3

/-- The rotation of two heads. -/
def rope2 (Z : FVec Ideal S8x2048x2x128 .f32) (Cs Sn : FVec Ideal S2048x64 .f32) : FVec Ideal S8x2048x2x128 .f32 :=
  concatenate S8x2048x2x128 3 [
    ⟨S8x2048x2x64, subf
      (mulf (extractStridedSlice S8x2048x2x64 ![0, 0, 0, 0] Z slices_S8x2048x2x128_S8x2048x2x64_0_0_0_0)
        (broadcastInDim S8x2048x2x64 ![0, 1, 2, 3] bcast_S1x2048x1x64_S8x2048x2x64_0_1_2_3 (broadcastInDim S1x2048x1x64 ![1, 3] bcast_S2048x64_S1x2048x1x64_1_3 Cs)))
      (mulf (extractStridedSlice S8x2048x2x64 ![0, 0, 0, 64] Z slices_S8x2048x2x128_S8x2048x2x64_0_0_0_64)
        (broadcastInDim S8x2048x2x64 ![0, 1, 2, 3] bcast_S1x2048x1x64_S8x2048x2x64_0_1_2_3 (broadcastInDim S1x2048x1x64 ![1, 3] bcast_S2048x64_S1x2048x1x64_1_3 Sn)))⟩,
    ⟨S8x2048x2x64, addf
      (mulf (extractStridedSlice S8x2048x2x64 ![0, 0, 0, 64] Z slices_S8x2048x2x128_S8x2048x2x64_0_0_0_64)
        (broadcastInDim S8x2048x2x64 ![0, 1, 2, 3] bcast_S1x2048x1x64_S8x2048x2x64_0_1_2_3 (broadcastInDim S1x2048x1x64 ![1, 3] bcast_S2048x64_S1x2048x1x64_1_3 Cs)))
      (mulf (extractStridedSlice S8x2048x2x64 ![0, 0, 0, 0] Z slices_S8x2048x2x128_S8x2048x2x64_0_0_0_0)
        (broadcastInDim S8x2048x2x64 ![0, 1, 2, 3] bcast_S1x2048x1x64_S8x2048x2x64_0_1_2_3 (broadcastInDim S1x2048x1x64 ![1, 3] bcast_S2048x64_S1x2048x1x64_1_3 Sn)))⟩]
    concatenates_S8x2048x2x64_S8x2048x2x64_S8x2048x2x128_d3

/-- The queries' heads. -/
def qa (P : FVec Ideal S8x2048x2048 .f32) : FVec Ideal S8x2048x8x128 .f32 :=
  shapeCast _ (extractStridedSlice S8x2048x1024 ![0, 0, 0] P slices_S8x2048x2048_S8x2048x1024_0_0_0) shapeCasts_S8x2048x1024_S8x2048x8x128
/-- The compressed branch's keys' heads. -/
def kca (P : FVec Ideal S8x2048x2048 .f32) : FVec Ideal S8x2048x2x128 .f32 :=
  shapeCast _ (extractStridedSlice S8x2048x256 ![0, 0, 1024] P slices_S8x2048x2048_S8x2048x256_0_0_1024) shapeCasts_S8x2048x256_S8x2048x2x128
/-- The selected branch's keys' heads. -/
def ksa (P : FVec Ideal S8x2048x2048 .f32) : FVec Ideal S8x2048x2x128 .f32 :=
  shapeCast _ (extractStridedSlice S8x2048x256 ![0, 0, 1280] P slices_S8x2048x2048_S8x2048x256_0_0_1280) shapeCasts_S8x2048x256_S8x2048x2x128
/-- The window branch's keys' heads. -/
def kwa (P : FVec Ideal S8x2048x2048 .f32) : FVec Ideal S8x2048x2x128 .f32 :=
  shapeCast _ (extractStridedSlice S8x2048x256 ![0, 0, 1536] P slices_S8x2048x2048_S8x2048x256_0_0_1536) shapeCasts_S8x2048x256_S8x2048x2x128
/-- The compressed branch's values. -/
def vca (P : FVec Ideal S8x2048x2048 .f32) : FVec Ideal S8x2048x256 .f32 :=
  extractStridedSlice S8x2048x256 ![0, 0, 1792] P slices_S8x2048x2048_S8x2048x256_0_0_1792

/-- The slab: the scaled rotated queries, the three branches' rotated keys, the compressed branch's values. -/
def slab (P : FVec Ideal S8x2048x2048 .f32) (Cs Sn : FVec Ideal S2048x64 .f32) : FVec Ideal S16384x2048 .bf16 :=
  truncf .bf16 (concatenate S16384x2048 1 [
    ⟨S16384x1024, shapeCast _ (mulf (rope8 (qa P) Cs Sn) (broadcastInDim S8x2048x8x128 ![] bcast_S_S8x2048x8x128 (constant S_ .f32 0x3E0293EE#32)))
      shapeCasts_S8x2048x8x128_S16384x1024⟩,
    ⟨S16384x256, shapeCast _ (rope2 (kca P) Cs Sn) shapeCasts_S8x2048x2x128_S16384x256⟩,
    ⟨S16384x256, shapeCast _ (rope2 (ksa P) Cs Sn) shapeCasts_S8x2048x2x128_S16384x256⟩,
    ⟨S16384x256, shapeCast _ (rope2 (kwa P) Cs Sn) shapeCasts_S8x2048x2x128_S16384x256⟩,
    ⟨S16384x256, shapeCast _ (vca P) shapeCasts_S8x2048x256_S16384x256⟩]
    concatenates_S16384x1024_S16384x256_S16384x256_S16384x256_S16384x256_S16384x2048_d1) bitsLt_bf16_f32

/-- The normalised activations as rows. -/
def rows (H : FVec Ideal S8x2048x2048 .f32) : FVec Ideal S16384x2048 .bf16 :=
  truncf .bf16 (shapeCast _ H shapeCasts_S8x2048x2048_S16384x2048) bitsLt_bf16_f32

/-- The compressed branch's keys, sixteen positions in a row. -/
def keys (P : FVec Ideal S8x2048x2048 .f32) (Cs Sn : FVec Ideal S2048x64 .f32) : FVec Ideal S2x1024x2048 .bf16 :=
  truncf .bf16 (shapeCast _ (transpose S2x1024x16x128 [2, 0, 1, 3] (shapeCast _ (rope2 (kca P) Cs Sn) shapeCasts_S8x2048x2x128_S1024x16x2x128)
    transposes_S1024x16x2x128_S2x1024x16x128_2_0_1_3) shapeCasts_S2x1024x16x128_S2x1024x2048) bitsLt_bf16_f32

/-- The compressed branch's values, sixteen positions in a row. -/
def vals (P : FVec Ideal S8x2048x2048 .f32) : FVec Ideal S2x1024x2048 .bf16 :=
  truncf .bf16 (shapeCast _ (transpose S2x1024x16x128 [2, 0, 1, 3] (shapeCast _ (vca P) shapeCasts_S8x2048x256_S1024x16x2x128)
    transposes_S1024x16x2x128_S2x1024x16x128_2_0_1_3) shapeCasts_S2x1024x16x128_S2x1024x2048) bitsLt_bf16_f32

/-- The reference's four results are these stages. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v167) = slab (proj (normed (m ((c.tc : Thread nD τ).loc main_arg0)) (m ((c.tc : Thread nD τ).loc main_arg1)))
          (m ((c.tc : Thread nD τ).loc main_arg2))) (Host.cos angle) (Host.sin angle)
      ∧ r.2.mem ((c.tc : Thread nD τ).loc main_v169) = rows (normed (m ((c.tc : Thread nD τ).loc main_arg0)) (m ((c.tc : Thread nD τ).loc main_arg1)))
      ∧ r.2.mem ((c.tc : Thread nD τ).loc main_v173) = keys (proj (normed (m ((c.tc : Thread nD τ).loc main_arg0)) (m ((c.tc : Thread nD τ).loc main_arg1)))
          (m ((c.tc : Thread nD τ).loc main_arg2))) (Host.cos angle) (Host.sin angle)
      ∧ r.2.mem ((c.tc : Thread nD τ).loc main_v177) = vals (proj (normed (m ((c.tc : Thread nD τ).loc main_arg0)) (m ((c.tc : Thread nD τ).loc main_arg1)))
          (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Proj0RefIdeal.Value.run (F := Ideal) m ρ

theorem proj_at (H : FVec Ideal S8x2048x2048 .f32) (W : FVec Ideal S6144x2048 .bf16) (b : Fin 8) (s j : Fin 2048) :
    proj H W (ix3 b s j) = ∑ k : Fin 2048, H (ix3 b s k) * W (ix2 ⟨j, by omega⟩ k) := by
  pointwise [proj]

theorem normed_at (X : FVec Ideal S8x2048x2048 .f32) (g : FVec Ideal S1x2048 .f32) (b : Fin 8) (s k : Fin 2048) :
    normed X g (ix3 b s k) = X (ix3 b s k) * Ideal.rsqrt (Ideal.div (∑ k : Fin 2048, X (ix3 b s k) * X (ix3 b s k)) (Ideal.ofBits .f32 0x45000000#32)
      + Ideal.ofBits .f32 0x358637BD#32) * g (ix2 0 k) := by
  pointwise [normed]

/-- The queries' scale. -/
def scale : EReal := Ideal.ofBits .f32 0x3E0293EE#32

theorem scale_real : 0 ≤ scale ∧ scale ≠ ⊤ := by
  have h : scale = (((0x0293EE + 2 ^ 23 : ℝ) * 2 ^ (-26 : Int) : ℝ) : EReal) := by
    simp [scale, Ideal.ofBits, Ideal.ieee, -EReal.coe_mul]
    norm_num
  rw [h]
  exact ⟨by norm_num, EReal.coe_ne_top _⟩

variable (P : FVec Ideal S8x2048x2048 .f32) (Cs Sn : FVec Ideal S2048x64 .f32) (r : Fin 16384) (j : Fin 2048)
  (b : Fin 8) (hb : b.val = r.val / 2048) (s : Fin 2048) (hs : s.val = r.val % 2048)

theorem rows_at (H : FVec Ideal S8x2048x2048 .f32) (b : Fin 8) (hb : b.val = r.val / 2048) (s : Fin 2048) (hs : s.val = r.val % 2048) :
    rows H (ix2 r j) = H (ix3 b s j) := by
  pointwise [rows]
  blk_ext

include hb hs

/-- The values' columns pass through. -/
theorem slab_plain (h : 1792 ≤ j.val) : slab P Cs Sn (ix2 r j) = P (ix3 b s j) := by
  pointwise [slab, vca]
  rw [dif_neg (by omega), dif_neg (by omega), dif_neg (by omega), dif_neg (by omega)]
  blk_ext

/-- The first half of a rotated query head. -/
theorem slab_qlo (h1 : j.val < 1024) (hl : j.val % 128 < 64) (d : Fin 64) (hd : d.val = j.val % 64) (j' : Fin 2048) (hj : j'.val = j.val + 64) :
    slab P Cs Sn (ix2 r j) = (P (ix3 b s j) * Cs (ix2 s d) - P (ix3 b s j') * Sn (ix2 s d)) * scale := by
  pointwise [slab, rope8, qa]
  rw [dif_pos (by omega), dif_pos (by omega)]
  blk_point
  rfl

/-- The second half of a rotated query head. -/
theorem slab_qhi (h1 : j.val < 1024) (hl : ¬ j.val % 128 < 64) (d : Fin 64) (hd : d.val = j.val % 64) (j' : Fin 2048) (hj : j'.val + 64 = j.val) :
    slab P Cs Sn (ix2 r j) = (P (ix3 b s j) * Cs (ix2 s d) + P (ix3 b s j') * Sn (ix2 s d)) * scale := by
  pointwise [slab, rope8, qa]
  rw [dif_pos (by omega), dif_neg (by omega)]
  blk_point
  rfl

/-- The first half of a rotated key head. -/
theorem slab_lo (h0 : 1024 ≤ j.val) (h1 : j.val < 1792) (hl : j.val % 128 < 64) (d : Fin 64) (hd : d.val = j.val % 64) (j' : Fin 2048) (hj : j'.val = j.val + 64) :
    slab P Cs Sn (ix2 r j) = P (ix3 b s j) * Cs (ix2 s d) - P (ix3 b s j') * Sn (ix2 s d) := by
  pointwise [slab, rope2, kca, ksa, kwa]
  rw [dif_neg (by omega)]
  by_cases h2 : j.val - 1024 < 256
  · rw [dif_pos h2, dif_pos (by omega)]
    blk_point
  rw [dif_neg h2]
  by_cases h3 : j.val - 1024 - 256 < 256
  · rw [dif_pos h3, dif_pos (by omega)]
    blk_point
  rw [dif_neg h3, dif_pos (by omega), dif_pos (by omega)]
  blk_point

/-- The second half of a rotated key head. -/
theorem slab_hi (h0 : 1024 ≤ j.val) (h1 : j.val < 1792) (hl : ¬ j.val % 128 < 64) (d : Fin 64) (hd : d.val = j.val % 64) (j' : Fin 2048) (hj : j'.val + 64 = j.val) :
    slab P Cs Sn (ix2 r j) = P (ix3 b s j) * Cs (ix2 s d) + P (ix3 b s j') * Sn (ix2 s d) := by
  pointwise [slab, rope2, kca, ksa, kwa]
  rw [dif_neg (by omega)]
  by_cases h2 : j.val - 1024 < 256
  · rw [dif_pos h2, dif_neg (by omega)]
    blk_point
  rw [dif_neg h2]
  by_cases h3 : j.val - 1024 - 256 < 256
  · rw [dif_pos h3, dif_neg (by omega)]
    blk_point
  rw [dif_neg h3, dif_pos (by omega), dif_neg (by omega)]
  blk_point

omit hb hs

/-- A row of the grouped keys holds sixteen positions of the slab's keys. -/
theorem keys_at (a : Fin 2) (i : Fin 1024) (l : Fin 2048) (hr : r.val = 16 * i.val + l.val / 128) (hj : j.val = 1024 + 128 * a.val + l.val % 128) :
    keys P Cs Sn (ix3 a i l) = slab P Cs Sn (ix2 r j) := by
  pointwise [keys, slab]
  rw [dif_neg (by omega), dif_pos (by omega)]
  refine congrArg (rope2 (kca P) Cs Sn) ?_
  blk_ext

/-- A row of the grouped values holds sixteen positions of the slab's values. -/
theorem vals_at (a : Fin 2) (i : Fin 1024) (l : Fin 2048) (hr : r.val = 16 * i.val + l.val / 128) (hj : j.val = 1792 + 128 * a.val + l.val % 128) :
    vals P (ix3 a i l) = slab P Cs Sn (ix2 r j) := by
  pointwise [vals, slab]
  rw [dif_neg (by omega), dif_neg (by omega), dif_neg (by omega), dif_neg (by omega)]
  refine congrArg (vca P) ?_
  blk_ext

end Cert.Proj0RefIdeal.Stages
-- ==== Proof.Proj0Value.lean ====
module

public import proofs.«01_k».proof.Proof.Gen.Proj0Ideal.Value
public import proofs.«01_k».proof.Proof.Proj0Stages

@[expose] public section

set_option maxRecDepth 16384

noncomputable section

open Idealize.ShloMosaic Idealize.ShloMosaic.TcCoe Idealize.SL.Sem
open Idealize.ShloMosaic.Pipeline (Dat)

namespace Cert.Proj0Ideal.Final

open Cert.Proj0Ideal Cert.Proj0Ideal.Gen
open Cert.Proj0RefIdeal.Stages (normed normed_at proj proj_at angle slab slab_plain slab_qlo slab_qhi slab_lo slab_hi rows rows_at keys keys_at vals vals_at
  scale scale_real)

/-! ## One block -/

/-- A load of every sixteenth row of the newest stored slot reads that slot's rows. -/
theorem stage_read {sig : RefSig} {κ : Kind} {sp : Space} (v : View sig κ sp S4x512x128 .f32) (q k : ℕ) (inb) (inb')
    (w : FVec Ideal S1x512x128 .f32) (L : List (View.Piece (Elt Ideal) S4x512x128 .f32)) (hk : k < 16) :
    v.readCov (⟨Rect.unit ![q, 0, 0] ![1, 512, 128] inb, w⟩ :: L) ({ off := ![q, k, 0], size := ![1, 32, 128], stride := ![1, 16, 1], inb := inb' } : LoadRect S4x512x128)
      = fun y : S1x32x128.Idx => w (ix3 0 ⟨k + 16 * (y 1).val, by have h : (y 1).val < 32 := (y 1).isLt; omega⟩ (y 2)) := by
  rw [View.readCov_eq_canon']
  funext y
  have h1 : (y 1).val < 32 := (y 1).isLt
  have e : ({ off := ![q, k, 0], size := ![1, 32, 128], stride := ![1, 16, 1], inb := inb' } : LoadRect S4x512x128).idx y
      = (Rect.unit ![q, 0, 0] ![1, 512, 128] inb : Rect S4x512x128).emb (ix3 0 ⟨k + 16 * (y 1).val, by omega⟩ (y 2)) := by
    have h0 : (y 0).val < 1 := (y 0).isLt
    funext a
    refine Fin.ext ?_
    fin_cases a
    · show q + 1 * (y 0).val = q + 1 * 0; omega
    · show k + 16 * (y 1).val = 0 + 1 * (k + 16 * (y 1).val); omega
    · show 0 + 1 * (y 2).val = 0 + 1 * (y 2).val; rfl
  show View.canon _ (LoadRect.idx _ y) = _
  rw [e]
  exact View.canon_cons_emb (Rect.unit ![q, 0, 0] ![1, 512, 128] inb : Rect S4x512x128) w L _

/-- A block's normalised activations. -/
theorem norm_block (X : FVec Ideal S8x2048x2048 .f32) (g : FVec Ideal S1x2048 .f32) (xb : FVec Ideal S512x2048 .f32) (gb : FVec Ideal S1x2048 .f32)
    (p : Fin 512) (b : Fin 8) (s : Fin 2048) (hx : ∀ k : Fin 2048, xb (ix2 p k) = X (ix3 b s k)) (hg : gb = g) (k : Fin 2048) :
    k0_pay2 (F := Ideal) xb gb (ix2 p k) = normed X g (ix3 b s k) := by
  rw [normed_at, hg]
  open_payloads
  pointwise
  simp only [hx]

section Block

variable (P : FVec Ideal S8x2048x2048 .f32) (Cs Sn : FVec Ideal S2048x64 .f32)
  (hb : FVec Ideal S512x2048 .bf16) (wb : FVec Ideal S2048x2048 .bf16) (tb : FVec Ideal S4x2048x128 .f32)

/-- What the table holds: the cosines and the sines, negative at the first half of a head; both first times the queries' scale, then plain. -/
structure Table : Prop where
  qcos : ∀ (a : Fin 4) (s : Fin 2048) (l : Fin 128) (d : Fin 64), a.val = 0 → d.val = l.val % 64 → tb (ix3 a s l) = Cs (ix2 s d) * scale
  qlo : ∀ (a : Fin 4) (s : Fin 2048) (l : Fin 128) (d : Fin 64), a.val = 1 → d.val = l.val % 64 → l.val < 64 → tb (ix3 a s l) = -Sn (ix2 s d) * scale
  qhi : ∀ (a : Fin 4) (s : Fin 2048) (l : Fin 128) (d : Fin 64), a.val = 1 → d.val = l.val % 64 → ¬ l.val < 64 → tb (ix3 a s l) = Sn (ix2 s d) * scale
  cos : ∀ (a : Fin 4) (s : Fin 2048) (l : Fin 128) (d : Fin 64), a.val = 2 → d.val = l.val % 64 → tb (ix3 a s l) = Cs (ix2 s d)
  lo : ∀ (a : Fin 4) (s : Fin 2048) (l : Fin 128) (d : Fin 64), a.val = 3 → d.val = l.val % 64 → l.val < 64 → tb (ix3 a s l) = -Sn (ix2 s d)
  hi : ∀ (a : Fin 4) (s : Fin 2048) (l : Fin 128) (d : Fin 64), a.val = 3 → d.val = l.val % 64 → ¬ l.val < 64 → tb (ix3 a s l) = Sn (ix2 s d)

/-- A block's products are the projection's entries. -/
abbrev Part (t : ℕ) : Prop := ∀ (p : Fin 512) (q : Fin 2048) (b : Fin 8) (s : Fin 2048), b.val = (t * 512 + p.val) / 2048 → s.val = (t * 512 + p.val) % 2048 →
  (∑ k : Fin 2048, hb (ix2 p k) * wb (ix2 q k) : EReal) = P (ix3 b s q)

variable (t : ℕ) (hD : Part P hb wb t)

include hD

theorem plain_piece (p : Fin 512) (q : Fin 2048) (r : Fin 16384) (j : Fin 2048) (hr : r.val = t * 512 + p.val) (hq : q.val = j.val)
    (h0 : 1792 ≤ j.val) : (∑ k : Fin 2048, hb (ix2 p k) * wb (ix2 q k) : EReal) = slab P Cs Sn (ix2 r j) := by
  obtain rfl := Fin.ext hq
  rw [hD p q ⟨r.val / 2048, by omega⟩ ⟨r.val % 2048, by omega⟩ (by simp only []; rw [hr]) (by simp only []; rw [hr]), slab_plain P Cs Sn r q ⟨r.val / 2048, by omega⟩ rfl ⟨r.val % 2048, by omega⟩ rfl h0]

theorem query_piece (hT : Table Cs Sn tb) (p : Fin 512) (q q1 : Fin 2048) (r : Fin 16384) (j : Fin 2048) (a0 a1 : Fin 4)
    (s0 s1 : Fin 2048) (l0 l1 : Fin 128) (hr : r.val = t * 512 + p.val) (h1 : j.val < 1024)
    (hq : q.val = j.val) (hq1 : j.val % 128 < 64 → q1.val = j.val + 64) (hq2 : ¬ j.val % 128 < 64 → q1.val + 64 = j.val)
    (ha0 : a0.val = 0) (ha1 : a1.val = 1) (hs0 : s0.val = r.val % 2048) (hs1 : s1.val = r.val % 2048)
    (hl0 : l0.val = j.val % 128) (hl1 : l1.val = j.val % 128) :
    (∑ k : Fin 2048, hb (ix2 p k) * wb (ix2 q k) : EReal) * tb (ix3 a0 s0 l0)
        + (∑ k : Fin 2048, hb (ix2 p k) * wb (ix2 q1 k) : EReal) * tb (ix3 a1 s1 l1)
      = slab P Cs Sn (ix2 r j) := by
  obtain rfl := Fin.ext hq
  obtain rfl : s1 = s0 := Fin.ext (hs1.trans hs0.symm)
  have hb' : r.val / 2048 < 8 := by omega
  have hd : q.val % 64 < 64 := Nat.mod_lt _ (by omega)
  rw [hD p q ⟨r.val / 2048, hb'⟩ s1 (by simp only []; rw [hr]) (by rw [hs0, hr]), hD p q1 ⟨r.val / 2048, hb'⟩ s1 (by simp only []; rw [hr]) (by rw [hs0, hr]),
    hT.qcos a0 s1 l0 ⟨q.val % 64, hd⟩ ha0 (by simp only []; omega)]
  by_cases hl : q.val % 128 < 64
  · rw [hT.qlo a1 s1 l1 ⟨q.val % 64, hd⟩ ha1 (by simp only []; omega) (by omega),
      slab_qlo P Cs Sn r q ⟨r.val / 2048, hb'⟩ rfl s1 hs0 h1 hl ⟨q.val % 64, hd⟩ rfl q1 (hq1 hl), sub_eq_add_neg,
      EReal.right_distrib_of_nonneg_of_ne_top scale_real.1 scale_real.2, mul_assoc, ← mul_neg, mul_assoc]
  · rw [hT.qhi a1 s1 l1 ⟨q.val % 64, hd⟩ ha1 (by simp only []; omega) (by omega),
      slab_qhi P Cs Sn r q ⟨r.val / 2048, hb'⟩ rfl s1 hs0 h1 hl ⟨q.val % 64, hd⟩ rfl q1 (hq2 hl),
      EReal.right_distrib_of_nonneg_of_ne_top scale_real.1 scale_real.2, mul_assoc, mul_assoc]

theorem key_piece (hT : Table Cs Sn tb) (p : Fin 512) (q q1 : Fin 2048) (r : Fin 16384) (j : Fin 2048) (a0 a1 : Fin 4)
    (s0 s1 : Fin 2048) (l0 l1 : Fin 128) (hr : r.val = t * 512 + p.val) (h0 : 1024 ≤ j.val) (h1 : j.val < 1792)
    (hq : q.val = j.val) (hq1 : j.val % 128 < 64 → q1.val = j.val + 64) (hq2 : ¬ j.val % 128 < 64 → q1.val + 64 = j.val)
    (ha0 : a0.val = 2) (ha1 : a1.val = 3) (hs0 : s0.val = r.val % 2048) (hs1 : s1.val = r.val % 2048)
    (hl0 : l0.val = j.val % 128) (hl1 : l1.val = j.val % 128) :
    (∑ k : Fin 2048, hb (ix2 p k) * wb (ix2 q k) : EReal) * tb (ix3 a0 s0 l0)
        + (∑ k : Fin 2048, hb (ix2 p k) * wb (ix2 q1 k) : EReal) * tb (ix3 a1 s1 l1)
      = slab P Cs Sn (ix2 r j) := by
  obtain rfl := Fin.ext hq
  obtain rfl : s1 = s0 := Fin.ext (hs1.trans hs0.symm)
  have hb' : r.val / 2048 < 8 := by omega
  have hd : q.val % 64 < 64 := Nat.mod_lt _ (by omega)
  rw [hD p q ⟨r.val / 2048, hb'⟩ s1 (by simp only []; rw [hr]) (by rw [hs0, hr]), hD p q1 ⟨r.val / 2048, hb'⟩ s1 (by simp only []; rw [hr]) (by rw [hs0, hr]),
    hT.cos a0 s1 l0 ⟨q.val % 64, hd⟩ ha0 (by simp only []; omega)]
  by_cases hl : q.val % 128 < 64
  · rw [hT.lo a1 s1 l1 ⟨q.val % 64, hd⟩ ha1 (by simp only []; omega) (by omega),
      slab_lo P Cs Sn r q ⟨r.val / 2048, hb'⟩ rfl s1 hs0 h0 h1 hl ⟨q.val % 64, hd⟩ rfl q1 (hq1 hl), sub_eq_add_neg, mul_neg]
  · rw [hT.hi a1 s1 l1 ⟨q.val % 64, hd⟩ ha1 (by simp only []; omega) (by omega),
      slab_hi P Cs Sn r q ⟨r.val / 2048, hb'⟩ rfl s1 hs0 h0 h1 hl ⟨q.val % 64, hd⟩ rfl q1 (hq2 hl)]

omit hD

theorem off1 : ∀ t : Fin cfg0.N, k0_off1 (grid0.coords t) = ![0, t.val % 4 * 512, 0] :=
  (by decide +kernel : ∀ t : Fin grid0.N, _)
theorem off2 : ∀ t : Fin cfg0.N, k0_off2 (grid0.coords t) = ![1, t.val % 4 * 512, 0] :=
  (by decide +kernel : ∀ t : Fin grid0.N, _)
theorem off3 : ∀ t : Fin cfg0.N, k0_off3 (grid0.coords t) = ![2, t.val % 4 * 512, 0] :=
  (by decide +kernel : ∀ t : Fin grid0.N, _)
theorem off4 : ∀ t : Fin cfg0.N, k0_off4 (grid0.coords t) = ![3, t.val % 4 * 512, 0] :=
  (by decide +kernel : ∀ t : Fin grid0.N, _)

theorem block_norm (c : Dev nD) (t : Fin cfg0.N) (arg1 : Memref sig .tc .vmem S512x2048 .f32) (harg1 : arg1.IsWhole) (arg2 : Memref sig .tc .vmem S1x2048 .f32) (harg2 : arg2.IsWhole)
    (arg3 : Memref sig .tc .vmem S2048x2048 .bf16) (harg3 : arg3.IsWhole) (arg4 : Memref sig .tc .vmem S4x2048x128 .f32) (harg4 : arg4.IsWhole)
    (arg5 : Memref sig .tc .vmem S512x2048 .bf16) (harg5 : arg5.IsWhole) (arg6 : Memref sig .tc .vmem S512x2048 .bf16) (harg6 : arg6.IsWhole)
    (arg7 : Memref sig .tc .vmem S2x32x2048 .bf16) (harg7 : arg7.IsWhole) (arg8 : Memref sig .tc .vmem S2x32x2048 .bf16) (harg8 : arg8.IsWhole)
    (arg9 : Memref sig .tc .vmem S4x512x128 .f32) (harg9 : arg9.IsWhole)
    (xb : FVec Ideal S512x2048 .f32) (gb : FVec Ideal S1x2048 .f32) :
    out0_A_5 (F := Ideal) c (grid0.coords t) arg1 harg1 arg2 harg2 arg3 harg3 arg4 harg4 arg5 harg5 arg6 harg6 arg7 harg7 arg8 harg8 arg9 harg9 xb gb wb tb = k0_pay2 (F := Ideal) xb gb := by
  frame_out

set_option maxHeartbeats 4000000 in
theorem block_slab (c : Dev nD) (t : Fin cfg0.N) (arg1 : Memref sig .tc .vmem S512x2048 .f32) (harg1 : arg1.IsWhole) (arg2 : Memref sig .tc .vmem S1x2048 .f32) (harg2 : arg2.IsWhole)
    (arg3 : Memref sig .tc .vmem S2048x2048 .bf16) (harg3 : arg3.IsWhole) (arg4 : Memref sig .tc .vmem S4x2048x128 .f32) (harg4 : arg4.IsWhole)
    (arg5 : Memref sig .tc .vmem S512x2048 .bf16) (harg5 : arg5.IsWhole) (arg6 : Memref sig .tc .vmem S512x2048 .bf16) (harg6 : arg6.IsWhole)
    (arg7 : Memref sig .tc .vmem S2x32x2048 .bf16) (harg7 : arg7.IsWhole) (arg8 : Memref sig .tc .vmem S2x32x2048 .bf16) (harg8 : arg8.IsWhole)
    (arg9 : Memref sig .tc .vmem S4x512x128 .f32) (harg9 : arg9.IsWhole)
    (xb : FVec Ideal S512x2048 .f32) (gb : FVec Ideal S1x2048 .f32) (hh : k0_pay2 (F := Ideal) xb gb = hb)
    (hT : Table Cs Sn tb) (hD : Part P hb wb t.val)
    (y0 : Fin 512) (y1 : Fin 2048) (r : Fin 16384) (hr : r.val = t.val * 512 + y0.val) :
    out0_A_4 (F := Ideal) c (grid0.coords t) arg1 harg1 arg2 harg2 arg3 harg3 arg4 harg4 arg5 harg5 arg6 harg6 arg7 harg7 arg8 harg8 arg9 harg9 xb gb wb tb (ix2 y0 y1) = slab P Cs Sn (ix2 r y1) := by
  frame_out
  rw [hh]
  canon_tiles x h
  case piece0 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece1 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece2 =>
    have h0' : (y0 : ℕ) = _ := h0
    have h1' : (y1 : ℕ) = _ := h1
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece3 =>
    have h0' : (y0 : ℕ) = _ := h0
    have h1' : (y1 : ℕ) = _ := h1
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece4 =>
    have h0' : (y0 : ℕ) = _ := h0
    have h1' : (y1 : ℕ) = _ := h1
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece5 =>
    have h0' : (y0 : ℕ) = _ := h0
    have h1' : (y1 : ℕ) = _ := h1
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece6 =>
    have h0' : (y0 : ℕ) = _ := h0
    have h1' : (y1 : ℕ) = _ := h1
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece7 =>
    have h0' : (y0 : ℕ) = _ := h0
    have h1' : (y1 : ℕ) = _ := h1
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece8 =>
    have h0' : (y0 : ℕ) = _ := h0
    have h1' : (y1 : ℕ) = _ := h1
    open_payloads
    pointwise
    refine query_piece P Cs Sn hb wb tb _ hD hT _ _ _ _ _ _ _ _ _ _ _ ?_ ?_ ?_ ?_ ?_ ?_ ?_ ?_ ?_ ?_ ?_
    · (try simp only []); omega
    · (try simp only []); omega
    · (try simp only []); omega
    · (try simp only []); omega
    · (try simp only []); omega
    · exact congrFun (off1 t) 0
    · exact congrFun (off2 t) 0
    · have e : k0_off1 (grid0.coords t) 1 = t.val % 4 * 512 := congrFun (off1 t) 1
      simp only [e]; omega
    · have e : k0_off2 (grid0.coords t) 1 = t.val % 4 * 512 := congrFun (off2 t) 1
      simp only [e]; omega
    · have e : k0_off1 (grid0.coords t) 2 = 0 := congrFun (off1 t) 2
      simp only [e]; omega
    · have e : k0_off2 (grid0.coords t) 2 = 0 := congrFun (off2 t) 2
      simp only [e]; omega
  case piece9 =>
    have h0' : (y0 : ℕ) = _ := h0
    have h1' : (y1 : ℕ) = _ := h1
    open_payloads
    pointwise
    refine query_piece P Cs Sn hb wb tb _ hD hT _ _ _ _ _ _ _ _ _ _ _ ?_ ?_ ?_ ?_ ?_ ?_ ?_ ?_ ?_ ?_ ?_
    · (try simp only []); omega
    · (try simp only []); omega
    · (try simp only []); omega
    · (try simp only []); omega
    · (try simp only []); omega
    · exact congrFun (off1 t) 0
    · exact congrFun (off2 t) 0
    · have e : k0_off1 (grid0.coords t) 1 = t.val % 4 * 512 := congrFun (off1 t) 1
      simp only [e]; omega
    · have e : k0_off2 (grid0.coords t) 1 = t.val % 4 * 512 := congrFun (off2 t) 1
      simp only [e]; omega
    · have e : k0_off1 (grid0.coords t) 2 = 0 := congrFun (off1 t) 2
      simp only [e]; omega
    · have e : k0_off2 (grid0.coords t) 2 = 0 := congrFun (off2 t) 2
      simp only [e]; omega
  case piece10 =>
    have h0' : (y0 : ℕ) = _ := h0
    have h1' : (y1 : ℕ) = _ := h1
    open_payloads
    pointwise
    refine query_piece P Cs Sn hb wb tb _ hD hT _ _ _ _ _ _ _ _ _ _ _ ?_ ?_ ?_ ?_ ?_ ?_ ?_ ?_ ?_ ?_ ?_
    · (try simp only []); omega
    · (try simp only []); omega
    · (try simp only []); omega
    · (try simp only []); omega
    · (try simp only []); omega
    · exact congrFun (off1 t) 0
    · exact congrFun (off2 t) 0
    · have e : k0_off1 (grid0.coords t) 1 = t.val % 4 * 512 := congrFun (off1 t) 1
      simp only [e]; omega
    · have e : k0_off2 (grid0.coords t) 1 = t.val % 4 * 512 := congrFun (off2 t) 1
      simp only [e]; omega
    · have e : k0_off1 (grid0.coords t) 2 = 0 := congrFun (off1 t) 2
      simp only [e]; omega
    · have e : k0_off2 (grid0.coords t) 2 = 0 := congrFun (off2 t) 2
      simp only [e]; omega
  case piece11 =>
    have h0' : (y0 : ℕ) = _ := h0
    have h1' : (y1 : ℕ) = _ := h1
    open_payloads
    pointwise
    refine query_piece P Cs Sn hb wb tb _ hD hT _ _ _ _ _ _ _ _ _ _ _ ?_ ?_ ?_ ?_ ?_ ?_ ?_ ?_ ?_ ?_ ?_
    · (try simp only []); omega
    · (try simp only []); omega
    · (try simp only []); omega
    · (try simp only []); omega
    · (try simp only []); omega
    · exact congrFun (off1 t) 0
    · exact congrFun (off2 t) 0
    · have e : k0_off1 (grid0.coords t) 1 = t.val % 4 * 512 := congrFun (off1 t) 1
      simp only [e]; omega
    · have e : k0_off2 (grid0.coords t) 1 = t.val % 4 * 512 := congrFun (off2 t) 1
      simp only [e]; omega
    · have e : k0_off1 (grid0.coords t) 2 = 0 := congrFun (off1 t) 2
      simp only [e]; omega
    · have e : k0_off2 (grid0.coords t) 2 = 0 := congrFun (off2 t) 2
      simp only [e]; omega
  case piece12 =>
    have h0' : (y0 : ℕ) = _ := h0
    have h1' : (y1 : ℕ) = _ := h1
    open_payloads
    pointwise
    refine query_piece P Cs Sn hb wb tb _ hD hT _ _ _ _ _ _ _ _ _ _ _ ?_ ?_ ?_ ?_ ?_ ?_ ?_ ?_ ?_ ?_ ?_
    · (try simp only []); omega
    · (try simp only []); omega
    · (try simp only []); omega
    · (try simp only []); omega
    · (try simp only []); omega
    · exact congrFun (off1 t) 0
    · exact congrFun (off2 t) 0
    · have e : k0_off1 (grid0.coords t) 1 = t.val % 4 * 512 := congrFun (off1 t) 1
      simp only [e]; omega
    · have e : k0_off2 (grid0.coords t) 1 = t.val % 4 * 512 := congrFun (off2 t) 1
      simp only [e]; omega
    · have e : k0_off1 (grid0.coords t) 2 = 0 := congrFun (off1 t) 2
      simp only [e]; omega
    · have e : k0_off2 (grid0.coords t) 2 = 0 := congrFun (off2 t) 2
      simp only [e]; omega
  case piece13 =>
    have h0' : (y0 : ℕ) = _ := h0
    have h1' : (y1 : ℕ) = _ := h1
    open_payloads
    pointwise
    refine query_piece P Cs Sn hb wb tb _ hD hT _ _ _ _ _ _ _ _ _ _ _ ?_ ?_ ?_ ?_ ?_ ?_ ?_ ?_ ?_ ?_ ?_
    · (try simp only []); omega
    · (try simp only []); omega
    · (try simp only []); omega
    · (try simp only []); omega
    · (try simp only []); omega
    · exact congrFun (off1 t) 0
    · exact congrFun (off2 t) 0
    · have e : k0_off1 (grid0.coords t) 1 = t.val % 4 * 512 := congrFun (off1 t) 1
      simp only [e]; omega
    · have e : k0_off2 (grid0.coords t) 1 = t.val % 4 * 512 := congrFun (off2 t) 1
      simp only [e]; omega
    · have e : k0_off1 (grid0.coords t) 2 = 0 := congrFun (off1 t) 2
      simp only [e]; omega
    · have e : k0_off2 (grid0.coords t) 2 = 0 := congrFun (off2 t) 2
      simp only [e]; omega
  case piece14 =>
    have h0' : (y0 : ℕ) = _ := h0
    have h1' : (y1 : ℕ) = _ := h1
    open_payloads
    pointwise
    refine query_piece P Cs Sn hb wb tb _ hD hT _ _ _ _ _ _ _ _ _ _ _ ?_ ?_ ?_ ?_ ?_ ?_ ?_ ?_ ?_ ?_ ?_
    · (try simp only []); omega
    · (try simp only []); omega
    · (try simp only []); omega
    · (try simp only []); omega
    · (try simp only []); omega
    · exact congrFun (off1 t) 0
    · exact congrFun (off2 t) 0
    · have e : k0_off1 (grid0.coords t) 1 = t.val % 4 * 512 := congrFun (off1 t) 1
      simp only [e]; omega
    · have e : k0_off2 (grid0.coords t) 1 = t.val % 4 * 512 := congrFun (off2 t) 1
      simp only [e]; omega
    · have e : k0_off1 (grid0.coords t) 2 = 0 := congrFun (off1 t) 2
      simp only [e]; omega
    · have e : k0_off2 (grid0.coords t) 2 = 0 := congrFun (off2 t) 2
      simp only [e]; omega
  case piece15 =>
    have h0' : (y0 : ℕ) = _ := h0
    have h1' : (y1 : ℕ) = _ := h1
    open_payloads
    pointwise
    refine query_piece P Cs Sn hb wb tb _ hD hT _ _ _ _ _ _ _ _ _ _ _ ?_ ?_ ?_ ?_ ?_ ?_ ?_ ?_ ?_ ?_ ?_
    · (try simp only []); omega
    · (try simp only []); omega
    · (try simp only []); omega
    · (try simp only []); omega
    · (try simp only []); omega
    · exact congrFun (off1 t) 0
    · exact congrFun (off2 t) 0
    · have e : k0_off1 (grid0.coords t) 1 = t.val % 4 * 512 := congrFun (off1 t) 1
      simp only [e]; omega
    · have e : k0_off2 (grid0.coords t) 1 = t.val % 4 * 512 := congrFun (off2 t) 1
      simp only [e]; omega
    · have e : k0_off1 (grid0.coords t) 2 = 0 := congrFun (off1 t) 2
      simp only [e]; omega
    · have e : k0_off2 (grid0.coords t) 2 = 0 := congrFun (off2 t) 2
      simp only [e]; omega

set_option maxHeartbeats 4000000 in
theorem block_keys (c : Dev nD) (t : Fin cfg0.N) (arg1 : Memref sig .tc .vmem S512x2048 .f32) (harg1 : arg1.IsWhole) (arg2 : Memref sig .tc .vmem S1x2048 .f32) (harg2 : arg2.IsWhole)
    (arg3 : Memref sig .tc .vmem S2048x2048 .bf16) (harg3 : arg3.IsWhole) (arg4 : Memref sig .tc .vmem S4x2048x128 .f32) (harg4 : arg4.IsWhole)
    (arg5 : Memref sig .tc .vmem S512x2048 .bf16) (harg5 : arg5.IsWhole) (arg6 : Memref sig .tc .vmem S512x2048 .bf16) (harg6 : arg6.IsWhole)
    (arg7 : Memref sig .tc .vmem S2x32x2048 .bf16) (harg7 : arg7.IsWhole) (arg8 : Memref sig .tc .vmem S2x32x2048 .bf16) (harg8 : arg8.IsWhole)
    (arg9 : Memref sig .tc .vmem S4x512x128 .f32) (harg9 : arg9.IsWhole)
    (xb : FVec Ideal S512x2048 .f32) (gb : FVec Ideal S1x2048 .f32) (hh : k0_pay2 (F := Ideal) xb gb = hb)
    (hT : Table Cs Sn tb) (hD : Part P hb wb t.val)
    (y0 : Fin 2) (y1 : Fin 32) (y2 : Fin 2048) (r : Fin 16384) (j : Fin 2048)
    (hr : r.val = t.val * 512 + (16 * y1.val + y2.val / 128)) (hj : j.val = 1024 + 128 * y0.val + y2.val % 128) :
    out0_A_6 (F := Ideal) c (grid0.coords t) arg1 harg1 arg2 harg2 arg3 harg3 arg4 harg4 arg5 harg5 arg6 harg6 arg7 harg7 arg8 harg8 arg9 harg9 xb gb wb tb (ix3 y0 y1 y2) = slab P Cs Sn (ix2 r j) := by
  frame_out
  rw [hh]
  canon_tiles x h
  case piece0 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece1 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece2 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece3 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece4 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece5 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece6 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece7 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece8 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece9 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece10 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece11 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece12 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece13 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece14 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece15 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece16 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece17 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece18 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece19 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece20 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece21 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece22 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece23 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece24 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece25 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece26 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece27 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece28 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece29 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece30 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega
  case piece31 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine key_piece P Cs Sn hb wb tb _ hD hT _ _ _ _ _ _ _ _ _ _ _ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off3 t) 0
    · exact congrFun (off4 t) 0
    · have e : k0_off3 (grid0.coords t) 1 = t.val % 4 * 512 := congrFun (off3 t) 1
      simp only [e]; omega
    · have e : k0_off4 (grid0.coords t) 1 = t.val % 4 * 512 := congrFun (off4 t) 1
      simp only [e]; omega
    · have e : k0_off3 (grid0.coords t) 2 = 0 := congrFun (off3 t) 2
      simp only [e]; omega
    · have e : k0_off4 (grid0.coords t) 2 = 0 := congrFun (off4 t) 2
      simp only [e]; omega

set_option maxHeartbeats 4000000 in
theorem block_vals (c : Dev nD) (t : Fin cfg0.N) (arg1 : Memref sig .tc .vmem S512x2048 .f32) (harg1 : arg1.IsWhole) (arg2 : Memref sig .tc .vmem S1x2048 .f32) (harg2 : arg2.IsWhole)
    (arg3 : Memref sig .tc .vmem S2048x2048 .bf16) (harg3 : arg3.IsWhole) (arg4 : Memref sig .tc .vmem S4x2048x128 .f32) (harg4 : arg4.IsWhole)
    (arg5 : Memref sig .tc .vmem S512x2048 .bf16) (harg5 : arg5.IsWhole) (arg6 : Memref sig .tc .vmem S512x2048 .bf16) (harg6 : arg6.IsWhole)
    (arg7 : Memref sig .tc .vmem S2x32x2048 .bf16) (harg7 : arg7.IsWhole) (arg8 : Memref sig .tc .vmem S2x32x2048 .bf16) (harg8 : arg8.IsWhole)
    (arg9 : Memref sig .tc .vmem S4x512x128 .f32) (harg9 : arg9.IsWhole)
    (xb : FVec Ideal S512x2048 .f32) (gb : FVec Ideal S1x2048 .f32) (hh : k0_pay2 (F := Ideal) xb gb = hb)
    (hD : Part P hb wb t.val)
    (y0 : Fin 2) (y1 : Fin 32) (y2 : Fin 2048) (r : Fin 16384) (j : Fin 2048)
    (hr : r.val = t.val * 512 + (16 * y1.val + y2.val / 128)) (hj : j.val = 1792 + 128 * y0.val + y2.val % 128) :
    out0_A_7 (F := Ideal) c (grid0.coords t) arg1 harg1 arg2 harg2 arg3 harg3 arg4 harg4 arg5 harg5 arg6 harg6 arg7 harg7 arg8 harg8 arg9 harg9 xb gb wb tb (ix3 y0 y1 y2) = slab P Cs Sn (ix2 r j) := by
  frame_out
  rw [hh]
  canon_tiles x h
  case piece0 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece1 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece2 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece3 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece4 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece5 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece6 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece7 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece8 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece9 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece10 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece11 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece12 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece13 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece14 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece15 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece16 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece17 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece18 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece19 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece20 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece21 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece22 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece23 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece24 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece25 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece26 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece27 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece28 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece29 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece30 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega
  case piece31 =>
    have h0' : (y0 : ℕ) = _ := h0
    have h1' : (y1 : ℕ) = _ := h1
    have h2' : (y2 : ℕ) = _ := h2
    have x1' : (x 1 : ℕ) < 32 := x1_lt
    rw [stage_read _ _ _ _ _ _ _ (by omega)]
    open_payloads
    pointwise
    refine plain_piece P Cs Sn hb wb _ hD _ _ _ _ ?_ ?_ ?_
    all_goals (try simp only []); omega

end Block

variable (m : (ℓ : Loc nD τ sig) → Buf (Elt Ideal) ℓ) (c : Dev nD)

/-- The reference's normalised activations. -/
def H : FVec Ideal S8x2048x2048 .f32 := normed (m ((c.tc : Thread nD τ).loc main_arg0)) (m ((c.tc : Thread nD τ).loc main_arg1))

/-- The reference's projection. -/
def P : FVec Ideal S8x2048x2048 .f32 := proj (H m c) (m ((c.tc : Thread nD τ).loc main_arg2))

/-- The reference's slab. -/
def G : FVec Ideal S16384x2048 .bf16 := slab (P m c) (Host.cos angle) (Host.sin angle)

theorem idx : ∀ t : Fin cfg0.N, win0_0.index t = ![t.val, 0] ∧ win0_1.index t = ![0, 0] ∧ win0_2.index t = ![0, 0] ∧ win0_3.index t = ![0, 0, 0]
    ∧ win0_4.index t = ![t.val, 0] ∧ win0_5.index t = ![t.val, 0] ∧ win0_6.index t = ![0, t.val, 0] ∧ win0_7.index t = ![0, t.val, 0] :=
  (by decide +kernel : ∀ t : Fin grid0.N, _)

theorem x_entry : (V m c main_v0 : FVec Ideal S16384x2048 .f32)
    = shapeCast _ (m ((c.tc : Thread nD τ).loc main_arg0) : FVec Ideal S8x2048x2048 .f32) shapeCasts_S8x2048x2048_S16384x2048 := by
  unfold V
  simp only [hostOps0]
  after_results_simp <;> rfl

theorem g_entry : (V m c main_v2 : FVec Ideal S1x2048 .f32)
    = shapeCast _ (shapeCast S2048 (m ((c.tc : Thread nD τ).loc main_arg1) : FVec Ideal S1x2048 .f32) shapeCasts_S1x2048_S2048) shapeCasts_S2048_S1x2048 := by
  unfold V
  simp only [hostOps0]
  after_results_simp <;> rfl

theorem read_rows (t : Fin cfg0.N) (p : Fin 512) (k : Fin 2048) (r : Fin 16384) (hr : r.val = t.val * 512 + p.val) :
    (iblk m c 0 t : FVec Ideal S512x2048 .f32) (ix2 p k) = (V m c main_v0 : FVec Ideal S16384x2048 .f32) (ix2 r k) := by
  blk_ext [iblk, idx t]

theorem x_at (X : FVec Ideal S8x2048x2048 .f32) (r : Fin 16384) (k : Fin 2048) (b : Fin 8) (s : Fin 2048) (hb : b.val = r.val / 2048) (hs : s.val = r.val % 2048) :
    (shapeCast _ X shapeCasts_S8x2048x2048_S16384x2048 : FVec Ideal S16384x2048 .f32) (ix2 r k) = X (ix3 b s k) := by
  pointwise
  blk_ext

theorem readX (t : Fin cfg0.N) (p : Fin 512) (k : Fin 2048) (b : Fin 8) (s : Fin 2048)
    (hb : b.val = (t.val * 512 + p.val) / 2048) (hs : s.val = (t.val * 512 + p.val) % 2048) :
    (iblk m c 0 t : FVec Ideal S512x2048 .f32) (ix2 p k) = (m ((c.tc : Thread nD τ).loc main_arg0) : FVec Ideal S8x2048x2048 .f32) (ix3 b s k) := by
  have h : t.val < 32 := lt_of_lt_of_eq t.isLt N_0
  have e := read_rows m c t p k ⟨t.val * 512 + p.val, by omega⟩ rfl
  rw [x_entry] at e
  exact e.trans (x_at _ _ k b s hb hs)

theorem readG (t : Fin cfg0.N) : (iblk m c 1 t : FVec Ideal S1x2048 .f32) = (m ((c.tc : Thread nD τ).loc main_arg1) : FVec Ideal S1x2048 .f32) := by
  have e : (iblk m c 1 t : FVec Ideal S1x2048 .f32) = V m c main_v2 := by
    funext y
    blk_ext [iblk, idx t]
  rw [e, g_entry]
  funext y
  idx_vars y
  obtain rfl : y0 = 0 := Subsingleton.elim _ _
  pointwise

theorem readW (t : Fin cfg0.N) (q k : Fin 2048) : (iblk m c 2 t : FVec Ideal S2048x2048 .bf16) (ix2 q k)
    = (m ((c.tc : Thread nD τ).loc main_arg2) : FVec Ideal S6144x2048 .bf16) (ix2 ⟨q, by omega⟩ k) := by
  blk_ext [iblk, V, idx t]

theorem part (t : Fin cfg0.N) (hb : FVec Ideal S512x2048 .bf16) (wb : FVec Ideal S2048x2048 .bf16)
    (hh : k0_pay2 (F := Ideal) (iblk m c 0 t) (iblk m c 1 t) = hb) (hw : wb = iblk m c 2 t) : Part (P m c) hb wb t.val := by
  intro p q b s hb' hs
  rw [P, proj_at]
  refine Finset.sum_congr rfl fun k _ => ?_
  rw [← hh, hw, readW m c t q k, norm_block (m ((c.tc : Thread nD τ).loc main_arg0)) (m ((c.tc : Thread nD τ).loc main_arg1)) _ _ p b s
    (fun k => readX m c t p k b s hb' hs) (readG m c t) k]
  rfl

theorem table_eq (t : Fin cfg0.N) : (iblk m c 3 t : FVec Ideal S4x2048x128 .f32) = V m c main_v62 := by
  funext y
  blk_ext [iblk, idx t]

/-- The four tables side by side. -/
def tabs (Cs Sn : FVec Ideal S2048x64 .f32) : FVec Ideal S4x2048x128 .f32 :=
  concatenate S4x2048x128 0 [
    ⟨S1x2048x128, broadcastInDim S1x2048x128 ![1, 2] bcast_S2048x128_S1x2048x128_1_2
      (mulf (concatenate S2048x128 1 [⟨S2048x64, Cs⟩, ⟨S2048x64, Cs⟩] concatenates_S2048x64_S2048x64_S2048x128_d1)
        (broadcastInDim S2048x128 ![] bcast_S_S2048x128 (constant S_ .f32 0x3E0293EE#32)))⟩,
    ⟨S1x2048x128, broadcastInDim S1x2048x128 ![1, 2] bcast_S2048x128_S1x2048x128_1_2
      (mulf (concatenate S2048x128 1 [⟨S2048x64, Host.negf Sn⟩, ⟨S2048x64, Sn⟩] concatenates_S2048x64_S2048x64_S2048x128_d1)
        (broadcastInDim S2048x128 ![] bcast_S_S2048x128 (constant S_ .f32 0x3E0293EE#32)))⟩,
    ⟨S1x2048x128, broadcastInDim S1x2048x128 ![1, 2] bcast_S2048x128_S1x2048x128_1_2
      (concatenate S2048x128 1 [⟨S2048x64, Cs⟩, ⟨S2048x64, Cs⟩] concatenates_S2048x64_S2048x64_S2048x128_d1)⟩,
    ⟨S1x2048x128, broadcastInDim S1x2048x128 ![1, 2] bcast_S2048x128_S1x2048x128_1_2
      (concatenate S2048x128 1 [⟨S2048x64, Host.negf Sn⟩, ⟨S2048x64, Sn⟩] concatenates_S2048x64_S2048x64_S2048x128_d1)⟩]
    concatenates_S1x2048x128_S1x2048x128_S1x2048x128_S1x2048x128_S4x2048x128_d0

theorem tabs_table (Cs Sn : FVec Ideal S2048x64 .f32) : Table Cs Sn (tabs Cs Sn) where
  qcos a s l d ha hd := by
    pointwise [tabs]
    rw [dif_pos (by omega)]
    by_cases h0 : l.val < 64
    · rw [dif_pos h0]; refine congrArg (· * scale) ?_; blk_ext
    rw [dif_neg h0]; refine congrArg (· * scale) ?_; blk_ext
  qlo a s l d ha hd hl := by
    pointwise [tabs]
    rw [dif_neg (by omega), dif_pos (by omega), dif_pos hl]; refine congrArg (-· * scale) ?_; blk_ext
  qhi a s l d ha hd hl := by
    pointwise [tabs]
    rw [dif_neg (by omega), dif_pos (by omega), dif_neg hl]; refine congrArg (· * scale) ?_; blk_ext
  cos a s l d ha hd := by
    pointwise [tabs]
    rw [dif_neg (by omega), dif_neg (by omega), dif_pos (by omega)]
    by_cases h0 : l.val < 64
    · rw [dif_pos h0]; blk_ext
    rw [dif_neg h0]; blk_ext
  lo a s l d ha hd hl := by
    pointwise [tabs]
    rw [dif_neg (by omega), dif_neg (by omega), dif_neg (by omega), dif_pos hl]; refine congrArg (-·) ?_; blk_ext
  hi a s l d ha hd hl := by
    pointwise [tabs]
    rw [dif_neg (by omega), dif_neg (by omega), dif_neg (by omega), dif_neg hl]; blk_ext

set_option maxHeartbeats 30000000 in
theorem table_entry : V m c main_v62 = tabs (Host.cos angle) (Host.sin angle) := by
  unfold V
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem table (t : Fin cfg0.N) (tb : FVec Ideal S4x2048x128 .f32) (h : tb = iblk m c 3 t) : Table (Host.cos angle) (Host.sin angle) tb := by
  rw [h, table_eq, table_entry]
  exact tabs_table _ _

theorem placed4 (t : Fin cfg0.N) (ht : t.val < 32) (p : Fin 512) (k : Fin 2048) (X : FVec Ideal S16384x2048 .bf16) :
    X (((View.whole main_v63_0).slice (win0_4.rect t)).emb (ix2 p k)) = X (ix2 ⟨t.val * 512 + p, by omega⟩ k) := by
  refine congrArg X ?_
  blk_ext [idx t]

theorem placed5 (t : Fin cfg0.N) (ht : t.val < 32) (p : Fin 512) (k : Fin 2048) (X : FVec Ideal S16384x2048 .bf16) :
    X (((View.whole main_v63_1).slice (win0_5.rect t)).emb (ix2 p k)) = X (ix2 ⟨t.val * 512 + p, by omega⟩ k) := by
  refine congrArg X ?_
  blk_ext [idx t]

theorem placed6 (t : Fin cfg0.N) (ht : t.val < 32) (a : Fin 2) (p : Fin 32) (k : Fin 2048) (X : FVec Ideal S2x1024x2048 .bf16) :
    X (((View.whole main_v63_2).slice (win0_6.rect t)).emb (ix3 a p k)) = X (ix3 a ⟨t.val * 32 + p, by omega⟩ k) := by
  refine congrArg X ?_
  blk_ext [idx t]

theorem placed7 (t : Fin cfg0.N) (ht : t.val < 32) (a : Fin 2) (p : Fin 32) (k : Fin 2048) (X : FVec Ideal S2x1024x2048 .bf16) :
    X (((View.whole main_v63_3).slice (win0_7.rect t)).emb (ix3 a p k)) = X (ix3 a ⟨t.val * 32 + p, by omega⟩ k) := by
  refine congrArg X ?_
  blk_ext [idx t]

theorem final_slab : (dats m 0 c).arrAt 4 (cfgs 0).N = G m c := by
  refine (dats m 0 c).arrAt_eq_of_covers 4 _ (by decide +kernel) fun t _ y => ?_
  have ht : t.val < 32 := lt_of_lt_of_eq t.isLt N_0
  blk_simp
  rw [after0_4]
  unfold outsAt0
  idx_vars y
  refine Eq.trans ?_ (placed4 t ht y0 y1 (G m c)).symm
  exact block_slab _ _ _ _ _ _ c t _ _ _ _ _ _ _ _ _ _ _ _ _ _ _ _ _ _ _ _ rfl (table m c t _ rfl) (part m c t _ _ rfl rfl) y0 y1 _ rfl

theorem final_rows : (dats m 0 c).arrAt 5 (cfgs 0).N = rows (H m c) := by
  refine (dats m 0 c).arrAt_eq_of_covers 5 _ (by decide +kernel) fun t _ y => ?_
  have ht : t.val < 32 := lt_of_lt_of_eq t.isLt N_0
  blk_simp
  rw [after0_5]
  unfold outsAt0
  idx_vars y
  refine Eq.trans ?_ (placed5 t ht y0 y1 (rows (H m c))).symm
  rw [rows_at _ _ _ ⟨(t.val * 512 + y0.val) / 2048, by omega⟩ rfl ⟨(t.val * 512 + y0.val) % 2048, by omega⟩ rfl]
  dsimp only
  rw [block_norm]
  exact norm_block _ _ _ _ y0 _ _ (fun k => readX m c t y0 k _ _ rfl rfl) (readG m c t) y1

theorem final_keys : (dats m 0 c).arrAt 6 (cfgs 0).N = keys (P m c) (Host.cos angle) (Host.sin angle) := by
  refine (dats m 0 c).arrAt_eq_of_covers 6 _ (by decide +kernel) fun t _ y => ?_
  have ht : t.val < 32 := lt_of_lt_of_eq t.isLt N_0
  blk_simp
  rw [after0_6]
  unfold outsAt0
  idx_vars y
  refine Eq.trans ?_ (placed6 t ht y0 y1 y2 (keys (P m c) (Host.cos angle) (Host.sin angle))).symm
  rw [keys_at _ _ _ ⟨t.val * 512 + (16 * y1.val + y2.val / 128), by omega⟩ ⟨1024 + 128 * y0.val + y2.val % 128, by omega⟩ _ _ _
    (by simp only []; omega) (by simp only [])]
  exact block_keys _ _ _ _ _ _ c t _ _ _ _ _ _ _ _ _ _ _ _ _ _ _ _ _ _ _ _ rfl (table m c t _ rfl) (part m c t _ _ rfl rfl) y0 y1 y2 _ _ rfl rfl

theorem final_vals : (dats m 0 c).arrAt 7 (cfgs 0).N = vals (P m c) := by
  refine (dats m 0 c).arrAt_eq_of_covers 7 _ (by decide +kernel) fun t _ y => ?_
  have ht : t.val < 32 := lt_of_lt_of_eq t.isLt N_0
  blk_simp
  rw [after0_7]
  unfold outsAt0
  idx_vars y
  refine Eq.trans ?_ (placed7 t ht y0 y1 y2 (vals (P m c))).symm
  rw [vals_at _ (Host.cos angle) (Host.sin angle) ⟨t.val * 512 + (16 * y1.val + y2.val / 128), by omega⟩ ⟨1792 + 128 * y0.val + y2.val % 128, by omega⟩ _ _ _
    (by simp only []; omega) (by simp only [])]
  exact block_vals _ _ _ _ _ _ c t _ _ _ _ _ _ _ _ _ _ _ _ _ _ _ _ _ _ _ _ rfl (part m c t _ _ rfl rfl) y0 y1 y2 _ _ rfl rfl

end Cert.Proj0Ideal.Final
-- ==== Proof.Proj1Stages.lean ====
module

public import proofs.«01_k».proof.Proof.Gen.Proj1RefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proj1RefIdeal.Stages

open Cert.Proj1RefIdeal Cert.Proj1RefIdeal.Gen

/-- The projection of every row on this slab's columns. -/
def proj (H : FVec Ideal S16384x2048 .bf16) (W : FVec Ideal S6144x2048 .bf16) : FVec Ideal S16384x2048 .f32 :=
  (Host.dotGeneral dot_S16384x2048_S2048x2048_S16384x2048_1_0_0_1_n_n none (extf .f32 H bitsLt_bf16_f32) (transpose S2048x2048 [1, 0] (extf .f32
    (extractStridedSlice S2048x2048 ![2048, 0] W slices_S6144x2048_S2048x2048_2048_0) bitsLt_bf16_f32) transposes_S2048x2048_S2048x2048_1_0))

/-- The angle of each position at each of the 32 frequencies. -/
def angle : FVec Ideal S2048x32 .f32 :=
  (mulf (broadcastInDim S2048x32 ![0, 1] bcast_S2048x1_S2048x32_0_1 (broadcastInDim S2048x1 ![0] bcast_S2048_S2048x1_0 (sitofp .f32 (iotaInDim S2048
    32 0)))) (broadcastInDim S2048x32 ![0, 1] bcast_S1x32_S2048x32_0_1 (broadcastInDim S1x32 ![1] bcast_S32_S1x32_1 (Host.powf (broadcastInDim S32 ![]
    bcast_S_S32 (constant S_ .f32 0x461C4000#32)) (Host.divf (Host.negf (addf (broadcastInDim S32 ![] bcast_S_S32 (constant S_ .f32 0x00000000#32))
    (mulf (broadcastInDim S32 ![] bcast_S_S32 (constant S_ .f32 0x40000000#32)) (sitofp .f32 (iotaInDim S32 32 0))))) (broadcastInDim S32 ![]
    bcast_S_S32 (constant S_ .f32 0x42800000#32)))))))

/-- The slab: its groups of columns, each with its own epilogue. -/
def slab (P : FVec Ideal S16384x2048 .f32) (Cs Sn : FVec Ideal S2048x32 .f32) : FVec Ideal S16384x2048 .bf16 :=
  truncf .bf16 ((concatenate S16384x2048 1 [⟨S16384x256, ((shapeCast _ (extractStridedSlice S8x2048x256 ![0, 0, 0] (shapeCast _ P
    shapeCasts_S16384x2048_S8x2048x2048) slices_S8x2048x2048_S8x2048x256_0_0_0) shapeCasts_S8x2048x256_S16384x256) : (⟨S16384x256, .f32⟩ :
    BufTy).Contents (Elt Ideal))⟩, ⟨S16384x256, ((shapeCast _ (extractStridedSlice S8x2048x256 ![0, 0, 256] (shapeCast _ P
    shapeCasts_S16384x2048_S8x2048x2048) slices_S8x2048x2048_S8x2048x256_0_0_256) shapeCasts_S8x2048x256_S16384x256) : (⟨S16384x256, .f32⟩ :
    BufTy).Contents (Elt Ideal))⟩, ⟨S16384x1024, ((shapeCast _ (mulf (extractStridedSlice S8x2048x1024 ![0, 0, 512] (shapeCast _ P
    shapeCasts_S16384x2048_S8x2048x2048) slices_S8x2048x2048_S8x2048x1024_0_0_512) (Host.divf (broadcastInDim S8x2048x1024 ![] bcast_S_S8x2048x1024
    (constant S_ .f32 0x3F800000#32)) (addf (broadcastInDim S8x2048x1024 ![] bcast_S_S8x2048x1024 (constant S_ .f32 0x3F800000#32)) (Host.exp
    (Host.negf (extractStridedSlice S8x2048x1024 ![0, 0, 512] (shapeCast _ P shapeCasts_S16384x2048_S8x2048x2048)
    slices_S8x2048x2048_S8x2048x1024_0_0_512)))))) shapeCasts_S8x2048x1024_S16384x1024) : (⟨S16384x1024, .f32⟩ : BufTy).Contents (Elt Ideal))⟩,
    ⟨S16384x256, ((shapeCast _ (concatenate S8x2048x4x64 3 [⟨S8x2048x4x32, (subf (mulf (extractStridedSlice S8x2048x4x32 ![0, 0, 0, 0] (shapeCast _
    (extractStridedSlice S8x2048x256 ![0, 0, 1536] (shapeCast _ P shapeCasts_S16384x2048_S8x2048x2048) slices_S8x2048x2048_S8x2048x256_0_0_1536)
    shapeCasts_S8x2048x256_S8x2048x4x64) slices_S8x2048x4x64_S8x2048x4x32_0_0_0_0) (broadcastInDim S8x2048x4x32 ![0, 1, 2, 3]
    bcast_S1x2048x1x32_S8x2048x4x32_0_1_2_3 (broadcastInDim S1x2048x1x32 ![1, 3] bcast_S2048x32_S1x2048x1x32_1_3 Cs))) (mulf (extractStridedSlice
    S8x2048x4x32 ![0, 0, 0, 32] (shapeCast _ (extractStridedSlice S8x2048x256 ![0, 0, 1536] (shapeCast _ P shapeCasts_S16384x2048_S8x2048x2048)
    slices_S8x2048x2048_S8x2048x256_0_0_1536) shapeCasts_S8x2048x256_S8x2048x4x64) slices_S8x2048x4x64_S8x2048x4x32_0_0_0_32) (broadcastInDim
    S8x2048x4x32 ![0, 1, 2, 3] bcast_S1x2048x1x32_S8x2048x4x32_0_1_2_3 (broadcastInDim S1x2048x1x32 ![1, 3] bcast_S2048x32_S1x2048x1x32_1_3 Sn))))⟩,
    ⟨S8x2048x4x32, (addf (mulf (extractStridedSlice S8x2048x4x32 ![0, 0, 0, 32] (shapeCast _ (extractStridedSlice S8x2048x256 ![0, 0, 1536] (shapeCast
    _ P shapeCasts_S16384x2048_S8x2048x2048) slices_S8x2048x2048_S8x2048x256_0_0_1536) shapeCasts_S8x2048x256_S8x2048x4x64)
    slices_S8x2048x4x64_S8x2048x4x32_0_0_0_32) (broadcastInDim S8x2048x4x32 ![0, 1, 2, 3] bcast_S1x2048x1x32_S8x2048x4x32_0_1_2_3 (broadcastInDim
    S1x2048x1x32 ![1, 3] bcast_S2048x32_S1x2048x1x32_1_3 Cs))) (mulf (extractStridedSlice S8x2048x4x32 ![0, 0, 0, 0] (shapeCast _ (extractStridedSlice
    S8x2048x256 ![0, 0, 1536] (shapeCast _ P shapeCasts_S16384x2048_S8x2048x2048) slices_S8x2048x2048_S8x2048x256_0_0_1536)
    shapeCasts_S8x2048x256_S8x2048x4x64) slices_S8x2048x4x64_S8x2048x4x32_0_0_0_0) (broadcastInDim S8x2048x4x32 ![0, 1, 2, 3]
    bcast_S1x2048x1x32_S8x2048x4x32_0_1_2_3 (broadcastInDim S1x2048x1x32 ![1, 3] bcast_S2048x32_S1x2048x1x32_1_3 Sn))))⟩]
    concatenates_S8x2048x4x32_S8x2048x4x32_S8x2048x4x64_d3) shapeCasts_S8x2048x4x64_S16384x256) : (⟨S16384x256, .f32⟩ : BufTy).Contents (Elt Ideal))⟩,
    ⟨S16384x128, ((shapeCast _ (Host.divf (broadcastInDim S8x2048x128 ![] bcast_S_S8x2048x128 (constant S_ .f32 0x3F800000#32)) (addf (broadcastInDim
    S8x2048x128 ![] bcast_S_S8x2048x128 (constant S_ .f32 0x3F800000#32)) (Host.exp (Host.negf (extractStridedSlice S8x2048x128 ![0, 0, 1792]
    (shapeCast _ P shapeCasts_S16384x2048_S8x2048x2048) slices_S8x2048x2048_S8x2048x128_0_0_1792))))) shapeCasts_S8x2048x128_S16384x128) :
    (⟨S16384x128, .f32⟩ : BufTy).Contents (Elt Ideal))⟩, ⟨S16384x128, ((shapeCast _ (extractStridedSlice S8x2048x128 ![0, 0, 1920] (shapeCast _ P
    shapeCasts_S16384x2048_S8x2048x2048) slices_S8x2048x2048_S8x2048x128_0_0_1920) shapeCasts_S8x2048x128_S16384x128) : (⟨S16384x128, .f32⟩ :
    BufTy).Contents (Elt Ideal))⟩] concatenates_S16384x256_S16384x256_S16384x1024_S16384x256_S16384x128_S16384x128_S16384x2048_d1 : (⟨S16384x2048,
    .f32⟩ : BufTy).Contents (Elt Ideal))) bitsLt_bf16_f32

/-- The reference's result is these stages. -/
theorem result_eq (m : (ℓ : Loc nD τ sig) → Buf (Elt Ideal) ℓ) (c : Dev nD) : Cert.Proj1RefIdeal.Value.res_main_v60 m c
    = slab (proj (m ((c.tc : Thread nD τ).loc main_arg0)) (m ((c.tc : Thread nD τ).loc main_arg1))) (Host.cos angle) (Host.sin angle) := rfl

theorem proj_at (H : FVec Ideal S16384x2048 .bf16) (W : FVec Ideal S6144x2048 .bf16) (r : Fin 16384) (j : Fin 2048) :
    proj H W (ix2 r j) = ∑ k : Fin 2048, H (ix2 r k) * W (ix2 ⟨2048 + j, by omega⟩ k) := by
  pointwise [proj]

theorem silu_eq (z : EReal) : z * Ideal.div 1 (1 + Ideal.exp (-z)) = z * Ideal.logistic z := rfl

variable (P : FVec Ideal S16384x2048 .f32) (Cs Sn : FVec Ideal S2048x32 .f32) (r : Fin 16384) (j : Fin 2048)

/-- The columns of the values and of the second group's values pass through. -/
theorem slab_plain (h : j.val < 512 ∨ 1920 ≤ j.val) : slab P Cs Sn (ix2 r j) = P (ix2 r j) := by
  pointwise [slab]
  by_cases h0 : j.val < 256
  · rw [dif_pos h0]
  by_cases h1 : j.val < 512
  · rw [dif_neg h0, dif_pos (by omega)]
    blk_ext
  · rw [dif_neg h0, dif_neg (by omega), dif_neg (by omega), dif_neg (by omega), dif_neg (by omega)]
    blk_ext

/-- The first group's gate columns. -/
theorem slab_silu (h0 : 512 ≤ j.val) (h1 : j.val < 1536) : slab P Cs Sn (ix2 r j) = P (ix2 r j) * Ideal.logistic (P (ix2 r j)) := by
  have e : 512 + (j.val - 256 - 256) = j := by omega
  pointwise [slab]
  rw [dif_neg (by omega), dif_neg (by omega), dif_pos (by omega)]
  simp only [e, Fin.eta, silu_eq]

/-- The branch gates' columns. -/
theorem slab_sigmoid (h0 : 1792 ≤ j.val) (h1 : j.val < 1920) : slab P Cs Sn (ix2 r j) = Ideal.logistic (P (ix2 r j)) := by
  have e : 1792 + (j.val - 256 - 256 - 1024 - 256) = j := by omega
  pointwise [slab]
  rw [dif_neg (by omega), dif_neg (by omega), dif_neg (by omega), dif_neg (by omega), dif_pos (by omega)]
  simp only [e, Fin.eta]
  rfl

/-- The first half of a rotated head. -/
theorem slab_lo (h0 : 1536 ≤ j.val) (h1 : j.val < 1792) (hl : j.val % 64 < 32) (s : Fin 2048) (hs : s.val = r.val % 2048)
    (d : Fin 32) (hd : d.val = j.val % 32) (j' : Fin 2048) (hj : j'.val = j.val + 32) :
    slab P Cs Sn (ix2 r j) = P (ix2 r j) * Cs (ix2 s d) - P (ix2 r j') * Sn (ix2 s d) := by
  pointwise [slab]
  rw [dif_neg (by omega), dif_neg (by omega), dif_neg (by omega), dif_pos (by omega), dif_pos (by omega)]
  blk_point

/-- The second half of a rotated head. -/
theorem slab_hi (h0 : 1536 ≤ j.val) (h1 : j.val < 1792) (hl : ¬ j.val % 64 < 32) (s : Fin 2048) (hs : s.val = r.val % 2048)
    (d : Fin 32) (hd : d.val = j.val % 32) (j' : Fin 2048) (hj : j'.val + 32 = j.val) :
    slab P Cs Sn (ix2 r j) = P (ix2 r j) * Cs (ix2 s d) + P (ix2 r j') * Sn (ix2 s d) := by
  pointwise [slab]
  rw [dif_neg (by omega), dif_neg (by omega), dif_neg (by omega), dif_pos (by omega), dif_neg (by omega)]
  blk_point

end Cert.Proj1RefIdeal.Stages
-- ==== Proof.Proj1Value.lean ====
module

public import proofs.«01_k».proof.Proof.Gen.Proj1Ideal.Value
public import proofs.«01_k».proof.Proof.Proj1Stages

@[expose] public section

set_option maxRecDepth 16384

noncomputable section

open Idealize.ShloMosaic Idealize.ShloMosaic.TcCoe Idealize.SL.Sem
open Idealize.ShloMosaic.Pipeline (Dat)

namespace Cert.Proj1Ideal.Final

open Cert.Proj1Ideal Cert.Proj1Ideal.Gen
open Cert.Proj1RefIdeal.Stages (proj proj_at angle slab slab_plain slab_silu slab_sigmoid slab_lo slab_hi)

/-! ## One block -/

section Block

variable (P : FVec Ideal S16384x2048 .f32) (Cs Sn : FVec Ideal S2048x32 .f32)
  (hb : FVec Ideal S1024x2048 .bf16) (wb : FVec Ideal S2048x2048 .bf16) (tb : FVec Ideal S3x2048x128 .f32)

/-- What the table holds: the cosines; minus the sines at the first half of a head, zero at the second; zero, then the sines. -/
structure Table : Prop where
  cos : ∀ (a : Fin 3) (s : Fin 2048) (l : Fin 128) (d : Fin 32), a.val = 0 → d.val = l.val % 32 → tb (ix3 a s l) = Cs (ix2 s d)
  lo1 : ∀ (a : Fin 3) (s : Fin 2048) (l : Fin 128) (d : Fin 32), a.val = 1 → d.val = l.val % 32 → l.val % 64 < 32 →
    tb (ix3 a s l) = -Sn (ix2 s d)
  hi1 : ∀ (a : Fin 3) (s : Fin 2048) (l : Fin 128), a.val = 1 → ¬ l.val % 64 < 32 → tb (ix3 a s l) = 0
  lo2 : ∀ (a : Fin 3) (s : Fin 2048) (l : Fin 128), a.val = 2 → l.val % 64 < 32 → tb (ix3 a s l) = 0
  hi2 : ∀ (a : Fin 3) (s : Fin 2048) (l : Fin 128) (d : Fin 32), a.val = 2 → d.val = l.val % 32 → ¬ l.val % 64 < 32 →
    tb (ix3 a s l) = Sn (ix2 s d)

/-- A rotation by the three tables is the reference's rotation. -/
theorem rope_piece (hT : Table Cs Sn tb) (r r0 r1 r2 : Fin 16384) (j j0 j1 j2 : Fin 2048) (a0 a1 a2 : Fin 3) (s0 s1 s2 : Fin 2048)
    (l0 l1 l2 : Fin 128) (h0 : 1536 ≤ j.val) (h1 : j.val < 1792) (hr0 : r0.val = r.val) (hr1 : r1.val = r.val) (hr2 : r2.val = r.val)
    (hj0 : j0.val = j.val)
    (hj1 : j.val % 64 < 32 → j1.val = j.val + 32) (hj2 : ¬ j.val % 64 < 32 → j2.val + 32 = j.val)
    (ha0 : a0.val = 0) (ha1 : a1.val = 1) (ha2 : a2.val = 2)
    (hs0 : s0.val = r.val % 2048) (hs1 : s1.val = r.val % 2048) (hs2 : s2.val = r.val % 2048)
    (hl0 : l0.val = j.val % 128) (hl1 : l1.val = j.val % 128) (hl2 : l2.val = j.val % 128) :
    P (ix2 r0 j0) * tb (ix3 a0 s0 l0) + P (ix2 r1 j1) * tb (ix3 a1 s1 l1) + P (ix2 r2 j2) * tb (ix3 a2 s2 l2)
      = slab P Cs Sn (ix2 r j) := by
  obtain rfl := Fin.ext hr0
  obtain rfl := Fin.ext hr1
  obtain rfl := Fin.ext hr2
  obtain rfl := Fin.ext hj0
  obtain rfl : s1 = s0 := Fin.ext (hs1.trans hs0.symm)
  obtain rfl : s2 = s1 := Fin.ext (hs2.trans hs0.symm)
  have hd : j0.val % 32 < 32 := Nat.mod_lt _ (by omega)
  rw [hT.cos a0 s2 l0 ⟨j0.val % 32, hd⟩ ha0 (by simp only []; omega)]
  by_cases hl : j0.val % 64 < 32
  · rw [hT.lo1 a1 s2 l1 ⟨j0.val % 32, hd⟩ ha1 (by simp only []; omega) (by omega), hT.lo2 a2 s2 l2 ha2 (by omega),
      slab_lo P Cs Sn r2 j0 h0 h1 hl s2 hs0 ⟨j0.val % 32, hd⟩ rfl j1 (hj1 hl), mul_zero, add_zero, mul_neg, sub_eq_add_neg]
  · rw [hT.hi1 a1 s2 l1 ha1 (by omega), hT.hi2 a2 s2 l2 ⟨j0.val % 32, hd⟩ ha2 (by simp only []; omega) (by omega),
      slab_hi P Cs Sn r2 j0 h0 h1 hl s2 hs0 ⟨j0.val % 32, hd⟩ rfl j2 (hj2 hl), mul_zero, add_zero]

variable (base : ℕ) (hD : ∀ (p : Fin 1024) (q : Fin 2048) (r : Fin 16384), r.val = base + p.val →
    (∑ k : Fin 2048, hb (ix2 p k) * wb (ix2 q k) : EReal) = P (ix2 r q))

include hD

theorem plain_piece (p : Fin 1024) (q : Fin 2048) (r : Fin 16384) (j : Fin 2048) (hr : r.val = base + p.val) (hq : q.val = j.val)
    (h : j.val < 512 ∨ 1920 ≤ j.val) : (∑ k : Fin 2048, hb (ix2 p k) * wb (ix2 q k) : EReal) = slab P Cs Sn (ix2 r j) := by
  obtain rfl := Fin.ext hq
  rw [hD p q r hr, slab_plain _ _ _ _ _ h]

theorem silu_piece (p : Fin 1024) (q : Fin 2048) (r : Fin 16384) (j : Fin 2048) (hr : r.val = base + p.val) (hq : q.val = j.val)
    (h0 : 512 ≤ j.val) (h1 : j.val < 1536) :
    (∑ k : Fin 2048, hb (ix2 p k) * wb (ix2 q k) : EReal) * Ideal.logistic (∑ k : Fin 2048, hb (ix2 p k) * wb (ix2 q k) : EReal)
      = slab P Cs Sn (ix2 r j) := by
  obtain rfl := Fin.ext hq
  rw [hD p q r hr, slab_silu _ _ _ _ _ h0 h1]

theorem sigmoid_piece (p : Fin 1024) (q : Fin 2048) (r : Fin 16384) (j : Fin 2048) (hr : r.val = base + p.val) (hq : q.val = j.val)
    (h0 : 1792 ≤ j.val) (h1 : j.val < 1920) :
    Ideal.logistic (∑ k : Fin 2048, hb (ix2 p k) * wb (ix2 q k) : EReal) = slab P Cs Sn (ix2 r j) := by
  obtain rfl := Fin.ext hq
  rw [hD p q r hr, slab_sigmoid _ _ _ _ _ h0 h1]

theorem roped_piece (hT : Table Cs Sn tb) (p : Fin 1024) (q q1 q2 : Fin 2048) (r : Fin 16384) (j : Fin 2048) (a0 a1 a2 : Fin 3)
    (s0 s1 s2 : Fin 2048) (l0 l1 l2 : Fin 128) (hr : r.val = base + p.val) (h0 : 1536 ≤ j.val) (h1 : j.val < 1792)
    (hq : q.val = j.val) (hq1 : j.val % 64 < 32 → q1.val = j.val + 32) (hq2 : ¬ j.val % 64 < 32 → q2.val + 32 = j.val)
    (ha0 : a0.val = 0) (ha1 : a1.val = 1) (ha2 : a2.val = 2)
    (hs0 : s0.val = r.val % 2048) (hs1 : s1.val = r.val % 2048) (hs2 : s2.val = r.val % 2048)
    (hl0 : l0.val = j.val % 128) (hl1 : l1.val = j.val % 128) (hl2 : l2.val = j.val % 128) :
    (∑ k : Fin 2048, hb (ix2 p k) * wb (ix2 q k) : EReal) * tb (ix3 a0 s0 l0)
        + (∑ k : Fin 2048, hb (ix2 p k) * wb (ix2 q1 k) : EReal) * tb (ix3 a1 s1 l1)
        + (∑ k : Fin 2048, hb (ix2 p k) * wb (ix2 q2 k) : EReal) * tb (ix3 a2 s2 l2)
      = slab P Cs Sn (ix2 r j) := by
  rw [hD p q r hr, hD p q1 r hr, hD p q2 r hr]
  exact rope_piece P Cs Sn tb hT r r r r j q q1 q2 a0 a1 a2 s0 s1 s2 l0 l1 l2 h0 h1 rfl rfl rfl hq hq1 hq2 ha0 ha1 ha2 hs0 hs1 hs2 hl0 hl1 hl2

omit hD

theorem off1 : ∀ t : Fin cfg0.N, ∀ q : Fin 4, k0_off1 (grid0.coords t) (BitVec.ofNat 32 (256 * q.val)) = ![0, t.val % 2 * 1024 + 256 * q.val, 0] :=
  (by decide +kernel : ∀ t : Fin grid0.N, _)
theorem off2 : ∀ t : Fin cfg0.N, ∀ q : Fin 4, k0_off2 (grid0.coords t) (BitVec.ofNat 32 (256 * q.val)) = ![1, t.val % 2 * 1024 + 256 * q.val, 0] :=
  (by decide +kernel : ∀ t : Fin grid0.N, _)
theorem off3 : ∀ t : Fin cfg0.N, ∀ q : Fin 4, k0_off3 (grid0.coords t) (BitVec.ofNat 32 (256 * q.val)) = ![2, t.val % 2 * 1024 + 256 * q.val, 0] :=
  (by decide +kernel : ∀ t : Fin grid0.N, _)

set_option maxHeartbeats 4000000 in
theorem block (hT : Table Cs Sn tb) (c : Dev nD) (t : Fin cfg0.N) (arg1 : Memref sig .tc .vmem S1024x2048 .bf16) (harg1 : arg1.IsWhole)
    (arg2 : Memref sig .tc .vmem S2048x2048 .bf16) (harg2 : arg2.IsWhole) (arg3 : Memref sig .tc .vmem S3x2048x128 .f32) (harg3 : arg3.IsWhole)
    (arg4 : Memref sig .tc .vmem S1024x2048 .bf16) (harg4 : arg4.IsWhole)
    (hD : ∀ (p : Fin 1024) (q : Fin 2048) (r : Fin 16384), r.val = t.val * 1024 + p.val →
      (∑ k : Fin 2048, hb (ix2 p k) * wb (ix2 q k) : EReal) = P (ix2 r q))
    (y0 : Fin 1024) (y1 : Fin 2048) (r : Fin 16384) (hr : r.val = t.val * 1024 + y0.val) :
    out0_A_3 (F := Ideal) c (grid0.coords t) arg1 harg1 arg2 harg2 arg3 harg3 arg4 harg4 hb wb tb (ix2 y0 y1) = slab P Cs Sn (ix2 r y1) := by
  frame_out
  canon_tiles x h
  case piece0 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece1 =>
    have h0' : (y0 : ℕ) = _ := h0
    have h1' : (y1 : ℕ) = _ := h1
    open_payloads
    pointwise
    refine sigmoid_piece P Cs Sn hb wb _ hD _ _ _ _ ?_ ?_ ?_ ?_
    all_goals (try simp only []); omega
  case piece2 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off1 t 3) 0
    · exact congrFun (off2 t 3) 0
    · exact congrFun (off3 t 3) 0
    · have e : k0_off1 (grid0.coords t) 768#32 1 = t.val % 2 * 1024 + 768 := congrFun (off1 t 3) 1
      simp only [e]; omega
    · have e : k0_off2 (grid0.coords t) 768#32 1 = t.val % 2 * 1024 + 768 := congrFun (off2 t 3) 1
      simp only [e]; omega
    · have e : k0_off3 (grid0.coords t) 768#32 1 = t.val % 2 * 1024 + 768 := congrFun (off3 t 3) 1
      simp only [e]; omega
    · have e : k0_off1 (grid0.coords t) 768#32 2 = 0 := congrFun (off1 t 3) 2
      simp only [e]; omega
    · have e : k0_off2 (grid0.coords t) 768#32 2 = 0 := congrFun (off2 t 3) 2
      simp only [e]; omega
    · have e : k0_off3 (grid0.coords t) 768#32 2 = 0 := congrFun (off3 t 3) 2
      simp only [e]; omega
  case piece3 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off1 t 3) 0
    · exact congrFun (off2 t 3) 0
    · exact congrFun (off3 t 3) 0
    · have e : k0_off1 (grid0.coords t) 768#32 1 = t.val % 2 * 1024 + 768 := congrFun (off1 t 3) 1
      simp only [e]; omega
    · have e : k0_off2 (grid0.coords t) 768#32 1 = t.val % 2 * 1024 + 768 := congrFun (off2 t 3) 1
      simp only [e]; omega
    · have e : k0_off3 (grid0.coords t) 768#32 1 = t.val % 2 * 1024 + 768 := congrFun (off3 t 3) 1
      simp only [e]; omega
    · have e : k0_off1 (grid0.coords t) 768#32 2 = 0 := congrFun (off1 t 3) 2
      simp only [e]; omega
    · have e : k0_off2 (grid0.coords t) 768#32 2 = 0 := congrFun (off2 t 3) 2
      simp only [e]; omega
    · have e : k0_off3 (grid0.coords t) 768#32 2 = 0 := congrFun (off3 t 3) 2
      simp only [e]; omega
  case piece4 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece5 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece6 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece7 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece8 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece9 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece10 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece11 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece12 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece13 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece14 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece15 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece16 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece17 =>
    have h0' : (y0 : ℕ) = _ := h0
    have h1' : (y1 : ℕ) = _ := h1
    open_payloads
    pointwise
    refine sigmoid_piece P Cs Sn hb wb _ hD _ _ _ _ ?_ ?_ ?_ ?_
    all_goals (try simp only []); omega
  case piece18 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off1 t 2) 0
    · exact congrFun (off2 t 2) 0
    · exact congrFun (off3 t 2) 0
    · have e : k0_off1 (grid0.coords t) 512#32 1 = t.val % 2 * 1024 + 512 := congrFun (off1 t 2) 1
      simp only [e]; omega
    · have e : k0_off2 (grid0.coords t) 512#32 1 = t.val % 2 * 1024 + 512 := congrFun (off2 t 2) 1
      simp only [e]; omega
    · have e : k0_off3 (grid0.coords t) 512#32 1 = t.val % 2 * 1024 + 512 := congrFun (off3 t 2) 1
      simp only [e]; omega
    · have e : k0_off1 (grid0.coords t) 512#32 2 = 0 := congrFun (off1 t 2) 2
      simp only [e]; omega
    · have e : k0_off2 (grid0.coords t) 512#32 2 = 0 := congrFun (off2 t 2) 2
      simp only [e]; omega
    · have e : k0_off3 (grid0.coords t) 512#32 2 = 0 := congrFun (off3 t 2) 2
      simp only [e]; omega
  case piece19 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off1 t 2) 0
    · exact congrFun (off2 t 2) 0
    · exact congrFun (off3 t 2) 0
    · have e : k0_off1 (grid0.coords t) 512#32 1 = t.val % 2 * 1024 + 512 := congrFun (off1 t 2) 1
      simp only [e]; omega
    · have e : k0_off2 (grid0.coords t) 512#32 1 = t.val % 2 * 1024 + 512 := congrFun (off2 t 2) 1
      simp only [e]; omega
    · have e : k0_off3 (grid0.coords t) 512#32 1 = t.val % 2 * 1024 + 512 := congrFun (off3 t 2) 1
      simp only [e]; omega
    · have e : k0_off1 (grid0.coords t) 512#32 2 = 0 := congrFun (off1 t 2) 2
      simp only [e]; omega
    · have e : k0_off2 (grid0.coords t) 512#32 2 = 0 := congrFun (off2 t 2) 2
      simp only [e]; omega
    · have e : k0_off3 (grid0.coords t) 512#32 2 = 0 := congrFun (off3 t 2) 2
      simp only [e]; omega
  case piece20 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece21 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece22 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece23 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece24 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece25 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece26 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece27 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece28 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece29 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece30 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece31 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece32 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece33 =>
    have h0' : (y0 : ℕ) = _ := h0
    have h1' : (y1 : ℕ) = _ := h1
    open_payloads
    pointwise
    refine sigmoid_piece P Cs Sn hb wb _ hD _ _ _ _ ?_ ?_ ?_ ?_
    all_goals (try simp only []); omega
  case piece34 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off1 t 1) 0
    · exact congrFun (off2 t 1) 0
    · exact congrFun (off3 t 1) 0
    · have e : k0_off1 (grid0.coords t) 256#32 1 = t.val % 2 * 1024 + 256 := congrFun (off1 t 1) 1
      simp only [e]; omega
    · have e : k0_off2 (grid0.coords t) 256#32 1 = t.val % 2 * 1024 + 256 := congrFun (off2 t 1) 1
      simp only [e]; omega
    · have e : k0_off3 (grid0.coords t) 256#32 1 = t.val % 2 * 1024 + 256 := congrFun (off3 t 1) 1
      simp only [e]; omega
    · have e : k0_off1 (grid0.coords t) 256#32 2 = 0 := congrFun (off1 t 1) 2
      simp only [e]; omega
    · have e : k0_off2 (grid0.coords t) 256#32 2 = 0 := congrFun (off2 t 1) 2
      simp only [e]; omega
    · have e : k0_off3 (grid0.coords t) 256#32 2 = 0 := congrFun (off3 t 1) 2
      simp only [e]; omega
  case piece35 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off1 t 1) 0
    · exact congrFun (off2 t 1) 0
    · exact congrFun (off3 t 1) 0
    · have e : k0_off1 (grid0.coords t) 256#32 1 = t.val % 2 * 1024 + 256 := congrFun (off1 t 1) 1
      simp only [e]; omega
    · have e : k0_off2 (grid0.coords t) 256#32 1 = t.val % 2 * 1024 + 256 := congrFun (off2 t 1) 1
      simp only [e]; omega
    · have e : k0_off3 (grid0.coords t) 256#32 1 = t.val % 2 * 1024 + 256 := congrFun (off3 t 1) 1
      simp only [e]; omega
    · have e : k0_off1 (grid0.coords t) 256#32 2 = 0 := congrFun (off1 t 1) 2
      simp only [e]; omega
    · have e : k0_off2 (grid0.coords t) 256#32 2 = 0 := congrFun (off2 t 1) 2
      simp only [e]; omega
    · have e : k0_off3 (grid0.coords t) 256#32 2 = 0 := congrFun (off3 t 1) 2
      simp only [e]; omega
  case piece36 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece37 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece38 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece39 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece40 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece41 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece42 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece43 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece44 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece45 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece46 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece47 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece48 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece49 =>
    have h0' : (y0 : ℕ) = _ := h0
    have h1' : (y1 : ℕ) = _ := h1
    open_payloads
    pointwise
    refine sigmoid_piece P Cs Sn hb wb _ hD _ _ _ _ ?_ ?_ ?_ ?_
    all_goals (try simp only []); omega
  case piece50 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off1 t 0) 0
    · exact congrFun (off2 t 0) 0
    · exact congrFun (off3 t 0) 0
    · have e : k0_off1 (grid0.coords t) 0#32 1 = t.val % 2 * 1024 + 0 := congrFun (off1 t 0) 1
      simp only [e]; omega
    · have e : k0_off2 (grid0.coords t) 0#32 1 = t.val % 2 * 1024 + 0 := congrFun (off2 t 0) 1
      simp only [e]; omega
    · have e : k0_off3 (grid0.coords t) 0#32 1 = t.val % 2 * 1024 + 0 := congrFun (off3 t 0) 1
      simp only [e]; omega
    · have e : k0_off1 (grid0.coords t) 0#32 2 = 0 := congrFun (off1 t 0) 2
      simp only [e]; omega
    · have e : k0_off2 (grid0.coords t) 0#32 2 = 0 := congrFun (off2 t 0) 2
      simp only [e]; omega
    · have e : k0_off3 (grid0.coords t) 0#32 2 = 0 := congrFun (off3 t 0) 2
      simp only [e]; omega
  case piece51 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_ ?_
    · (try simp only []); omega
    · (try simp only []); omega
    · (try simp only []); omega
    · (try simp only []); omega
    · (try simp only []); omega
    · (try simp only []); omega
    · exact congrFun (off1 t 0) 0
    · exact congrFun (off2 t 0) 0
    · exact congrFun (off3 t 0) 0
    · have e : k0_off1 (grid0.coords t) 0#32 1 = t.val % 2 * 1024 + 0 := congrFun (off1 t 0) 1
      simp only [e]; omega
    · have e : k0_off2 (grid0.coords t) 0#32 1 = t.val % 2 * 1024 + 0 := congrFun (off2 t 0) 1
      simp only [e]; omega
    · have e : k0_off3 (grid0.coords t) 0#32 1 = t.val % 2 * 1024 + 0 := congrFun (off3 t 0) 1
      simp only [e]; omega
    · have e : k0_off1 (grid0.coords t) 0#32 2 = 0 := congrFun (off1 t 0) 2
      simp only [e]; omega
    · have e : k0_off2 (grid0.coords t) 0#32 2 = 0 := congrFun (off2 t 0) 2
      simp only [e]; omega
    · have e : k0_off3 (grid0.coords t) 0#32 2 = 0 := congrFun (off3 t 0) 2
      simp only [e]; omega
  case piece52 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece53 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece54 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece55 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece56 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece57 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece58 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece59 =>
    have h0' : (y0 : ℕ) = _ := h0
    have h1' : (y1 : ℕ) = _ := h1
    open_payloads
    pointwise
    refine silu_piece P Cs Sn hb wb _ hD _ _ _ _ ?_ ?_ ?_ ?_
    all_goals (try simp only []); omega
  case piece60 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece61 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece62 =>
    have h0' : (y0 : ℕ) = _ := h0
    have h1' : (y1 : ℕ) = _ := h1
    open_payloads
    pointwise
    refine plain_piece P Cs Sn hb wb _ hD _ _ _ _ ?_ ?_ ?_
    all_goals (try simp only []); omega
  case piece63 =>
    have h0' : (y0 : ℕ) = _ := h0
    have h1' : (y1 : ℕ) = _ := h1
    open_payloads
    pointwise
    refine plain_piece P Cs Sn hb wb _ hD _ _ _ _ ?_ ?_ ?_
    all_goals (try simp only []); omega

end Block

variable (m : (ℓ : Loc nD τ sig) → Buf (Elt Ideal) ℓ) (c : Dev nD)

/-- The reference's projection of the arguments. -/
def P : FVec Ideal S16384x2048 .f32 := proj (m ((c.tc : Thread nD τ).loc main_arg0)) (m ((c.tc : Thread nD τ).loc main_arg1))

/-- The reference's slab of the arguments. -/
def G : FVec Ideal S16384x2048 .bf16 := slab (P m c) (Host.cos angle) (Host.sin angle)

theorem idx : ∀ t : Fin cfg0.N, win0_0.index t = ![t.val, 0] ∧ win0_1.index t = ![1, 0] ∧ win0_2.index t = ![0, 0, 0]
    ∧ win0_3.index t = ![t.val, 0] :=
  (by decide +kernel : ∀ t : Fin grid0.N, _)

theorem readH (t : Fin cfg0.N) (ht : t.val < 16) (p : Fin 1024) (k : Fin 2048) : (iblk m c 0 t : FVec Ideal S1024x2048 .bf16) (ix2 p k)
    = (m ((c.tc : Thread nD τ).loc main_arg0) : FVec Ideal S16384x2048 .bf16) (ix2 ⟨t.val * 1024 + p, by omega⟩ k) := by
  blk_ext [iblk, V, idx t]

theorem readW (t : Fin cfg0.N) (q k : Fin 2048) : (iblk m c 1 t : FVec Ideal S2048x2048 .bf16) (ix2 q k)
    = (m ((c.tc : Thread nD τ).loc main_arg1) : FVec Ideal S6144x2048 .bf16) (ix2 ⟨2048 + q, by omega⟩ k) := by
  blk_ext [iblk, V, idx t]

/-- A block's products are the projection's entries. -/
theorem part (t : Fin cfg0.N) (ht : t.val < 16) (hb : FVec Ideal S1024x2048 .bf16) (wb : FVec Ideal S2048x2048 .bf16)
    (hh : hb = iblk m c 0 t) (hw : wb = iblk m c 1 t) (p : Fin 1024) (q : Fin 2048) (r : Fin 16384) (hr : r.val = t.val * 1024 + p.val) :
    (∑ k : Fin 2048, hb (ix2 p k) * wb (ix2 q k) : EReal) = P m c (ix2 r q) := by
  have hr' : r = ⟨t.val * 1024 + p, by omega⟩ := Fin.ext hr
  rw [hr', P, proj_at]
  refine Finset.sum_congr rfl fun k _ => ?_
  rw [hh, hw, readH m c t ht p k, readW m c t q k]

theorem table_eq (t : Fin cfg0.N) : (iblk m c 2 t : FVec Ideal S3x2048x128 .f32) = V m c main_v58 := by
  funext y
  blk_ext [iblk, idx t]

/-- The three tables side by side. -/
def tabs (Cs Sn : FVec Ideal S2048x32 .f32) : FVec Ideal S3x2048x128 .f32 :=
  concatenate S3x2048x128 0 [
    ⟨S1x2048x128, broadcastInDim S1x2048x128 ![1, 2] bcast_S2048x128_S1x2048x128_1_2
      (concatenate S2048x128 1 [⟨S2048x32, Cs⟩, ⟨S2048x32, Cs⟩, ⟨S2048x32, Cs⟩, ⟨S2048x32, Cs⟩] concatenates_S2048x32_S2048x32_S2048x32_S2048x32_S2048x128_d1)⟩,
    ⟨S1x2048x128, broadcastInDim S1x2048x128 ![1, 2] bcast_S2048x128_S1x2048x128_1_2
      (concatenate S2048x128 1 [⟨S2048x32, Host.negf Sn⟩, ⟨S2048x32, broadcastInDim S2048x32 ![] bcast_S_S2048x32 (constant S_ .f32 0x00000000#32)⟩,
        ⟨S2048x32, Host.negf Sn⟩, ⟨S2048x32, broadcastInDim S2048x32 ![] bcast_S_S2048x32 (constant S_ .f32 0x00000000#32)⟩]
        concatenates_S2048x32_S2048x32_S2048x32_S2048x32_S2048x128_d1)⟩,
    ⟨S1x2048x128, broadcastInDim S1x2048x128 ![1, 2] bcast_S2048x128_S1x2048x128_1_2
      (concatenate S2048x128 1 [⟨S2048x32, broadcastInDim S2048x32 ![] bcast_S_S2048x32 (constant S_ .f32 0x00000000#32)⟩, ⟨S2048x32, Sn⟩,
        ⟨S2048x32, broadcastInDim S2048x32 ![] bcast_S_S2048x32 (constant S_ .f32 0x00000000#32)⟩, ⟨S2048x32, Sn⟩]
        concatenates_S2048x32_S2048x32_S2048x32_S2048x32_S2048x128_d1)⟩]
    concatenates_S1x2048x128_S1x2048x128_S1x2048x128_S3x2048x128_d0

theorem tabs_table (Cs Sn : FVec Ideal S2048x32 .f32) : Table Cs Sn (tabs Cs Sn) where
  cos a s l d ha hd := by
    pointwise [tabs]
    rw [dif_pos (by omega)]
    by_cases h0 : l.val < 32
    · rw [dif_pos h0]; blk_ext
    rw [dif_neg h0]
    by_cases h1 : l.val - 32 < 32
    · rw [dif_pos h1]; blk_ext
    rw [dif_neg h1]
    by_cases h2 : l.val - 32 - 32 < 32
    · rw [dif_pos h2]; blk_ext
    rw [dif_neg h2]; blk_ext
  lo1 a s l d ha hd hl := by
    pointwise [tabs]
    rw [dif_neg (by omega), dif_pos (by omega)]
    by_cases h0 : l.val < 32
    · rw [dif_pos h0]; congr 1; blk_ext
    rw [dif_neg h0, dif_neg (by omega), dif_pos (by omega)]; congr 1; blk_ext
  hi1 a s l ha hl := by
    pointwise [tabs]
    rw [dif_neg (by omega), dif_pos (by omega), dif_neg (by omega)]
    by_cases h1 : l.val - 32 < 32
    · rw [dif_pos h1]
    rw [dif_neg h1, dif_neg (by omega)]
  lo2 a s l ha hl := by
    pointwise [tabs]
    rw [dif_neg (by omega), dif_neg (by omega)]
    by_cases h0 : l.val < 32
    · rw [dif_pos h0]
    rw [dif_neg h0, dif_neg (by omega), dif_pos (by omega)]
  hi2 a s l d ha hd hl := by
    pointwise [tabs]
    rw [dif_neg (by omega), dif_neg (by omega), dif_neg (by omega)]
    by_cases h1 : l.val - 32 < 32
    · rw [dif_pos h1]; blk_ext
    rw [dif_neg h1, dif_neg (by omega)]; blk_ext

set_option maxHeartbeats 30000000 in
theorem table_entry : V m c main_v58 = tabs (Host.cos angle) (Host.sin angle) := by
  unfold V
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem table (t : Fin cfg0.N) (tb : FVec Ideal S3x2048x128 .f32) (h : tb = iblk m c 2 t) : Table (Host.cos angle) (Host.sin angle) tb := by
  rw [h, table_eq, table_entry]
  exact tabs_table _ _

theorem placed (t : Fin cfg0.N) (ht : t.val < 16) (p : Fin 1024) (k : Fin 2048) (X : FVec Ideal S16384x2048 .bf16) :
    X (((View.whole main_v59).slice (win0_3.rect t)).emb (ix2 p k)) = X (ix2 ⟨t.val * 1024 + p, by omega⟩ k) := by
  refine congrArg X ?_
  blk_ext [idx t]

theorem final : (dats m 0 c).arrAt 3 (cfgs 0).N = G m c := by
  refine (dats m 0 c).arrAt_eq_of_covers 3 _ (by decide +kernel) fun t _ y => ?_
  have ht : t.val < 16 := lt_of_lt_of_eq t.isLt N_0
  blk_simp
  rw [after0_3]
  unfold outsAt0
  idx_vars y
  refine Eq.trans ?_ (placed t ht y0 y1 (G m c)).symm
  exact block _ _ _ _ _ _ (table m c t _ rfl) c t _ _ _ _ _ _ _ _ (part m c t ht _ _ rfl rfl) y0 y1 _ rfl

end Cert.Proj1Ideal.Final
-- ==== Proof.Proj2Stages.lean ====
module

public import proofs.«01_k».proof.Proof.Gen.Proj2RefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proj2RefIdeal.Stages

open Cert.Proj2RefIdeal Cert.Proj2RefIdeal.Gen

/-- The projection of every row on this slab's columns. -/
def proj (H : FVec Ideal S16384x2048 .bf16) (W : FVec Ideal S6144x2048 .bf16) : FVec Ideal S16384x2048 .f32 :=
  (Host.dotGeneral dot_S16384x2048_S2048x2048_S16384x2048_1_0_0_1_n_n none (extf .f32 H bitsLt_bf16_f32) (transpose S2048x2048 [1, 0] (extf .f32
    (extractStridedSlice S2048x2048 ![4096, 0] W slices_S6144x2048_S2048x2048_4096_0) bitsLt_bf16_f32) transposes_S2048x2048_S2048x2048_1_0))

/-- The angle of each position at each of the 32 frequencies. -/
def angle : FVec Ideal S2048x32 .f32 :=
  (mulf (broadcastInDim S2048x32 ![0, 1] bcast_S2048x1_S2048x32_0_1 (broadcastInDim S2048x1 ![0] bcast_S2048_S2048x1_0 (sitofp .f32 (iotaInDim S2048
    32 0)))) (broadcastInDim S2048x32 ![0, 1] bcast_S1x32_S2048x32_0_1 (broadcastInDim S1x32 ![1] bcast_S32_S1x32_1 (Host.powf (broadcastInDim S32 ![]
    bcast_S_S32 (constant S_ .f32 0x461C4000#32)) (Host.divf (Host.negf (addf (broadcastInDim S32 ![] bcast_S_S32 (constant S_ .f32 0x00000000#32))
    (mulf (broadcastInDim S32 ![] bcast_S_S32 (constant S_ .f32 0x40000000#32)) (sitofp .f32 (iotaInDim S32 32 0))))) (broadcastInDim S32 ![]
    bcast_S_S32 (constant S_ .f32 0x42800000#32)))))))

/-- The slab: its groups of columns, each with its own epilogue. -/
def slab (P : FVec Ideal S16384x2048 .f32) (Cs Sn : FVec Ideal S2048x32 .f32) : FVec Ideal S16384x2048 .bf16 :=
  truncf .bf16 (concatenate S16384x2048 1 [⟨S16384x1024, (shapeCast _ (mulf (extractStridedSlice S8x2048x1024 ![0, 0, 0] (shapeCast _ P
    shapeCasts_S16384x2048_S8x2048x2048) slices_S8x2048x2048_S8x2048x1024_0_0_0) (Host.divf (broadcastInDim S8x2048x1024 ![] bcast_S_S8x2048x1024
    (constant S_ .f32 0x3F800000#32)) (addf (broadcastInDim S8x2048x1024 ![] bcast_S_S8x2048x1024 (constant S_ .f32 0x3F800000#32)) (Host.exp
    (Host.negf (extractStridedSlice S8x2048x1024 ![0, 0, 0] (shapeCast _ P shapeCasts_S16384x2048_S8x2048x2048)
    slices_S8x2048x2048_S8x2048x1024_0_0_0)))))) shapeCasts_S8x2048x1024_S16384x1024)⟩, ⟨S16384x1024, (shapeCast _ (mulf (concatenate S8x2048x16x64 3
    [⟨S8x2048x16x32, (subf (mulf (extractStridedSlice S8x2048x16x32 ![0, 0, 0, 0] (shapeCast _ (extractStridedSlice S8x2048x1024 ![0, 0, 1024]
    (shapeCast _ P shapeCasts_S16384x2048_S8x2048x2048) slices_S8x2048x2048_S8x2048x1024_0_0_1024) shapeCasts_S8x2048x1024_S8x2048x16x64)
    slices_S8x2048x16x64_S8x2048x16x32_0_0_0_0) (broadcastInDim S8x2048x16x32 ![0, 1, 2, 3] bcast_S1x2048x1x32_S8x2048x16x32_0_1_2_3 (broadcastInDim
    S1x2048x1x32 ![1, 3] bcast_S2048x32_S1x2048x1x32_1_3 Cs))) (mulf (extractStridedSlice S8x2048x16x32 ![0, 0, 0, 32] (shapeCast _
    (extractStridedSlice S8x2048x1024 ![0, 0, 1024] (shapeCast _ P shapeCasts_S16384x2048_S8x2048x2048) slices_S8x2048x2048_S8x2048x1024_0_0_1024)
    shapeCasts_S8x2048x1024_S8x2048x16x64) slices_S8x2048x16x64_S8x2048x16x32_0_0_0_32) (broadcastInDim S8x2048x16x32 ![0, 1, 2, 3]
    bcast_S1x2048x1x32_S8x2048x16x32_0_1_2_3 (broadcastInDim S1x2048x1x32 ![1, 3] bcast_S2048x32_S1x2048x1x32_1_3 Sn))))⟩, ⟨S8x2048x16x32, (addf (mulf
    (extractStridedSlice S8x2048x16x32 ![0, 0, 0, 32] (shapeCast _ (extractStridedSlice S8x2048x1024 ![0, 0, 1024] (shapeCast _ P
    shapeCasts_S16384x2048_S8x2048x2048) slices_S8x2048x2048_S8x2048x1024_0_0_1024) shapeCasts_S8x2048x1024_S8x2048x16x64)
    slices_S8x2048x16x64_S8x2048x16x32_0_0_0_32) (broadcastInDim S8x2048x16x32 ![0, 1, 2, 3] bcast_S1x2048x1x32_S8x2048x16x32_0_1_2_3 (broadcastInDim
    S1x2048x1x32 ![1, 3] bcast_S2048x32_S1x2048x1x32_1_3 Cs))) (mulf (extractStridedSlice S8x2048x16x32 ![0, 0, 0, 0] (shapeCast _
    (extractStridedSlice S8x2048x1024 ![0, 0, 1024] (shapeCast _ P shapeCasts_S16384x2048_S8x2048x2048) slices_S8x2048x2048_S8x2048x1024_0_0_1024)
    shapeCasts_S8x2048x1024_S8x2048x16x64) slices_S8x2048x16x64_S8x2048x16x32_0_0_0_0) (broadcastInDim S8x2048x16x32 ![0, 1, 2, 3]
    bcast_S1x2048x1x32_S8x2048x16x32_0_1_2_3 (broadcastInDim S1x2048x1x32 ![1, 3] bcast_S2048x32_S1x2048x1x32_1_3 Sn))))⟩]
    concatenates_S8x2048x16x32_S8x2048x16x32_S8x2048x16x64_d3) (broadcastInDim S8x2048x16x64 ![] bcast_S_S8x2048x16x64 (constant S_ .f32
    0x3E38AA3B#32))) shapeCasts_S8x2048x16x64_S16384x1024)⟩] concatenates_S16384x1024_S16384x1024_S16384x2048_d1) bitsLt_bf16_f32

/-- The reference's result is these stages. -/
theorem result_eq (m : (ℓ : Loc nD τ sig) → Buf (Elt Ideal) ℓ) (c : Dev nD) : Cert.Proj2RefIdeal.Value.res_main_v48 m c
    = slab (proj (m ((c.tc : Thread nD τ).loc main_arg0)) (m ((c.tc : Thread nD τ).loc main_arg1))) (Host.cos angle) (Host.sin angle) := rfl

theorem proj_at (H : FVec Ideal S16384x2048 .bf16) (W : FVec Ideal S6144x2048 .bf16) (r : Fin 16384) (j : Fin 2048) :
    proj H W (ix2 r j) = ∑ k : Fin 2048, H (ix2 r k) * W (ix2 ⟨4096 + j, by omega⟩ k) := by
  pointwise [proj]

theorem silu_eq (z : EReal) : z * Ideal.div 1 (1 + Ideal.exp (-z)) = z * Ideal.logistic z := rfl

/-- The queries' scale. -/
def scale : EReal := Ideal.ofBits .f32 0x3E38AA3B#32

variable (P : FVec Ideal S16384x2048 .f32) (Cs Sn : FVec Ideal S2048x32 .f32) (r : Fin 16384) (j : Fin 2048)

/-- The second group's gate columns. -/
theorem slab_silu (h1 : j.val < 1024) : slab P Cs Sn (ix2 r j) = P (ix2 r j) * Ideal.logistic (P (ix2 r j)) := by
  pointwise [slab]
  rw [dif_pos (by omega)]
  simp only [silu_eq]

/-- The first half of a rotated head. -/
theorem slab_lo (h0 : 1024 ≤ j.val) (hl : j.val % 64 < 32) (s : Fin 2048) (hs : s.val = r.val % 2048)
    (d : Fin 32) (hd : d.val = j.val % 32) (j' : Fin 2048) (hj : j'.val = j.val + 32) :
    slab P Cs Sn (ix2 r j) = (P (ix2 r j) * Cs (ix2 s d) - P (ix2 r j') * Sn (ix2 s d)) * scale := by
  pointwise [slab]
  rw [dif_neg (by omega), dif_pos (by omega)]
  blk_point
  rfl

/-- The second half of a rotated head. -/
theorem slab_hi (h0 : 1024 ≤ j.val) (hl : ¬ j.val % 64 < 32) (s : Fin 2048) (hs : s.val = r.val % 2048)
    (d : Fin 32) (hd : d.val = j.val % 32) (j' : Fin 2048) (hj : j'.val + 32 = j.val) :
    slab P Cs Sn (ix2 r j) = (P (ix2 r j) * Cs (ix2 s d) + P (ix2 r j') * Sn (ix2 s d)) * scale := by
  pointwise [slab]
  rw [dif_neg (by omega), dif_neg (by omega)]
  blk_point
  rfl

theorem scale_real : 0 ≤ scale ∧ scale ≠ ⊤ := by
  have h : scale = (((0x38AA3B + 2 ^ 23 : ℝ) * 2 ^ (-26 : Int) : ℝ) : EReal) := by
    simp [scale, Ideal.ofBits, Ideal.ieee, -EReal.coe_mul]
    norm_num
  rw [h]
  exact ⟨by exact_mod_cast (by positivity : (0 : ℝ) ≤ (0x38AA3B + 2 ^ 23) * 2 ^ (-26 : Int)), EReal.coe_ne_top _⟩

end Cert.Proj2RefIdeal.Stages
-- ==== Proof.Proj2Value.lean ====
module

public import proofs.«01_k».proof.Proof.Gen.Proj2Ideal.Value
public import proofs.«01_k».proof.Proof.Proj2Stages

@[expose] public section

set_option maxRecDepth 16384

noncomputable section

open Idealize.ShloMosaic Idealize.ShloMosaic.TcCoe Idealize.SL.Sem
open Idealize.ShloMosaic.Pipeline (Dat)

namespace Cert.Proj2Ideal.Final

open Cert.Proj2Ideal Cert.Proj2Ideal.Gen
open Cert.Proj2RefIdeal.Stages (proj proj_at angle slab slab_silu slab_lo slab_hi scale scale_real)

/-! ## One block -/

section Block

variable (P : FVec Ideal S16384x2048 .f32) (Cs Sn : FVec Ideal S2048x32 .f32)
  (hb : FVec Ideal S1024x2048 .bf16) (wb : FVec Ideal S2048x2048 .bf16) (tb : FVec Ideal S3x2048x128 .f32)

/-- What the table holds: the cosines; minus the sines at the first half of a head, zero at the second; zero, then the sines; all times the queries' scale. -/
structure Table : Prop where
  cos : ∀ (a : Fin 3) (s : Fin 2048) (l : Fin 128) (d : Fin 32), a.val = 0 → d.val = l.val % 32 → tb (ix3 a s l) = Cs (ix2 s d) * scale
  lo1 : ∀ (a : Fin 3) (s : Fin 2048) (l : Fin 128) (d : Fin 32), a.val = 1 → d.val = l.val % 32 → l.val % 64 < 32 →
    tb (ix3 a s l) = -Sn (ix2 s d) * scale
  hi1 : ∀ (a : Fin 3) (s : Fin 2048) (l : Fin 128), a.val = 1 → ¬ l.val % 64 < 32 → tb (ix3 a s l) = 0
  lo2 : ∀ (a : Fin 3) (s : Fin 2048) (l : Fin 128), a.val = 2 → l.val % 64 < 32 → tb (ix3 a s l) = 0
  hi2 : ∀ (a : Fin 3) (s : Fin 2048) (l : Fin 128) (d : Fin 32), a.val = 2 → d.val = l.val % 32 → ¬ l.val % 64 < 32 →
    tb (ix3 a s l) = Sn (ix2 s d) * scale

/-- A rotation by the three tables is the reference's rotation. -/
theorem rope_piece (hT : Table Cs Sn tb) (r r0 r1 r2 : Fin 16384) (j j0 j1 j2 : Fin 2048) (a0 a1 a2 : Fin 3) (s0 s1 s2 : Fin 2048)
    (l0 l1 l2 : Fin 128) (h0 : 1024 ≤ j.val) (hr0 : r0.val = r.val) (hr1 : r1.val = r.val) (hr2 : r2.val = r.val)
    (hj0 : j0.val = j.val)
    (hj1 : j.val % 64 < 32 → j1.val = j.val + 32) (hj2 : ¬ j.val % 64 < 32 → j2.val + 32 = j.val)
    (ha0 : a0.val = 0) (ha1 : a1.val = 1) (ha2 : a2.val = 2)
    (hs0 : s0.val = r.val % 2048) (hs1 : s1.val = r.val % 2048) (hs2 : s2.val = r.val % 2048)
    (hl0 : l0.val = j.val % 128) (hl1 : l1.val = j.val % 128) (hl2 : l2.val = j.val % 128) :
    P (ix2 r0 j0) * tb (ix3 a0 s0 l0) + P (ix2 r1 j1) * tb (ix3 a1 s1 l1) + P (ix2 r2 j2) * tb (ix3 a2 s2 l2)
      = slab P Cs Sn (ix2 r j) := by
  obtain rfl := Fin.ext hr0
  obtain rfl := Fin.ext hr1
  obtain rfl := Fin.ext hr2
  obtain rfl := Fin.ext hj0
  obtain rfl : s1 = s0 := Fin.ext (hs1.trans hs0.symm)
  obtain rfl : s2 = s1 := Fin.ext (hs2.trans hs0.symm)
  have hd : j0.val % 32 < 32 := Nat.mod_lt _ (by omega)
  rw [hT.cos a0 s2 l0 ⟨j0.val % 32, hd⟩ ha0 (by simp only []; omega)]
  by_cases hl : j0.val % 64 < 32
  · rw [hT.lo1 a1 s2 l1 ⟨j0.val % 32, hd⟩ ha1 (by simp only []; omega) (by omega), hT.lo2 a2 s2 l2 ha2 (by omega),
      slab_lo P Cs Sn r2 j0 h0 hl s2 hs0 ⟨j0.val % 32, hd⟩ rfl j1 (hj1 hl), mul_zero, add_zero, sub_eq_add_neg,
      EReal.right_distrib_of_nonneg_of_ne_top scale_real.1 scale_real.2, mul_assoc, ← mul_neg, mul_assoc]
  · rw [hT.hi1 a1 s2 l1 ha1 (by omega), hT.hi2 a2 s2 l2 ⟨j0.val % 32, hd⟩ ha2 (by simp only []; omega) (by omega),
      slab_hi P Cs Sn r2 j0 h0 hl s2 hs0 ⟨j0.val % 32, hd⟩ rfl j2 (hj2 hl), mul_zero, add_zero,
      EReal.right_distrib_of_nonneg_of_ne_top scale_real.1 scale_real.2, mul_assoc, mul_assoc]

variable (base : ℕ) (hD : ∀ (p : Fin 1024) (q : Fin 2048) (r : Fin 16384), r.val = base + p.val →
    (∑ k : Fin 2048, hb (ix2 p k) * wb (ix2 q k) : EReal) = P (ix2 r q))

include hD

theorem silu_piece (p : Fin 1024) (q : Fin 2048) (r : Fin 16384) (j : Fin 2048) (hr : r.val = base + p.val) (hq : q.val = j.val)
    (h1 : j.val < 1024) :
    (∑ k : Fin 2048, hb (ix2 p k) * wb (ix2 q k) : EReal) * Ideal.logistic (∑ k : Fin 2048, hb (ix2 p k) * wb (ix2 q k) : EReal)
      = slab P Cs Sn (ix2 r j) := by
  obtain rfl := Fin.ext hq
  rw [hD p q r hr, slab_silu _ _ _ _ _ h1]

theorem roped_piece (hT : Table Cs Sn tb) (p : Fin 1024) (q q1 q2 : Fin 2048) (r : Fin 16384) (j : Fin 2048) (a0 a1 a2 : Fin 3)
    (s0 s1 s2 : Fin 2048) (l0 l1 l2 : Fin 128) (hr : r.val = base + p.val) (h0 : 1024 ≤ j.val)
    (hq : q.val = j.val) (hq1 : j.val % 64 < 32 → q1.val = j.val + 32) (hq2 : ¬ j.val % 64 < 32 → q2.val + 32 = j.val)
    (ha0 : a0.val = 0) (ha1 : a1.val = 1) (ha2 : a2.val = 2)
    (hs0 : s0.val = r.val % 2048) (hs1 : s1.val = r.val % 2048) (hs2 : s2.val = r.val % 2048)
    (hl0 : l0.val = j.val % 128) (hl1 : l1.val = j.val % 128) (hl2 : l2.val = j.val % 128) :
    (∑ k : Fin 2048, hb (ix2 p k) * wb (ix2 q k) : EReal) * tb (ix3 a0 s0 l0)
        + (∑ k : Fin 2048, hb (ix2 p k) * wb (ix2 q1 k) : EReal) * tb (ix3 a1 s1 l1)
        + (∑ k : Fin 2048, hb (ix2 p k) * wb (ix2 q2 k) : EReal) * tb (ix3 a2 s2 l2)
      = slab P Cs Sn (ix2 r j) := by
  rw [hD p q r hr, hD p q1 r hr, hD p q2 r hr]
  exact rope_piece P Cs Sn tb hT r r r r j q q1 q2 a0 a1 a2 s0 s1 s2 l0 l1 l2 h0 rfl rfl rfl hq hq1 hq2 ha0 ha1 ha2 hs0 hs1 hs2 hl0 hl1 hl2

omit hD

theorem off1 : ∀ t : Fin cfg0.N, ∀ q : Fin 4, k0_off1 (grid0.coords t) (BitVec.ofNat 32 (256 * q.val)) = ![0, t.val % 2 * 1024 + 256 * q.val, 0] :=
  (by decide +kernel : ∀ t : Fin grid0.N, _)
theorem off2 : ∀ t : Fin cfg0.N, ∀ q : Fin 4, k0_off2 (grid0.coords t) (BitVec.ofNat 32 (256 * q.val)) = ![1, t.val % 2 * 1024 + 256 * q.val, 0] :=
  (by decide +kernel : ∀ t : Fin grid0.N, _)
theorem off3 : ∀ t : Fin cfg0.N, ∀ q : Fin 4, k0_off3 (grid0.coords t) (BitVec.ofNat 32 (256 * q.val)) = ![2, t.val % 2 * 1024 + 256 * q.val, 0] :=
  (by decide +kernel : ∀ t : Fin grid0.N, _)

set_option maxHeartbeats 4000000 in
theorem block (hT : Table Cs Sn tb) (c : Dev nD) (t : Fin cfg0.N) (arg1 : Memref sig .tc .vmem S1024x2048 .bf16) (harg1 : arg1.IsWhole)
    (arg2 : Memref sig .tc .vmem S2048x2048 .bf16) (harg2 : arg2.IsWhole) (arg3 : Memref sig .tc .vmem S3x2048x128 .f32) (harg3 : arg3.IsWhole)
    (arg4 : Memref sig .tc .vmem S1024x2048 .bf16) (harg4 : arg4.IsWhole)
    (hD : ∀ (p : Fin 1024) (q : Fin 2048) (r : Fin 16384), r.val = t.val * 1024 + p.val →
      (∑ k : Fin 2048, hb (ix2 p k) * wb (ix2 q k) : EReal) = P (ix2 r q))
    (y0 : Fin 1024) (y1 : Fin 2048) (r : Fin 16384) (hr : r.val = t.val * 1024 + y0.val) :
    out0_A_3 (F := Ideal) c (grid0.coords t) arg1 harg1 arg2 harg2 arg3 harg3 arg4 harg4 hb wb tb (ix2 y0 y1) = slab P Cs Sn (ix2 r y1) := by
  frame_out
  canon_tiles x h
  case piece0 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 3) 0
    · exact congrFun (off2 t 3) 0
    · exact congrFun (off3 t 3) 0
    · have e : k0_off1 (grid0.coords t) 768#32 1 = t.val % 2 * 1024 + 768 := congrFun (off1 t 3) 1
      simp only [e]; omega
    · have e : k0_off2 (grid0.coords t) 768#32 1 = t.val % 2 * 1024 + 768 := congrFun (off2 t 3) 1
      simp only [e]; omega
    · have e : k0_off3 (grid0.coords t) 768#32 1 = t.val % 2 * 1024 + 768 := congrFun (off3 t 3) 1
      simp only [e]; omega
    · have e : k0_off1 (grid0.coords t) 768#32 2 = 0 := congrFun (off1 t 3) 2
      simp only [e]; omega
    · have e : k0_off2 (grid0.coords t) 768#32 2 = 0 := congrFun (off2 t 3) 2
      simp only [e]; omega
    · have e : k0_off3 (grid0.coords t) 768#32 2 = 0 := congrFun (off3 t 3) 2
      simp only [e]; omega
  case piece1 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 3) 0
    · exact congrFun (off2 t 3) 0
    · exact congrFun (off3 t 3) 0
    · have e : k0_off1 (grid0.coords t) 768#32 1 = t.val % 2 * 1024 + 768 := congrFun (off1 t 3) 1
      simp only [e]; omega
    · have e : k0_off2 (grid0.coords t) 768#32 1 = t.val % 2 * 1024 + 768 := congrFun (off2 t 3) 1
      simp only [e]; omega
    · have e : k0_off3 (grid0.coords t) 768#32 1 = t.val % 2 * 1024 + 768 := congrFun (off3 t 3) 1
      simp only [e]; omega
    · have e : k0_off1 (grid0.coords t) 768#32 2 = 0 := congrFun (off1 t 3) 2
      simp only [e]; omega
    · have e : k0_off2 (grid0.coords t) 768#32 2 = 0 := congrFun (off2 t 3) 2
      simp only [e]; omega
    · have e : k0_off3 (grid0.coords t) 768#32 2 = 0 := congrFun (off3 t 3) 2
      simp only [e]; omega
  case piece2 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 3) 0
    · exact congrFun (off2 t 3) 0
    · exact congrFun (off3 t 3) 0
    · have e : k0_off1 (grid0.coords t) 768#32 1 = t.val % 2 * 1024 + 768 := congrFun (off1 t 3) 1
      simp only [e]; omega
    · have e : k0_off2 (grid0.coords t) 768#32 1 = t.val % 2 * 1024 + 768 := congrFun (off2 t 3) 1
      simp only [e]; omega
    · have e : k0_off3 (grid0.coords t) 768#32 1 = t.val % 2 * 1024 + 768 := congrFun (off3 t 3) 1
      simp only [e]; omega
    · have e : k0_off1 (grid0.coords t) 768#32 2 = 0 := congrFun (off1 t 3) 2
      simp only [e]; omega
    · have e : k0_off2 (grid0.coords t) 768#32 2 = 0 := congrFun (off2 t 3) 2
      simp only [e]; omega
    · have e : k0_off3 (grid0.coords t) 768#32 2 = 0 := congrFun (off3 t 3) 2
      simp only [e]; omega
  case piece3 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 3) 0
    · exact congrFun (off2 t 3) 0
    · exact congrFun (off3 t 3) 0
    · have e : k0_off1 (grid0.coords t) 768#32 1 = t.val % 2 * 1024 + 768 := congrFun (off1 t 3) 1
      simp only [e]; omega
    · have e : k0_off2 (grid0.coords t) 768#32 1 = t.val % 2 * 1024 + 768 := congrFun (off2 t 3) 1
      simp only [e]; omega
    · have e : k0_off3 (grid0.coords t) 768#32 1 = t.val % 2 * 1024 + 768 := congrFun (off3 t 3) 1
      simp only [e]; omega
    · have e : k0_off1 (grid0.coords t) 768#32 2 = 0 := congrFun (off1 t 3) 2
      simp only [e]; omega
    · have e : k0_off2 (grid0.coords t) 768#32 2 = 0 := congrFun (off2 t 3) 2
      simp only [e]; omega
    · have e : k0_off3 (grid0.coords t) 768#32 2 = 0 := congrFun (off3 t 3) 2
      simp only [e]; omega
  case piece4 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 3) 0
    · exact congrFun (off2 t 3) 0
    · exact congrFun (off3 t 3) 0
    · have e : k0_off1 (grid0.coords t) 768#32 1 = t.val % 2 * 1024 + 768 := congrFun (off1 t 3) 1
      simp only [e]; omega
    · have e : k0_off2 (grid0.coords t) 768#32 1 = t.val % 2 * 1024 + 768 := congrFun (off2 t 3) 1
      simp only [e]; omega
    · have e : k0_off3 (grid0.coords t) 768#32 1 = t.val % 2 * 1024 + 768 := congrFun (off3 t 3) 1
      simp only [e]; omega
    · have e : k0_off1 (grid0.coords t) 768#32 2 = 0 := congrFun (off1 t 3) 2
      simp only [e]; omega
    · have e : k0_off2 (grid0.coords t) 768#32 2 = 0 := congrFun (off2 t 3) 2
      simp only [e]; omega
    · have e : k0_off3 (grid0.coords t) 768#32 2 = 0 := congrFun (off3 t 3) 2
      simp only [e]; omega
  case piece5 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 3) 0
    · exact congrFun (off2 t 3) 0
    · exact congrFun (off3 t 3) 0
    · have e : k0_off1 (grid0.coords t) 768#32 1 = t.val % 2 * 1024 + 768 := congrFun (off1 t 3) 1
      simp only [e]; omega
    · have e : k0_off2 (grid0.coords t) 768#32 1 = t.val % 2 * 1024 + 768 := congrFun (off2 t 3) 1
      simp only [e]; omega
    · have e : k0_off3 (grid0.coords t) 768#32 1 = t.val % 2 * 1024 + 768 := congrFun (off3 t 3) 1
      simp only [e]; omega
    · have e : k0_off1 (grid0.coords t) 768#32 2 = 0 := congrFun (off1 t 3) 2
      simp only [e]; omega
    · have e : k0_off2 (grid0.coords t) 768#32 2 = 0 := congrFun (off2 t 3) 2
      simp only [e]; omega
    · have e : k0_off3 (grid0.coords t) 768#32 2 = 0 := congrFun (off3 t 3) 2
      simp only [e]; omega
  case piece6 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 3) 0
    · exact congrFun (off2 t 3) 0
    · exact congrFun (off3 t 3) 0
    · have e : k0_off1 (grid0.coords t) 768#32 1 = t.val % 2 * 1024 + 768 := congrFun (off1 t 3) 1
      simp only [e]; omega
    · have e : k0_off2 (grid0.coords t) 768#32 1 = t.val % 2 * 1024 + 768 := congrFun (off2 t 3) 1
      simp only [e]; omega
    · have e : k0_off3 (grid0.coords t) 768#32 1 = t.val % 2 * 1024 + 768 := congrFun (off3 t 3) 1
      simp only [e]; omega
    · have e : k0_off1 (grid0.coords t) 768#32 2 = 0 := congrFun (off1 t 3) 2
      simp only [e]; omega
    · have e : k0_off2 (grid0.coords t) 768#32 2 = 0 := congrFun (off2 t 3) 2
      simp only [e]; omega
    · have e : k0_off3 (grid0.coords t) 768#32 2 = 0 := congrFun (off3 t 3) 2
      simp only [e]; omega
  case piece7 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 3) 0
    · exact congrFun (off2 t 3) 0
    · exact congrFun (off3 t 3) 0
    · have e : k0_off1 (grid0.coords t) 768#32 1 = t.val % 2 * 1024 + 768 := congrFun (off1 t 3) 1
      simp only [e]; omega
    · have e : k0_off2 (grid0.coords t) 768#32 1 = t.val % 2 * 1024 + 768 := congrFun (off2 t 3) 1
      simp only [e]; omega
    · have e : k0_off3 (grid0.coords t) 768#32 1 = t.val % 2 * 1024 + 768 := congrFun (off3 t 3) 1
      simp only [e]; omega
    · have e : k0_off1 (grid0.coords t) 768#32 2 = 0 := congrFun (off1 t 3) 2
      simp only [e]; omega
    · have e : k0_off2 (grid0.coords t) 768#32 2 = 0 := congrFun (off2 t 3) 2
      simp only [e]; omega
    · have e : k0_off3 (grid0.coords t) 768#32 2 = 0 := congrFun (off3 t 3) 2
      simp only [e]; omega
  case piece8 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece9 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece10 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece11 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece12 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece13 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece14 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece15 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece16 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 2) 0
    · exact congrFun (off2 t 2) 0
    · exact congrFun (off3 t 2) 0
    · have e : k0_off1 (grid0.coords t) 512#32 1 = t.val % 2 * 1024 + 512 := congrFun (off1 t 2) 1
      simp only [e]; omega
    · have e : k0_off2 (grid0.coords t) 512#32 1 = t.val % 2 * 1024 + 512 := congrFun (off2 t 2) 1
      simp only [e]; omega
    · have e : k0_off3 (grid0.coords t) 512#32 1 = t.val % 2 * 1024 + 512 := congrFun (off3 t 2) 1
      simp only [e]; omega
    · have e : k0_off1 (grid0.coords t) 512#32 2 = 0 := congrFun (off1 t 2) 2
      simp only [e]; omega
    · have e : k0_off2 (grid0.coords t) 512#32 2 = 0 := congrFun (off2 t 2) 2
      simp only [e]; omega
    · have e : k0_off3 (grid0.coords t) 512#32 2 = 0 := congrFun (off3 t 2) 2
      simp only [e]; omega
  case piece17 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 2) 0
    · exact congrFun (off2 t 2) 0
    · exact congrFun (off3 t 2) 0
    · have e : k0_off1 (grid0.coords t) 512#32 1 = t.val % 2 * 1024 + 512 := congrFun (off1 t 2) 1
      simp only [e]; omega
    · have e : k0_off2 (grid0.coords t) 512#32 1 = t.val % 2 * 1024 + 512 := congrFun (off2 t 2) 1
      simp only [e]; omega
    · have e : k0_off3 (grid0.coords t) 512#32 1 = t.val % 2 * 1024 + 512 := congrFun (off3 t 2) 1
      simp only [e]; omega
    · have e : k0_off1 (grid0.coords t) 512#32 2 = 0 := congrFun (off1 t 2) 2
      simp only [e]; omega
    · have e : k0_off2 (grid0.coords t) 512#32 2 = 0 := congrFun (off2 t 2) 2
      simp only [e]; omega
    · have e : k0_off3 (grid0.coords t) 512#32 2 = 0 := congrFun (off3 t 2) 2
      simp only [e]; omega
  case piece18 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 2) 0
    · exact congrFun (off2 t 2) 0
    · exact congrFun (off3 t 2) 0
    · have e : k0_off1 (grid0.coords t) 512#32 1 = t.val % 2 * 1024 + 512 := congrFun (off1 t 2) 1
      simp only [e]; omega
    · have e : k0_off2 (grid0.coords t) 512#32 1 = t.val % 2 * 1024 + 512 := congrFun (off2 t 2) 1
      simp only [e]; omega
    · have e : k0_off3 (grid0.coords t) 512#32 1 = t.val % 2 * 1024 + 512 := congrFun (off3 t 2) 1
      simp only [e]; omega
    · have e : k0_off1 (grid0.coords t) 512#32 2 = 0 := congrFun (off1 t 2) 2
      simp only [e]; omega
    · have e : k0_off2 (grid0.coords t) 512#32 2 = 0 := congrFun (off2 t 2) 2
      simp only [e]; omega
    · have e : k0_off3 (grid0.coords t) 512#32 2 = 0 := congrFun (off3 t 2) 2
      simp only [e]; omega
  case piece19 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 2) 0
    · exact congrFun (off2 t 2) 0
    · exact congrFun (off3 t 2) 0
    · have e : k0_off1 (grid0.coords t) 512#32 1 = t.val % 2 * 1024 + 512 := congrFun (off1 t 2) 1
      simp only [e]; omega
    · have e : k0_off2 (grid0.coords t) 512#32 1 = t.val % 2 * 1024 + 512 := congrFun (off2 t 2) 1
      simp only [e]; omega
    · have e : k0_off3 (grid0.coords t) 512#32 1 = t.val % 2 * 1024 + 512 := congrFun (off3 t 2) 1
      simp only [e]; omega
    · have e : k0_off1 (grid0.coords t) 512#32 2 = 0 := congrFun (off1 t 2) 2
      simp only [e]; omega
    · have e : k0_off2 (grid0.coords t) 512#32 2 = 0 := congrFun (off2 t 2) 2
      simp only [e]; omega
    · have e : k0_off3 (grid0.coords t) 512#32 2 = 0 := congrFun (off3 t 2) 2
      simp only [e]; omega
  case piece20 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 2) 0
    · exact congrFun (off2 t 2) 0
    · exact congrFun (off3 t 2) 0
    · have e : k0_off1 (grid0.coords t) 512#32 1 = t.val % 2 * 1024 + 512 := congrFun (off1 t 2) 1
      simp only [e]; omega
    · have e : k0_off2 (grid0.coords t) 512#32 1 = t.val % 2 * 1024 + 512 := congrFun (off2 t 2) 1
      simp only [e]; omega
    · have e : k0_off3 (grid0.coords t) 512#32 1 = t.val % 2 * 1024 + 512 := congrFun (off3 t 2) 1
      simp only [e]; omega
    · have e : k0_off1 (grid0.coords t) 512#32 2 = 0 := congrFun (off1 t 2) 2
      simp only [e]; omega
    · have e : k0_off2 (grid0.coords t) 512#32 2 = 0 := congrFun (off2 t 2) 2
      simp only [e]; omega
    · have e : k0_off3 (grid0.coords t) 512#32 2 = 0 := congrFun (off3 t 2) 2
      simp only [e]; omega
  case piece21 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 2) 0
    · exact congrFun (off2 t 2) 0
    · exact congrFun (off3 t 2) 0
    · have e : k0_off1 (grid0.coords t) 512#32 1 = t.val % 2 * 1024 + 512 := congrFun (off1 t 2) 1
      simp only [e]; omega
    · have e : k0_off2 (grid0.coords t) 512#32 1 = t.val % 2 * 1024 + 512 := congrFun (off2 t 2) 1
      simp only [e]; omega
    · have e : k0_off3 (grid0.coords t) 512#32 1 = t.val % 2 * 1024 + 512 := congrFun (off3 t 2) 1
      simp only [e]; omega
    · have e : k0_off1 (grid0.coords t) 512#32 2 = 0 := congrFun (off1 t 2) 2
      simp only [e]; omega
    · have e : k0_off2 (grid0.coords t) 512#32 2 = 0 := congrFun (off2 t 2) 2
      simp only [e]; omega
    · have e : k0_off3 (grid0.coords t) 512#32 2 = 0 := congrFun (off3 t 2) 2
      simp only [e]; omega
  case piece22 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 2) 0
    · exact congrFun (off2 t 2) 0
    · exact congrFun (off3 t 2) 0
    · have e : k0_off1 (grid0.coords t) 512#32 1 = t.val % 2 * 1024 + 512 := congrFun (off1 t 2) 1
      simp only [e]; omega
    · have e : k0_off2 (grid0.coords t) 512#32 1 = t.val % 2 * 1024 + 512 := congrFun (off2 t 2) 1
      simp only [e]; omega
    · have e : k0_off3 (grid0.coords t) 512#32 1 = t.val % 2 * 1024 + 512 := congrFun (off3 t 2) 1
      simp only [e]; omega
    · have e : k0_off1 (grid0.coords t) 512#32 2 = 0 := congrFun (off1 t 2) 2
      simp only [e]; omega
    · have e : k0_off2 (grid0.coords t) 512#32 2 = 0 := congrFun (off2 t 2) 2
      simp only [e]; omega
    · have e : k0_off3 (grid0.coords t) 512#32 2 = 0 := congrFun (off3 t 2) 2
      simp only [e]; omega
  case piece23 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 2) 0
    · exact congrFun (off2 t 2) 0
    · exact congrFun (off3 t 2) 0
    · have e : k0_off1 (grid0.coords t) 512#32 1 = t.val % 2 * 1024 + 512 := congrFun (off1 t 2) 1
      simp only [e]; omega
    · have e : k0_off2 (grid0.coords t) 512#32 1 = t.val % 2 * 1024 + 512 := congrFun (off2 t 2) 1
      simp only [e]; omega
    · have e : k0_off3 (grid0.coords t) 512#32 1 = t.val % 2 * 1024 + 512 := congrFun (off3 t 2) 1
      simp only [e]; omega
    · have e : k0_off1 (grid0.coords t) 512#32 2 = 0 := congrFun (off1 t 2) 2
      simp only [e]; omega
    · have e : k0_off2 (grid0.coords t) 512#32 2 = 0 := congrFun (off2 t 2) 2
      simp only [e]; omega
    · have e : k0_off3 (grid0.coords t) 512#32 2 = 0 := congrFun (off3 t 2) 2
      simp only [e]; omega
  case piece24 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece25 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece26 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece27 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece28 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece29 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece30 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece31 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece32 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 1) 0
    · exact congrFun (off2 t 1) 0
    · exact congrFun (off3 t 1) 0
    · have e : k0_off1 (grid0.coords t) 256#32 1 = t.val % 2 * 1024 + 256 := congrFun (off1 t 1) 1
      simp only [e]; omega
    · have e : k0_off2 (grid0.coords t) 256#32 1 = t.val % 2 * 1024 + 256 := congrFun (off2 t 1) 1
      simp only [e]; omega
    · have e : k0_off3 (grid0.coords t) 256#32 1 = t.val % 2 * 1024 + 256 := congrFun (off3 t 1) 1
      simp only [e]; omega
    · have e : k0_off1 (grid0.coords t) 256#32 2 = 0 := congrFun (off1 t 1) 2
      simp only [e]; omega
    · have e : k0_off2 (grid0.coords t) 256#32 2 = 0 := congrFun (off2 t 1) 2
      simp only [e]; omega
    · have e : k0_off3 (grid0.coords t) 256#32 2 = 0 := congrFun (off3 t 1) 2
      simp only [e]; omega
  case piece33 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 1) 0
    · exact congrFun (off2 t 1) 0
    · exact congrFun (off3 t 1) 0
    · have e : k0_off1 (grid0.coords t) 256#32 1 = t.val % 2 * 1024 + 256 := congrFun (off1 t 1) 1
      simp only [e]; omega
    · have e : k0_off2 (grid0.coords t) 256#32 1 = t.val % 2 * 1024 + 256 := congrFun (off2 t 1) 1
      simp only [e]; omega
    · have e : k0_off3 (grid0.coords t) 256#32 1 = t.val % 2 * 1024 + 256 := congrFun (off3 t 1) 1
      simp only [e]; omega
    · have e : k0_off1 (grid0.coords t) 256#32 2 = 0 := congrFun (off1 t 1) 2
      simp only [e]; omega
    · have e : k0_off2 (grid0.coords t) 256#32 2 = 0 := congrFun (off2 t 1) 2
      simp only [e]; omega
    · have e : k0_off3 (grid0.coords t) 256#32 2 = 0 := congrFun (off3 t 1) 2
      simp only [e]; omega
  case piece34 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 1) 0
    · exact congrFun (off2 t 1) 0
    · exact congrFun (off3 t 1) 0
    · have e : k0_off1 (grid0.coords t) 256#32 1 = t.val % 2 * 1024 + 256 := congrFun (off1 t 1) 1
      simp only [e]; omega
    · have e : k0_off2 (grid0.coords t) 256#32 1 = t.val % 2 * 1024 + 256 := congrFun (off2 t 1) 1
      simp only [e]; omega
    · have e : k0_off3 (grid0.coords t) 256#32 1 = t.val % 2 * 1024 + 256 := congrFun (off3 t 1) 1
      simp only [e]; omega
    · have e : k0_off1 (grid0.coords t) 256#32 2 = 0 := congrFun (off1 t 1) 2
      simp only [e]; omega
    · have e : k0_off2 (grid0.coords t) 256#32 2 = 0 := congrFun (off2 t 1) 2
      simp only [e]; omega
    · have e : k0_off3 (grid0.coords t) 256#32 2 = 0 := congrFun (off3 t 1) 2
      simp only [e]; omega
  case piece35 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 1) 0
    · exact congrFun (off2 t 1) 0
    · exact congrFun (off3 t 1) 0
    · have e : k0_off1 (grid0.coords t) 256#32 1 = t.val % 2 * 1024 + 256 := congrFun (off1 t 1) 1
      simp only [e]; omega
    · have e : k0_off2 (grid0.coords t) 256#32 1 = t.val % 2 * 1024 + 256 := congrFun (off2 t 1) 1
      simp only [e]; omega
    · have e : k0_off3 (grid0.coords t) 256#32 1 = t.val % 2 * 1024 + 256 := congrFun (off3 t 1) 1
      simp only [e]; omega
    · have e : k0_off1 (grid0.coords t) 256#32 2 = 0 := congrFun (off1 t 1) 2
      simp only [e]; omega
    · have e : k0_off2 (grid0.coords t) 256#32 2 = 0 := congrFun (off2 t 1) 2
      simp only [e]; omega
    · have e : k0_off3 (grid0.coords t) 256#32 2 = 0 := congrFun (off3 t 1) 2
      simp only [e]; omega
  case piece36 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 1) 0
    · exact congrFun (off2 t 1) 0
    · exact congrFun (off3 t 1) 0
    · have e : k0_off1 (grid0.coords t) 256#32 1 = t.val % 2 * 1024 + 256 := congrFun (off1 t 1) 1
      simp only [e]; omega
    · have e : k0_off2 (grid0.coords t) 256#32 1 = t.val % 2 * 1024 + 256 := congrFun (off2 t 1) 1
      simp only [e]; omega
    · have e : k0_off3 (grid0.coords t) 256#32 1 = t.val % 2 * 1024 + 256 := congrFun (off3 t 1) 1
      simp only [e]; omega
    · have e : k0_off1 (grid0.coords t) 256#32 2 = 0 := congrFun (off1 t 1) 2
      simp only [e]; omega
    · have e : k0_off2 (grid0.coords t) 256#32 2 = 0 := congrFun (off2 t 1) 2
      simp only [e]; omega
    · have e : k0_off3 (grid0.coords t) 256#32 2 = 0 := congrFun (off3 t 1) 2
      simp only [e]; omega
  case piece37 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 1) 0
    · exact congrFun (off2 t 1) 0
    · exact congrFun (off3 t 1) 0
    · have e : k0_off1 (grid0.coords t) 256#32 1 = t.val % 2 * 1024 + 256 := congrFun (off1 t 1) 1
      simp only [e]; omega
    · have e : k0_off2 (grid0.coords t) 256#32 1 = t.val % 2 * 1024 + 256 := congrFun (off2 t 1) 1
      simp only [e]; omega
    · have e : k0_off3 (grid0.coords t) 256#32 1 = t.val % 2 * 1024 + 256 := congrFun (off3 t 1) 1
      simp only [e]; omega
    · have e : k0_off1 (grid0.coords t) 256#32 2 = 0 := congrFun (off1 t 1) 2
      simp only [e]; omega
    · have e : k0_off2 (grid0.coords t) 256#32 2 = 0 := congrFun (off2 t 1) 2
      simp only [e]; omega
    · have e : k0_off3 (grid0.coords t) 256#32 2 = 0 := congrFun (off3 t 1) 2
      simp only [e]; omega
  case piece38 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 1) 0
    · exact congrFun (off2 t 1) 0
    · exact congrFun (off3 t 1) 0
    · have e : k0_off1 (grid0.coords t) 256#32 1 = t.val % 2 * 1024 + 256 := congrFun (off1 t 1) 1
      simp only [e]; omega
    · have e : k0_off2 (grid0.coords t) 256#32 1 = t.val % 2 * 1024 + 256 := congrFun (off2 t 1) 1
      simp only [e]; omega
    · have e : k0_off3 (grid0.coords t) 256#32 1 = t.val % 2 * 1024 + 256 := congrFun (off3 t 1) 1
      simp only [e]; omega
    · have e : k0_off1 (grid0.coords t) 256#32 2 = 0 := congrFun (off1 t 1) 2
      simp only [e]; omega
    · have e : k0_off2 (grid0.coords t) 256#32 2 = 0 := congrFun (off2 t 1) 2
      simp only [e]; omega
    · have e : k0_off3 (grid0.coords t) 256#32 2 = 0 := congrFun (off3 t 1) 2
      simp only [e]; omega
  case piece39 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 1) 0
    · exact congrFun (off2 t 1) 0
    · exact congrFun (off3 t 1) 0
    · have e : k0_off1 (grid0.coords t) 256#32 1 = t.val % 2 * 1024 + 256 := congrFun (off1 t 1) 1
      simp only [e]; omega
    · have e : k0_off2 (grid0.coords t) 256#32 1 = t.val % 2 * 1024 + 256 := congrFun (off2 t 1) 1
      simp only [e]; omega
    · have e : k0_off3 (grid0.coords t) 256#32 1 = t.val % 2 * 1024 + 256 := congrFun (off3 t 1) 1
      simp only [e]; omega
    · have e : k0_off1 (grid0.coords t) 256#32 2 = 0 := congrFun (off1 t 1) 2
      simp only [e]; omega
    · have e : k0_off2 (grid0.coords t) 256#32 2 = 0 := congrFun (off2 t 1) 2
      simp only [e]; omega
    · have e : k0_off3 (grid0.coords t) 256#32 2 = 0 := congrFun (off3 t 1) 2
      simp only [e]; omega
  case piece40 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece41 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece42 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece43 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece44 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece45 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece46 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece47 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece48 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 0) 0
    · exact congrFun (off2 t 0) 0
    · exact congrFun (off3 t 0) 0
    · have e : k0_off1 (grid0.coords t) 0#32 1 = t.val % 2 * 1024 + 0 := congrFun (off1 t 0) 1
      simp only [e]; omega
    · have e : k0_off2 (grid0.coords t) 0#32 1 = t.val % 2 * 1024 + 0 := congrFun (off2 t 0) 1
      simp only [e]; omega
    · have e : k0_off3 (grid0.coords t) 0#32 1 = t.val % 2 * 1024 + 0 := congrFun (off3 t 0) 1
      simp only [e]; omega
    · have e : k0_off1 (grid0.coords t) 0#32 2 = 0 := congrFun (off1 t 0) 2
      simp only [e]; omega
    · have e : k0_off2 (grid0.coords t) 0#32 2 = 0 := congrFun (off2 t 0) 2
      simp only [e]; omega
    · have e : k0_off3 (grid0.coords t) 0#32 2 = 0 := congrFun (off3 t 0) 2
      simp only [e]; omega
  case piece49 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 0) 0
    · exact congrFun (off2 t 0) 0
    · exact congrFun (off3 t 0) 0
    · have e : k0_off1 (grid0.coords t) 0#32 1 = t.val % 2 * 1024 + 0 := congrFun (off1 t 0) 1
      simp only [e]; omega
    · have e : k0_off2 (grid0.coords t) 0#32 1 = t.val % 2 * 1024 + 0 := congrFun (off2 t 0) 1
      simp only [e]; omega
    · have e : k0_off3 (grid0.coords t) 0#32 1 = t.val % 2 * 1024 + 0 := congrFun (off3 t 0) 1
      simp only [e]; omega
    · have e : k0_off1 (grid0.coords t) 0#32 2 = 0 := congrFun (off1 t 0) 2
      simp only [e]; omega
    · have e : k0_off2 (grid0.coords t) 0#32 2 = 0 := congrFun (off2 t 0) 2
      simp only [e]; omega
    · have e : k0_off3 (grid0.coords t) 0#32 2 = 0 := congrFun (off3 t 0) 2
      simp only [e]; omega
  case piece50 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 0) 0
    · exact congrFun (off2 t 0) 0
    · exact congrFun (off3 t 0) 0
    · have e : k0_off1 (grid0.coords t) 0#32 1 = t.val % 2 * 1024 + 0 := congrFun (off1 t 0) 1
      simp only [e]; omega
    · have e : k0_off2 (grid0.coords t) 0#32 1 = t.val % 2 * 1024 + 0 := congrFun (off2 t 0) 1
      simp only [e]; omega
    · have e : k0_off3 (grid0.coords t) 0#32 1 = t.val % 2 * 1024 + 0 := congrFun (off3 t 0) 1
      simp only [e]; omega
    · have e : k0_off1 (grid0.coords t) 0#32 2 = 0 := congrFun (off1 t 0) 2
      simp only [e]; omega
    · have e : k0_off2 (grid0.coords t) 0#32 2 = 0 := congrFun (off2 t 0) 2
      simp only [e]; omega
    · have e : k0_off3 (grid0.coords t) 0#32 2 = 0 := congrFun (off3 t 0) 2
      simp only [e]; omega
  case piece51 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 0) 0
    · exact congrFun (off2 t 0) 0
    · exact congrFun (off3 t 0) 0
    · have e : k0_off1 (grid0.coords t) 0#32 1 = t.val % 2 * 1024 + 0 := congrFun (off1 t 0) 1
      simp only [e]; omega
    · have e : k0_off2 (grid0.coords t) 0#32 1 = t.val % 2 * 1024 + 0 := congrFun (off2 t 0) 1
      simp only [e]; omega
    · have e : k0_off3 (grid0.coords t) 0#32 1 = t.val % 2 * 1024 + 0 := congrFun (off3 t 0) 1
      simp only [e]; omega
    · have e : k0_off1 (grid0.coords t) 0#32 2 = 0 := congrFun (off1 t 0) 2
      simp only [e]; omega
    · have e : k0_off2 (grid0.coords t) 0#32 2 = 0 := congrFun (off2 t 0) 2
      simp only [e]; omega
    · have e : k0_off3 (grid0.coords t) 0#32 2 = 0 := congrFun (off3 t 0) 2
      simp only [e]; omega
  case piece52 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 0) 0
    · exact congrFun (off2 t 0) 0
    · exact congrFun (off3 t 0) 0
    · have e : k0_off1 (grid0.coords t) 0#32 1 = t.val % 2 * 1024 + 0 := congrFun (off1 t 0) 1
      simp only [e]; omega
    · have e : k0_off2 (grid0.coords t) 0#32 1 = t.val % 2 * 1024 + 0 := congrFun (off2 t 0) 1
      simp only [e]; omega
    · have e : k0_off3 (grid0.coords t) 0#32 1 = t.val % 2 * 1024 + 0 := congrFun (off3 t 0) 1
      simp only [e]; omega
    · have e : k0_off1 (grid0.coords t) 0#32 2 = 0 := congrFun (off1 t 0) 2
      simp only [e]; omega
    · have e : k0_off2 (grid0.coords t) 0#32 2 = 0 := congrFun (off2 t 0) 2
      simp only [e]; omega
    · have e : k0_off3 (grid0.coords t) 0#32 2 = 0 := congrFun (off3 t 0) 2
      simp only [e]; omega
  case piece53 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 0) 0
    · exact congrFun (off2 t 0) 0
    · exact congrFun (off3 t 0) 0
    · have e : k0_off1 (grid0.coords t) 0#32 1 = t.val % 2 * 1024 + 0 := congrFun (off1 t 0) 1
      simp only [e]; omega
    · have e : k0_off2 (grid0.coords t) 0#32 1 = t.val % 2 * 1024 + 0 := congrFun (off2 t 0) 1
      simp only [e]; omega
    · have e : k0_off3 (grid0.coords t) 0#32 1 = t.val % 2 * 1024 + 0 := congrFun (off3 t 0) 1
      simp only [e]; omega
    · have e : k0_off1 (grid0.coords t) 0#32 2 = 0 := congrFun (off1 t 0) 2
      simp only [e]; omega
    · have e : k0_off2 (grid0.coords t) 0#32 2 = 0 := congrFun (off2 t 0) 2
      simp only [e]; omega
    · have e : k0_off3 (grid0.coords t) 0#32 2 = 0 := congrFun (off3 t 0) 2
      simp only [e]; omega
  case piece54 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 0) 0
    · exact congrFun (off2 t 0) 0
    · exact congrFun (off3 t 0) 0
    · have e : k0_off1 (grid0.coords t) 0#32 1 = t.val % 2 * 1024 + 0 := congrFun (off1 t 0) 1
      simp only [e]; omega
    · have e : k0_off2 (grid0.coords t) 0#32 1 = t.val % 2 * 1024 + 0 := congrFun (off2 t 0) 1
      simp only [e]; omega
    · have e : k0_off3 (grid0.coords t) 0#32 1 = t.val % 2 * 1024 + 0 := congrFun (off3 t 0) 1
      simp only [e]; omega
    · have e : k0_off1 (grid0.coords t) 0#32 2 = 0 := congrFun (off1 t 0) 2
      simp only [e]; omega
    · have e : k0_off2 (grid0.coords t) 0#32 2 = 0 := congrFun (off2 t 0) 2
      simp only [e]; omega
    · have e : k0_off3 (grid0.coords t) 0#32 2 = 0 := congrFun (off3 t 0) 2
      simp only [e]; omega
  case piece55 =>
    have h0' : (y0 : ℕ) = _ := h0
    have h1' : (y1 : ℕ) = _ := h1
    open_payloads
    pointwise
    refine roped_piece P Cs Sn hb wb tb _ hD hT _ _ _ _ _ _ _ _ _ _ _ _ _ _ _ ?_ ?_ ?_ ?_ ?_ ?_ ?_ ?_ ?_ ?_ ?_ ?_ ?_ ?_
    · (try simp only []); omega
    · (try simp only []); omega
    · (try simp only []); omega
    · (try simp only []); omega
    · (try simp only []); omega
    · exact congrFun (off1 t 0) 0
    · exact congrFun (off2 t 0) 0
    · exact congrFun (off3 t 0) 0
    · have e : k0_off1 (grid0.coords t) 0#32 1 = t.val % 2 * 1024 + 0 := congrFun (off1 t 0) 1
      simp only [e]; omega
    · have e : k0_off2 (grid0.coords t) 0#32 1 = t.val % 2 * 1024 + 0 := congrFun (off2 t 0) 1
      simp only [e]; omega
    · have e : k0_off3 (grid0.coords t) 0#32 1 = t.val % 2 * 1024 + 0 := congrFun (off3 t 0) 1
      simp only [e]; omega
    · have e : k0_off1 (grid0.coords t) 0#32 2 = 0 := congrFun (off1 t 0) 2
      simp only [e]; omega
    · have e : k0_off2 (grid0.coords t) 0#32 2 = 0 := congrFun (off2 t 0) 2
      simp only [e]; omega
    · have e : k0_off3 (grid0.coords t) 0#32 2 = 0 := congrFun (off3 t 0) 2
      simp only [e]; omega
  case piece56 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece57 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece58 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece59 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece60 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece61 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece62 =>
    have h0' : (y0 : ℕ) = _ := h0
    have h1' : (y1 : ℕ) = _ := h1
    open_payloads
    pointwise
    refine silu_piece P Cs Sn hb wb _ hD _ _ _ _ ?_ ?_ ?_
    all_goals (try simp only []); omega
  case piece63 =>
    have h0' : (y0 : ℕ) = _ := h0
    have h1' : (y1 : ℕ) = _ := h1
    open_payloads
    pointwise
    refine silu_piece P Cs Sn hb wb _ hD _ _ _ _ ?_ ?_ ?_
    all_goals (try simp only []); omega

end Block

variable (m : (ℓ : Loc nD τ sig) → Buf (Elt Ideal) ℓ) (c : Dev nD)

/-- The reference's projection of the arguments. -/
def P : FVec Ideal S16384x2048 .f32 := proj (m ((c.tc : Thread nD τ).loc main_arg0)) (m ((c.tc : Thread nD τ).loc main_arg1))

/-- The reference's slab of the arguments. -/
def G : FVec Ideal S16384x2048 .bf16 := slab (P m c) (Host.cos angle) (Host.sin angle)

theorem idx : ∀ t : Fin cfg0.N, win0_0.index t = ![t.val, 0] ∧ win0_1.index t = ![2, 0] ∧ win0_2.index t = ![0, 0, 0]
    ∧ win0_3.index t = ![t.val, 0] :=
  (by decide +kernel : ∀ t : Fin grid0.N, _)

theorem readH (t : Fin cfg0.N) (ht : t.val < 16) (p : Fin 1024) (k : Fin 2048) : (iblk m c 0 t : FVec Ideal S1024x2048 .bf16) (ix2 p k)
    = (m ((c.tc : Thread nD τ).loc main_arg0) : FVec Ideal S16384x2048 .bf16) (ix2 ⟨t.val * 1024 + p, by omega⟩ k) := by
  blk_ext [iblk, V, idx t]

theorem readW (t : Fin cfg0.N) (q k : Fin 2048) : (iblk m c 1 t : FVec Ideal S2048x2048 .bf16) (ix2 q k)
    = (m ((c.tc : Thread nD τ).loc main_arg1) : FVec Ideal S6144x2048 .bf16) (ix2 ⟨4096 + q, by omega⟩ k) := by
  blk_ext [iblk, V, idx t]

/-- A block's products are the projection's entries. -/
theorem part (t : Fin cfg0.N) (ht : t.val < 16) (hb : FVec Ideal S1024x2048 .bf16) (wb : FVec Ideal S2048x2048 .bf16)
    (hh : hb = iblk m c 0 t) (hw : wb = iblk m c 1 t) (p : Fin 1024) (q : Fin 2048) (r : Fin 16384) (hr : r.val = t.val * 1024 + p.val) :
    (∑ k : Fin 2048, hb (ix2 p k) * wb (ix2 q k) : EReal) = P m c (ix2 r q) := by
  have hr' : r = ⟨t.val * 1024 + p, by omega⟩ := Fin.ext hr
  rw [hr', P, proj_at]
  refine Finset.sum_congr rfl fun k _ => ?_
  rw [hh, hw, readH m c t ht p k, readW m c t q k]

theorem table_eq (t : Fin cfg0.N) : (iblk m c 2 t : FVec Ideal S3x2048x128 .f32) = V m c main_v58 := by
  funext y
  blk_ext [iblk, idx t]

/-- The three tables side by side. -/
def tabs (Cs Sn : FVec Ideal S2048x32 .f32) : FVec Ideal S3x2048x128 .f32 :=
  concatenate S3x2048x128 0 [
    ⟨S1x2048x128, broadcastInDim S1x2048x128 ![1, 2] bcast_S2048x128_S1x2048x128_1_2
      (mulf (concatenate S2048x128 1 [⟨S2048x32, Cs⟩, ⟨S2048x32, Cs⟩, ⟨S2048x32, Cs⟩, ⟨S2048x32, Cs⟩] concatenates_S2048x32_S2048x32_S2048x32_S2048x32_S2048x128_d1)
        (broadcastInDim S2048x128 ![] bcast_S_S2048x128 (constant S_ .f32 0x3E38AA3B#32)))⟩,
    ⟨S1x2048x128, broadcastInDim S1x2048x128 ![1, 2] bcast_S2048x128_S1x2048x128_1_2
      (mulf (concatenate S2048x128 1 [⟨S2048x32, Host.negf Sn⟩, ⟨S2048x32, broadcastInDim S2048x32 ![] bcast_S_S2048x32 (constant S_ .f32 0x00000000#32)⟩,
        ⟨S2048x32, Host.negf Sn⟩, ⟨S2048x32, broadcastInDim S2048x32 ![] bcast_S_S2048x32 (constant S_ .f32 0x00000000#32)⟩]
        concatenates_S2048x32_S2048x32_S2048x32_S2048x32_S2048x128_d1)
        (broadcastInDim S2048x128 ![] bcast_S_S2048x128 (constant S_ .f32 0x3E38AA3B#32)))⟩,
    ⟨S1x2048x128, broadcastInDim S1x2048x128 ![1, 2] bcast_S2048x128_S1x2048x128_1_2
      (mulf (concatenate S2048x128 1 [⟨S2048x32, broadcastInDim S2048x32 ![] bcast_S_S2048x32 (constant S_ .f32 0x00000000#32)⟩, ⟨S2048x32, Sn⟩,
        ⟨S2048x32, broadcastInDim S2048x32 ![] bcast_S_S2048x32 (constant S_ .f32 0x00000000#32)⟩, ⟨S2048x32, Sn⟩]
        concatenates_S2048x32_S2048x32_S2048x32_S2048x32_S2048x128_d1)
        (broadcastInDim S2048x128 ![] bcast_S_S2048x128 (constant S_ .f32 0x3E38AA3B#32)))⟩]
    concatenates_S1x2048x128_S1x2048x128_S1x2048x128_S3x2048x128_d0

theorem tabs_table (Cs Sn : FVec Ideal S2048x32 .f32) : Table Cs Sn (tabs Cs Sn) where
  cos a s l d ha hd := by
    pointwise [tabs]
    rw [dif_pos (by omega)]
    by_cases h0 : l.val < 32
    · rw [dif_pos h0]; refine congrArg (· * scale) ?_; blk_ext
    rw [dif_neg h0]
    by_cases h1 : l.val - 32 < 32
    · rw [dif_pos h1]; refine congrArg (· * scale) ?_; blk_ext
    rw [dif_neg h1]
    by_cases h2 : l.val - 32 - 32 < 32
    · rw [dif_pos h2]; refine congrArg (· * scale) ?_; blk_ext
    rw [dif_neg h2]; refine congrArg (· * scale) ?_; blk_ext
  lo1 a s l d ha hd hl := by
    pointwise [tabs]
    rw [dif_neg (by omega), dif_pos (by omega)]
    by_cases h0 : l.val < 32
    · rw [dif_pos h0]; refine congrArg (-· * scale) ?_; blk_ext
    rw [dif_neg h0, dif_neg (by omega), dif_pos (by omega)]; refine congrArg (-· * scale) ?_; blk_ext
  hi1 a s l ha hl := by
    pointwise [tabs]
    rw [dif_neg (by omega), dif_pos (by omega), dif_neg (by omega)]
    by_cases h1 : l.val - 32 < 32
    · rw [dif_pos h1]; exact zero_mul _
    rw [dif_neg h1, dif_neg (by omega)]; exact zero_mul _
  lo2 a s l ha hl := by
    pointwise [tabs]
    rw [dif_neg (by omega), dif_neg (by omega)]
    by_cases h0 : l.val < 32
    · rw [dif_pos h0]; exact zero_mul _
    rw [dif_neg h0, dif_neg (by omega), dif_pos (by omega)]; exact zero_mul _
  hi2 a s l d ha hd hl := by
    pointwise [tabs]
    rw [dif_neg (by omega), dif_neg (by omega), dif_neg (by omega)]
    by_cases h1 : l.val - 32 < 32
    · rw [dif_pos h1]; refine congrArg (· * scale) ?_; blk_ext
    rw [dif_neg h1, dif_neg (by omega)]; refine congrArg (· * scale) ?_; blk_ext

set_option maxHeartbeats 30000000 in
theorem table_entry : V m c main_v58 = tabs (Host.cos angle) (Host.sin angle) := by
  unfold V
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem table (t : Fin cfg0.N) (tb : FVec Ideal S3x2048x128 .f32) (h : tb = iblk m c 2 t) : Table (Host.cos angle) (Host.sin angle) tb := by
  rw [h, table_eq, table_entry]
  exact tabs_table _ _

theorem placed (t : Fin cfg0.N) (ht : t.val < 16) (p : Fin 1024) (k : Fin 2048) (X : FVec Ideal S16384x2048 .bf16) :
    X (((View.whole main_v59).slice (win0_3.rect t)).emb (ix2 p k)) = X (ix2 ⟨t.val * 1024 + p, by omega⟩ k) := by
  refine congrArg X ?_
  blk_ext [idx t]

theorem final : (dats m 0 c).arrAt 3 (cfgs 0).N = G m c := by
  refine (dats m 0 c).arrAt_eq_of_covers 3 _ (by decide +kernel) fun t _ y => ?_
  have ht : t.val < 16 := lt_of_lt_of_eq t.isLt N_0
  blk_simp
  rw [after0_3]
  unfold outsAt0
  idx_vars y
  refine Eq.trans ?_ (placed t ht y0 y1 (G m c)).symm
  exact block _ _ _ _ _ _ (table m c t _ rfl) c t _ _ _ _ _ _ _ _ (part m c t ht _ _ rfl rfl) y0 y1 _ rfl

end Cert.Proj2Ideal.Final
-- ==== Proof.AttnIdealBuffers.lean ====
/-
The attention's body only moves contents between its buffers.

`Safe c I p` says that the program `p`, started with the buffers `I` on core `c`, ends with the buffers `I` again. A load is
safe when `I` holds the buffer it reads, a store when `I` holds the buffer at some contents. The body is walked statement by
statement; nothing is said of the values it computes.
-/
module

public import proofs.«01_k».proof.Proof.Gen.AttnIdeal.Skeleton
public import proofs.«01_k».proof.Proof.Gen.AttnIdeal.Frame

@[expose] public section

set_option maxRecDepth 16384

noncomputable section

namespace Cert.AttnIdeal.Buffers

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- From the buffers `I`, the program runs and gives `I` back. -/
def Safe (c : Dev nD) (I : sProp (MT nD τ sig Unit (Elt F) ℕ (UR sig nD τ) ℕ)) {α : Type} (p : Prog (TpuEff nD τ sig (Elt F) Λ₀ .tc) α) : Prop :=
  I ⊢ wp frame (wpE (defs₀ (F := F)) Variants.none (c : Thread nD τ) none) Set.univ p (fun _ => I)

/-- `I` holds the buffer of the memref `a` at some contents, and takes it back unchanged. -/
class LoadOk (c : Dev nD) (I : sProp (MT nD τ sig Unit (Elt F) ℕ (UR sig nD τ) ℕ)) {cs : CoreSpace} {s : Shape} {e : EltTy} (a : Memref sig .tc cs s e) : Prop where
  held : I ⊢ iprop(∃ f : Buf (Elt F) (a.view.loc (c : Thread nD τ)), (a.view.loc (c : Thread nD τ) ↦[a.view.set]{fullShare} f)
    ∗ ((a.view.loc (c : Thread nD τ) ↦[a.view.set]{fullShare} f) -∗ I))

/-- `I` holds the buffer of the memref `a` at some contents, and takes it back at any. -/
class StoreOk (c : Dev nD) (I : sProp (MT nD τ sig Unit (Elt F) ℕ (UR sig nD τ) ℕ)) {cs : CoreSpace} {s : Shape} {e : EltTy} (a : Memref sig .tc cs s e) : Prop where
  held : I ⊢ iprop(∃ f : Buf (Elt F) (a.view.loc (c : Thread nD τ)), (a.view.loc (c : Thread nD τ) ↦[a.view.set]{fullShare} f)
    ∗ (∀ g : Buf (Elt F) (a.view.loc (c : Thread nD τ)), (a.view.loc (c : Thread nD τ) ↦[a.view.set]{fullShare} g) -∗ I))

section
variable {c : Dev nD} {I : sProp (MT nD τ sig Unit (Elt F) ℕ (UR sig nD τ) ℕ)} {cs : CoreSpace} {s : Shape} {e : EltTy} {a : Memref sig .tc cs s e}

instance [h : StoreOk c I a] : LoadOk c I a where
  held := by
    refine h.held.trans ?_
    iintro ⟨%f, H, K⟩
    iexists f
    isplitl [H]
    · iexact H
    · iapply K

/-- A buffer held within the left part is held. -/
theorem LoadOk.left {A B : sProp (MT nD τ sig Unit (Elt F) ℕ (UR sig nD τ) ℕ)} (h : LoadOk c A a) : LoadOk c iprop(A ∗ B) a where
  held := by
    iintro ⟨HA, HB⟩
    ihave ⟨%f, H, K⟩ := h.held $$ HA
    iexists f
    isplitl [H]
    · iexact H
    iintro H
    isplitl [K H]
    · iapply K; iexact H
    · iexact HB

/-- A buffer held within the right part is held. -/
theorem LoadOk.right {A B : sProp (MT nD τ sig Unit (Elt F) ℕ (UR sig nD τ) ℕ)} (h : LoadOk c B a) : LoadOk c iprop(A ∗ B) a where
  held := by
    iintro ⟨HA, HB⟩
    ihave ⟨%f, H, K⟩ := h.held $$ HB
    iexists f
    isplitl [H]
    · iexact H
    iintro H
    isplitl [HA]
    · iexact HA
    · iapply K; iexact H

/-- The same, for a buffer that is written. -/
theorem StoreOk.left {A B : sProp (MT nD τ sig Unit (Elt F) ℕ (UR sig nD τ) ℕ)} (h : StoreOk c A a) : StoreOk c iprop(A ∗ B) a where
  held := by
    iintro ⟨HA, HB⟩
    ihave ⟨%f, H, K⟩ := h.held $$ HA
    iexists f
    isplitl [H]
    · iexact H
    iintro %f' H
    isplitl [K H]
    · iapply K; iexact H
    · iexact HB

/-- The same, for a buffer that is written. -/
theorem StoreOk.right {A B : sProp (MT nD τ sig Unit (Elt F) ℕ (UR sig nD τ) ℕ)} (h : StoreOk c B a) : StoreOk c iprop(A ∗ B) a where
  held := by
    iintro ⟨HA, HB⟩
    ihave ⟨%f, H, K⟩ := h.held $$ HB
    iexists f
    isplitl [H]
    · iexact H
    iintro %f' H
    isplitl [HA]
    · iexact HA
    · iapply K; iexact H

/-- A memref owned at known contents may be read. -/
theorem LoadOk.owned (X : s.Idx → Elt F e) : LoadOk c (owns (c : Thread nD τ) a fullShare X) a where
  held := by
    unfold owns
    iintro ⟨%f, %hf, H⟩
    iexists f
    isplitl [H]
    · iexact H
    iintro H
    iexists f
    isplitr
    · ipureintro; exact hf
    · iexact H

/-- A memref owned at some contents may be written. -/
theorem StoreOk.owned : StoreOk c iprop(∃ X : s.Idx → Elt F e, owns (c : Thread nD τ) a fullShare X) a where
  held := by
    unfold owns
    iintro ⟨%X, %f, %hf, H⟩
    iexists f
    isplitl [H]
    · iexact H
    iintro %g H
    iexists _
    iexists g
    isplitr
    · ipureintro; rfl
    · iexact H

theorem safe_pure {α : Type} (x : α) : Safe c I (pure x) := by
  unfold Safe
  rw [wp_pure]
  exact fupd_intro

theorem safe_bind {α β : Type} {p : Prog (TpuEff nD τ sig (Elt F) Λ₀ .tc) α} {k : α → Prog (TpuEff nD τ sig (Elt F) Λ₀ .tc) β}
    (hp : Safe c I p) (hk : ∀ x, Safe c I (k x)) : Safe c I (p >>= k) := by
  unfold Safe at *
  rw [wp_bind]
  exact hp.trans (wp_mono _ _ _ hk)

theorem safe_load_ret [h : LoadOk c I a] (r : LoadRect s) (hl : a.view.LoadsAt r) {β : Type} (g : (r.shape.Idx → Elt F e) → β) :
    Safe c I (.op (.load a r hl) fun x => .ret (g x)) := by
  unfold Safe
  refine h.held.trans ?_
  iintro ⟨%f, H, K⟩
  ihave W := wp_load (defs := defs₀ (F := F)) Variants.none (c : Thread nD τ) none Set.univ (r := r) (hl := hl) (k := fun x => .ret (g x))
    (Q := fun _ => I) (a.view.setOn_subset_set _) $$ H
  iapply W
  iintro H
  rw [show ∀ x : β, (Prog.ret x : Prog (TpuEff nD τ sig (Elt F) Λ₀ .tc) _) = pure x from fun _ => rfl, wp_pure]
  imodintro
  iapply K
  iexact H

theorem safe_load [LoadOk c I a] (r : LoadRect s) (hl : a.view.LoadsAt r) : Safe c I (Prog.lift (.load a r hl)) :=
  safe_load_ret r hl fun x => x

theorem safe_store [h : StoreOk c I a] (r : Rect s) (w : r.shape.Idx → Elt F e) (Mk : Finset r.shape.Idx) (hx : (a.access r).Stores Mk)
    (hm : Mk = Finset.univ ∨ ∀ i, r.stride i = 1) : Safe c I (Prog.lift (.store a r w Mk hx hm)) := by
  unfold Safe
  refine h.held.trans ?_
  iintro ⟨%f, H, K⟩
  ihave W := wp_store (defs := defs₀ (F := F)) Variants.none (c : Thread nD τ) none Set.univ (m := a) (r := r) (w := w) (hx := hx) (hm := hm) (k := .ret)
    (Q := fun _ => I) (View.setOn_slice_subset_set a.view r Mk) $$ H
  iapply W
  iintro H
  rw [show (Prog.ret PUnit.unit : Prog (TpuEff nD τ sig (Elt F) Λ₀ .tc) _) = pure PUnit.unit from rfl, wp_pure]
  imodintro
  iapply K
  iexact H
end

theorem safe_smem {c : Dev nD} {I : sProp (MT nD τ sig Unit (Elt F) ℕ (UR sig nD τ) ℕ)} {s : Shape} {e : EltTy} {a : Memref sig .tc .smem s e} [h : LoadOk c I a] (r : Rect s)
    (h1 : r.shape.numel = 1) (hp : e.packing = 1) : Safe c I (smemLoad a r h1 hp) := by
  have hw := safe_load_ret (c := c) (I := I) (a := a) r.toLoadRect (View.loadsAt_rect (View.loads_smem_one hp h1))
    fun f => f (Shape.Idx.first (h1.symm ▸ Nat.one_pos))
  unfold smemLoad smemLoadElt
  exact hw

section
variable {c : Dev nD} {I : sProp (MT nD τ sig Unit (Elt F) ℕ (UR sig nD τ) ℕ)} {s : Shape} {e : EltTy} {β : Type}

/-- A load, then the rest. -/
theorem rd {cs : CoreSpace} {a : Memref sig .tc cs s e} [LoadOk c I a] {r : LoadRect s} {hl : a.view.LoadsAt r}
    {k : (r.shape.Idx → Elt F e) → Prog (TpuEff nD τ sig (Elt F) Λ₀ .tc) β} (hk : ∀ x, Safe c I (k x)) :
    Safe c I (Prog.lift (.load a r hl) >>= k) :=
  safe_bind (safe_load r hl) hk

/-- A store, then the rest. -/
theorem wr {cs : CoreSpace} {a : Memref sig .tc cs s e} [StoreOk c I a] {r : Rect s} {w : r.shape.Idx → Elt F e} {Mk : Finset r.shape.Idx}
    {hx : (a.access r).Stores Mk} {hm : Mk = Finset.univ ∨ ∀ i, r.stride i = 1}
    {k : PUnit → Prog (TpuEff nD τ sig (Elt F) Λ₀ .tc) β} (hk : ∀ x, Safe c I (k x)) :
    Safe c I (Prog.lift (.store a r w Mk hx hm) >>= k) :=
  safe_bind (safe_store r w Mk hx hm) hk

/-- A word read, then the rest. -/
theorem wd {a : Memref sig .tc .smem s e} [LoadOk c I a] {r : Rect s} {h1 : r.shape.numel = 1} {hp : e.packing = 1}
    {k : Elt F e → Prog (TpuEff nD τ sig (Elt F) Λ₀ .tc) β} (hk : ∀ x, Safe c I (k x)) : Safe c I (smemLoad a r h1 hp >>= k) :=
  safe_bind (safe_smem r h1 hp) hk

end

/-- The statements of `k0_part21` keep the body's buffers. -/
theorem safe_part21 (c : Dev nD) (I : sProp (MT nD τ sig Unit (Elt F) ℕ (UR sig nD τ) ℕ)) (i : grid0.Coords) (arg3 : Memref sig .tc .smem S16 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x128x128 .bf16) (harg12 : arg12.IsWhole) (arg13 : Memref sig .tc .vmem S1x128x128 .bf16) (harg13 : arg13.IsWhole) (arg14 : Memref sig .tc .vmem S1x128x128 .bf16) (harg14 : arg14.IsWhole) (arg15 : Memref sig .tc .vmem S1x128x128 .bf16) (harg15 : arg15.IsWhole) (arg16 : Memref sig .tc .vmem S1x128x128 .bf16) (harg16 : arg16.IsWhole) (arg17 : Memref sig .tc .vmem S1x128x128 .bf16) (harg17 : arg17.IsWhole) (arg18 : Memref sig .tc .vmem S1x128x512 .bf16) (harg18 : arg18.IsWhole) (arg19 : Memref sig .tc .vmem S1x128x512 .bf16) (harg19 : arg19.IsWhole) (arg20 : Memref sig .tc .vmem S1x128x512 .bf16) (harg20 : arg20.IsWhole) (arg21 : Memref sig .tc .vmem S1x128x512 .bf16) (harg21 : arg21.IsWhole) (arg22 : Memref sig .tc .vmem S32x128 .bf16) (harg22 : arg22.IsWhole) (arg23 : Memref sig .tc .vmem S5x640x128 .f32) (harg23 : arg23.IsWhole) (arg24 : Memref sig .tc .vmem S3x256x128 .f32) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x128x512 .bf16) (harg27 : arg27.IsWhole) (arg28 : Memref sig .tc .vmem S1x128x512 .bf16) (harg28 : arg28.IsWhole) (arg29 : Memref sig .tc .vmem S1x2048x128 .bf16) (harg29 : arg29.IsWhole) (arg30 : Memref sig .tc .vmem S1x2048x128 .bf16) (harg30 : arg30.IsWhole) (arg31 : Memref sig .tc .vmem S1x128x512 .bf16) (harg31 : arg31.IsWhole) (arg32 : Memref sig .tc .vmem S1x128x512 .bf16) (harg32 : arg32.IsWhole) (arg33 : Memref sig .tc .vmem S1x128x512 .bf16) (harg33 : arg33.IsWhole) (arg34 : Memref sig .tc .vmem S1x128x512 .bf16) (harg34 : arg34.IsWhole) (arg35 : Memref sig .tc .vmem S2x256x128 .f32) (harg35 : arg35.IsWhole) (arg36 : Memref sig .tc .vmem S1x128x512 .bf16) (harg36 : arg36.IsWhole) (arg37 : Memref sig .tc .vmem S1x128x512 .bf16) (harg37 : arg37.IsWhole) (arg38 : Memref sig .tc .vmem S1x128x512 .bf16) (harg38 : arg38.IsWhole) (arg39 : Memref sig .tc .vmem S1x128x512 .bf16) (harg39 : arg39.IsWhole) (arg40 : Memref sig .tc .vmem S1x128x512 .bf16) (harg40 : arg40.IsWhole) (arg41 : Memref sig .tc .vmem S1x128x512 .bf16) (harg41 : arg41.IsWhole) (arg42 : Memref sig .tc .vmem S1x128x512 .bf16) (harg42 : arg42.IsWhole) (arg43 : Memref sig .tc .vmem S1x128x512 .bf16) (harg43 : arg43.IsWhole) (arg44 : Memref sig .tc .vmem S16x144x128 .bf16) (harg44 : arg44.IsWhole) (arg45 : Memref sig .tc .vmem S16x144x128 .bf16) (harg45 : arg45.IsWhole) (arg46 : Memref sig .tc .vmem S16x80x128 .bf16) (harg46 : arg46.IsWhole) (arg47 : Memref sig .tc .vmem S4x2x256x128 .bf16) (harg47 : arg47.IsWhole) (arg48 : Memref sig .tc .vmem S4x32x8x128 .f32) (harg48 : arg48.IsWhole) (arg49 : Memref sig .tc .vmem S4x2x144x256 .f32) (harg49 : arg49.IsWhole) (arg50 : Memref sig .tc .vmem S4x2x128x256 .f32) (harg50 : arg50.IsWhole) [LoadOk c I arg3] [LoadOk c I arg4] [LoadOk c I arg5] [LoadOk c I arg6] [LoadOk c I arg7] [LoadOk c I arg8] [LoadOk c I arg9] [LoadOk c I arg10] [LoadOk c I arg11] [LoadOk c I arg12] [LoadOk c I arg13] [LoadOk c I arg14] [LoadOk c I arg15] [LoadOk c I arg16] [LoadOk c I arg17] [LoadOk c I arg18] [LoadOk c I arg19] [LoadOk c I arg20] [LoadOk c I arg21] [LoadOk c I arg22] [LoadOk c I arg23] [LoadOk c I arg24] [LoadOk c I arg25] [LoadOk c I arg26] [LoadOk c I arg27] [LoadOk c I arg28] [LoadOk c I arg29] [LoadOk c I arg30] [LoadOk c I arg31] [LoadOk c I arg32] [LoadOk c I arg33] [LoadOk c I arg34] [LoadOk c I arg35] [StoreOk c I arg36] [StoreOk c I arg37] [StoreOk c I arg38] [StoreOk c I arg39] [StoreOk c I arg40] [StoreOk c I arg41] [StoreOk c I arg42] [StoreOk c I arg43] [StoreOk c I arg44] [StoreOk c I arg45] [StoreOk c I arg46] [StoreOk c I arg47] [StoreOk c I arg48] [StoreOk c I arg49] [StoreOk c I arg50] :
    Safe c I (k0_part21 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50) := by
  rw [k0_part21_eq_skeleton (F := F)]
  unfold k0_part21_skel
  dsimp only
  split
  · refine safe_bind ?_ ?_
    · rw [k0_part1_eq_skeleton (F := F)]
      unfold k0_part1_skel
      refine rd fun _ => rd fun _ => wr fun _ => rd fun _ => wr fun _ => rd fun _ => rd fun _ => wr fun _ => rd fun _ => ?_
      exact wr fun _ => rd fun _ => rd fun _ => safe_pure _
    rintro ⟨_, _⟩
    refine safe_bind ?_ ?_
    · rw [k0_part2_eq_skeleton (F := F)]
      unfold k0_part2_skel
      refine wr fun _ => rd fun _ => wr fun _ => rd fun _ => rd fun _ => wr fun _ => rd fun _ => wr fun _ => rd fun _ => ?_
      exact rd fun _ => wr fun _ => rd fun _ => wr fun _ => safe_pure _
    intro _
    refine safe_bind ?_ ?_
    · rw [k0_part3_eq_skeleton (F := F)]
      unfold k0_part3_skel
      refine rd fun _ => rd fun _ => wr fun _ => rd fun _ => wr fun _ => rd fun _ => rd fun _ => wr fun _ => rd fun _ => ?_
      exact wr fun _ => rd fun _ => rd fun _ => safe_pure _
    rintro ⟨_, _⟩
    refine safe_bind ?_ ?_
    · rw [k0_part4_eq_skeleton (F := F)]
      unfold k0_part4_skel
      refine wr fun _ => rd fun _ => wr fun _ => rd fun _ => rd fun _ => wr fun _ => rd fun _ => wr fun _ => rd fun _ => ?_
      exact rd fun _ => wr fun _ => rd fun _ => wr fun _ => safe_pure _
    intro _
    refine safe_bind ?_ ?_
    · rw [k0_part5_eq_skeleton (F := F)]
      unfold k0_part5_skel
      refine rd fun _ => rd fun _ => wr fun _ => rd fun _ => wr fun _ => rd fun _ => rd fun _ => wr fun _ => rd fun _ => ?_
      exact wr fun _ => rd fun _ => rd fun _ => safe_pure _
    rintro ⟨_, _⟩
    refine safe_bind ?_ ?_
    · rw [k0_part6_eq_skeleton (F := F)]
      unfold k0_part6_skel
      refine wr fun _ => rd fun _ => wr fun _ => rd fun _ => rd fun _ => wr fun _ => rd fun _ => wr fun _ => rd fun _ => ?_
      exact rd fun _ => wr fun _ => rd fun _ => wr fun _ => safe_pure _
    intro _
    refine safe_bind ?_ ?_
    · rw [k0_part7_eq_skeleton (F := F)]
      unfold k0_part7_skel
      refine rd fun _ => rd fun _ => wr fun _ => rd fun _ => wr fun _ => rd fun _ => rd fun _ => wr fun _ => rd fun _ => ?_
      exact wr fun _ => rd fun _ => rd fun _ => safe_pure _
    rintro ⟨_, _⟩
    refine safe_bind ?_ ?_
    · rw [k0_part8_eq_skeleton (F := F)]
      unfold k0_part8_skel
      refine wr fun _ => rd fun _ => wr fun _ => rd fun _ => rd fun _ => wr fun _ => rd fun _ => wr fun _ => rd fun _ => ?_
      exact rd fun _ => wr fun _ => rd fun _ => wr fun _ => safe_pure _
    intro _
    refine safe_bind ?_ ?_
    · rw [k0_part9_eq_skeleton (F := F)]
      unfold k0_part9_skel
      refine rd fun _ => rd fun _ => wr fun _ => rd fun _ => wr fun _ => rd fun _ => rd fun _ => wr fun _ => rd fun _ => ?_
      exact wr fun _ => rd fun _ => rd fun _ => safe_pure _
    rintro ⟨_, _⟩
    refine safe_bind ?_ ?_
    · rw [k0_part10_eq_skeleton (F := F)]
      unfold k0_part10_skel
      refine wr fun _ => rd fun _ => wr fun _ => rd fun _ => rd fun _ => wr fun _ => rd fun _ => wr fun _ => rd fun _ => ?_
      exact rd fun _ => wr fun _ => rd fun _ => wr fun _ => safe_pure _
    intro _
    refine safe_bind ?_ ?_
    · rw [k0_part11_eq_skeleton (F := F)]
      unfold k0_part11_skel
      refine rd fun _ => rd fun _ => wr fun _ => rd fun _ => wr fun _ => rd fun _ => rd fun _ => wr fun _ => rd fun _ => ?_
      exact wr fun _ => rd fun _ => rd fun _ => safe_pure _
    rintro ⟨_, _⟩
    refine safe_bind ?_ ?_
    · rw [k0_part12_eq_skeleton (F := F)]
      unfold k0_part12_skel
      refine wr fun _ => rd fun _ => wr fun _ => rd fun _ => rd fun _ => wr fun _ => rd fun _ => wr fun _ => rd fun _ => ?_
      exact rd fun _ => wr fun _ => rd fun _ => wr fun _ => safe_pure _
    intro _
    refine safe_bind ?_ ?_
    · rw [k0_part13_eq_skeleton (F := F)]
      unfold k0_part13_skel
      refine rd fun _ => rd fun _ => wr fun _ => rd fun _ => wr fun _ => rd fun _ => rd fun _ => wr fun _ => rd fun _ => ?_
      exact wr fun _ => rd fun _ => safe_pure _
    intro _
    refine safe_bind ?_ ?_
    · rw [k0_part14_eq_skeleton (F := F)]
      unfold k0_part14_skel
      refine rd fun _ => wr fun _ => rd fun _ => wr fun _ => rd fun _ => rd fun _ => wr fun _ => rd fun _ => wr fun _ => ?_
      exact rd fun _ => safe_pure _
    intro _
    refine safe_bind ?_ ?_
    · rw [k0_part15_eq_skeleton (F := F)]
      unfold k0_part15_skel
      refine rd fun _ => wr fun _ => rd fun _ => wr fun _ => rd fun _ => rd fun _ => wr fun _ => rd fun _ => wr fun _ => ?_
      exact rd fun _ => safe_pure _
    intro _
    refine safe_bind ?_ ?_
    · rw [k0_part16_eq_skeleton (F := F)]
      unfold k0_part16_skel
      refine rd fun _ => wr fun _ => rd fun _ => wr fun _ => rd fun _ => rd fun _ => wr fun _ => rd fun _ => wr fun _ => ?_
      exact rd fun _ => rd fun _ => safe_pure _
    intro _
    refine safe_bind ?_ ?_
    · rw [k0_part17_eq_skeleton (F := F)]
      unfold k0_part17_skel
      refine wr fun _ => rd fun _ => wr fun _ => rd fun _ => rd fun _ => wr fun _ => rd fun _ => wr fun _ => rd fun _ => ?_
      exact rd fun _ => wr fun _ => safe_pure _
    intro _
    refine safe_bind ?_ ?_
    · rw [k0_part18_eq_skeleton (F := F)]
      unfold k0_part18_skel
      refine rd fun _ => wr fun _ => rd fun _ => rd fun _ => wr fun _ => rd fun _ => wr fun _ => rd fun _ => rd fun _ => ?_
      exact wr fun _ => safe_pure _
    intro _
    refine safe_bind ?_ ?_
    · rw [k0_part19_eq_skeleton (F := F)]
      unfold k0_part19_skel
      refine rd fun _ => wr fun _ => rd fun _ => rd fun _ => wr fun _ => rd fun _ => wr fun _ => rd fun _ => rd fun _ => ?_
      exact wr fun _ => safe_pure _
    intro _
    refine safe_bind ?_ ?_
    · rw [k0_part20_eq_skeleton (F := F)]
      unfold k0_part20_skel
      refine rd fun _ => wr fun _ => rd fun _ => rd fun _ => wr fun _ => rd fun _ => wr fun _ => rd fun _ => rd fun _ => ?_
      exact wr fun _ => rd fun _ => safe_pure _
    rintro ⟨_, _⟩
    refine wr fun _ => rd fun _ => rd fun _ => wr fun _ => rd fun _ => wr fun _ => rd fun _ => rd fun _ => wr fun _ => ?_
    exact rd fun _ => wr fun _ => rd fun _ => safe_pure _
  · exact rd fun _ => rd fun _ => wr fun _ => rd fun _ => wr fun _ => rd fun _ => safe_pure _

/-- The statements of `k0_part347` keep the body's buffers. -/
theorem safe_part347 (c : Dev nD) (I : sProp (MT nD τ sig Unit (Elt F) ℕ (UR sig nD τ) ℕ)) (i : grid0.Coords) (arg3 : Memref sig .tc .smem S16 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x128x128 .bf16) (harg12 : arg12.IsWhole) (arg13 : Memref sig .tc .vmem S1x128x128 .bf16) (harg13 : arg13.IsWhole) (arg14 : Memref sig .tc .vmem S1x128x128 .bf16) (harg14 : arg14.IsWhole) (arg15 : Memref sig .tc .vmem S1x128x128 .bf16) (harg15 : arg15.IsWhole) (arg16 : Memref sig .tc .vmem S1x128x128 .bf16) (harg16 : arg16.IsWhole) (arg17 : Memref sig .tc .vmem S1x128x128 .bf16) (harg17 : arg17.IsWhole) (arg18 : Memref sig .tc .vmem S1x128x512 .bf16) (harg18 : arg18.IsWhole) (arg19 : Memref sig .tc .vmem S1x128x512 .bf16) (harg19 : arg19.IsWhole) (arg20 : Memref sig .tc .vmem S1x128x512 .bf16) (harg20 : arg20.IsWhole) (arg21 : Memref sig .tc .vmem S1x128x512 .bf16) (harg21 : arg21.IsWhole) (arg22 : Memref sig .tc .vmem S32x128 .bf16) (harg22 : arg22.IsWhole) (arg23 : Memref sig .tc .vmem S5x640x128 .f32) (harg23 : arg23.IsWhole) (arg24 : Memref sig .tc .vmem S3x256x128 .f32) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x128x512 .bf16) (harg27 : arg27.IsWhole) (arg28 : Memref sig .tc .vmem S1x128x512 .bf16) (harg28 : arg28.IsWhole) (arg29 : Memref sig .tc .vmem S1x2048x128 .bf16) (harg29 : arg29.IsWhole) (arg30 : Memref sig .tc .vmem S1x2048x128 .bf16) (harg30 : arg30.IsWhole) (arg31 : Memref sig .tc .vmem S1x128x512 .bf16) (harg31 : arg31.IsWhole) (arg32 : Memref sig .tc .vmem S1x128x512 .bf16) (harg32 : arg32.IsWhole) (arg33 : Memref sig .tc .vmem S1x128x512 .bf16) (harg33 : arg33.IsWhole) (arg34 : Memref sig .tc .vmem S1x128x512 .bf16) (harg34 : arg34.IsWhole) (arg35 : Memref sig .tc .vmem S2x256x128 .f32) (harg35 : arg35.IsWhole) (arg36 : Memref sig .tc .vmem S1x128x512 .bf16) (harg36 : arg36.IsWhole) (arg37 : Memref sig .tc .vmem S1x128x512 .bf16) (harg37 : arg37.IsWhole) (arg38 : Memref sig .tc .vmem S1x128x512 .bf16) (harg38 : arg38.IsWhole) (arg39 : Memref sig .tc .vmem S1x128x512 .bf16) (harg39 : arg39.IsWhole) (arg40 : Memref sig .tc .vmem S1x128x512 .bf16) (harg40 : arg40.IsWhole) (arg41 : Memref sig .tc .vmem S1x128x512 .bf16) (harg41 : arg41.IsWhole) (arg42 : Memref sig .tc .vmem S1x128x512 .bf16) (harg42 : arg42.IsWhole) (arg43 : Memref sig .tc .vmem S1x128x512 .bf16) (harg43 : arg43.IsWhole) (arg44 : Memref sig .tc .vmem S16x144x128 .bf16) (harg44 : arg44.IsWhole) (arg45 : Memref sig .tc .vmem S16x144x128 .bf16) (harg45 : arg45.IsWhole) (arg46 : Memref sig .tc .vmem S16x80x128 .bf16) (harg46 : arg46.IsWhole) (arg47 : Memref sig .tc .vmem S4x2x256x128 .bf16) (harg47 : arg47.IsWhole) (arg48 : Memref sig .tc .vmem S4x32x8x128 .f32) (harg48 : arg48.IsWhole) (arg49 : Memref sig .tc .vmem S4x2x144x256 .f32) (harg49 : arg49.IsWhole) (arg50 : Memref sig .tc .vmem S4x2x128x256 .f32) (harg50 : arg50.IsWhole) [LoadOk c I arg3] [LoadOk c I arg4] [LoadOk c I arg5] [LoadOk c I arg6] [LoadOk c I arg7] [LoadOk c I arg8] [LoadOk c I arg9] [LoadOk c I arg10] [LoadOk c I arg11] [LoadOk c I arg12] [LoadOk c I arg13] [LoadOk c I arg14] [LoadOk c I arg15] [LoadOk c I arg16] [LoadOk c I arg17] [LoadOk c I arg18] [LoadOk c I arg19] [LoadOk c I arg20] [LoadOk c I arg21] [LoadOk c I arg22] [LoadOk c I arg23] [LoadOk c I arg24] [LoadOk c I arg25] [LoadOk c I arg26] [LoadOk c I arg27] [LoadOk c I arg28] [LoadOk c I arg29] [LoadOk c I arg30] [LoadOk c I arg31] [LoadOk c I arg32] [LoadOk c I arg33] [LoadOk c I arg34] [LoadOk c I arg35] [StoreOk c I arg36] [StoreOk c I arg37] [StoreOk c I arg38] [StoreOk c I arg39] [StoreOk c I arg40] [StoreOk c I arg41] [StoreOk c I arg42] [StoreOk c I arg43] [StoreOk c I arg44] [StoreOk c I arg45] [StoreOk c I arg46] [StoreOk c I arg47] [StoreOk c I arg48] [StoreOk c I arg49] [StoreOk c I arg50] :
    Safe c I (k0_part347 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50) := by
  rw [k0_part347_eq_skeleton (F := F)]
  unfold k0_part347_skel
  refine safe_bind ?_ ?_
  · exact safe_part21 c I _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  rintro ⟨_, _, _, _, _, _, _, _, _, _, _, _, _, _⟩
  refine safe_bind ?_ ?_
  · rw [k0_part22_eq_skeleton (F := F)]
    unfold k0_part22_skel
    exact rd fun _ => rd fun _ => wr fun _ => rd fun _ => wr fun _ => rd fun _ => rd fun _ => safe_pure _
  rintro ⟨_, _, _, _, _, _⟩
  refine safe_bind ?_ ?_
  · rw [k0_part23_eq_skeleton (F := F)]
    unfold k0_part23_skel
    refine rd fun _ => wr fun _ => rd fun _ => wr fun _ => rd fun _ => rd fun _ => rd fun _ => wr fun _ => rd fun _ => ?_
    exact wr fun _ => rd fun _ => safe_pure _
  rintro ⟨_, _, _, _, _⟩
  refine safe_bind ?_ ?_
  · rw [k0_part24_eq_skeleton (F := F)]
    unfold k0_part24_skel
    exact rd fun _ => rd fun _ => safe_pure _
  rintro ⟨_, _, _, _, _, _, _, _, _, _, _, _, _, _, _, _⟩
  refine safe_bind ?_ ?_
  · rw [k0_part25_eq_skeleton (F := F)]
    unfold k0_part25_skel
    exact rd fun _ => wr fun _ => safe_pure _
  rintro ⟨_, _, _, _, _, _, _, _, _, _, _, _, _, _, _, _, _⟩
  refine safe_bind ?_ ?_
  · rw [k0_part26_eq_skeleton (F := F)]
    unfold k0_part26_skel
    exact safe_pure _
  rintro ⟨_, _, _, _, _, _, _, _⟩
  refine safe_bind ?_ ?_
  · rw [k0_part27_eq_skeleton (F := F)]
    unfold k0_part27_skel
    exact rd fun _ => rd fun _ => rd fun _ => rd fun _ => rd fun _ => rd fun _ => safe_pure _
  rintro ⟨_, _, _, _, _, _⟩
  refine safe_bind ?_ ?_
  · rw [k0_part28_eq_skeleton (F := F)]
    unfold k0_part28_skel
    exact rd fun _ => wr fun _ => rd fun _ => rd fun _ => rd fun _ => safe_pure _
  rintro ⟨_, _, _⟩
  refine safe_bind ?_ ?_
  · rw [k0_part29_eq_skeleton (F := F)]
    unfold k0_part29_skel
    exact rd fun _ => rd fun _ => rd fun _ => safe_pure _
  rintro ⟨_, _, _, _⟩
  refine safe_bind ?_ ?_
  · rw [k0_part30_eq_skeleton (F := F)]
    unfold k0_part30_skel
    exact rd fun _ => wr fun _ => rd fun _ => rd fun _ => rd fun _ => rd fun _ => rd fun _ => rd fun _ => safe_pure _
  rintro ⟨_, _, _, _, _⟩
  refine safe_bind ?_ ?_
  · rw [k0_part31_eq_skeleton (F := F)]
    unfold k0_part31_skel
    exact rd fun _ => wr fun _ => rd fun _ => rd fun _ => rd fun _ => safe_pure _
  rintro ⟨_, _, _⟩
  refine safe_bind ?_ ?_
  · rw [k0_part32_eq_skeleton (F := F)]
    unfold k0_part32_skel
    exact rd fun _ => rd fun _ => rd fun _ => safe_pure _
  rintro ⟨_, _, _, _⟩
  refine safe_bind ?_ ?_
  · rw [k0_part33_eq_skeleton (F := F)]
    unfold k0_part33_skel
    exact rd fun _ => wr fun _ => rd fun _ => rd fun _ => rd fun _ => rd fun _ => rd fun _ => rd fun _ => safe_pure _
  rintro ⟨_, _, _, _⟩
  refine safe_bind ?_ ?_
  · rw [k0_part34_eq_skeleton (F := F)]
    unfold k0_part34_skel
    exact rd fun _ => wr fun _ => rd fun _ => rd fun _ => safe_pure _
  rintro ⟨_, _⟩
  refine safe_bind ?_ ?_
  · rw [k0_part35_eq_skeleton (F := F)]
    unfold k0_part35_skel
    exact rd fun _ => rd fun _ => rd fun _ => rd fun _ => safe_pure _
  rintro ⟨_, _, _, _, _⟩
  refine safe_bind ?_ ?_
  · rw [k0_part36_eq_skeleton (F := F)]
    unfold k0_part36_skel
    exact rd fun _ => wr fun _ => rd fun _ => rd fun _ => rd fun _ => rd fun _ => rd fun _ => rd fun _ => safe_pure _
  rintro ⟨_, _, _⟩
  refine safe_bind ?_ ?_
  · rw [k0_part37_eq_skeleton (F := F)]
    unfold k0_part37_skel
    exact rd fun _ => wr fun _ => rd fun _ => rd fun _ => safe_pure _
  rintro ⟨_, _, _⟩
  refine safe_bind ?_ ?_
  · rw [k0_part38_eq_skeleton (F := F)]
    unfold k0_part38_skel
    exact rd fun _ => rd fun _ => rd fun _ => rd fun _ => safe_pure _
  rintro ⟨_, _, _, _, _, _⟩
  refine safe_bind ?_ ?_
  · rw [k0_part39_eq_skeleton (F := F)]
    unfold k0_part39_skel
    exact rd fun _ => wr fun _ => rd fun _ => rd fun _ => rd fun _ => safe_pure _
  rintro ⟨_, _, _, _, _⟩
  refine safe_bind ?_ ?_
  · rw [k0_part40_eq_skeleton (F := F)]
    unfold k0_part40_skel
    exact rd fun _ => rd fun _ => safe_pure _
  rintro ⟨_, _, _⟩
  refine safe_bind ?_ ?_
  · rw [k0_part41_eq_skeleton (F := F)]
    unfold k0_part41_skel
    exact rd fun _ => rd fun _ => safe_pure _
  rintro ⟨_, _⟩
  refine safe_bind ?_ ?_
  · rw [k0_part42_eq_skeleton (F := F)]
    unfold k0_part42_skel
    exact rd fun _ => rd fun _ => rd fun _ => safe_pure _
  intro _
  refine safe_bind ?_ ?_
  · rw [k0_part43_eq_skeleton (F := F)]
    unfold k0_part43_skel
    exact wr fun _ => rd fun _ => rd fun _ => rd fun _ => safe_pure _
  rintro ⟨_, _, _, _, _, _, _⟩
  refine safe_bind ?_ ?_
  · rw [k0_part44_eq_skeleton (F := F)]
    unfold k0_part44_skel
    exact rd fun _ => rd fun _ => safe_pure _
  rintro ⟨_, _, _, _, _, _⟩
  refine safe_bind ?_ ?_
  · rw [k0_part45_eq_skeleton (F := F)]
    unfold k0_part45_skel
    exact rd fun _ => rd fun _ => safe_pure _
  rintro ⟨_, _, _, _, _⟩
  refine safe_bind ?_ ?_
  · rw [k0_part46_eq_skeleton (F := F)]
    unfold k0_part46_skel
    exact rd fun _ => rd fun _ => rd fun _ => wr fun _ => rd fun _ => safe_pure _
  intro _
  refine safe_bind ?_ ?_
  · rw [k0_part47_eq_skeleton (F := F)]
    unfold k0_part47_skel
    exact rd fun _ => rd fun _ => safe_pure _
  rintro ⟨_, _, _, _, _⟩
  refine safe_bind ?_ ?_
  · rw [k0_part48_eq_skeleton (F := F)]
    unfold k0_part48_skel
    exact rd fun _ => rd fun _ => safe_pure _
  rintro ⟨_, _, _, _⟩
  refine safe_bind ?_ ?_
  · rw [k0_part49_eq_skeleton (F := F)]
    unfold k0_part49_skel
    exact rd fun _ => rd fun _ => safe_pure _
  rintro ⟨_, _, _, _, _, _⟩
  refine safe_bind ?_ ?_
  · rw [k0_part50_eq_skeleton (F := F)]
    unfold k0_part50_skel
    exact rd fun _ => rd fun _ => rd fun _ => wr fun _ => rd fun _ => rd fun _ => rd fun _ => safe_pure _
  rintro ⟨_, _, _, _⟩
  refine safe_bind ?_ ?_
  · rw [k0_part51_eq_skeleton (F := F)]
    unfold k0_part51_skel
    exact rd fun _ => safe_pure _
  rintro ⟨_, _, _, _, _⟩
  refine safe_bind ?_ ?_
  · rw [k0_part52_eq_skeleton (F := F)]
    unfold k0_part52_skel
    exact rd fun _ => rd fun _ => safe_pure _
  rintro ⟨_, _⟩
  refine safe_bind ?_ ?_
  · rw [k0_part53_eq_skeleton (F := F)]
    unfold k0_part53_skel
    exact rd fun _ => safe_pure _
  intro _
  refine safe_bind ?_ ?_
  · rw [k0_part54_eq_skeleton (F := F)]
    unfold k0_part54_skel
    exact rd fun _ => rd fun _ => rd fun _ => wr fun _ => rd fun _ => rd fun _ => rd fun _ => safe_pure _
  rintro ⟨_, _, _⟩
  refine safe_bind ?_ ?_
  · rw [k0_part55_eq_skeleton (F := F)]
    unfold k0_part55_skel
    exact rd fun _ => safe_pure _
  rintro ⟨_, _, _, _, _, _⟩
  refine safe_bind ?_ ?_
  · rw [k0_part56_eq_skeleton (F := F)]
    unfold k0_part56_skel
    exact rd fun _ => rd fun _ => safe_pure _
  rintro ⟨_, _, _, _, _, _⟩
  refine safe_bind ?_ ?_
  · rw [k0_part57_eq_skeleton (F := F)]
    unfold k0_part57_skel
    exact rd fun _ => rd fun _ => rd fun _ => safe_pure _
  rintro ⟨_, _⟩
  refine safe_bind ?_ ?_
  · rw [k0_part58_eq_skeleton (F := F)]
    unfold k0_part58_skel
    exact rd fun _ => wr fun _ => rd fun _ => rd fun _ => rd fun _ => safe_pure _
  rintro ⟨_, _, _, _⟩
  refine safe_bind ?_ ?_
  · rw [k0_part59_eq_skeleton (F := F)]
    unfold k0_part59_skel
    exact rd fun _ => safe_pure _
  rintro ⟨_, _, _, _, _⟩
  refine safe_bind ?_ ?_
  · rw [k0_part60_eq_skeleton (F := F)]
    unfold k0_part60_skel
    exact rd fun _ => rd fun _ => safe_pure _
  rintro ⟨_, _, _, _, _⟩
  refine safe_bind ?_ ?_
  · rw [k0_part61_eq_skeleton (F := F)]
    unfold k0_part61_skel
    exact rd fun _ => rd fun _ => rd fun _ => safe_pure _
  rintro ⟨_, _, _⟩
  refine safe_bind ?_ ?_
  · rw [k0_part62_eq_skeleton (F := F)]
    unfold k0_part62_skel
    exact rd fun _ => wr fun _ => rd fun _ => rd fun _ => rd fun _ => safe_pure _
  rintro ⟨_, _, _, _, _⟩
  refine safe_bind ?_ ?_
  · rw [k0_part63_eq_skeleton (F := F)]
    unfold k0_part63_skel
    exact rd fun _ => rd fun _ => safe_pure _
  rintro ⟨_, _, _⟩
  refine safe_bind ?_ ?_
  · rw [k0_part64_eq_skeleton (F := F)]
    unfold k0_part64_skel
    exact rd fun _ => rd fun _ => safe_pure _
  rintro ⟨_, _⟩
  refine safe_bind ?_ ?_
  · rw [k0_part65_eq_skeleton (F := F)]
    unfold k0_part65_skel
    exact rd fun _ => rd fun _ => rd fun _ => safe_pure _
  intro _
  refine safe_bind ?_ ?_
  · rw [k0_part66_eq_skeleton (F := F)]
    unfold k0_part66_skel
    exact wr fun _ => rd fun _ => rd fun _ => rd fun _ => safe_pure _
  rintro ⟨_, _, _, _, _, _, _⟩
  refine safe_bind ?_ ?_
  · rw [k0_part67_eq_skeleton (F := F)]
    unfold k0_part67_skel
    exact rd fun _ => rd fun _ => safe_pure _
  rintro ⟨_, _, _, _, _, _⟩
  refine safe_bind ?_ ?_
  · rw [k0_part68_eq_skeleton (F := F)]
    unfold k0_part68_skel
    exact rd fun _ => rd fun _ => safe_pure _
  rintro ⟨_, _, _, _, _⟩
  refine safe_bind ?_ ?_
  · rw [k0_part69_eq_skeleton (F := F)]
    unfold k0_part69_skel
    exact rd fun _ => rd fun _ => rd fun _ => wr fun _ => rd fun _ => safe_pure _
  rintro ⟨_, _, _, _, _⟩
  refine safe_bind ?_ ?_
  · rw [k0_part70_eq_skeleton (F := F)]
    unfold k0_part70_skel
    exact safe_pure _
  rintro ⟨_, _, _, _⟩
  refine safe_bind ?_ ?_
  · rw [k0_part71_eq_skeleton (F := F)]
    unfold k0_part71_skel
    exact safe_pure _
  rintro ⟨_, _, _, _, _, _, _⟩
  refine safe_bind ?_ ?_
  · rw [k0_part72_eq_skeleton (F := F)]
    unfold k0_part72_skel
    exact safe_pure _
  rintro ⟨_, _, _, _, _, _⟩
  refine safe_bind ?_ ?_
  · rw [k0_part73_eq_skeleton (F := F)]
    unfold k0_part73_skel
    exact safe_pure _
  rintro ⟨_, _, _, _, _, _⟩
  refine safe_bind ?_ ?_
  · rw [k0_part74_eq_skeleton (F := F)]
    unfold k0_part74_skel
    exact safe_pure _
  rintro ⟨_, _, _, _, _, _⟩
  refine safe_bind ?_ ?_
  · rw [k0_part75_eq_skeleton (F := F)]
    unfold k0_part75_skel
    exact safe_pure _
  rintro ⟨_, _, _, _, _, _⟩
  refine safe_bind ?_ ?_
  · rw [k0_part76_eq_skeleton (F := F)]
    unfold k0_part76_skel
    exact safe_pure _
  rintro ⟨_, _, _, _, _, _⟩
  refine safe_bind ?_ ?_
  · rw [k0_part77_eq_skeleton (F := F)]
    unfold k0_part77_skel
    exact safe_pure _
  rintro ⟨_, _, _, _, _, _⟩
  refine safe_bind ?_ ?_
  · rw [k0_part78_eq_skeleton (F := F)]
    unfold k0_part78_skel
    exact safe_pure _
  rintro ⟨_, _, _, _, _, _⟩
  refine safe_bind ?_ ?_
  · rw [k0_part79_eq_skeleton (F := F)]
    unfold k0_part79_skel
    exact safe_pure _
  rintro ⟨_, _, _, _, _, _⟩
  refine safe_bind ?_ ?_
  · rw [k0_part80_eq_skeleton (F := F)]
    unfold k0_part80_skel
    exact safe_pure _
  rintro ⟨_, _, _, _, _, _⟩
  exact safe_pure _

/-- The statements of `k0_part348` keep the body's buffers. -/
theorem safe_part348 (c : Dev nD) (I : sProp (MT nD τ sig Unit (Elt F) ℕ (UR sig nD τ) ℕ)) (i : grid0.Coords) (arg3 : Memref sig .tc .smem S16 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x128x128 .bf16) (harg12 : arg12.IsWhole) (arg13 : Memref sig .tc .vmem S1x128x128 .bf16) (harg13 : arg13.IsWhole) (arg14 : Memref sig .tc .vmem S1x128x128 .bf16) (harg14 : arg14.IsWhole) (arg15 : Memref sig .tc .vmem S1x128x128 .bf16) (harg15 : arg15.IsWhole) (arg16 : Memref sig .tc .vmem S1x128x128 .bf16) (harg16 : arg16.IsWhole) (arg17 : Memref sig .tc .vmem S1x128x128 .bf16) (harg17 : arg17.IsWhole) (arg18 : Memref sig .tc .vmem S1x128x512 .bf16) (harg18 : arg18.IsWhole) (arg19 : Memref sig .tc .vmem S1x128x512 .bf16) (harg19 : arg19.IsWhole) (arg20 : Memref sig .tc .vmem S1x128x512 .bf16) (harg20 : arg20.IsWhole) (arg21 : Memref sig .tc .vmem S1x128x512 .bf16) (harg21 : arg21.IsWhole) (arg22 : Memref sig .tc .vmem S32x128 .bf16) (harg22 : arg22.IsWhole) (arg23 : Memref sig .tc .vmem S5x640x128 .f32) (harg23 : arg23.IsWhole) (arg24 : Memref sig .tc .vmem S3x256x128 .f32) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x128x512 .bf16) (harg27 : arg27.IsWhole) (arg28 : Memref sig .tc .vmem S1x128x512 .bf16) (harg28 : arg28.IsWhole) (arg29 : Memref sig .tc .vmem S1x2048x128 .bf16) (harg29 : arg29.IsWhole) (arg30 : Memref sig .tc .vmem S1x2048x128 .bf16) (harg30 : arg30.IsWhole) (arg31 : Memref sig .tc .vmem S1x128x512 .bf16) (harg31 : arg31.IsWhole) (arg32 : Memref sig .tc .vmem S1x128x512 .bf16) (harg32 : arg32.IsWhole) (arg33 : Memref sig .tc .vmem S1x128x512 .bf16) (harg33 : arg33.IsWhole) (arg34 : Memref sig .tc .vmem S1x128x512 .bf16) (harg34 : arg34.IsWhole) (arg35 : Memref sig .tc .vmem S2x256x128 .f32) (harg35 : arg35.IsWhole) (arg36 : Memref sig .tc .vmem S1x128x512 .bf16) (harg36 : arg36.IsWhole) (arg37 : Memref sig .tc .vmem S1x128x512 .bf16) (harg37 : arg37.IsWhole) (arg38 : Memref sig .tc .vmem S1x128x512 .bf16) (harg38 : arg38.IsWhole) (arg39 : Memref sig .tc .vmem S1x128x512 .bf16) (harg39 : arg39.IsWhole) (arg40 : Memref sig .tc .vmem S1x128x512 .bf16) (harg40 : arg40.IsWhole) (arg41 : Memref sig .tc .vmem S1x128x512 .bf16) (harg41 : arg41.IsWhole) (arg42 : Memref sig .tc .vmem S1x128x512 .bf16) (harg42 : arg42.IsWhole) (arg43 : Memref sig .tc .vmem S1x128x512 .bf16) (harg43 : arg43.IsWhole) (arg44 : Memref sig .tc .vmem S16x144x128 .bf16) (harg44 : arg44.IsWhole) (arg45 : Memref sig .tc .vmem S16x144x128 .bf16) (harg45 : arg45.IsWhole) (arg46 : Memref sig .tc .vmem S16x80x128 .bf16) (harg46 : arg46.IsWhole) (arg47 : Memref sig .tc .vmem S4x2x256x128 .bf16) (harg47 : arg47.IsWhole) (arg48 : Memref sig .tc .vmem S4x32x8x128 .f32) (harg48 : arg48.IsWhole) (arg49 : Memref sig .tc .vmem S4x2x144x256 .f32) (harg49 : arg49.IsWhole) (arg50 : Memref sig .tc .vmem S4x2x128x256 .f32) (harg50 : arg50.IsWhole) (v5 : BitVec 32) (v6 : BitVec 32) (v7 : BitVec 32) (v11 : IVec S1x128 32) (v395 : FVec F S128x128 .f32) (v458 : FVec F S128x128 .f32) (v521 : FVec F S128x128 .f32) (v584 : FVec F S128x128 .f32) (v647 : FVec F S128x128 .f32) (v710 : FVec F S128x128 .f32) (v1986 : IVec S32x128 32) (v2043 : FVec F S32x128 .f32) (v2479 : FVec F S32x128 .f32) (v2482 : FVec F S32x128 .f32) (v2484 : IVec S32x128 1) (v2485 : IVec S32x128 1) (v2486 : FVec F S32x128 .f32) (v2487 : FVec F S32x128 .f32) [LoadOk c I arg3] [LoadOk c I arg4] [LoadOk c I arg5] [LoadOk c I arg6] [LoadOk c I arg7] [LoadOk c I arg8] [LoadOk c I arg9] [LoadOk c I arg10] [LoadOk c I arg11] [LoadOk c I arg12] [LoadOk c I arg13] [LoadOk c I arg14] [LoadOk c I arg15] [LoadOk c I arg16] [LoadOk c I arg17] [LoadOk c I arg18] [LoadOk c I arg19] [LoadOk c I arg20] [LoadOk c I arg21] [LoadOk c I arg22] [LoadOk c I arg23] [LoadOk c I arg24] [LoadOk c I arg25] [LoadOk c I arg26] [LoadOk c I arg27] [LoadOk c I arg28] [LoadOk c I arg29] [LoadOk c I arg30] [LoadOk c I arg31] [LoadOk c I arg32] [LoadOk c I arg33] [LoadOk c I arg34] [LoadOk c I arg35] [StoreOk c I arg36] [StoreOk c I arg37] [StoreOk c I arg38] [StoreOk c I arg39] [StoreOk c I arg40] [StoreOk c I arg41] [StoreOk c I arg42] [StoreOk c I arg43] [StoreOk c I arg44] [StoreOk c I arg45] [StoreOk c I arg46] [StoreOk c I arg47] [StoreOk c I arg48] [StoreOk c I arg49] [StoreOk c I arg50] :
    Safe c I (k0_part348 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 v5 v6 v7 v11 v395 v458 v521 v584 v647 v710 v1986 v2043 v2479 v2482 v2484 v2485 v2486 v2487) := by
  rw [k0_part348_eq_skeleton (F := F)]
  unfold k0_part348_skel
  refine safe_bind ?_ ?_
  · rw [k0_part81_eq_skeleton (F := F)]
    unfold k0_part81_skel
    exact safe_pure _
  rintro ⟨_, _⟩
  refine safe_bind ?_ ?_
  · rw [k0_part82_eq_skeleton (F := F)]
    unfold k0_part82_skel
    refine rd fun _ => wr fun _ => rd fun _ => wr fun _ => rd fun _ => wr fun _ => rd fun _ => wr fun _ => rd fun _ => ?_
    exact wr fun _ => rd fun _ => safe_pure _
  rintro ⟨_, _⟩
  refine safe_bind ?_ ?_
  · rw [k0_part83_eq_skeleton (F := F)]
    unfold k0_part83_skel
    refine wr fun _ => rd fun _ => wr fun _ => rd fun _ => wr fun _ => rd fun _ => wr fun _ => rd fun _ => wr fun _ => ?_
    exact rd fun _ => wr fun _ => safe_pure _
  intro _
  refine safe_bind ?_ ?_
  · rw [k0_part84_eq_skeleton (F := F)]
    unfold k0_part84_skel
    refine rd fun _ => wr fun _ => rd fun _ => wr fun _ => rd fun _ => wr fun _ => rd fun _ => wr fun _ => rd fun _ => ?_
    exact wr fun _ => safe_pure _
  intro _
  refine safe_bind ?_ ?_
  · rw [k0_part85_eq_skeleton (F := F)]
    unfold k0_part85_skel
    refine rd fun _ => wr fun _ => rd fun _ => wr fun _ => rd fun _ => wr fun _ => rd fun _ => wr fun _ => rd fun _ => ?_
    exact wr fun _ => rd fun _ => wr fun _ => safe_pure _
  intro _
  refine safe_bind ?_ ?_
  · rw [k0_part86_eq_skeleton (F := F)]
    unfold k0_part86_skel
    refine rd fun _ => wr fun _ => rd fun _ => wr fun _ => rd fun _ => wr fun _ => rd fun _ => wr fun _ => rd fun _ => ?_
    exact wr fun _ => safe_pure _
  intro _
  refine safe_bind ?_ ?_
  · rw [k0_part87_eq_skeleton (F := F)]
    unfold k0_part87_skel
    refine rd fun _ => wr fun _ => rd fun _ => wr fun _ => rd fun _ => wr fun _ => rd fun _ => wr fun _ => rd fun _ => ?_
    exact wr fun _ => rd fun _ => safe_pure _
  rintro ⟨_, _, _, _, _⟩
  refine safe_bind ?_ ?_
  · rw [k0_part88_eq_skeleton (F := F)]
    unfold k0_part88_skel
    exact safe_pure _
  rintro ⟨_, _, _, _⟩
  refine safe_bind ?_ ?_
  · rw [k0_part89_eq_skeleton (F := F)]
    unfold k0_part89_skel
    exact safe_pure _
  rintro ⟨_, _, _, _, _⟩
  refine safe_bind ?_ ?_
  · rw [k0_part90_eq_skeleton (F := F)]
    unfold k0_part90_skel
    exact safe_pure _
  rintro ⟨_, _, _, _⟩
  refine safe_bind ?_ ?_
  · rw [k0_part91_eq_skeleton (F := F)]
    unfold k0_part91_skel
    exact safe_pure _
  rintro ⟨_, _, _, _⟩
  refine safe_bind ?_ ?_
  · rw [k0_part92_eq_skeleton (F := F)]
    unfold k0_part92_skel
    exact safe_pure _
  rintro ⟨_, _, _, _⟩
  refine safe_bind ?_ ?_
  · rw [k0_part93_eq_skeleton (F := F)]
    unfold k0_part93_skel
    exact safe_pure _
  rintro ⟨_, _, _, _⟩
  refine safe_bind ?_ ?_
  · rw [k0_part94_eq_skeleton (F := F)]
    unfold k0_part94_skel
    exact safe_pure _
  rintro ⟨_, _, _, _⟩
  refine safe_bind ?_ ?_
  · rw [k0_part95_eq_skeleton (F := F)]
    unfold k0_part95_skel
    exact safe_pure _
  rintro ⟨_, _, _, _⟩
  refine safe_bind ?_ ?_
  · rw [k0_part96_eq_skeleton (F := F)]
    unfold k0_part96_skel
    exact safe_pure _
  rintro ⟨_, _, _, _⟩
  refine safe_bind ?_ ?_
  · rw [k0_part97_eq_skeleton (F := F)]
    unfold k0_part97_skel
    exact safe_pure _
  rintro ⟨_, _, _, _⟩
  refine safe_bind ?_ ?_
  · rw [k0_part98_eq_skeleton (F := F)]
    unfold k0_part98_skel
    exact safe_pure _
  rintro ⟨_, _, _, _⟩
  refine safe_bind ?_ ?_
  · rw [k0_part99_eq_skeleton (F := F)]
    unfold k0_part99_skel
    exact safe_pure _
  rintro ⟨_, _⟩
  refine safe_bind ?_ ?_
  · rw [k0_part100_eq_skeleton (F := F)]
    unfold k0_part100_skel
    refine rd fun _ => wr fun _ => rd fun _ => wr fun _ => rd fun _ => wr fun _ => rd fun _ => wr fun _ => rd fun _ => ?_
    exact wr fun _ => rd fun _ => safe_pure _
  intro _
  refine safe_bind ?_ ?_
  · rw [k0_part101_eq_skeleton (F := F)]
    unfold k0_part101_skel
    refine wr fun _ => rd fun _ => wr fun _ => rd fun _ => wr fun _ => rd fun _ => wr fun _ => rd fun _ => wr fun _ => ?_
    exact rd fun _ => wr fun _ => safe_pure _
  intro _
  refine safe_bind ?_ ?_
  · rw [k0_part102_eq_skeleton (F := F)]
    unfold k0_part102_skel
    refine rd fun _ => wr fun _ => rd fun _ => wr fun _ => rd fun _ => wr fun _ => rd fun _ => wr fun _ => rd fun _ => ?_
    exact wr fun _ => rd fun _ => safe_pure _
  intro _
  refine safe_bind ?_ ?_
  · rw [k0_part103_eq_skeleton (F := F)]
    unfold k0_part103_skel
    refine wr fun _ => rd fun _ => wr fun _ => rd fun _ => wr fun _ => rd fun _ => wr fun _ => rd fun _ => wr fun _ => ?_
    exact rd fun _ => wr fun _ => safe_pure _
  intro _
  refine safe_bind ?_ ?_
  · rw [k0_part104_eq_skeleton (F := F)]
    unfold k0_part104_skel
    refine rd fun _ => wr fun _ => rd fun _ => wr fun _ => rd fun _ => wr fun _ => rd fun _ => wr fun _ => rd fun _ => ?_
    exact wr fun _ => rd fun _ => safe_pure _
  rintro ⟨_, _⟩
  refine safe_bind ?_ ?_
  · rw [k0_part105_eq_skeleton (F := F)]
    unfold k0_part105_skel
    refine wr fun _ => rd fun _ => wr fun _ => rd fun _ => wr fun _ => rd fun _ => wr fun _ => rd fun _ => wr fun _ => ?_
    exact rd fun _ => safe_pure _
  rintro ⟨_, _, _, _, _, _⟩
  refine safe_bind ?_ ?_
  · rw [k0_part106_eq_skeleton (F := F)]
    unfold k0_part106_skel
    exact safe_pure _
  rintro ⟨_, _⟩
  refine safe_bind ?_ ?_
  · rw [k0_part107_eq_skeleton (F := F)]
    unfold k0_part107_skel
    exact safe_pure _
  rintro ⟨_, _, _, _, _, _, _⟩
  refine safe_bind ?_ ?_
  · rw [k0_part108_eq_skeleton (F := F)]
    unfold k0_part108_skel
    exact safe_pure _
  rintro ⟨_, _, _, _, _, _⟩
  refine safe_bind ?_ ?_
  · rw [k0_part109_eq_skeleton (F := F)]
    unfold k0_part109_skel
    exact safe_pure _
  rintro ⟨_, _, _, _, _, _⟩
  refine safe_bind ?_ ?_
  · rw [k0_part110_eq_skeleton (F := F)]
    unfold k0_part110_skel
    exact safe_pure _
  rintro ⟨_, _, _, _, _, _⟩
  refine safe_bind ?_ ?_
  · rw [k0_part111_eq_skeleton (F := F)]
    unfold k0_part111_skel
    exact safe_pure _
  rintro ⟨_, _, _, _, _, _⟩
  refine safe_bind ?_ ?_
  · rw [k0_part112_eq_skeleton (F := F)]
    unfold k0_part112_skel
    exact safe_pure _
  rintro ⟨_, _, _, _, _, _⟩
  refine safe_bind ?_ ?_
  · rw [k0_part113_eq_skeleton (F := F)]
    unfold k0_part113_skel
    exact safe_pure _
  rintro ⟨_, _, _, _, _, _⟩
  refine safe_bind ?_ ?_
  · rw [k0_part114_eq_skeleton (F := F)]
    unfold k0_part114_skel
    exact safe_pure _
  rintro ⟨_, _, _, _, _, _⟩
  refine safe_bind ?_ ?_
  · rw [k0_part115_eq_skeleton (F := F)]
    unfold k0_part115_skel
    exact safe_pure _
  rintro ⟨_, _, _, _, _, _⟩
  refine safe_bind ?_ ?_
  · rw [k0_part116_eq_skeleton (F := F)]
    unfold k0_part116_skel
    exact safe_pure _
  rintro ⟨_, _, _, _, _, _⟩
  refine safe_bind ?_ ?_
  · rw [k0_part117_eq_skeleton (F := F)]
    unfold k0_part117_skel
    exact safe_pure _
  rintro ⟨_, _⟩
  refine safe_bind ?_ ?_
  · rw [k0_part118_eq_skeleton (F := F)]
    unfold k0_part118_skel
    refine rd fun _ => wr fun _ => rd fun _ => wr fun _ => rd fun _ => wr fun _ => rd fun _ => wr fun _ => rd fun _ => ?_
    exact wr fun _ => rd fun _ => wr fun _ => safe_pure _
  intro _
  refine safe_bind ?_ ?_
  · rw [k0_part119_eq_skeleton (F := F)]
    unfold k0_part119_skel
    refine rd fun _ => wr fun _ => rd fun _ => wr fun _ => rd fun _ => wr fun _ => rd fun _ => wr fun _ => rd fun _ => ?_
    exact wr fun _ => safe_pure _
  intro _
  refine safe_bind ?_ ?_
  · rw [k0_part120_eq_skeleton (F := F)]
    unfold k0_part120_skel
    refine rd fun _ => wr fun _ => rd fun _ => wr fun _ => rd fun _ => wr fun _ => rd fun _ => wr fun _ => rd fun _ => ?_
    exact wr fun _ => rd fun _ => wr fun _ => safe_pure _
  intro _
  refine safe_bind ?_ ?_
  · rw [k0_part121_eq_skeleton (F := F)]
    unfold k0_part121_skel
    refine rd fun _ => wr fun _ => rd fun _ => wr fun _ => rd fun _ => wr fun _ => rd fun _ => wr fun _ => rd fun _ => ?_
    exact wr fun _ => safe_pure _
  intro _
  refine safe_bind ?_ ?_
  · rw [k0_part122_eq_skeleton (F := F)]
    unfold k0_part122_skel
    refine rd fun _ => wr fun _ => rd fun _ => wr fun _ => rd fun _ => wr fun _ => rd fun _ => wr fun _ => rd fun _ => ?_
    exact wr fun _ => rd fun _ => safe_pure _
  intro _
  refine safe_bind ?_ ?_
  · rw [k0_part123_eq_skeleton (F := F)]
    unfold k0_part123_skel
    refine wr fun _ => rd fun _ => wr fun _ => rd fun _ => wr fun _ => rd fun _ => wr fun _ => rd fun _ => wr fun _ => ?_
    exact rd fun _ => safe_pure _
  rintro ⟨_, _, _, _, _, _⟩
  refine safe_bind ?_ ?_
  · rw [k0_part124_eq_skeleton (F := F)]
    unfold k0_part124_skel
    exact safe_pure _
  rintro ⟨_, _, _⟩
  refine safe_bind ?_ ?_
  · rw [k0_part125_eq_skeleton (F := F)]
    unfold k0_part125_skel
    exact safe_pure _
  rintro ⟨_, _, _, _, _, _, _⟩
  refine safe_bind ?_ ?_
  · rw [k0_part126_eq_skeleton (F := F)]
    unfold k0_part126_skel
    exact safe_pure _
  rintro ⟨_, _, _, _, _, _⟩
  refine safe_bind ?_ ?_
  · rw [k0_part127_eq_skeleton (F := F)]
    unfold k0_part127_skel
    exact safe_pure _
  rintro ⟨_, _, _, _, _, _⟩
  refine safe_bind ?_ ?_
  · rw [k0_part128_eq_skeleton (F := F)]
    unfold k0_part128_skel
    exact safe_pure _
  rintro ⟨_, _, _, _, _, _⟩
  refine safe_bind ?_ ?_
  · rw [k0_part129_eq_skeleton (F := F)]
    unfold k0_part129_skel
    exact safe_pure _
  rintro ⟨_, _, _, _, _, _⟩
  refine safe_bind ?_ ?_
  · rw [k0_part130_eq_skeleton (F := F)]
    unfold k0_part130_skel
    exact safe_pure _
  rintro ⟨_, _, _, _, _, _⟩
  refine safe_bind ?_ ?_
  · rw [k0_part131_eq_skeleton (F := F)]
    unfold k0_part131_skel
    exact safe_pure _
  rintro ⟨_, _, _, _, _, _⟩
  refine safe_bind ?_ ?_
  · rw [k0_part132_eq_skeleton (F := F)]
    unfold k0_part132_skel
    exact safe_pure _
  rintro ⟨_, _, _, _, _, _⟩
  refine safe_bind ?_ ?_
  · rw [k0_part133_eq_skeleton (F := F)]
    unfold k0_part133_skel
    exact safe_pure _
  rintro ⟨_, _, _, _, _, _⟩
  refine safe_bind ?_ ?_
  · rw [k0_part134_eq_skeleton (F := F)]
    unfold k0_part134_skel
    exact safe_pure _
  rintro ⟨_, _, _, _, _, _⟩
  refine safe_bind ?_ ?_
  · rw [k0_part135_eq_skeleton (F := F)]
    unfold k0_part135_skel
    exact rd fun _ => safe_pure _
  rintro ⟨_, _⟩
  refine safe_bind ?_ ?_
  · rw [k0_part136_eq_skeleton (F := F)]
    unfold k0_part136_skel
    refine wr fun _ => rd fun _ => wr fun _ => rd fun _ => wr fun _ => rd fun _ => wr fun _ => rd fun _ => wr fun _ => ?_
    exact rd fun _ => wr fun _ => safe_pure _
  intro _
  refine safe_bind ?_ ?_
  · rw [k0_part137_eq_skeleton (F := F)]
    unfold k0_part137_skel
    refine rd fun _ => wr fun _ => rd fun _ => wr fun _ => rd fun _ => wr fun _ => rd fun _ => wr fun _ => rd fun _ => ?_
    exact wr fun _ => rd fun _ => safe_pure _
  rintro ⟨_, _⟩
  refine safe_bind ?_ ?_
  · rw [k0_part138_eq_skeleton (F := F)]
    unfold k0_part138_skel
    refine wr fun _ => rd fun _ => wr fun _ => rd fun _ => wr fun _ => rd fun _ => wr fun _ => rd fun _ => wr fun _ => ?_
    exact rd fun _ => wr fun _ => safe_pure _
  intro _
  refine safe_bind ?_ ?_
  · rw [k0_part139_eq_skeleton (F := F)]
    unfold k0_part139_skel
    refine rd fun _ => wr fun _ => rd fun _ => wr fun _ => rd fun _ => wr fun _ => rd fun _ => wr fun _ => rd fun _ => ?_
    exact wr fun _ => safe_pure _
  intro _
  refine safe_bind ?_ ?_
  · rw [k0_part140_eq_skeleton (F := F)]
    unfold k0_part140_skel
    refine rd fun _ => wr fun _ => rd fun _ => wr fun _ => rd fun _ => wr fun _ => rd fun _ => wr fun _ => rd fun _ => ?_
    exact wr fun _ => rd fun _ => wr fun _ => safe_pure _
  intro _
  exact safe_pure _

/-- The statements of `k0_part349` keep the body's buffers. -/
theorem safe_part349 (c : Dev nD) (I : sProp (MT nD τ sig Unit (Elt F) ℕ (UR sig nD τ) ℕ)) (i : grid0.Coords) (arg3 : Memref sig .tc .smem S16 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x128x128 .bf16) (harg12 : arg12.IsWhole) (arg13 : Memref sig .tc .vmem S1x128x128 .bf16) (harg13 : arg13.IsWhole) (arg14 : Memref sig .tc .vmem S1x128x128 .bf16) (harg14 : arg14.IsWhole) (arg15 : Memref sig .tc .vmem S1x128x128 .bf16) (harg15 : arg15.IsWhole) (arg16 : Memref sig .tc .vmem S1x128x128 .bf16) (harg16 : arg16.IsWhole) (arg17 : Memref sig .tc .vmem S1x128x128 .bf16) (harg17 : arg17.IsWhole) (arg18 : Memref sig .tc .vmem S1x128x512 .bf16) (harg18 : arg18.IsWhole) (arg19 : Memref sig .tc .vmem S1x128x512 .bf16) (harg19 : arg19.IsWhole) (arg20 : Memref sig .tc .vmem S1x128x512 .bf16) (harg20 : arg20.IsWhole) (arg21 : Memref sig .tc .vmem S1x128x512 .bf16) (harg21 : arg21.IsWhole) (arg22 : Memref sig .tc .vmem S32x128 .bf16) (harg22 : arg22.IsWhole) (arg23 : Memref sig .tc .vmem S5x640x128 .f32) (harg23 : arg23.IsWhole) (arg24 : Memref sig .tc .vmem S3x256x128 .f32) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x128x512 .bf16) (harg27 : arg27.IsWhole) (arg28 : Memref sig .tc .vmem S1x128x512 .bf16) (harg28 : arg28.IsWhole) (arg29 : Memref sig .tc .vmem S1x2048x128 .bf16) (harg29 : arg29.IsWhole) (arg30 : Memref sig .tc .vmem S1x2048x128 .bf16) (harg30 : arg30.IsWhole) (arg31 : Memref sig .tc .vmem S1x128x512 .bf16) (harg31 : arg31.IsWhole) (arg32 : Memref sig .tc .vmem S1x128x512 .bf16) (harg32 : arg32.IsWhole) (arg33 : Memref sig .tc .vmem S1x128x512 .bf16) (harg33 : arg33.IsWhole) (arg34 : Memref sig .tc .vmem S1x128x512 .bf16) (harg34 : arg34.IsWhole) (arg35 : Memref sig .tc .vmem S2x256x128 .f32) (harg35 : arg35.IsWhole) (arg36 : Memref sig .tc .vmem S1x128x512 .bf16) (harg36 : arg36.IsWhole) (arg37 : Memref sig .tc .vmem S1x128x512 .bf16) (harg37 : arg37.IsWhole) (arg38 : Memref sig .tc .vmem S1x128x512 .bf16) (harg38 : arg38.IsWhole) (arg39 : Memref sig .tc .vmem S1x128x512 .bf16) (harg39 : arg39.IsWhole) (arg40 : Memref sig .tc .vmem S1x128x512 .bf16) (harg40 : arg40.IsWhole) (arg41 : Memref sig .tc .vmem S1x128x512 .bf16) (harg41 : arg41.IsWhole) (arg42 : Memref sig .tc .vmem S1x128x512 .bf16) (harg42 : arg42.IsWhole) (arg43 : Memref sig .tc .vmem S1x128x512 .bf16) (harg43 : arg43.IsWhole) (arg44 : Memref sig .tc .vmem S16x144x128 .bf16) (harg44 : arg44.IsWhole) (arg45 : Memref sig .tc .vmem S16x144x128 .bf16) (harg45 : arg45.IsWhole) (arg46 : Memref sig .tc .vmem S16x80x128 .bf16) (harg46 : arg46.IsWhole) (arg47 : Memref sig .tc .vmem S4x2x256x128 .bf16) (harg47 : arg47.IsWhole) (arg48 : Memref sig .tc .vmem S4x32x8x128 .f32) (harg48 : arg48.IsWhole) (arg49 : Memref sig .tc .vmem S4x2x144x256 .f32) (harg49 : arg49.IsWhole) (arg50 : Memref sig .tc .vmem S4x2x128x256 .f32) (harg50 : arg50.IsWhole) (arg1 : BitVec 32) (arg2 : BitVec 32) (v0 : BitVec 32) (v1 : BitVec 32) (v3 : BitVec 32) (v135 : BitVec 32) (v141 : BitVec 32) (v153 : FVec F S1x256 .f32) (v154 : FVec F S1x256 .f32) (v155 : FVec F S1x256 .f32) (v156 : FVec F S1x256 .f32) (v734 : FVec F S256x256 .f32) (v892 : FVec F S256x256 .f32) (v1050 : FVec F S256x256 .f32) (v1208 : FVec F S256x256 .f32) (v1366 : FVec F S256x256 .f32) (v1524 : FVec F S256x256 .f32) (v1682 : FVec F S256x256 .f32) (v1840 : FVec F S256x256 .f32) (v4740 : FVec F S32x128 .f32) (v4909 : FVec F S1x128 .f32) [LoadOk c I arg3] [LoadOk c I arg4] [LoadOk c I arg5] [LoadOk c I arg6] [LoadOk c I arg7] [LoadOk c I arg8] [LoadOk c I arg9] [LoadOk c I arg10] [LoadOk c I arg11] [LoadOk c I arg12] [LoadOk c I arg13] [LoadOk c I arg14] [LoadOk c I arg15] [LoadOk c I arg16] [LoadOk c I arg17] [LoadOk c I arg18] [LoadOk c I arg19] [LoadOk c I arg20] [LoadOk c I arg21] [LoadOk c I arg22] [LoadOk c I arg23] [LoadOk c I arg24] [LoadOk c I arg25] [LoadOk c I arg26] [LoadOk c I arg27] [LoadOk c I arg28] [LoadOk c I arg29] [LoadOk c I arg30] [LoadOk c I arg31] [LoadOk c I arg32] [LoadOk c I arg33] [LoadOk c I arg34] [LoadOk c I arg35] [StoreOk c I arg36] [StoreOk c I arg37] [StoreOk c I arg38] [StoreOk c I arg39] [StoreOk c I arg40] [StoreOk c I arg41] [StoreOk c I arg42] [StoreOk c I arg43] [StoreOk c I arg44] [StoreOk c I arg45] [StoreOk c I arg46] [StoreOk c I arg47] [StoreOk c I arg48] [StoreOk c I arg49] [StoreOk c I arg50] :
    Safe c I (k0_part349 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg1 arg2 v0 v1 v3 v135 v141 v153 v154 v155 v156 v734 v892 v1050 v1208 v1366 v1524 v1682 v1840 v4740 v4909) := by
  rw [k0_part349_eq_skeleton (F := F)]
  unfold k0_part349_skel
  refine safe_bind ?_ ?_
  · rw [k0_part141_eq_skeleton (F := F)]
    unfold k0_part141_skel
    exact rd fun _ => wr fun _ => rd fun _ => wr fun _ => rd fun _ => wr fun _ => rd fun _ => wr fun _ => safe_pure _
  rintro ⟨_, _, _⟩
  refine safe_bind ?_ ?_
  · rw [k0_part142_eq_skeleton (F := F)]
    unfold k0_part142_skel
    exact rd fun _ => rd fun _ => rd fun _ => rd fun _ => safe_pure _
  rintro ⟨_, _, _, _, _, _, _, _⟩
  refine safe_bind ?_ ?_
  · rw [k0_part143_eq_skeleton (F := F)]
    unfold k0_part143_skel
    exact rd fun _ => rd fun _ => rd fun _ => rd fun _ => rd fun _ => rd fun _ => safe_pure _
  rintro ⟨_, _, _, _, _, _, _⟩
  refine safe_bind ?_ ?_
  · rw [k0_part144_eq_skeleton (F := F)]
    unfold k0_part144_skel
    exact rd fun _ => rd fun _ => rd fun _ => rd fun _ => rd fun _ => rd fun _ => safe_pure _
  rintro ⟨_, _, _, _, _, _, _⟩
  refine safe_bind ?_ ?_
  · rw [k0_part145_eq_skeleton (F := F)]
    unfold k0_part145_skel
    exact rd fun _ => rd fun _ => rd fun _ => rd fun _ => rd fun _ => rd fun _ => safe_pure _
  rintro ⟨_, _, _, _, _, _, _⟩
  refine safe_bind ?_ ?_
  · rw [k0_part146_eq_skeleton (F := F)]
    unfold k0_part146_skel
    exact rd fun _ => rd fun _ => rd fun _ => rd fun _ => rd fun _ => rd fun _ => safe_pure _
  rintro ⟨_, _, _, _, _, _, _⟩
  refine safe_bind ?_ ?_
  · rw [k0_part147_eq_skeleton (F := F)]
    unfold k0_part147_skel
    exact rd fun _ => rd fun _ => rd fun _ => rd fun _ => safe_pure _
  rintro ⟨_, _, _, _, _⟩
  refine safe_bind ?_ ?_
  · rw [k0_part148_eq_skeleton (F := F)]
    unfold k0_part148_skel
    exact rd fun _ => rd fun _ => rd fun _ => safe_pure _
  rintro ⟨_, _, _, _, _, _⟩
  refine safe_bind ?_ ?_
  · rw [k0_part149_eq_skeleton (F := F)]
    unfold k0_part149_skel
    exact rd fun _ => rd fun _ => wd fun _ => safe_pure _
  rintro ⟨_, _⟩
  refine safe_bind ?_ ?_
  · rw [k0_part150_eq_skeleton (F := F)]
    unfold k0_part150_skel
    exact wd fun _ => rd fun _ => rd fun _ => wr fun _ => rd fun _ => safe_pure _
  intro _
  refine safe_bind ?_ ?_
  · rw [k0_part151_eq_skeleton (F := F)]
    unfold k0_part151_skel
    exact rd fun _ => rd fun _ => safe_pure _
  rintro ⟨_, _, _, _⟩
  refine safe_bind ?_ ?_
  · rw [k0_part152_eq_skeleton (F := F)]
    unfold k0_part152_skel
    exact rd fun _ => wd fun _ => wd fun _ => safe_pure _
  intro _
  refine safe_bind ?_ ?_
  · rw [k0_part153_eq_skeleton (F := F)]
    unfold k0_part153_skel
    exact rd fun _ => rd fun _ => wr fun _ => rd fun _ => safe_pure _
  rintro ⟨_, _, _, _, _⟩
  refine safe_bind ?_ ?_
  · rw [k0_part154_eq_skeleton (F := F)]
    unfold k0_part154_skel
    exact rd fun _ => rd fun _ => rd fun _ => rd fun _ => rd fun _ => rd fun _ => safe_pure _
  rintro ⟨_, _, _, _, _, _, _⟩
  refine safe_bind ?_ ?_
  · rw [k0_part155_eq_skeleton (F := F)]
    unfold k0_part155_skel
    exact rd fun _ => rd fun _ => rd fun _ => rd fun _ => rd fun _ => rd fun _ => safe_pure _
  rintro ⟨_, _, _, _, _, _, _⟩
  refine safe_bind ?_ ?_
  · rw [k0_part156_eq_skeleton (F := F)]
    unfold k0_part156_skel
    exact rd fun _ => rd fun _ => rd fun _ => rd fun _ => rd fun _ => rd fun _ => safe_pure _
  rintro ⟨_, _, _, _, _, _, _⟩
  refine safe_bind ?_ ?_
  · rw [k0_part157_eq_skeleton (F := F)]
    unfold k0_part157_skel
    exact rd fun _ => rd fun _ => rd fun _ => rd fun _ => rd fun _ => rd fun _ => safe_pure _
  rintro ⟨_, _, _, _, _, _, _⟩
  refine safe_bind ?_ ?_
  · rw [k0_part158_eq_skeleton (F := F)]
    unfold k0_part158_skel
    exact rd fun _ => rd fun _ => rd fun _ => rd fun _ => rd fun _ => rd fun _ => safe_pure _
  rintro ⟨_, _, _, _, _, _, _⟩
  refine safe_bind ?_ ?_
  · rw [k0_part159_eq_skeleton (F := F)]
    unfold k0_part159_skel
    exact rd fun _ => safe_pure _
  intro _
  refine safe_bind ?_ ?_
  · rw [k0_part160_eq_skeleton (F := F)]
    unfold k0_part160_skel
    exact rd fun _ => rd fun _ => rd fun _ => rd fun _ => safe_pure _
  rintro ⟨_, _, _, _, _, _, _⟩
  refine safe_bind ?_ ?_
  · rw [k0_part161_eq_skeleton (F := F)]
    unfold k0_part161_skel
    exact rd fun _ => wd fun _ => wd fun _ => safe_pure _
  rintro ⟨_, _, _⟩
  refine safe_bind ?_ ?_
  · rw [k0_part162_eq_skeleton (F := F)]
    unfold k0_part162_skel
    exact rd fun _ => rd fun _ => wr fun _ => rd fun _ => rd fun _ => safe_pure _
  rintro ⟨_, _, _, _⟩
  refine safe_bind ?_ ?_
  · rw [k0_part163_eq_skeleton (F := F)]
    unfold k0_part163_skel
    exact rd fun _ => rd fun _ => wd fun _ => wd fun _ => safe_pure _
  rintro ⟨_, _, _⟩
  refine safe_bind ?_ ?_
  · rw [k0_part164_eq_skeleton (F := F)]
    unfold k0_part164_skel
    exact rd fun _ => rd fun _ => wr fun _ => safe_pure _
  rintro ⟨_, _, _⟩
  refine safe_bind ?_ ?_
  · rw [k0_part165_eq_skeleton (F := F)]
    unfold k0_part165_skel
    exact rd fun _ => rd fun _ => rd fun _ => rd fun _ => safe_pure _
  rintro ⟨_, _, _, _, _, _, _, _⟩
  refine safe_bind ?_ ?_
  · rw [k0_part166_eq_skeleton (F := F)]
    unfold k0_part166_skel
    exact rd fun _ => rd fun _ => rd fun _ => rd fun _ => rd fun _ => rd fun _ => safe_pure _
  rintro ⟨_, _, _, _, _, _, _⟩
  refine safe_bind ?_ ?_
  · rw [k0_part167_eq_skeleton (F := F)]
    unfold k0_part167_skel
    exact rd fun _ => rd fun _ => rd fun _ => rd fun _ => rd fun _ => rd fun _ => safe_pure _
  rintro ⟨_, _, _, _, _, _, _⟩
  refine safe_bind ?_ ?_
  · rw [k0_part168_eq_skeleton (F := F)]
    unfold k0_part168_skel
    exact rd fun _ => rd fun _ => rd fun _ => rd fun _ => rd fun _ => rd fun _ => safe_pure _
  rintro ⟨_, _, _, _, _, _, _⟩
  refine safe_bind ?_ ?_
  · rw [k0_part169_eq_skeleton (F := F)]
    unfold k0_part169_skel
    exact rd fun _ => rd fun _ => rd fun _ => rd fun _ => rd fun _ => rd fun _ => safe_pure _
  rintro ⟨_, _, _, _, _, _, _⟩
  refine safe_bind ?_ ?_
  · rw [k0_part170_eq_skeleton (F := F)]
    unfold k0_part170_skel
    exact rd fun _ => rd fun _ => rd fun _ => rd fun _ => safe_pure _
  rintro ⟨_, _, _, _, _⟩
  refine safe_bind ?_ ?_
  · rw [k0_part171_eq_skeleton (F := F)]
    unfold k0_part171_skel
    exact rd fun _ => rd fun _ => rd fun _ => safe_pure _
  rintro ⟨_, _, _, _, _, _⟩
  refine safe_bind ?_ ?_
  · rw [k0_part172_eq_skeleton (F := F)]
    unfold k0_part172_skel
    exact rd fun _ => rd fun _ => wd fun _ => safe_pure _
  rintro ⟨_, _⟩
  refine safe_bind ?_ ?_
  · rw [k0_part173_eq_skeleton (F := F)]
    unfold k0_part173_skel
    exact wd fun _ => rd fun _ => rd fun _ => wr fun _ => rd fun _ => safe_pure _
  intro _
  refine safe_bind ?_ ?_
  · rw [k0_part174_eq_skeleton (F := F)]
    unfold k0_part174_skel
    exact rd fun _ => rd fun _ => safe_pure _
  rintro ⟨_, _, _, _⟩
  refine safe_bind ?_ ?_
  · rw [k0_part175_eq_skeleton (F := F)]
    unfold k0_part175_skel
    exact rd fun _ => wd fun _ => wd fun _ => safe_pure _
  intro _
  refine safe_bind ?_ ?_
  · rw [k0_part176_eq_skeleton (F := F)]
    unfold k0_part176_skel
    exact rd fun _ => rd fun _ => wr fun _ => rd fun _ => safe_pure _
  rintro ⟨_, _, _, _, _⟩
  refine safe_bind ?_ ?_
  · rw [k0_part177_eq_skeleton (F := F)]
    unfold k0_part177_skel
    exact rd fun _ => rd fun _ => rd fun _ => rd fun _ => rd fun _ => rd fun _ => safe_pure _
  rintro ⟨_, _, _, _, _, _, _⟩
  refine safe_bind ?_ ?_
  · rw [k0_part178_eq_skeleton (F := F)]
    unfold k0_part178_skel
    exact rd fun _ => rd fun _ => rd fun _ => rd fun _ => rd fun _ => rd fun _ => safe_pure _
  rintro ⟨_, _, _, _, _, _, _⟩
  refine safe_bind ?_ ?_
  · rw [k0_part179_eq_skeleton (F := F)]
    unfold k0_part179_skel
    exact rd fun _ => rd fun _ => rd fun _ => rd fun _ => rd fun _ => rd fun _ => safe_pure _
  rintro ⟨_, _, _, _, _, _, _⟩
  refine safe_bind ?_ ?_
  · rw [k0_part180_eq_skeleton (F := F)]
    unfold k0_part180_skel
    exact rd fun _ => rd fun _ => rd fun _ => rd fun _ => rd fun _ => rd fun _ => safe_pure _
  rintro ⟨_, _, _, _, _, _, _⟩
  refine safe_bind ?_ ?_
  · rw [k0_part181_eq_skeleton (F := F)]
    unfold k0_part181_skel
    exact rd fun _ => rd fun _ => rd fun _ => rd fun _ => rd fun _ => rd fun _ => safe_pure _
  rintro ⟨_, _, _, _, _, _, _⟩
  refine safe_bind ?_ ?_
  · rw [k0_part182_eq_skeleton (F := F)]
    unfold k0_part182_skel
    exact rd fun _ => safe_pure _
  intro _
  refine safe_bind ?_ ?_
  · rw [k0_part183_eq_skeleton (F := F)]
    unfold k0_part183_skel
    exact rd fun _ => rd fun _ => rd fun _ => rd fun _ => safe_pure _
  rintro ⟨_, _, _, _, _, _, _⟩
  refine safe_bind ?_ ?_
  · rw [k0_part184_eq_skeleton (F := F)]
    unfold k0_part184_skel
    exact rd fun _ => wd fun _ => wd fun _ => safe_pure _
  rintro ⟨_, _, _⟩
  refine safe_bind ?_ ?_
  · rw [k0_part185_eq_skeleton (F := F)]
    unfold k0_part185_skel
    exact rd fun _ => rd fun _ => wr fun _ => rd fun _ => rd fun _ => safe_pure _
  rintro ⟨_, _, _, _⟩
  refine safe_bind ?_ ?_
  · rw [k0_part186_eq_skeleton (F := F)]
    unfold k0_part186_skel
    exact rd fun _ => rd fun _ => wd fun _ => wd fun _ => safe_pure _
  rintro ⟨_, _, _⟩
  refine safe_bind ?_ ?_
  · rw [k0_part187_eq_skeleton (F := F)]
    unfold k0_part187_skel
    exact rd fun _ => rd fun _ => wr fun _ => safe_pure _
  rintro ⟨_, _, _⟩
  refine safe_bind ?_ ?_
  · rw [k0_part188_eq_skeleton (F := F)]
    unfold k0_part188_skel
    exact rd fun _ => rd fun _ => rd fun _ => rd fun _ => safe_pure _
  rintro ⟨_, _, _, _, _, _, _, _⟩
  refine safe_bind ?_ ?_
  · rw [k0_part189_eq_skeleton (F := F)]
    unfold k0_part189_skel
    exact rd fun _ => rd fun _ => rd fun _ => rd fun _ => rd fun _ => rd fun _ => safe_pure _
  rintro ⟨_, _, _, _, _, _, _⟩
  refine safe_bind ?_ ?_
  · rw [k0_part190_eq_skeleton (F := F)]
    unfold k0_part190_skel
    exact rd fun _ => rd fun _ => rd fun _ => rd fun _ => rd fun _ => rd fun _ => safe_pure _
  rintro ⟨_, _, _, _, _, _, _⟩
  refine safe_bind ?_ ?_
  · rw [k0_part191_eq_skeleton (F := F)]
    unfold k0_part191_skel
    exact rd fun _ => rd fun _ => rd fun _ => rd fun _ => rd fun _ => rd fun _ => safe_pure _
  rintro ⟨_, _, _, _, _, _, _⟩
  refine safe_bind ?_ ?_
  · rw [k0_part192_eq_skeleton (F := F)]
    unfold k0_part192_skel
    exact rd fun _ => rd fun _ => rd fun _ => rd fun _ => rd fun _ => rd fun _ => safe_pure _
  rintro ⟨_, _, _, _, _, _, _⟩
  refine safe_bind ?_ ?_
  · rw [k0_part193_eq_skeleton (F := F)]
    unfold k0_part193_skel
    exact rd fun _ => rd fun _ => rd fun _ => rd fun _ => safe_pure _
  rintro ⟨_, _, _, _, _⟩
  refine safe_bind ?_ ?_
  · rw [k0_part194_eq_skeleton (F := F)]
    unfold k0_part194_skel
    exact rd fun _ => rd fun _ => rd fun _ => rd fun _ => safe_pure _
  rintro ⟨_, _, _, _⟩
  refine safe_bind ?_ ?_
  · rw [k0_part195_eq_skeleton (F := F)]
    unfold k0_part195_skel
    exact rd fun _ => rd fun _ => rd fun _ => wr fun _ => rd fun _ => rd fun _ => safe_pure _
  rintro ⟨_, _, _⟩
  refine safe_bind ?_ ?_
  · rw [k0_part196_eq_skeleton (F := F)]
    unfold k0_part196_skel
    exact rd fun _ => rd fun _ => rd fun _ => rd fun _ => wr fun _ => safe_pure _
  rintro ⟨_, _, _, _, _, _, _⟩
  refine safe_bind ?_ ?_
  · rw [k0_part197_eq_skeleton (F := F)]
    unfold k0_part197_skel
    exact rd fun _ => rd fun _ => rd fun _ => safe_pure _
  rintro ⟨_, _, _, _, _, _, _⟩
  refine safe_bind ?_ ?_
  · rw [k0_part198_eq_skeleton (F := F)]
    unfold k0_part198_skel
    exact rd fun _ => rd fun _ => rd fun _ => rd fun _ => rd fun _ => rd fun _ => safe_pure _
  rintro ⟨_, _, _, _, _, _⟩
  refine safe_bind ?_ ?_
  · rw [k0_part199_eq_skeleton (F := F)]
    unfold k0_part199_skel
    exact rd fun _ => rd fun _ => rd fun _ => rd fun _ => rd fun _ => rd fun _ => safe_pure _
  rintro ⟨_, _, _, _, _, _⟩
  refine safe_bind ?_ ?_
  · rw [k0_part200_eq_skeleton (F := F)]
    unfold k0_part200_skel
    exact rd fun _ => rd fun _ => rd fun _ => rd fun _ => rd fun _ => rd fun _ => safe_pure _
  rintro ⟨_, _, _, _, _, _⟩
  exact safe_pure _

/-- The statements of `k0_part350` keep the body's buffers. -/
theorem safe_part350 (c : Dev nD) (I : sProp (MT nD τ sig Unit (Elt F) ℕ (UR sig nD τ) ℕ)) (i : grid0.Coords) (arg3 : Memref sig .tc .smem S16 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x128x128 .bf16) (harg12 : arg12.IsWhole) (arg13 : Memref sig .tc .vmem S1x128x128 .bf16) (harg13 : arg13.IsWhole) (arg14 : Memref sig .tc .vmem S1x128x128 .bf16) (harg14 : arg14.IsWhole) (arg15 : Memref sig .tc .vmem S1x128x128 .bf16) (harg15 : arg15.IsWhole) (arg16 : Memref sig .tc .vmem S1x128x128 .bf16) (harg16 : arg16.IsWhole) (arg17 : Memref sig .tc .vmem S1x128x128 .bf16) (harg17 : arg17.IsWhole) (arg18 : Memref sig .tc .vmem S1x128x512 .bf16) (harg18 : arg18.IsWhole) (arg19 : Memref sig .tc .vmem S1x128x512 .bf16) (harg19 : arg19.IsWhole) (arg20 : Memref sig .tc .vmem S1x128x512 .bf16) (harg20 : arg20.IsWhole) (arg21 : Memref sig .tc .vmem S1x128x512 .bf16) (harg21 : arg21.IsWhole) (arg22 : Memref sig .tc .vmem S32x128 .bf16) (harg22 : arg22.IsWhole) (arg23 : Memref sig .tc .vmem S5x640x128 .f32) (harg23 : arg23.IsWhole) (arg24 : Memref sig .tc .vmem S3x256x128 .f32) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x128x512 .bf16) (harg27 : arg27.IsWhole) (arg28 : Memref sig .tc .vmem S1x128x512 .bf16) (harg28 : arg28.IsWhole) (arg29 : Memref sig .tc .vmem S1x2048x128 .bf16) (harg29 : arg29.IsWhole) (arg30 : Memref sig .tc .vmem S1x2048x128 .bf16) (harg30 : arg30.IsWhole) (arg31 : Memref sig .tc .vmem S1x128x512 .bf16) (harg31 : arg31.IsWhole) (arg32 : Memref sig .tc .vmem S1x128x512 .bf16) (harg32 : arg32.IsWhole) (arg33 : Memref sig .tc .vmem S1x128x512 .bf16) (harg33 : arg33.IsWhole) (arg34 : Memref sig .tc .vmem S1x128x512 .bf16) (harg34 : arg34.IsWhole) (arg35 : Memref sig .tc .vmem S2x256x128 .f32) (harg35 : arg35.IsWhole) (arg36 : Memref sig .tc .vmem S1x128x512 .bf16) (harg36 : arg36.IsWhole) (arg37 : Memref sig .tc .vmem S1x128x512 .bf16) (harg37 : arg37.IsWhole) (arg38 : Memref sig .tc .vmem S1x128x512 .bf16) (harg38 : arg38.IsWhole) (arg39 : Memref sig .tc .vmem S1x128x512 .bf16) (harg39 : arg39.IsWhole) (arg40 : Memref sig .tc .vmem S1x128x512 .bf16) (harg40 : arg40.IsWhole) (arg41 : Memref sig .tc .vmem S1x128x512 .bf16) (harg41 : arg41.IsWhole) (arg42 : Memref sig .tc .vmem S1x128x512 .bf16) (harg42 : arg42.IsWhole) (arg43 : Memref sig .tc .vmem S1x128x512 .bf16) (harg43 : arg43.IsWhole) (arg44 : Memref sig .tc .vmem S16x144x128 .bf16) (harg44 : arg44.IsWhole) (arg45 : Memref sig .tc .vmem S16x144x128 .bf16) (harg45 : arg45.IsWhole) (arg46 : Memref sig .tc .vmem S16x80x128 .bf16) (harg46 : arg46.IsWhole) (arg47 : Memref sig .tc .vmem S4x2x256x128 .bf16) (harg47 : arg47.IsWhole) (arg48 : Memref sig .tc .vmem S4x32x8x128 .f32) (harg48 : arg48.IsWhole) (arg49 : Memref sig .tc .vmem S4x2x144x256 .f32) (harg49 : arg49.IsWhole) (arg50 : Memref sig .tc .vmem S4x2x128x256 .f32) (harg50 : arg50.IsWhole) (arg2 : BitVec 32) (v0 : BitVec 32) (v1 : BitVec 32) (v3 : BitVec 32) (v157 : FVec F S1x256 .f32) (v158 : FVec F S1x256 .f32) (v159 : FVec F S1x256 .f32) (v160 : FVec F S1x256 .f32) (v5395 : BitVec 1) (v5397 : BitVec 32) (v5399 : BitVec 32) (v5638 : FVec F S256x256 .f32) (v5733 : FVec F S256x256 .f32) (v5839 : BitVec 1) (v5841 : BitVec 32) (v5843 : BitVec 32) (v6082 : FVec F S256x256 .f32) (v6177 : FVec F S256x256 .f32) (v6283 : BitVec 1) (v6285 : BitVec 32) (v6287 : BitVec 32) (v6526 : FVec F S256x256 .f32) (v6621 : FVec F S256x256 .f32) (v6727 : BitVec 1) (v6729 : BitVec 32) (v6731 : BitVec 32) (v6970 : FVec F S256x256 .f32) (v7003 : FVec F S1x256 .f32) (v7004 : FVec F S1x256 .f32) (v7012 : FVec F S256x256 .f32) (v7045 : FVec F S1x256 .f32) (v7046 : FVec F S1x256 .f32) (v7065 : BitVec 1) (v7067 : BitVec 32) (v7069 : BitVec 32) (v7071 : BitVec 32) (v7077 : FVec F S8x128 .f32) (v7083 : FVec F S8x128 .f32) (v7089 : FVec F S8x128 .f32) (v7095 : FVec F S8x128 .f32) (v7101 : FVec F S8x128 .f32) (v7107 : FVec F S8x128 .f32) (v7113 : FVec F S8x128 .f32) (v7119 : FVec F S8x128 .f32) (v7125 : FVec F S8x128 .f32) (v7131 : FVec F S8x128 .f32) (v7137 : FVec F S8x128 .f32) (v7143 : FVec F S8x128 .f32) (v7149 : FVec F S8x128 .f32) (v7155 : FVec F S8x128 .f32) (v7161 : FVec F S8x128 .f32) (v7167 : FVec F S8x128 .f32) (v7173 : FVec F S8x128 .f32) (v7179 : FVec F S8x128 .f32) (v7185 : FVec F S8x128 .f32) (v7191 : FVec F S8x128 .f32) (v7197 : FVec F S8x128 .f32) [LoadOk c I arg3] [LoadOk c I arg4] [LoadOk c I arg5] [LoadOk c I arg6] [LoadOk c I arg7] [LoadOk c I arg8] [LoadOk c I arg9] [LoadOk c I arg10] [LoadOk c I arg11] [LoadOk c I arg12] [LoadOk c I arg13] [LoadOk c I arg14] [LoadOk c I arg15] [LoadOk c I arg16] [LoadOk c I arg17] [LoadOk c I arg18] [LoadOk c I arg19] [LoadOk c I arg20] [LoadOk c I arg21] [LoadOk c I arg22] [LoadOk c I arg23] [LoadOk c I arg24] [LoadOk c I arg25] [LoadOk c I arg26] [LoadOk c I arg27] [LoadOk c I arg28] [LoadOk c I arg29] [LoadOk c I arg30] [LoadOk c I arg31] [LoadOk c I arg32] [LoadOk c I arg33] [LoadOk c I arg34] [LoadOk c I arg35] [StoreOk c I arg36] [StoreOk c I arg37] [StoreOk c I arg38] [StoreOk c I arg39] [StoreOk c I arg40] [StoreOk c I arg41] [StoreOk c I arg42] [StoreOk c I arg43] [StoreOk c I arg44] [StoreOk c I arg45] [StoreOk c I arg46] [StoreOk c I arg47] [StoreOk c I arg48] [StoreOk c I arg49] [StoreOk c I arg50] :
    Safe c I (k0_part350 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg2 v0 v1 v3 v157 v158 v159 v160 v5395 v5397 v5399 v5638 v5733 v5839 v5841 v5843 v6082 v6177 v6283 v6285 v6287 v6526 v6621 v6727 v6729 v6731 v6970 v7003 v7004 v7012 v7045 v7046 v7065 v7067 v7069 v7071 v7077 v7083 v7089 v7095 v7101 v7107 v7113 v7119 v7125 v7131 v7137 v7143 v7149 v7155 v7161 v7167 v7173 v7179 v7185 v7191 v7197) := by
  rw [k0_part350_eq_skeleton (F := F)]
  unfold k0_part350_skel
  refine safe_bind ?_ ?_
  · rw [k0_part201_eq_skeleton (F := F)]
    unfold k0_part201_skel
    exact rd fun _ => rd fun _ => rd fun _ => rd fun _ => rd fun _ => rd fun _ => safe_pure _
  rintro ⟨_, _, _, _, _, _⟩
  refine safe_bind ?_ ?_
  · rw [k0_part202_eq_skeleton (F := F)]
    unfold k0_part202_skel
    exact rd fun _ => rd fun _ => rd fun _ => rd fun _ => rd fun _ => safe_pure _
  rintro ⟨_, _, _, _, _, _, _⟩
  refine safe_bind ?_ ?_
  · rw [k0_part203_eq_skeleton (F := F)]
    unfold k0_part203_skel
    exact rd fun _ => rd fun _ => rd fun _ => rd fun _ => safe_pure _
  rintro ⟨_, _, _⟩
  refine safe_bind ?_ ?_
  · rw [k0_part204_eq_skeleton (F := F)]
    unfold k0_part204_skel
    exact rd fun _ => rd fun _ => rd fun _ => wr fun _ => rd fun _ => rd fun _ => safe_pure _
  rintro ⟨_, _, _, _⟩
  refine safe_bind ?_ ?_
  · rw [k0_part205_eq_skeleton (F := F)]
    unfold k0_part205_skel
    exact rd fun _ => rd fun _ => rd fun _ => rd fun _ => wr fun _ => safe_pure _
  rintro ⟨_, _, _, _, _, _, _⟩
  refine safe_bind ?_ ?_
  · rw [k0_part206_eq_skeleton (F := F)]
    unfold k0_part206_skel
    exact rd fun _ => rd fun _ => rd fun _ => safe_pure _
  rintro ⟨_, _, _, _, _, _, _, _⟩
  refine safe_bind ?_ ?_
  · rw [k0_part207_eq_skeleton (F := F)]
    unfold k0_part207_skel
    exact rd fun _ => rd fun _ => rd fun _ => rd fun _ => rd fun _ => rd fun _ => safe_pure _
  rintro ⟨_, _, _, _, _, _, _⟩
  refine safe_bind ?_ ?_
  · rw [k0_part208_eq_skeleton (F := F)]
    unfold k0_part208_skel
    exact rd fun _ => rd fun _ => rd fun _ => rd fun _ => rd fun _ => rd fun _ => safe_pure _
  rintro ⟨_, _, _, _, _, _, _⟩
  refine safe_bind ?_ ?_
  · rw [k0_part209_eq_skeleton (F := F)]
    unfold k0_part209_skel
    exact rd fun _ => rd fun _ => rd fun _ => rd fun _ => rd fun _ => rd fun _ => safe_pure _
  rintro ⟨_, _, _, _, _, _, _⟩
  refine safe_bind ?_ ?_
  · rw [k0_part210_eq_skeleton (F := F)]
    unfold k0_part210_skel
    exact rd fun _ => rd fun _ => rd fun _ => rd fun _ => rd fun _ => rd fun _ => safe_pure _
  rintro ⟨_, _, _, _, _, _, _⟩
  refine safe_bind ?_ ?_
  · rw [k0_part211_eq_skeleton (F := F)]
    unfold k0_part211_skel
    exact rd fun _ => rd fun _ => rd fun _ => rd fun _ => rd fun _ => safe_pure _
  rintro ⟨_, _, _, _, _, _, _⟩
  refine safe_bind ?_ ?_
  · rw [k0_part212_eq_skeleton (F := F)]
    unfold k0_part212_skel
    exact rd fun _ => rd fun _ => rd fun _ => safe_pure _
  rintro ⟨_, _⟩
  refine safe_bind ?_ ?_
  · rw [k0_part213_eq_skeleton (F := F)]
    unfold k0_part213_skel
    exact rd fun _ => rd fun _ => rd fun _ => rd fun _ => wr fun _ => rd fun _ => rd fun _ => safe_pure _
  rintro ⟨_, _, _, _⟩
  refine safe_bind ?_ ?_
  · rw [k0_part214_eq_skeleton (F := F)]
    unfold k0_part214_skel
    exact rd fun _ => rd fun _ => rd fun _ => rd fun _ => wr fun _ => safe_pure _
  rintro ⟨_, _, _, _, _, _⟩
  refine safe_bind ?_ ?_
  · rw [k0_part215_eq_skeleton (F := F)]
    unfold k0_part215_skel
    exact rd fun _ => rd fun _ => rd fun _ => safe_pure _
  rintro ⟨_, _, _, _, _, _, _, _, _⟩
  refine safe_bind ?_ ?_
  · rw [k0_part216_eq_skeleton (F := F)]
    unfold k0_part216_skel
    exact rd fun _ => rd fun _ => rd fun _ => rd fun _ => rd fun _ => rd fun _ => safe_pure _
  rintro ⟨_, _, _, _, _, _, _, _⟩
  refine safe_bind ?_ ?_
  · rw [k0_part217_eq_skeleton (F := F)]
    unfold k0_part217_skel
    exact rd fun _ => rd fun _ => rd fun _ => rd fun _ => rd fun _ => rd fun _ => safe_pure _
  rintro ⟨_, _, _, _, _, _, _, _⟩
  refine safe_bind ?_ ?_
  · rw [k0_part218_eq_skeleton (F := F)]
    unfold k0_part218_skel
    exact rd fun _ => rd fun _ => rd fun _ => rd fun _ => rd fun _ => rd fun _ => safe_pure _
  rintro ⟨_, _, _, _, _, _, _, _⟩
  refine safe_bind ?_ ?_
  · rw [k0_part219_eq_skeleton (F := F)]
    unfold k0_part219_skel
    exact rd fun _ => rd fun _ => rd fun _ => rd fun _ => rd fun _ => rd fun _ => safe_pure _
  rintro ⟨_, _, _, _, _, _, _, _⟩
  refine safe_bind ?_ ?_
  · rw [k0_part220_eq_skeleton (F := F)]
    unfold k0_part220_skel
    exact rd fun _ => rd fun _ => rd fun _ => rd fun _ => rd fun _ => safe_pure _
  rintro ⟨_, _, _, _, _, _⟩
  refine safe_bind ?_ ?_
  · rw [k0_part221_eq_skeleton (F := F)]
    unfold k0_part221_skel
    exact rd fun _ => rd fun _ => rd fun _ => safe_pure _
  rintro ⟨_, _⟩
  refine safe_bind ?_ ?_
  · rw [k0_part222_eq_skeleton (F := F)]
    unfold k0_part222_skel
    exact rd fun _ => rd fun _ => rd fun _ => rd fun _ => wr fun _ => rd fun _ => rd fun _ => safe_pure _
  rintro ⟨_, _, _⟩
  refine safe_bind ?_ ?_
  · rw [k0_part223_eq_skeleton (F := F)]
    unfold k0_part223_skel
    exact rd fun _ => rd fun _ => rd fun _ => rd fun _ => wr fun _ => safe_pure _
  rintro ⟨_, _, _, _, _⟩
  refine safe_bind ?_ ?_
  · rw [k0_part224_eq_skeleton (F := F)]
    unfold k0_part224_skel
    exact rd fun _ => rd fun _ => rd fun _ => safe_pure _
  rintro ⟨_, _, _, _, _, _, _, _⟩
  refine safe_bind ?_ ?_
  · rw [k0_part225_eq_skeleton (F := F)]
    unfold k0_part225_skel
    exact rd fun _ => rd fun _ => rd fun _ => rd fun _ => rd fun _ => rd fun _ => safe_pure _
  rintro ⟨_, _, _, _, _, _, _⟩
  refine safe_bind ?_ ?_
  · rw [k0_part226_eq_skeleton (F := F)]
    unfold k0_part226_skel
    exact rd fun _ => rd fun _ => rd fun _ => rd fun _ => rd fun _ => rd fun _ => safe_pure _
  rintro ⟨_, _, _, _, _, _, _⟩
  refine safe_bind ?_ ?_
  · rw [k0_part227_eq_skeleton (F := F)]
    unfold k0_part227_skel
    exact rd fun _ => rd fun _ => rd fun _ => rd fun _ => rd fun _ => rd fun _ => safe_pure _
  rintro ⟨_, _, _, _, _, _, _⟩
  refine safe_bind ?_ ?_
  · rw [k0_part228_eq_skeleton (F := F)]
    unfold k0_part228_skel
    exact rd fun _ => rd fun _ => rd fun _ => rd fun _ => rd fun _ => rd fun _ => safe_pure _
  rintro ⟨_, _, _, _, _, _, _⟩
  refine safe_bind ?_ ?_
  · rw [k0_part229_eq_skeleton (F := F)]
    unfold k0_part229_skel
    exact rd fun _ => rd fun _ => rd fun _ => rd fun _ => rd fun _ => safe_pure _
  rintro ⟨_, _, _, _, _⟩
  refine safe_bind ?_ ?_
  · rw [k0_part230_eq_skeleton (F := F)]
    unfold k0_part230_skel
    exact rd fun _ => rd fun _ => rd fun _ => safe_pure _
  rintro ⟨_, _, _, _⟩
  refine safe_bind ?_ ?_
  · rw [k0_part231_eq_skeleton (F := F)]
    unfold k0_part231_skel
    exact rd fun _ => rd fun _ => rd fun _ => rd fun _ => wr fun _ => rd fun _ => rd fun _ => safe_pure _
  rintro ⟨_, _, _, _, _⟩
  refine safe_bind ?_ ?_
  · rw [k0_part232_eq_skeleton (F := F)]
    unfold k0_part232_skel
    exact rd fun _ => rd fun _ => rd fun _ => rd fun _ => wr fun _ => safe_pure _
  rintro ⟨_, _, _, _, _, _, _⟩
  refine safe_bind ?_ ?_
  · rw [k0_part233_eq_skeleton (F := F)]
    unfold k0_part233_skel
    exact rd fun _ => rd fun _ => rd fun _ => safe_pure _
  rintro ⟨_, _, _, _, _, _, _⟩
  refine safe_bind ?_ ?_
  · rw [k0_part234_eq_skeleton (F := F)]
    unfold k0_part234_skel
    exact rd fun _ => rd fun _ => rd fun _ => rd fun _ => rd fun _ => rd fun _ => safe_pure _
  rintro ⟨_, _, _, _, _, _, _⟩
  refine safe_bind ?_ ?_
  · rw [k0_part235_eq_skeleton (F := F)]
    unfold k0_part235_skel
    exact rd fun _ => rd fun _ => rd fun _ => rd fun _ => rd fun _ => rd fun _ => safe_pure _
  rintro ⟨_, _, _, _, _, _, _⟩
  refine safe_bind ?_ ?_
  · rw [k0_part236_eq_skeleton (F := F)]
    unfold k0_part236_skel
    exact rd fun _ => rd fun _ => rd fun _ => rd fun _ => rd fun _ => rd fun _ => safe_pure _
  rintro ⟨_, _, _, _, _, _, _⟩
  refine safe_bind ?_ ?_
  · rw [k0_part237_eq_skeleton (F := F)]
    unfold k0_part237_skel
    exact rd fun _ => rd fun _ => rd fun _ => rd fun _ => rd fun _ => rd fun _ => safe_pure _
  rintro ⟨_, _, _, _, _, _, _⟩
  refine safe_bind ?_ ?_
  · rw [k0_part238_eq_skeleton (F := F)]
    unfold k0_part238_skel
    exact rd fun _ => rd fun _ => rd fun _ => rd fun _ => rd fun _ => safe_pure _
  rintro ⟨_, _, _, _, _, _⟩
  refine safe_bind ?_ ?_
  · rw [k0_part239_eq_skeleton (F := F)]
    unfold k0_part239_skel
    exact rd fun _ => rd fun _ => rd fun _ => safe_pure _
  rintro ⟨_, _, _⟩
  refine safe_bind ?_ ?_
  · rw [k0_part240_eq_skeleton (F := F)]
    unfold k0_part240_skel
    exact rd fun _ => rd fun _ => rd fun _ => rd fun _ => wr fun _ => rd fun _ => rd fun _ => safe_pure _
  rintro ⟨_, _, _, _⟩
  refine safe_bind ?_ ?_
  · rw [k0_part241_eq_skeleton (F := F)]
    unfold k0_part241_skel
    exact rd fun _ => rd fun _ => rd fun _ => rd fun _ => wr fun _ => safe_pure _
  rintro ⟨_, _, _, _, _, _⟩
  refine safe_bind ?_ ?_
  · rw [k0_part242_eq_skeleton (F := F)]
    unfold k0_part242_skel
    exact rd fun _ => rd fun _ => safe_pure _
  rintro ⟨_, _, _, _, _, _⟩
  refine safe_bind ?_ ?_
  · rw [k0_part243_eq_skeleton (F := F)]
    unfold k0_part243_skel
    exact rd fun _ => rd fun _ => rd fun _ => rd fun _ => rd fun _ => rd fun _ => safe_pure _
  rintro ⟨_, _, _, _, _, _⟩
  refine safe_bind ?_ ?_
  · rw [k0_part244_eq_skeleton (F := F)]
    unfold k0_part244_skel
    exact rd fun _ => rd fun _ => rd fun _ => rd fun _ => rd fun _ => rd fun _ => safe_pure _
  rintro ⟨_, _, _, _, _, _⟩
  refine safe_bind ?_ ?_
  · rw [k0_part245_eq_skeleton (F := F)]
    unfold k0_part245_skel
    exact rd fun _ => rd fun _ => rd fun _ => rd fun _ => rd fun _ => rd fun _ => safe_pure _
  rintro ⟨_, _, _, _, _, _⟩
  refine safe_bind ?_ ?_
  · rw [k0_part246_eq_skeleton (F := F)]
    unfold k0_part246_skel
    exact rd fun _ => rd fun _ => rd fun _ => rd fun _ => rd fun _ => rd fun _ => safe_pure _
  rintro ⟨_, _, _, _, _, _⟩
  refine safe_bind ?_ ?_
  · rw [k0_part247_eq_skeleton (F := F)]
    unfold k0_part247_skel
    exact rd fun _ => rd fun _ => rd fun _ => rd fun _ => rd fun _ => rd fun _ => safe_pure _
  rintro ⟨_, _, _, _, _⟩
  refine safe_bind ?_ ?_
  · rw [k0_part248_eq_skeleton (F := F)]
    unfold k0_part248_skel
    exact rd fun _ => rd fun _ => rd fun _ => safe_pure _
  rintro ⟨_, _⟩
  refine safe_bind ?_ ?_
  · rw [k0_part249_eq_skeleton (F := F)]
    unfold k0_part249_skel
    exact rd fun _ => rd fun _ => rd fun _ => rd fun _ => wr fun _ => rd fun _ => safe_pure _
  rintro ⟨_, _, _, _⟩
  refine safe_bind ?_ ?_
  · rw [k0_part250_eq_skeleton (F := F)]
    unfold k0_part250_skel
    exact rd fun _ => rd fun _ => rd fun _ => rd fun _ => rd fun _ => wr fun _ => safe_pure _
  rintro ⟨_, _, _, _, _, _⟩
  refine safe_bind ?_ ?_
  · rw [k0_part251_eq_skeleton (F := F)]
    unfold k0_part251_skel
    exact rd fun _ => rd fun _ => safe_pure _
  rintro ⟨_, _, _, _, _, _, _⟩
  refine safe_bind ?_ ?_
  · rw [k0_part252_eq_skeleton (F := F)]
    unfold k0_part252_skel
    exact rd fun _ => rd fun _ => rd fun _ => rd fun _ => rd fun _ => rd fun _ => safe_pure _
  rintro ⟨_, _, _, _, _, _, _⟩
  refine safe_bind ?_ ?_
  · rw [k0_part253_eq_skeleton (F := F)]
    unfold k0_part253_skel
    exact rd fun _ => rd fun _ => rd fun _ => rd fun _ => rd fun _ => rd fun _ => safe_pure _
  rintro ⟨_, _, _, _, _, _, _⟩
  refine safe_bind ?_ ?_
  · rw [k0_part254_eq_skeleton (F := F)]
    unfold k0_part254_skel
    exact rd fun _ => rd fun _ => rd fun _ => rd fun _ => rd fun _ => rd fun _ => safe_pure _
  rintro ⟨_, _, _, _, _, _, _⟩
  refine safe_bind ?_ ?_
  · rw [k0_part255_eq_skeleton (F := F)]
    unfold k0_part255_skel
    exact rd fun _ => rd fun _ => rd fun _ => rd fun _ => rd fun _ => rd fun _ => safe_pure _
  rintro ⟨_, _, _, _, _, _, _⟩
  refine safe_bind ?_ ?_
  · rw [k0_part256_eq_skeleton (F := F)]
    unfold k0_part256_skel
    exact rd fun _ => rd fun _ => rd fun _ => rd fun _ => rd fun _ => rd fun _ => safe_pure _
  rintro ⟨_, _, _, _, _⟩
  refine safe_bind ?_ ?_
  · rw [k0_part257_eq_skeleton (F := F)]
    unfold k0_part257_skel
    exact rd fun _ => rd fun _ => rd fun _ => safe_pure _
  rintro ⟨_, _, _⟩
  refine safe_bind ?_ ?_
  · rw [k0_part258_eq_skeleton (F := F)]
    unfold k0_part258_skel
    exact rd fun _ => rd fun _ => rd fun _ => rd fun _ => wr fun _ => rd fun _ => safe_pure _
  rintro ⟨_, _, _, _⟩
  refine safe_bind ?_ ?_
  · rw [k0_part259_eq_skeleton (F := F)]
    unfold k0_part259_skel
    exact rd fun _ => rd fun _ => rd fun _ => rd fun _ => rd fun _ => wr fun _ => safe_pure _
  rintro ⟨_, _, _, _⟩
  refine safe_bind ?_ ?_
  · rw [k0_part260_eq_skeleton (F := F)]
    unfold k0_part260_skel
    exact rd fun _ => rd fun _ => safe_pure _
  rintro ⟨_, _, _, _, _, _, _, _⟩
  exact safe_pure _

/-- The statements of `k0_part351` keep the body's buffers. -/
theorem safe_part351 (c : Dev nD) (I : sProp (MT nD τ sig Unit (Elt F) ℕ (UR sig nD τ) ℕ)) (i : grid0.Coords) (arg3 : Memref sig .tc .smem S16 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x128x128 .bf16) (harg12 : arg12.IsWhole) (arg13 : Memref sig .tc .vmem S1x128x128 .bf16) (harg13 : arg13.IsWhole) (arg14 : Memref sig .tc .vmem S1x128x128 .bf16) (harg14 : arg14.IsWhole) (arg15 : Memref sig .tc .vmem S1x128x128 .bf16) (harg15 : arg15.IsWhole) (arg16 : Memref sig .tc .vmem S1x128x128 .bf16) (harg16 : arg16.IsWhole) (arg17 : Memref sig .tc .vmem S1x128x128 .bf16) (harg17 : arg17.IsWhole) (arg18 : Memref sig .tc .vmem S1x128x512 .bf16) (harg18 : arg18.IsWhole) (arg19 : Memref sig .tc .vmem S1x128x512 .bf16) (harg19 : arg19.IsWhole) (arg20 : Memref sig .tc .vmem S1x128x512 .bf16) (harg20 : arg20.IsWhole) (arg21 : Memref sig .tc .vmem S1x128x512 .bf16) (harg21 : arg21.IsWhole) (arg22 : Memref sig .tc .vmem S32x128 .bf16) (harg22 : arg22.IsWhole) (arg23 : Memref sig .tc .vmem S5x640x128 .f32) (harg23 : arg23.IsWhole) (arg24 : Memref sig .tc .vmem S3x256x128 .f32) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x128x512 .bf16) (harg27 : arg27.IsWhole) (arg28 : Memref sig .tc .vmem S1x128x512 .bf16) (harg28 : arg28.IsWhole) (arg29 : Memref sig .tc .vmem S1x2048x128 .bf16) (harg29 : arg29.IsWhole) (arg30 : Memref sig .tc .vmem S1x2048x128 .bf16) (harg30 : arg30.IsWhole) (arg31 : Memref sig .tc .vmem S1x128x512 .bf16) (harg31 : arg31.IsWhole) (arg32 : Memref sig .tc .vmem S1x128x512 .bf16) (harg32 : arg32.IsWhole) (arg33 : Memref sig .tc .vmem S1x128x512 .bf16) (harg33 : arg33.IsWhole) (arg34 : Memref sig .tc .vmem S1x128x512 .bf16) (harg34 : arg34.IsWhole) (arg35 : Memref sig .tc .vmem S2x256x128 .f32) (harg35 : arg35.IsWhole) (arg36 : Memref sig .tc .vmem S1x128x512 .bf16) (harg36 : arg36.IsWhole) (arg37 : Memref sig .tc .vmem S1x128x512 .bf16) (harg37 : arg37.IsWhole) (arg38 : Memref sig .tc .vmem S1x128x512 .bf16) (harg38 : arg38.IsWhole) (arg39 : Memref sig .tc .vmem S1x128x512 .bf16) (harg39 : arg39.IsWhole) (arg40 : Memref sig .tc .vmem S1x128x512 .bf16) (harg40 : arg40.IsWhole) (arg41 : Memref sig .tc .vmem S1x128x512 .bf16) (harg41 : arg41.IsWhole) (arg42 : Memref sig .tc .vmem S1x128x512 .bf16) (harg42 : arg42.IsWhole) (arg43 : Memref sig .tc .vmem S1x128x512 .bf16) (harg43 : arg43.IsWhole) (arg44 : Memref sig .tc .vmem S16x144x128 .bf16) (harg44 : arg44.IsWhole) (arg45 : Memref sig .tc .vmem S16x144x128 .bf16) (harg45 : arg45.IsWhole) (arg46 : Memref sig .tc .vmem S16x80x128 .bf16) (harg46 : arg46.IsWhole) (arg47 : Memref sig .tc .vmem S4x2x256x128 .bf16) (harg47 : arg47.IsWhole) (arg48 : Memref sig .tc .vmem S4x32x8x128 .f32) (harg48 : arg48.IsWhole) (arg49 : Memref sig .tc .vmem S4x2x144x256 .f32) (harg49 : arg49.IsWhole) (arg50 : Memref sig .tc .vmem S4x2x128x256 .f32) (harg50 : arg50.IsWhole) (arg2 : BitVec 32) (v0 : BitVec 32) (v1 : BitVec 32) (v3 : BitVec 32) (v131 : IVec S128x128 1) (v132 : FVec F S128x128 .bf16) (v138 : BitVec 32) (v144 : BitVec 32) (v146 : BitVec 32) (v148 : BitVec 32) (v8079 : BitVec 1) (v8081 : BitVec 32) (v8083 : BitVec 32) (v8322 : FVec F S256x256 .f32) (v8364 : FVec F S256x256 .f32) (v8417 : BitVec 1) (v8419 : BitVec 32) (v8421 : BitVec 32) (v8660 : FVec F S256x256 .f32) (v8702 : FVec F S256x256 .f32) (v8755 : BitVec 1) (v8757 : BitVec 32) (v8759 : BitVec 32) (v8998 : FVec F S256x256 .f32) (v9031 : FVec F S1x256 .f32) (v9032 : FVec F S1x256 .f32) (v9040 : FVec F S256x256 .f32) (v9073 : FVec F S1x256 .f32) (v9074 : FVec F S1x256 .f32) (v9093 : BitVec 1) (v9095 : BitVec 32) (v9097 : BitVec 32) (v9336 : FVec F S256x256 .f32) (v9369 : FVec F S1x256 .f32) (v9370 : FVec F S1x256 .f32) (v9378 : FVec F S256x256 .f32) (v9411 : FVec F S1x256 .f32) (v9412 : FVec F S1x256 .f32) (v9431 : BitVec 1) (v9433 : BitVec 32) (v9435 : BitVec 32) (v9437 : BitVec 32) (v9443 : FVec F S8x128 .f32) (v9449 : FVec F S8x128 .f32) (v9450 : BitVec 32) (c0_i32_4694 : BitVec 32) [LoadOk c I arg3] [LoadOk c I arg4] [LoadOk c I arg5] [LoadOk c I arg6] [LoadOk c I arg7] [LoadOk c I arg8] [LoadOk c I arg9] [LoadOk c I arg10] [LoadOk c I arg11] [LoadOk c I arg12] [LoadOk c I arg13] [LoadOk c I arg14] [LoadOk c I arg15] [LoadOk c I arg16] [LoadOk c I arg17] [LoadOk c I arg18] [LoadOk c I arg19] [LoadOk c I arg20] [LoadOk c I arg21] [LoadOk c I arg22] [LoadOk c I arg23] [LoadOk c I arg24] [LoadOk c I arg25] [LoadOk c I arg26] [LoadOk c I arg27] [LoadOk c I arg28] [LoadOk c I arg29] [LoadOk c I arg30] [LoadOk c I arg31] [LoadOk c I arg32] [LoadOk c I arg33] [LoadOk c I arg34] [LoadOk c I arg35] [StoreOk c I arg36] [StoreOk c I arg37] [StoreOk c I arg38] [StoreOk c I arg39] [StoreOk c I arg40] [StoreOk c I arg41] [StoreOk c I arg42] [StoreOk c I arg43] [StoreOk c I arg44] [StoreOk c I arg45] [StoreOk c I arg46] [StoreOk c I arg47] [StoreOk c I arg48] [StoreOk c I arg49] [StoreOk c I arg50] :
    Safe c I (k0_part351 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg2 v0 v1 v3 v131 v132 v138 v144 v146 v148 v8079 v8081 v8083 v8322 v8364 v8417 v8419 v8421 v8660 v8702 v8755 v8757 v8759 v8998 v9031 v9032 v9040 v9073 v9074 v9093 v9095 v9097 v9336 v9369 v9370 v9378 v9411 v9412 v9431 v9433 v9435 v9437 v9443 v9449 v9450 c0_i32_4694) := by
  rw [k0_part351_eq_skeleton (F := F)]
  unfold k0_part351_skel
  refine safe_bind ?_ ?_
  · rw [k0_part261_eq_skeleton (F := F)]
    unfold k0_part261_skel
    exact rd fun _ => rd fun _ => rd fun _ => rd fun _ => rd fun _ => rd fun _ => safe_pure _
  rintro ⟨_, _, _, _, _, _, _, _⟩
  refine safe_bind ?_ ?_
  · rw [k0_part262_eq_skeleton (F := F)]
    unfold k0_part262_skel
    exact rd fun _ => rd fun _ => rd fun _ => rd fun _ => rd fun _ => rd fun _ => safe_pure _
  rintro ⟨_, _, _, _, _, _, _, _⟩
  refine safe_bind ?_ ?_
  · rw [k0_part263_eq_skeleton (F := F)]
    unfold k0_part263_skel
    exact rd fun _ => rd fun _ => rd fun _ => rd fun _ => rd fun _ => rd fun _ => safe_pure _
  rintro ⟨_, _, _, _, _, _, _, _⟩
  refine safe_bind ?_ ?_
  · rw [k0_part264_eq_skeleton (F := F)]
    unfold k0_part264_skel
    exact rd fun _ => rd fun _ => rd fun _ => rd fun _ => rd fun _ => rd fun _ => safe_pure _
  rintro ⟨_, _, _, _, _, _, _, _⟩
  refine safe_bind ?_ ?_
  · rw [k0_part265_eq_skeleton (F := F)]
    unfold k0_part265_skel
    exact rd fun _ => rd fun _ => rd fun _ => rd fun _ => rd fun _ => rd fun _ => safe_pure _
  rintro ⟨_, _, _⟩
  refine safe_bind ?_ ?_
  · rw [k0_part266_eq_skeleton (F := F)]
    unfold k0_part266_skel
    exact rd fun _ => rd fun _ => safe_pure _
  rintro ⟨_, _⟩
  refine safe_bind ?_ ?_
  · rw [k0_part267_eq_skeleton (F := F)]
    unfold k0_part267_skel
    exact rd fun _ => rd fun _ => rd fun _ => rd fun _ => rd fun _ => wr fun _ => rd fun _ => safe_pure _
  rintro ⟨_, _, _, _⟩
  refine safe_bind ?_ ?_
  · rw [k0_part268_eq_skeleton (F := F)]
    unfold k0_part268_skel
    exact rd fun _ => rd fun _ => rd fun _ => rd fun _ => rd fun _ => wr fun _ => safe_pure _
  rintro ⟨_, _, _⟩
  refine safe_bind ?_ ?_
  · rw [k0_part269_eq_skeleton (F := F)]
    unfold k0_part269_skel
    exact rd fun _ => rd fun _ => safe_pure _
  rintro ⟨_, _, _, _, _, _, _, _⟩
  refine safe_bind ?_ ?_
  · rw [k0_part270_eq_skeleton (F := F)]
    unfold k0_part270_skel
    exact rd fun _ => rd fun _ => rd fun _ => rd fun _ => rd fun _ => rd fun _ => safe_pure _
  rintro ⟨_, _, _, _, _, _, _⟩
  refine safe_bind ?_ ?_
  · rw [k0_part271_eq_skeleton (F := F)]
    unfold k0_part271_skel
    exact rd fun _ => rd fun _ => rd fun _ => rd fun _ => rd fun _ => rd fun _ => safe_pure _
  rintro ⟨_, _, _, _, _, _, _⟩
  refine safe_bind ?_ ?_
  · rw [k0_part272_eq_skeleton (F := F)]
    unfold k0_part272_skel
    exact rd fun _ => rd fun _ => rd fun _ => rd fun _ => rd fun _ => rd fun _ => safe_pure _
  rintro ⟨_, _, _, _, _, _, _⟩
  refine safe_bind ?_ ?_
  · rw [k0_part273_eq_skeleton (F := F)]
    unfold k0_part273_skel
    exact rd fun _ => rd fun _ => rd fun _ => rd fun _ => rd fun _ => rd fun _ => safe_pure _
  rintro ⟨_, _, _, _, _, _, _⟩
  refine safe_bind ?_ ?_
  · rw [k0_part274_eq_skeleton (F := F)]
    unfold k0_part274_skel
    exact rd fun _ => rd fun _ => rd fun _ => rd fun _ => rd fun _ => rd fun _ => safe_pure _
  intro _
  refine safe_bind ?_ ?_
  · rw [k0_part275_eq_skeleton (F := F)]
    unfold k0_part275_skel
    exact rd fun _ => rd fun _ => safe_pure _
  rintro ⟨_, _⟩
  refine safe_bind ?_ ?_
  · rw [k0_part276_eq_skeleton (F := F)]
    unfold k0_part276_skel
    exact rd fun _ => rd fun _ => rd fun _ => rd fun _ => rd fun _ => wr fun _ => safe_pure _
  rintro ⟨_, _, _⟩
  refine safe_bind ?_ ?_
  · rw [k0_part277_eq_skeleton (F := F)]
    unfold k0_part277_skel
    exact rd fun _ => rd fun _ => rd fun _ => rd fun _ => rd fun _ => rd fun _ => safe_pure _
  rintro ⟨_, _, _⟩
  refine safe_bind ?_ ?_
  · rw [k0_part278_eq_skeleton (F := F)]
    unfold k0_part278_skel
    exact wr fun _ => rd fun _ => rd fun _ => safe_pure _
  rintro ⟨_, _, _, _, _, _, _, _⟩
  refine safe_bind ?_ ?_
  · rw [k0_part279_eq_skeleton (F := F)]
    unfold k0_part279_skel
    exact rd fun _ => rd fun _ => rd fun _ => rd fun _ => rd fun _ => rd fun _ => safe_pure _
  rintro ⟨_, _, _, _, _, _, _⟩
  refine safe_bind ?_ ?_
  · rw [k0_part280_eq_skeleton (F := F)]
    unfold k0_part280_skel
    exact rd fun _ => rd fun _ => rd fun _ => rd fun _ => rd fun _ => rd fun _ => safe_pure _
  rintro ⟨_, _, _, _, _, _, _⟩
  refine safe_bind ?_ ?_
  · rw [k0_part281_eq_skeleton (F := F)]
    unfold k0_part281_skel
    exact rd fun _ => rd fun _ => rd fun _ => rd fun _ => rd fun _ => rd fun _ => safe_pure _
  rintro ⟨_, _, _, _, _, _, _⟩
  refine safe_bind ?_ ?_
  · rw [k0_part282_eq_skeleton (F := F)]
    unfold k0_part282_skel
    exact rd fun _ => rd fun _ => rd fun _ => rd fun _ => rd fun _ => rd fun _ => safe_pure _
  rintro ⟨_, _, _, _, _, _, _⟩
  refine safe_bind ?_ ?_
  · rw [k0_part283_eq_skeleton (F := F)]
    unfold k0_part283_skel
    exact rd fun _ => rd fun _ => rd fun _ => rd fun _ => rd fun _ => rd fun _ => safe_pure _
  rintro ⟨_, _, _, _, _, _, _⟩
  refine safe_bind ?_ ?_
  · rw [k0_part284_eq_skeleton (F := F)]
    unfold k0_part284_skel
    exact rd fun _ => rd fun _ => safe_pure _
  rintro ⟨_, _⟩
  refine safe_bind ?_ ?_
  · rw [k0_part285_eq_skeleton (F := F)]
    unfold k0_part285_skel
    exact rd fun _ => rd fun _ => rd fun _ => rd fun _ => rd fun _ => wr fun _ => safe_pure _
  rintro ⟨_, _, _⟩
  refine safe_bind ?_ ?_
  · rw [k0_part286_eq_skeleton (F := F)]
    unfold k0_part286_skel
    exact rd fun _ => rd fun _ => rd fun _ => rd fun _ => rd fun _ => rd fun _ => safe_pure _
  rintro ⟨_, _, _, _⟩
  refine safe_bind ?_ ?_
  · rw [k0_part287_eq_skeleton (F := F)]
    unfold k0_part287_skel
    exact wr fun _ => rd fun _ => safe_pure _
  rintro ⟨_, _, _, _, _, _, _⟩
  refine safe_bind ?_ ?_
  · rw [k0_part288_eq_skeleton (F := F)]
    unfold k0_part288_skel
    exact rd fun _ => rd fun _ => rd fun _ => rd fun _ => rd fun _ => rd fun _ => safe_pure _
  rintro ⟨_, _, _, _, _, _⟩
  refine safe_bind ?_ ?_
  · rw [k0_part289_eq_skeleton (F := F)]
    unfold k0_part289_skel
    exact rd fun _ => rd fun _ => rd fun _ => rd fun _ => rd fun _ => rd fun _ => safe_pure _
  rintro ⟨_, _, _, _, _, _⟩
  refine safe_bind ?_ ?_
  · rw [k0_part290_eq_skeleton (F := F)]
    unfold k0_part290_skel
    exact rd fun _ => rd fun _ => rd fun _ => rd fun _ => rd fun _ => rd fun _ => safe_pure _
  rintro ⟨_, _, _, _, _, _⟩
  refine safe_bind ?_ ?_
  · rw [k0_part291_eq_skeleton (F := F)]
    unfold k0_part291_skel
    exact rd fun _ => rd fun _ => rd fun _ => rd fun _ => rd fun _ => rd fun _ => safe_pure _
  rintro ⟨_, _, _, _, _, _⟩
  refine safe_bind ?_ ?_
  · rw [k0_part292_eq_skeleton (F := F)]
    unfold k0_part292_skel
    exact rd fun _ => rd fun _ => rd fun _ => rd fun _ => rd fun _ => rd fun _ => safe_pure _
  rintro ⟨_, _, _, _, _, _⟩
  refine safe_bind ?_ ?_
  · rw [k0_part293_eq_skeleton (F := F)]
    unfold k0_part293_skel
    exact rd fun _ => rd fun _ => safe_pure _
  intro _
  refine safe_bind ?_ ?_
  · rw [k0_part294_eq_skeleton (F := F)]
    unfold k0_part294_skel
    exact rd fun _ => rd fun _ => rd fun _ => rd fun _ => rd fun _ => rd fun _ => wr fun _ => safe_pure _
  rintro ⟨_, _⟩
  refine safe_bind ?_ ?_
  · rw [k0_part295_eq_skeleton (F := F)]
    unfold k0_part295_skel
    exact rd fun _ => rd fun _ => rd fun _ => rd fun _ => rd fun _ => safe_pure _
  rintro ⟨_, _, _, _, _⟩
  refine safe_bind ?_ ?_
  · rw [k0_part296_eq_skeleton (F := F)]
    unfold k0_part296_skel
    exact rd fun _ => wr fun _ => rd fun _ => safe_pure _
  rintro ⟨_, _, _, _, _, _, _, _⟩
  refine safe_bind ?_ ?_
  · rw [k0_part297_eq_skeleton (F := F)]
    unfold k0_part297_skel
    exact rd fun _ => rd fun _ => rd fun _ => rd fun _ => rd fun _ => rd fun _ => safe_pure _
  rintro ⟨_, _, _, _, _, _, _⟩
  refine safe_bind ?_ ?_
  · rw [k0_part298_eq_skeleton (F := F)]
    unfold k0_part298_skel
    exact rd fun _ => rd fun _ => rd fun _ => rd fun _ => rd fun _ => rd fun _ => safe_pure _
  rintro ⟨_, _, _, _, _, _, _⟩
  refine safe_bind ?_ ?_
  · rw [k0_part299_eq_skeleton (F := F)]
    unfold k0_part299_skel
    exact rd fun _ => rd fun _ => rd fun _ => rd fun _ => rd fun _ => rd fun _ => safe_pure _
  rintro ⟨_, _, _, _, _, _, _⟩
  refine safe_bind ?_ ?_
  · rw [k0_part300_eq_skeleton (F := F)]
    unfold k0_part300_skel
    exact rd fun _ => rd fun _ => rd fun _ => rd fun _ => rd fun _ => rd fun _ => safe_pure _
  rintro ⟨_, _, _, _, _, _, _⟩
  refine safe_bind ?_ ?_
  · rw [k0_part301_eq_skeleton (F := F)]
    unfold k0_part301_skel
    exact rd fun _ => rd fun _ => rd fun _ => rd fun _ => rd fun _ => rd fun _ => safe_pure _
  rintro ⟨_, _, _, _, _, _, _⟩
  refine safe_bind ?_ ?_
  · rw [k0_part302_eq_skeleton (F := F)]
    unfold k0_part302_skel
    exact rd fun _ => rd fun _ => safe_pure _
  intro _
  refine safe_bind ?_ ?_
  · rw [k0_part303_eq_skeleton (F := F)]
    unfold k0_part303_skel
    exact rd fun _ => rd fun _ => rd fun _ => rd fun _ => rd fun _ => rd fun _ => safe_pure _
  rintro ⟨_, _, _⟩
  refine safe_bind ?_ ?_
  · rw [k0_part304_eq_skeleton (F := F)]
    unfold k0_part304_skel
    exact wr fun _ => rd fun _ => rd fun _ => rd fun _ => rd fun _ => rd fun _ => safe_pure _
  rintro ⟨_, _, _, _, _⟩
  refine safe_bind ?_ ?_
  · rw [k0_part305_eq_skeleton (F := F)]
    unfold k0_part305_skel
    exact rd fun _ => wr fun _ => rd fun _ => safe_pure _
  rintro ⟨_, _, _, _, _, _, _, _, _⟩
  refine safe_bind ?_ ?_
  · rw [k0_part306_eq_skeleton (F := F)]
    unfold k0_part306_skel
    exact rd fun _ => rd fun _ => rd fun _ => rd fun _ => rd fun _ => rd fun _ => safe_pure _
  rintro ⟨_, _, _, _, _, _, _, _⟩
  refine safe_bind ?_ ?_
  · rw [k0_part307_eq_skeleton (F := F)]
    unfold k0_part307_skel
    exact rd fun _ => rd fun _ => rd fun _ => rd fun _ => rd fun _ => rd fun _ => safe_pure _
  rintro ⟨_, _, _, _, _, _, _, _⟩
  refine safe_bind ?_ ?_
  · rw [k0_part308_eq_skeleton (F := F)]
    unfold k0_part308_skel
    exact rd fun _ => rd fun _ => rd fun _ => rd fun _ => rd fun _ => rd fun _ => safe_pure _
  rintro ⟨_, _, _, _, _, _, _, _⟩
  refine safe_bind ?_ ?_
  · rw [k0_part309_eq_skeleton (F := F)]
    unfold k0_part309_skel
    exact rd fun _ => rd fun _ => rd fun _ => rd fun _ => rd fun _ => rd fun _ => safe_pure _
  rintro ⟨_, _, _, _, _, _, _, _⟩
  refine safe_bind ?_ ?_
  · rw [k0_part310_eq_skeleton (F := F)]
    unfold k0_part310_skel
    exact rd fun _ => rd fun _ => rd fun _ => rd fun _ => rd fun _ => rd fun _ => safe_pure _
  rintro ⟨_, _, _, _, _, _, _, _⟩
  refine safe_bind ?_ ?_
  · rw [k0_part311_eq_skeleton (F := F)]
    unfold k0_part311_skel
    exact rd fun _ => rd fun _ => safe_pure _
  intro _
  refine safe_bind ?_ ?_
  · rw [k0_part312_eq_skeleton (F := F)]
    unfold k0_part312_skel
    exact rd fun _ => rd fun _ => rd fun _ => rd fun _ => rd fun _ => safe_pure _
  rintro ⟨_, _, _, _⟩
  refine safe_bind ?_ ?_
  · rw [k0_part313_eq_skeleton (F := F)]
    unfold k0_part313_skel
    exact rd fun _ => wr fun _ => rd fun _ => rd fun _ => rd fun _ => rd fun _ => rd fun _ => safe_pure _
  rintro ⟨_, _, _, _, _, _⟩
  refine safe_bind ?_ ?_
  · rw [k0_part314_eq_skeleton (F := F)]
    unfold k0_part314_skel
    exact rd fun _ => wr fun _ => rd fun _ => rd fun _ => rd fun _ => rd fun _ => rd fun _ => rd fun _ => safe_pure _
  rintro ⟨_, _, _, _, _, _⟩
  refine safe_bind ?_ ?_
  · rw [k0_part315_eq_skeleton (F := F)]
    unfold k0_part315_skel
    exact rd fun _ => wr fun _ => rd fun _ => rd fun _ => rd fun _ => rd fun _ => safe_pure _
  rintro ⟨_, _, _, _⟩
  refine safe_bind ?_ ?_
  · rw [k0_part316_eq_skeleton (F := F)]
    unfold k0_part316_skel
    exact rd fun _ => rd fun _ => rd fun _ => wr fun _ => rd fun _ => rd fun _ => rd fun _ => safe_pure _
  rintro ⟨_, _, _, _⟩
  refine safe_bind ?_ ?_
  · rw [k0_part317_eq_skeleton (F := F)]
    unfold k0_part317_skel
    exact rd fun _ => rd fun _ => rd fun _ => rd fun _ => wr fun _ => rd fun _ => safe_pure _
  rintro ⟨_, _, _⟩
  refine safe_bind ?_ ?_
  · rw [k0_part318_eq_skeleton (F := F)]
    unfold k0_part318_skel
    exact rd fun _ => rd fun _ => rd fun _ => rd fun _ => rd fun _ => rd fun _ => safe_pure _
  rintro ⟨_, _, _⟩
  refine safe_bind ?_ ?_
  · rw [k0_part319_eq_skeleton (F := F)]
    unfold k0_part319_skel
    exact wr fun _ => rd fun _ => rd fun _ => rd fun _ => rd fun _ => rd fun _ => rd fun _ => safe_pure _
  rintro ⟨_, _, _, _, _, _, _⟩
  refine safe_bind ?_ ?_
  · rw [k0_part320_eq_skeleton (F := F)]
    unfold k0_part320_skel
    exact rd fun _ => wr fun _ => rd fun _ => rd fun _ => rd fun _ => rd fun _ => rd fun _ => safe_pure _
  rintro ⟨_, _, _⟩
  exact safe_pure _

/-- The statements of `cc0_attn` keep the body's buffers. -/
theorem safe_body (c : Dev nD) (I : sProp (MT nD τ sig Unit (Elt F) ℕ (UR sig nD τ) ℕ)) (i : grid0.Coords) (arg3 : Memref sig .tc .smem S16 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x128x128 .bf16) (harg12 : arg12.IsWhole) (arg13 : Memref sig .tc .vmem S1x128x128 .bf16) (harg13 : arg13.IsWhole) (arg14 : Memref sig .tc .vmem S1x128x128 .bf16) (harg14 : arg14.IsWhole) (arg15 : Memref sig .tc .vmem S1x128x128 .bf16) (harg15 : arg15.IsWhole) (arg16 : Memref sig .tc .vmem S1x128x128 .bf16) (harg16 : arg16.IsWhole) (arg17 : Memref sig .tc .vmem S1x128x128 .bf16) (harg17 : arg17.IsWhole) (arg18 : Memref sig .tc .vmem S1x128x512 .bf16) (harg18 : arg18.IsWhole) (arg19 : Memref sig .tc .vmem S1x128x512 .bf16) (harg19 : arg19.IsWhole) (arg20 : Memref sig .tc .vmem S1x128x512 .bf16) (harg20 : arg20.IsWhole) (arg21 : Memref sig .tc .vmem S1x128x512 .bf16) (harg21 : arg21.IsWhole) (arg22 : Memref sig .tc .vmem S32x128 .bf16) (harg22 : arg22.IsWhole) (arg23 : Memref sig .tc .vmem S5x640x128 .f32) (harg23 : arg23.IsWhole) (arg24 : Memref sig .tc .vmem S3x256x128 .f32) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x128x512 .bf16) (harg27 : arg27.IsWhole) (arg28 : Memref sig .tc .vmem S1x128x512 .bf16) (harg28 : arg28.IsWhole) (arg29 : Memref sig .tc .vmem S1x2048x128 .bf16) (harg29 : arg29.IsWhole) (arg30 : Memref sig .tc .vmem S1x2048x128 .bf16) (harg30 : arg30.IsWhole) (arg31 : Memref sig .tc .vmem S1x128x512 .bf16) (harg31 : arg31.IsWhole) (arg32 : Memref sig .tc .vmem S1x128x512 .bf16) (harg32 : arg32.IsWhole) (arg33 : Memref sig .tc .vmem S1x128x512 .bf16) (harg33 : arg33.IsWhole) (arg34 : Memref sig .tc .vmem S1x128x512 .bf16) (harg34 : arg34.IsWhole) (arg35 : Memref sig .tc .vmem S2x256x128 .f32) (harg35 : arg35.IsWhole) (arg36 : Memref sig .tc .vmem S1x128x512 .bf16) (harg36 : arg36.IsWhole) (arg37 : Memref sig .tc .vmem S1x128x512 .bf16) (harg37 : arg37.IsWhole) (arg38 : Memref sig .tc .vmem S1x128x512 .bf16) (harg38 : arg38.IsWhole) (arg39 : Memref sig .tc .vmem S1x128x512 .bf16) (harg39 : arg39.IsWhole) (arg40 : Memref sig .tc .vmem S1x128x512 .bf16) (harg40 : arg40.IsWhole) (arg41 : Memref sig .tc .vmem S1x128x512 .bf16) (harg41 : arg41.IsWhole) (arg42 : Memref sig .tc .vmem S1x128x512 .bf16) (harg42 : arg42.IsWhole) (arg43 : Memref sig .tc .vmem S1x128x512 .bf16) (harg43 : arg43.IsWhole) (arg44 : Memref sig .tc .vmem S16x144x128 .bf16) (harg44 : arg44.IsWhole) (arg45 : Memref sig .tc .vmem S16x144x128 .bf16) (harg45 : arg45.IsWhole) (arg46 : Memref sig .tc .vmem S16x80x128 .bf16) (harg46 : arg46.IsWhole) (arg47 : Memref sig .tc .vmem S4x2x256x128 .bf16) (harg47 : arg47.IsWhole) (arg48 : Memref sig .tc .vmem S4x32x8x128 .f32) (harg48 : arg48.IsWhole) (arg49 : Memref sig .tc .vmem S4x2x144x256 .f32) (harg49 : arg49.IsWhole) (arg50 : Memref sig .tc .vmem S4x2x128x256 .f32) (harg50 : arg50.IsWhole) [LoadOk c I arg3] [LoadOk c I arg4] [LoadOk c I arg5] [LoadOk c I arg6] [LoadOk c I arg7] [LoadOk c I arg8] [LoadOk c I arg9] [LoadOk c I arg10] [LoadOk c I arg11] [LoadOk c I arg12] [LoadOk c I arg13] [LoadOk c I arg14] [LoadOk c I arg15] [LoadOk c I arg16] [LoadOk c I arg17] [LoadOk c I arg18] [LoadOk c I arg19] [LoadOk c I arg20] [LoadOk c I arg21] [LoadOk c I arg22] [LoadOk c I arg23] [LoadOk c I arg24] [LoadOk c I arg25] [LoadOk c I arg26] [LoadOk c I arg27] [LoadOk c I arg28] [LoadOk c I arg29] [LoadOk c I arg30] [LoadOk c I arg31] [LoadOk c I arg32] [LoadOk c I arg33] [LoadOk c I arg34] [LoadOk c I arg35] [StoreOk c I arg36] [StoreOk c I arg37] [StoreOk c I arg38] [StoreOk c I arg39] [StoreOk c I arg40] [StoreOk c I arg41] [StoreOk c I arg42] [StoreOk c I arg43] [StoreOk c I arg44] [StoreOk c I arg45] [StoreOk c I arg46] [StoreOk c I arg47] [StoreOk c I arg48] [StoreOk c I arg49] [StoreOk c I arg50] :
    Safe c I (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50) := by
  rw [cc0_attn_eq_skeleton (F := F)]
  unfold cc0_attn_skel
  refine safe_bind ?_ ?_
  · exact safe_part347 c I _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  rintro ⟨_, _, _, _, _, _, _, _, _, _, _, _, _, _, _, _, _, _, _, _, _, _, _, _, _, _, _, _, _, _, _, _, _, _, _, _, _, _, _, _, _, _, _, _, _, _, _, _, _, _, _⟩
  refine safe_bind ?_ ?_
  · exact safe_part348 c I _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  rintro ⟨_, _⟩
  refine safe_bind ?_ ?_
  · exact safe_part349 c I _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  rintro ⟨_, _, _, _, _, _, _, _, _, _, _, _, _, _, _, _, _, _, _, _, _, _, _, _, _, _, _, _, _, _, _, _, _, _, _, _, _, _, _, _, _, _, _, _, _, _, _, _, _⟩
  refine safe_bind ?_ ?_
  · exact safe_part350 c I _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  rintro ⟨_, _, _, _, _, _, _, _, _, _, _, _, _, _, _, _, _, _, _, _, _, _, _, _, _, _, _, _, _, _, _, _, _, _, _, _⟩
  refine safe_bind ?_ ?_
  · exact safe_part351 c I _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  rintro ⟨_, _, _, _, _, _, _, _, _, _, _, _, _, _, _, _, _, _, _⟩
  refine safe_bind ?_ ?_
  · rw [k0_part321_eq_skeleton (F := F)]
    unfold k0_part321_skel
    exact rd fun _ => rd fun _ => wr fun _ => rd fun _ => rd fun _ => rd fun _ => rd fun _ => safe_pure _
  rintro ⟨_, _, _⟩
  refine safe_bind ?_ ?_
  · rw [k0_part322_eq_skeleton (F := F)]
    unfold k0_part322_skel
    exact rd fun _ => rd fun _ => rd fun _ => wr fun _ => rd fun _ => rd fun _ => rd fun _ => safe_pure _
  rintro ⟨_, _⟩
  refine safe_bind ?_ ?_
  · rw [k0_part323_eq_skeleton (F := F)]
    unfold k0_part323_skel
    exact rd fun _ => rd fun _ => rd fun _ => rd fun _ => wr fun _ => safe_pure _
  rintro ⟨_, _, _, _, _⟩
  refine safe_bind ?_ ?_
  · rw [k0_part324_eq_skeleton (F := F)]
    unfold k0_part324_skel
    exact rd fun _ => rd fun _ => wd fun _ => safe_pure _
  rintro ⟨_, _⟩
  refine safe_bind ?_ ?_
  · rw [k0_part325_eq_skeleton (F := F)]
    unfold k0_part325_skel
    exact wd fun _ => rd fun _ => rd fun _ => wr fun _ => safe_pure _
  rintro ⟨_, _, _, _⟩
  refine safe_bind ?_ ?_
  · rw [k0_part326_eq_skeleton (F := F)]
    unfold k0_part326_skel
    exact rd fun _ => rd fun _ => safe_pure _
  rintro ⟨_, _, _⟩
  refine safe_bind ?_ ?_
  · rw [k0_part327_eq_skeleton (F := F)]
    unfold k0_part327_skel
    exact wd fun _ => wd fun _ => rd fun _ => rd fun _ => wr fun _ => safe_pure _
  rintro ⟨_, _, _⟩
  refine safe_bind ?_ ?_
  · rw [k0_part328_eq_skeleton (F := F)]
    unfold k0_part328_skel
    exact rd fun _ => rd fun _ => safe_pure _
  intro _
  refine safe_bind ?_ ?_
  · rw [k0_part329_eq_skeleton (F := F)]
    unfold k0_part329_skel
    exact wd fun _ => wd fun _ => rd fun _ => rd fun _ => safe_pure _
  intro _
  refine safe_bind ?_ ?_
  · rw [k0_part330_eq_skeleton (F := F)]
    unfold k0_part330_skel
    exact wr fun _ => rd fun _ => safe_pure _
  intro _
  refine safe_bind ?_ ?_
  · rw [k0_part331_eq_skeleton (F := F)]
    unfold k0_part331_skel
    exact rd fun _ => wd fun _ => wd fun _ => rd fun _ => safe_pure _
  intro _
  refine safe_bind ?_ ?_
  · rw [k0_part332_eq_skeleton (F := F)]
    unfold k0_part332_skel
    exact rd fun _ => wr fun _ => rd fun _ => safe_pure _
  rintro ⟨_, _, _, _⟩
  refine safe_bind ?_ ?_
  · rw [k0_part333_eq_skeleton (F := F)]
    unfold k0_part333_skel
    exact rd fun _ => wd fun _ => wd fun _ => rd fun _ => safe_pure _
  rintro ⟨_, _⟩
  refine safe_bind ?_ ?_
  · rw [k0_part334_eq_skeleton (F := F)]
    unfold k0_part334_skel
    exact rd fun _ => wr fun _ => rd fun _ => safe_pure _
  rintro ⟨_, _, _, _⟩
  refine safe_bind ?_ ?_
  · rw [k0_part335_eq_skeleton (F := F)]
    unfold k0_part335_skel
    exact rd fun _ => wd fun _ => wd fun _ => safe_pure _
  rintro ⟨_, _⟩
  refine safe_bind ?_ ?_
  · rw [k0_part336_eq_skeleton (F := F)]
    unfold k0_part336_skel
    exact rd fun _ => rd fun _ => wr fun _ => rd fun _ => safe_pure _
  rintro ⟨_, _, _, _, _⟩
  refine safe_bind ?_ ?_
  · rw [k0_part337_eq_skeleton (F := F)]
    unfold k0_part337_skel
    exact rd fun _ => wd fun _ => wd fun _ => safe_pure _
  rintro ⟨_, _⟩
  refine safe_bind ?_ ?_
  · rw [k0_part338_eq_skeleton (F := F)]
    unfold k0_part338_skel
    exact rd fun _ => rd fun _ => wr fun _ => rd fun _ => safe_pure _
  rintro ⟨_, _, _, _, _⟩
  refine safe_bind ?_ ?_
  · rw [k0_part339_eq_skeleton (F := F)]
    unfold k0_part339_skel
    exact rd fun _ => wd fun _ => wd fun _ => safe_pure _
  rintro ⟨_, _, _⟩
  refine safe_bind ?_ ?_
  · rw [k0_part340_eq_skeleton (F := F)]
    unfold k0_part340_skel
    exact rd fun _ => rd fun _ => wr fun _ => rd fun _ => rd fun _ => rd fun _ => safe_pure _
  rintro ⟨_, _, _, _⟩
  refine safe_bind ?_ ?_
  · rw [k0_part341_eq_skeleton (F := F)]
    unfold k0_part341_skel
    exact rd fun _ => wr fun _ => rd fun _ => wr fun _ => rd fun _ => rd fun _ => rd fun _ => wr fun _ => safe_pure _
  intro _
  refine safe_bind ?_ ?_
  · rw [k0_part342_eq_skeleton (F := F)]
    unfold k0_part342_skel
    exact rd fun _ => wr fun _ => rd fun _ => rd fun _ => rd fun _ => rd fun _ => wr fun _ => safe_pure _
  rintro ⟨_, _⟩
  refine safe_bind ?_ ?_
  · rw [k0_part343_eq_skeleton (F := F)]
    unfold k0_part343_skel
    exact rd fun _ => wr fun _ => rd fun _ => rd fun _ => rd fun _ => wr fun _ => rd fun _ => wr fun _ => safe_pure _
  intro _
  refine safe_bind ?_ ?_
  · rw [k0_part344_eq_skeleton (F := F)]
    unfold k0_part344_skel
    exact rd fun _ => rd fun _ => rd fun _ => rd fun _ => wr fun _ => rd fun _ => wr fun _ => rd fun _ => safe_pure _
  rintro ⟨_, _⟩
  refine safe_bind ?_ ?_
  · rw [k0_part345_eq_skeleton (F := F)]
    unfold k0_part345_skel
    exact rd fun _ => rd fun _ => wr fun _ => rd fun _ => wr fun _ => rd fun _ => rd fun _ => rd fun _ => safe_pure _
  rintro ⟨_, _, _, _⟩
  refine safe_bind ?_ ?_
  · rw [k0_part346_eq_skeleton (F := F)]
    unfold k0_part346_skel
    exact rd fun _ => wr fun _ => rd fun _ => wr fun _ => rd fun _ => rd fun _ => safe_pure _
  rintro ⟨_, _⟩
  exact rd fun _ => wr fun _ => rd fun _ => wr fun _ => safe_pure _

end Cert.AttnIdeal.Buffers

end
-- ==== Proof.AttnIdealFrame.lean ====
/-
The attention's frame: at every grid point its body keeps its buffers (`Buffers`), so every run ends, with the arguments
unchanged.
-/
module

public import proofs.«01_k».proof.Proof.AttnIdealBuffers
public import proofs.«01_k».proof.Proof.Gen.AttnIdeal.Frame

@[expose] public section

set_option maxRecDepth 16384

noncomputable section

namespace Cert.AttnIdeal.Kept

open Cert.AttnIdeal Cert.AttnIdeal.Gen Cert.AttnIdeal.Buffers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources that the launch's assertions are of. -/
abbrev Res (F : FTy → Type) := MT nD τ sig Unit (Elt F) ℕ (UR sig nD τ) ℕ

variable (m : (ℓ : Loc nD τ sig) → Buf (Elt F) ℓ) (ρ : Dev nD → PrngReg)

/-- The proof data: the inputs' blocks stay, nothing is said of an output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨_ + 41, h⟩ => absurd h (Nat.not_lt.2 (Nat.le_add_left _ _))
  Φ _ := Pipeline.ΦA spec0 c
  q := Pipeline.shareOf spec0
  owed _ := 0

/-- The outputs. -/
def forgotten (w : Fin cfg0.W) : Bool := Nat.ble 33 w.val

theorem A_eq (c : Dev nD) (w : Fin cfg0.W) : (dats m 0 c).A w = V m c (Pipeline.arrRef spec0 w) := by
  dsimp only [dats]

theorem found_0 (c : Dev nD) (t : Fin cfg0.N) :
    (iprop(∃ d, owns (c : Thread nD τ) (win0_0.stage (cfg0.slots t 0)) fullShare ((dats m 0 c).before 0 t d)) : sProp (Res F)) ⊢ owns (c : Thread nD τ) (win0_0.stage (cfg0.slots t 0)) fullShare (iblk m c 0 t) :=
  exists_elim fun d => .of_eq (congrArg _ (before0_0_of m (dats m 0 c) (A_eq m c 0) (fun t => by dsimp only [dats]) t d))
theorem found_1 (c : Dev nD) (t : Fin cfg0.N) :
    (iprop(∃ d, owns (c : Thread nD τ) (win0_1.stage (cfg0.slots t 1)) fullShare ((dats m 0 c).before 1 t d)) : sProp (Res F)) ⊢ owns (c : Thread nD τ) (win0_1.stage (cfg0.slots t 1)) fullShare (iblk m c 1 t) :=
  exists_elim fun d => .of_eq (congrArg _ (before0_1_of m (dats m 0 c) (A_eq m c 1) (fun t => by dsimp only [dats]) t d))
theorem found_2 (c : Dev nD) (t : Fin cfg0.N) :
    (iprop(∃ d, owns (c : Thread nD τ) (win0_2.stage (cfg0.slots t 2)) fullShare ((dats m 0 c).before 2 t d)) : sProp (Res F)) ⊢ owns (c : Thread nD τ) (win0_2.stage (cfg0.slots t 2)) fullShare (iblk m c 2 t) :=
  exists_elim fun d => .of_eq (congrArg _ (before0_2_of m (dats m 0 c) (A_eq m c 2) (fun t => by dsimp only [dats]) t d))
theorem found_3 (c : Dev nD) (t : Fin cfg0.N) :
    (iprop(∃ d, owns (c : Thread nD τ) (win0_3.stage (cfg0.slots t 3)) fullShare ((dats m 0 c).before 3 t d)) : sProp (Res F)) ⊢ owns (c : Thread nD τ) (win0_3.stage (cfg0.slots t 3)) fullShare (iblk m c 3 t) :=
  exists_elim fun d => .of_eq (congrArg _ (before0_3_of m (dats m 0 c) (A_eq m c 3) (fun t => by dsimp only [dats]) t d))
theorem found_4 (c : Dev nD) (t : Fin cfg0.N) :
    (iprop(∃ d, owns (c : Thread nD τ) (win0_4.stage (cfg0.slots t 4)) fullShare ((dats m 0 c).before 4 t d)) : sProp (Res F)) ⊢ owns (c : Thread nD τ) (win0_4.stage (cfg0.slots t 4)) fullShare (iblk m c 4 t) :=
  exists_elim fun d => .of_eq (congrArg _ (before0_4_of m (dats m 0 c) (A_eq m c 4) (fun t => by dsimp only [dats]) t d))
theorem found_5 (c : Dev nD) (t : Fin cfg0.N) :
    (iprop(∃ d, owns (c : Thread nD τ) (win0_5.stage (cfg0.slots t 5)) fullShare ((dats m 0 c).before 5 t d)) : sProp (Res F)) ⊢ owns (c : Thread nD τ) (win0_5.stage (cfg0.slots t 5)) fullShare (iblk m c 5 t) :=
  exists_elim fun d => .of_eq (congrArg _ (before0_5_of m (dats m 0 c) (A_eq m c 5) (fun t => by dsimp only [dats]) t d))
theorem found_6 (c : Dev nD) (t : Fin cfg0.N) :
    (iprop(∃ d, owns (c : Thread nD τ) (win0_6.stage (cfg0.slots t 6)) fullShare ((dats m 0 c).before 6 t d)) : sProp (Res F)) ⊢ owns (c : Thread nD τ) (win0_6.stage (cfg0.slots t 6)) fullShare (iblk m c 6 t) :=
  exists_elim fun d => .of_eq (congrArg _ (before0_6_of m (dats m 0 c) (A_eq m c 6) (fun t => by dsimp only [dats]) t d))
theorem found_7 (c : Dev nD) (t : Fin cfg0.N) :
    (iprop(∃ d, owns (c : Thread nD τ) (win0_7.stage (cfg0.slots t 7)) fullShare ((dats m 0 c).before 7 t d)) : sProp (Res F)) ⊢ owns (c : Thread nD τ) (win0_7.stage (cfg0.slots t 7)) fullShare (iblk m c 7 t) :=
  exists_elim fun d => .of_eq (congrArg _ (before0_7_of m (dats m 0 c) (A_eq m c 7) (fun t => by dsimp only [dats]) t d))
theorem found_8 (c : Dev nD) (t : Fin cfg0.N) :
    (iprop(∃ d, owns (c : Thread nD τ) (win0_8.stage (cfg0.slots t 8)) fullShare ((dats m 0 c).before 8 t d)) : sProp (Res F)) ⊢ owns (c : Thread nD τ) (win0_8.stage (cfg0.slots t 8)) fullShare (iblk m c 8 t) :=
  exists_elim fun d => .of_eq (congrArg _ (before0_8_of m (dats m 0 c) (A_eq m c 8) (fun t => by dsimp only [dats]) t d))
theorem found_9 (c : Dev nD) (t : Fin cfg0.N) :
    (iprop(∃ d, owns (c : Thread nD τ) (win0_9.stage (cfg0.slots t 9)) fullShare ((dats m 0 c).before 9 t d)) : sProp (Res F)) ⊢ owns (c : Thread nD τ) (win0_9.stage (cfg0.slots t 9)) fullShare (iblk m c 9 t) :=
  exists_elim fun d => .of_eq (congrArg _ (before0_9_of m (dats m 0 c) (A_eq m c 9) (fun t => by dsimp only [dats]) t d))
theorem found_10 (c : Dev nD) (t : Fin cfg0.N) :
    (iprop(∃ d, owns (c : Thread nD τ) (win0_10.stage (cfg0.slots t 10)) fullShare ((dats m 0 c).before 10 t d)) : sProp (Res F)) ⊢ owns (c : Thread nD τ) (win0_10.stage (cfg0.slots t 10)) fullShare (iblk m c 10 t) :=
  exists_elim fun d => .of_eq (congrArg _ (before0_10_of m (dats m 0 c) (A_eq m c 10) (fun t => by dsimp only [dats]) t d))
theorem found_11 (c : Dev nD) (t : Fin cfg0.N) :
    (iprop(∃ d, owns (c : Thread nD τ) (win0_11.stage (cfg0.slots t 11)) fullShare ((dats m 0 c).before 11 t d)) : sProp (Res F)) ⊢ owns (c : Thread nD τ) (win0_11.stage (cfg0.slots t 11)) fullShare (iblk m c 11 t) :=
  exists_elim fun d => .of_eq (congrArg _ (before0_11_of m (dats m 0 c) (A_eq m c 11) (fun t => by dsimp only [dats]) t d))
theorem found_12 (c : Dev nD) (t : Fin cfg0.N) :
    (iprop(∃ d, owns (c : Thread nD τ) (win0_12.stage (cfg0.slots t 12)) fullShare ((dats m 0 c).before 12 t d)) : sProp (Res F)) ⊢ owns (c : Thread nD τ) (win0_12.stage (cfg0.slots t 12)) fullShare (iblk m c 12 t) :=
  exists_elim fun d => .of_eq (congrArg _ (before0_12_of m (dats m 0 c) (A_eq m c 12) (fun t => by dsimp only [dats]) t d))
theorem found_13 (c : Dev nD) (t : Fin cfg0.N) :
    (iprop(∃ d, owns (c : Thread nD τ) (win0_13.stage (cfg0.slots t 13)) fullShare ((dats m 0 c).before 13 t d)) : sProp (Res F)) ⊢ owns (c : Thread nD τ) (win0_13.stage (cfg0.slots t 13)) fullShare (iblk m c 13 t) :=
  exists_elim fun d => .of_eq (congrArg _ (before0_13_of m (dats m 0 c) (A_eq m c 13) (fun t => by dsimp only [dats]) t d))
theorem found_14 (c : Dev nD) (t : Fin cfg0.N) :
    (iprop(∃ d, owns (c : Thread nD τ) (win0_14.stage (cfg0.slots t 14)) fullShare ((dats m 0 c).before 14 t d)) : sProp (Res F)) ⊢ owns (c : Thread nD τ) (win0_14.stage (cfg0.slots t 14)) fullShare (iblk m c 14 t) :=
  exists_elim fun d => .of_eq (congrArg _ (before0_14_of m (dats m 0 c) (A_eq m c 14) (fun t => by dsimp only [dats]) t d))
theorem found_15 (c : Dev nD) (t : Fin cfg0.N) :
    (iprop(∃ d, owns (c : Thread nD τ) (win0_15.stage (cfg0.slots t 15)) fullShare ((dats m 0 c).before 15 t d)) : sProp (Res F)) ⊢ owns (c : Thread nD τ) (win0_15.stage (cfg0.slots t 15)) fullShare (iblk m c 15 t) :=
  exists_elim fun d => .of_eq (congrArg _ (before0_15_of m (dats m 0 c) (A_eq m c 15) (fun t => by dsimp only [dats]) t d))
theorem found_16 (c : Dev nD) (t : Fin cfg0.N) :
    (iprop(∃ d, owns (c : Thread nD τ) (win0_16.stage (cfg0.slots t 16)) fullShare ((dats m 0 c).before 16 t d)) : sProp (Res F)) ⊢ owns (c : Thread nD τ) (win0_16.stage (cfg0.slots t 16)) fullShare (iblk m c 16 t) :=
  exists_elim fun d => .of_eq (congrArg _ (before0_16_of m (dats m 0 c) (A_eq m c 16) (fun t => by dsimp only [dats]) t d))
theorem found_17 (c : Dev nD) (t : Fin cfg0.N) :
    (iprop(∃ d, owns (c : Thread nD τ) (win0_17.stage (cfg0.slots t 17)) fullShare ((dats m 0 c).before 17 t d)) : sProp (Res F)) ⊢ owns (c : Thread nD τ) (win0_17.stage (cfg0.slots t 17)) fullShare (iblk m c 17 t) :=
  exists_elim fun d => .of_eq (congrArg _ (before0_17_of m (dats m 0 c) (A_eq m c 17) (fun t => by dsimp only [dats]) t d))
theorem found_18 (c : Dev nD) (t : Fin cfg0.N) :
    (iprop(∃ d, owns (c : Thread nD τ) (win0_18.stage (cfg0.slots t 18)) fullShare ((dats m 0 c).before 18 t d)) : sProp (Res F)) ⊢ owns (c : Thread nD τ) (win0_18.stage (cfg0.slots t 18)) fullShare (iblk m c 18 t) :=
  exists_elim fun d => .of_eq (congrArg _ (before0_18_of m (dats m 0 c) (A_eq m c 18) (fun t => by dsimp only [dats]) t d))
theorem found_19 (c : Dev nD) (t : Fin cfg0.N) :
    (iprop(∃ d, owns (c : Thread nD τ) (win0_19.stage (cfg0.slots t 19)) fullShare ((dats m 0 c).before 19 t d)) : sProp (Res F)) ⊢ owns (c : Thread nD τ) (win0_19.stage (cfg0.slots t 19)) fullShare (iblk m c 19 t) :=
  exists_elim fun d => .of_eq (congrArg _ (before0_19_of m (dats m 0 c) (A_eq m c 19) (fun t => by dsimp only [dats]) t d))
theorem found_20 (c : Dev nD) (t : Fin cfg0.N) :
    (iprop(∃ d, owns (c : Thread nD τ) (win0_20.stage (cfg0.slots t 20)) fullShare ((dats m 0 c).before 20 t d)) : sProp (Res F)) ⊢ owns (c : Thread nD τ) (win0_20.stage (cfg0.slots t 20)) fullShare (iblk m c 20 t) :=
  exists_elim fun d => .of_eq (congrArg _ (before0_20_of m (dats m 0 c) (A_eq m c 20) (fun t => by dsimp only [dats]) t d))
theorem found_21 (c : Dev nD) (t : Fin cfg0.N) :
    (iprop(∃ d, owns (c : Thread nD τ) (win0_21.stage (cfg0.slots t 21)) fullShare ((dats m 0 c).before 21 t d)) : sProp (Res F)) ⊢ owns (c : Thread nD τ) (win0_21.stage (cfg0.slots t 21)) fullShare (iblk m c 21 t) :=
  exists_elim fun d => .of_eq (congrArg _ (before0_21_of m (dats m 0 c) (A_eq m c 21) (fun t => by dsimp only [dats]) t d))
theorem found_22 (c : Dev nD) (t : Fin cfg0.N) :
    (iprop(∃ d, owns (c : Thread nD τ) (win0_22.stage (cfg0.slots t 22)) fullShare ((dats m 0 c).before 22 t d)) : sProp (Res F)) ⊢ owns (c : Thread nD τ) (win0_22.stage (cfg0.slots t 22)) fullShare (iblk m c 22 t) :=
  exists_elim fun d => .of_eq (congrArg _ (before0_22_of m (dats m 0 c) (A_eq m c 22) (fun t => by dsimp only [dats]) t d))
theorem found_23 (c : Dev nD) (t : Fin cfg0.N) :
    (iprop(∃ d, owns (c : Thread nD τ) (win0_23.stage (cfg0.slots t 23)) fullShare ((dats m 0 c).before 23 t d)) : sProp (Res F)) ⊢ owns (c : Thread nD τ) (win0_23.stage (cfg0.slots t 23)) fullShare (iblk m c 23 t) :=
  exists_elim fun d => .of_eq (congrArg _ (before0_23_of m (dats m 0 c) (A_eq m c 23) (fun t => by dsimp only [dats]) t d))
theorem found_24 (c : Dev nD) (t : Fin cfg0.N) :
    (iprop(∃ d, owns (c : Thread nD τ) (win0_24.stage (cfg0.slots t 24)) fullShare ((dats m 0 c).before 24 t d)) : sProp (Res F)) ⊢ owns (c : Thread nD τ) (win0_24.stage (cfg0.slots t 24)) fullShare (iblk m c 24 t) :=
  exists_elim fun d => .of_eq (congrArg _ (before0_24_of m (dats m 0 c) (A_eq m c 24) (fun t => by dsimp only [dats]) t d))
theorem found_25 (c : Dev nD) (t : Fin cfg0.N) :
    (iprop(∃ d, owns (c : Thread nD τ) (win0_25.stage (cfg0.slots t 25)) fullShare ((dats m 0 c).before 25 t d)) : sProp (Res F)) ⊢ owns (c : Thread nD τ) (win0_25.stage (cfg0.slots t 25)) fullShare (iblk m c 25 t) :=
  exists_elim fun d => .of_eq (congrArg _ (before0_25_of m (dats m 0 c) (A_eq m c 25) (fun t => by dsimp only [dats]) t d))
theorem found_26 (c : Dev nD) (t : Fin cfg0.N) :
    (iprop(∃ d, owns (c : Thread nD τ) (win0_26.stage (cfg0.slots t 26)) fullShare ((dats m 0 c).before 26 t d)) : sProp (Res F)) ⊢ owns (c : Thread nD τ) (win0_26.stage (cfg0.slots t 26)) fullShare (iblk m c 26 t) :=
  exists_elim fun d => .of_eq (congrArg _ (before0_26_of m (dats m 0 c) (A_eq m c 26) (fun t => by dsimp only [dats]) t d))
theorem found_27 (c : Dev nD) (t : Fin cfg0.N) :
    (iprop(∃ d, owns (c : Thread nD τ) (win0_27.stage (cfg0.slots t 27)) fullShare ((dats m 0 c).before 27 t d)) : sProp (Res F)) ⊢ owns (c : Thread nD τ) (win0_27.stage (cfg0.slots t 27)) fullShare (iblk m c 27 t) :=
  exists_elim fun d => .of_eq (congrArg _ (before0_27_of m (dats m 0 c) (A_eq m c 27) (fun t => by dsimp only [dats]) t d))
theorem found_28 (c : Dev nD) (t : Fin cfg0.N) :
    (iprop(∃ d, owns (c : Thread nD τ) (win0_28.stage (cfg0.slots t 28)) fullShare ((dats m 0 c).before 28 t d)) : sProp (Res F)) ⊢ owns (c : Thread nD τ) (win0_28.stage (cfg0.slots t 28)) fullShare (iblk m c 28 t) :=
  exists_elim fun d => .of_eq (congrArg _ (before0_28_of m (dats m 0 c) (A_eq m c 28) (fun t => by dsimp only [dats]) t d))
theorem found_29 (c : Dev nD) (t : Fin cfg0.N) :
    (iprop(∃ d, owns (c : Thread nD τ) (win0_29.stage (cfg0.slots t 29)) fullShare ((dats m 0 c).before 29 t d)) : sProp (Res F)) ⊢ owns (c : Thread nD τ) (win0_29.stage (cfg0.slots t 29)) fullShare (iblk m c 29 t) :=
  exists_elim fun d => .of_eq (congrArg _ (before0_29_of m (dats m 0 c) (A_eq m c 29) (fun t => by dsimp only [dats]) t d))
theorem found_30 (c : Dev nD) (t : Fin cfg0.N) :
    (iprop(∃ d, owns (c : Thread nD τ) (win0_30.stage (cfg0.slots t 30)) fullShare ((dats m 0 c).before 30 t d)) : sProp (Res F)) ⊢ owns (c : Thread nD τ) (win0_30.stage (cfg0.slots t 30)) fullShare (iblk m c 30 t) :=
  exists_elim fun d => .of_eq (congrArg _ (before0_30_of m (dats m 0 c) (A_eq m c 30) (fun t => by dsimp only [dats]) t d))
theorem found_31 (c : Dev nD) (t : Fin cfg0.N) :
    (iprop(∃ d, owns (c : Thread nD τ) (win0_31.stage (cfg0.slots t 31)) fullShare ((dats m 0 c).before 31 t d)) : sProp (Res F)) ⊢ owns (c : Thread nD τ) (win0_31.stage (cfg0.slots t 31)) fullShare (iblk m c 31 t) :=
  exists_elim fun d => .of_eq (congrArg _ (before0_31_of m (dats m 0 c) (A_eq m c 31) (fun t => by dsimp only [dats]) t d))
theorem found_32 (c : Dev nD) (t : Fin cfg0.N) :
    (iprop(∃ d, owns (c : Thread nD τ) (win0_32.stage (cfg0.slots t 32)) fullShare ((dats m 0 c).before 32 t d)) : sProp (Res F)) ⊢ owns (c : Thread nD τ) (win0_32.stage (cfg0.slots t 32)) fullShare (iblk m c 32 t) :=
  exists_elim fun d => .of_eq (congrArg _ (before0_32_of m (dats m 0 c) (A_eq m c 32) (fun t => by dsimp only [dats]) t d))

/-- The buffers at point `t`: the scratches and the outputs' blocks at some contents, the inputs' blocks at theirs. -/
def kept (c : Dev nD) (t : Fin cfg0.N) : sProp (Res F) :=
  iprop((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (iblk m c 9 t)
    ∗ owns (c : Thread nD τ) (win0_10.stage (cfg0.slots t 10)) fullShare (iblk m c 10 t)
    ∗ owns (c : Thread nD τ) (win0_11.stage (cfg0.slots t 11)) fullShare (iblk m c 11 t)
    ∗ owns (c : Thread nD τ) (win0_12.stage (cfg0.slots t 12)) fullShare (iblk m c 12 t)
    ∗ owns (c : Thread nD τ) (win0_13.stage (cfg0.slots t 13)) fullShare (iblk m c 13 t)
    ∗ owns (c : Thread nD τ) (win0_14.stage (cfg0.slots t 14)) fullShare (iblk m c 14 t)
    ∗ owns (c : Thread nD τ) (win0_15.stage (cfg0.slots t 15)) fullShare (iblk m c 15 t)
    ∗ owns (c : Thread nD τ) (win0_16.stage (cfg0.slots t 16)) fullShare (iblk m c 16 t)
    ∗ owns (c : Thread nD τ) (win0_17.stage (cfg0.slots t 17)) fullShare (iblk m c 17 t)
    ∗ owns (c : Thread nD τ) (win0_18.stage (cfg0.slots t 18)) fullShare (iblk m c 18 t)
    ∗ owns (c : Thread nD τ) (win0_19.stage (cfg0.slots t 19)) fullShare (iblk m c 19 t)
    ∗ owns (c : Thread nD τ) (win0_20.stage (cfg0.slots t 20)) fullShare (iblk m c 20 t)
    ∗ owns (c : Thread nD τ) (win0_21.stage (cfg0.slots t 21)) fullShare (iblk m c 21 t)
    ∗ owns (c : Thread nD τ) (win0_22.stage (cfg0.slots t 22)) fullShare (iblk m c 22 t)
    ∗ owns (c : Thread nD τ) (win0_23.stage (cfg0.slots t 23)) fullShare (iblk m c 23 t)
    ∗ owns (c : Thread nD τ) (win0_24.stage (cfg0.slots t 24)) fullShare (iblk m c 24 t)
    ∗ owns (c : Thread nD τ) (win0_25.stage (cfg0.slots t 25)) fullShare (iblk m c 25 t)
    ∗ owns (c : Thread nD τ) (win0_26.stage (cfg0.slots t 26)) fullShare (iblk m c 26 t)
    ∗ owns (c : Thread nD τ) (win0_27.stage (cfg0.slots t 27)) fullShare (iblk m c 27 t)
    ∗ owns (c : Thread nD τ) (win0_28.stage (cfg0.slots t 28)) fullShare (iblk m c 28 t)
    ∗ owns (c : Thread nD τ) (win0_29.stage (cfg0.slots t 29)) fullShare (iblk m c 29 t)
    ∗ owns (c : Thread nD τ) (win0_30.stage (cfg0.slots t 30)) fullShare (iblk m c 30 t)
    ∗ owns (c : Thread nD τ) (win0_31.stage (cfg0.slots t 31)) fullShare (iblk m c 31 t)
    ∗ owns (c : Thread nD τ) (win0_32.stage (cfg0.slots t 32)) fullShare (iblk m c 32 t)
    ∗ (∃ X, owns (c : Thread nD τ) (win0_33.stage (cfg0.slots t 33)) fullShare X)
    ∗ (∃ X, owns (c : Thread nD τ) (win0_34.stage (cfg0.slots t 34)) fullShare X)
    ∗ (∃ X, owns (c : Thread nD τ) (win0_35.stage (cfg0.slots t 35)) fullShare X)
    ∗ (∃ X, owns (c : Thread nD τ) (win0_36.stage (cfg0.slots t 36)) fullShare X)
    ∗ (∃ X, owns (c : Thread nD τ) (win0_37.stage (cfg0.slots t 37)) fullShare X)
    ∗ (∃ X, owns (c : Thread nD τ) (win0_38.stage (cfg0.slots t 38)) fullShare X)
    ∗ (∃ X, owns (c : Thread nD τ) (win0_39.stage (cfg0.slots t 39)) fullShare X)
    ∗ (∃ X, owns (c : Thread nD τ) (win0_40.stage (cfg0.slots t 40)) fullShare X))

theorem scoped_eq (c : Dev nD) :
    (Pipeline.ΦA spec0 c : sProp (Res F)) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ ∃ r, prngReg c r) := by
  unfold Pipeline.ΦA; rw [scopedRest0_eq]; simp only [owns_whole]; try rfl

section
variable {m} {c : Dev nD} {t : Fin cfg0.N}

instance : LoadOk c (kept m c t) (win0_0.stage (cfg0.slots t 0)) := by
  unfold kept; iterate 2 refine .right ?_
  exact .left (.owned _)
instance : LoadOk c (kept m c t) (win0_1.stage (cfg0.slots t 1)) := by
  unfold kept; iterate 3 refine .right ?_
  exact .left (.owned _)
instance : LoadOk c (kept m c t) (win0_2.stage (cfg0.slots t 2)) := by
  unfold kept; iterate 4 refine .right ?_
  exact .left (.owned _)
instance : LoadOk c (kept m c t) (win0_3.stage (cfg0.slots t 3)) := by
  unfold kept; iterate 5 refine .right ?_
  exact .left (.owned _)
instance : LoadOk c (kept m c t) (win0_4.stage (cfg0.slots t 4)) := by
  unfold kept; iterate 6 refine .right ?_
  exact .left (.owned _)
instance : LoadOk c (kept m c t) (win0_5.stage (cfg0.slots t 5)) := by
  unfold kept; iterate 7 refine .right ?_
  exact .left (.owned _)
instance : LoadOk c (kept m c t) (win0_6.stage (cfg0.slots t 6)) := by
  unfold kept; iterate 8 refine .right ?_
  exact .left (.owned _)
instance : LoadOk c (kept m c t) (win0_7.stage (cfg0.slots t 7)) := by
  unfold kept; iterate 9 refine .right ?_
  exact .left (.owned _)
instance : LoadOk c (kept m c t) (win0_8.stage (cfg0.slots t 8)) := by
  unfold kept; iterate 10 refine .right ?_
  exact .left (.owned _)
instance : LoadOk c (kept m c t) (win0_9.stage (cfg0.slots t 9)) := by
  unfold kept; iterate 11 refine .right ?_
  exact .left (.owned _)
instance : LoadOk c (kept m c t) (win0_10.stage (cfg0.slots t 10)) := by
  unfold kept; iterate 12 refine .right ?_
  exact .left (.owned _)
instance : LoadOk c (kept m c t) (win0_11.stage (cfg0.slots t 11)) := by
  unfold kept; iterate 13 refine .right ?_
  exact .left (.owned _)
instance : LoadOk c (kept m c t) (win0_12.stage (cfg0.slots t 12)) := by
  unfold kept; iterate 14 refine .right ?_
  exact .left (.owned _)
instance : LoadOk c (kept m c t) (win0_13.stage (cfg0.slots t 13)) := by
  unfold kept; iterate 15 refine .right ?_
  exact .left (.owned _)
instance : LoadOk c (kept m c t) (win0_14.stage (cfg0.slots t 14)) := by
  unfold kept; iterate 16 refine .right ?_
  exact .left (.owned _)
instance : LoadOk c (kept m c t) (win0_15.stage (cfg0.slots t 15)) := by
  unfold kept; iterate 17 refine .right ?_
  exact .left (.owned _)
instance : LoadOk c (kept m c t) (win0_16.stage (cfg0.slots t 16)) := by
  unfold kept; iterate 18 refine .right ?_
  exact .left (.owned _)
instance : LoadOk c (kept m c t) (win0_17.stage (cfg0.slots t 17)) := by
  unfold kept; iterate 19 refine .right ?_
  exact .left (.owned _)
instance : LoadOk c (kept m c t) (win0_18.stage (cfg0.slots t 18)) := by
  unfold kept; iterate 20 refine .right ?_
  exact .left (.owned _)
instance : LoadOk c (kept m c t) (win0_19.stage (cfg0.slots t 19)) := by
  unfold kept; iterate 21 refine .right ?_
  exact .left (.owned _)
instance : LoadOk c (kept m c t) (win0_20.stage (cfg0.slots t 20)) := by
  unfold kept; iterate 22 refine .right ?_
  exact .left (.owned _)
instance : LoadOk c (kept m c t) (win0_21.stage (cfg0.slots t 21)) := by
  unfold kept; iterate 23 refine .right ?_
  exact .left (.owned _)
instance : LoadOk c (kept m c t) (win0_22.stage (cfg0.slots t 22)) := by
  unfold kept; iterate 24 refine .right ?_
  exact .left (.owned _)
instance : LoadOk c (kept m c t) (win0_23.stage (cfg0.slots t 23)) := by
  unfold kept; iterate 25 refine .right ?_
  exact .left (.owned _)
instance : LoadOk c (kept m c t) (win0_24.stage (cfg0.slots t 24)) := by
  unfold kept; iterate 26 refine .right ?_
  exact .left (.owned _)
instance : LoadOk c (kept m c t) (win0_25.stage (cfg0.slots t 25)) := by
  unfold kept; iterate 27 refine .right ?_
  exact .left (.owned _)
instance : LoadOk c (kept m c t) (win0_26.stage (cfg0.slots t 26)) := by
  unfold kept; iterate 28 refine .right ?_
  exact .left (.owned _)
instance : LoadOk c (kept m c t) (win0_27.stage (cfg0.slots t 27)) := by
  unfold kept; iterate 29 refine .right ?_
  exact .left (.owned _)
instance : LoadOk c (kept m c t) (win0_28.stage (cfg0.slots t 28)) := by
  unfold kept; iterate 30 refine .right ?_
  exact .left (.owned _)
instance : LoadOk c (kept m c t) (win0_29.stage (cfg0.slots t 29)) := by
  unfold kept; iterate 31 refine .right ?_
  exact .left (.owned _)
instance : LoadOk c (kept m c t) (win0_30.stage (cfg0.slots t 30)) := by
  unfold kept; iterate 32 refine .right ?_
  exact .left (.owned _)
instance : LoadOk c (kept m c t) (win0_31.stage (cfg0.slots t 31)) := by
  unfold kept; iterate 33 refine .right ?_
  exact .left (.owned _)
instance : LoadOk c (kept m c t) (win0_32.stage (cfg0.slots t 32)) := by
  unfold kept; iterate 34 refine .right ?_
  exact .left (.owned _)
instance : StoreOk c (kept m c t) (win0_33.stage (cfg0.slots t 33)) := by
  unfold kept; iterate 35 refine .right ?_
  exact .left .owned
instance : StoreOk c (kept m c t) (win0_34.stage (cfg0.slots t 34)) := by
  unfold kept; iterate 36 refine .right ?_
  exact .left .owned
instance : StoreOk c (kept m c t) (win0_35.stage (cfg0.slots t 35)) := by
  unfold kept; iterate 37 refine .right ?_
  exact .left .owned
instance : StoreOk c (kept m c t) (win0_36.stage (cfg0.slots t 36)) := by
  unfold kept; iterate 38 refine .right ?_
  exact .left .owned
instance : StoreOk c (kept m c t) (win0_37.stage (cfg0.slots t 37)) := by
  unfold kept; iterate 39 refine .right ?_
  exact .left .owned
instance : StoreOk c (kept m c t) (win0_38.stage (cfg0.slots t 38)) := by
  unfold kept; iterate 40 refine .right ?_
  exact .left .owned
instance : StoreOk c (kept m c t) (win0_39.stage (cfg0.slots t 39)) := by
  unfold kept; iterate 41 refine .right ?_
  exact .left .owned
instance : StoreOk c (kept m c t) (win0_40.stage (cfg0.slots t 40)) := by
  unfold kept; iterate 42 refine .right ?_
  exact .owned
instance : StoreOk c (kept m c t) (Memref.whole cc0_scratch0) := by
  unfold kept; iterate 2 refine .left ?_
  exact .left .owned
instance : StoreOk c (kept m c t) (Memref.whole cc0_scratch1) := by
  unfold kept; iterate 2 refine .left ?_
  iterate 1 refine .right ?_
  exact .left .owned
instance : StoreOk c (kept m c t) (Memref.whole cc0_scratch2) := by
  unfold kept; iterate 2 refine .left ?_
  iterate 2 refine .right ?_
  exact .left .owned
instance : StoreOk c (kept m c t) (Memref.whole cc0_scratch3) := by
  unfold kept; iterate 2 refine .left ?_
  iterate 3 refine .right ?_
  exact .left .owned
instance : StoreOk c (kept m c t) (Memref.whole cc0_scratch4) := by
  unfold kept; iterate 2 refine .left ?_
  iterate 4 refine .right ?_
  exact .left .owned
instance : StoreOk c (kept m c t) (Memref.whole cc0_scratch5) := by
  unfold kept; iterate 2 refine .left ?_
  iterate 5 refine .right ?_
  exact .left .owned
instance : StoreOk c (kept m c t) (Memref.whole cc0_scratch6) := by
  unfold kept; iterate 2 refine .left ?_
  iterate 6 refine .right ?_
  exact .owned
end

/-- The body at a point keeps the buffers. -/
theorem sound (c : Dev nD) (t : Fin cfg0.N) :
    kept m c t ⊢ wp frame (wpE (defs₀ (F := F)) Variants.none (c : Thread nD τ) none) Set.univ (bodyAt0 t) (fun _ => kept m c t) :=
  safe_body c (kept m c t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- What the body is called with. -/
def given (c : Dev nD) (t : Fin cfg0.N) : sProp (Res F) :=
  iprop(Pipeline.ΦA spec0 c ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ d, owns (c : Thread nD τ) (win0_25.stage (cfg0.slots t 25)) fullShare ((dats m 0 c).before 25 t d))
    ∗ (∃ d, owns (c : Thread nD τ) (win0_26.stage (cfg0.slots t 26)) fullShare ((dats m 0 c).before 26 t d))
    ∗ (∃ d, owns (c : Thread nD τ) (win0_27.stage (cfg0.slots t 27)) fullShare ((dats m 0 c).before 27 t d))
    ∗ (∃ d, owns (c : Thread nD τ) (win0_28.stage (cfg0.slots t 28)) fullShare ((dats m 0 c).before 28 t d))
    ∗ (∃ d, owns (c : Thread nD τ) (win0_29.stage (cfg0.slots t 29)) fullShare ((dats m 0 c).before 29 t d))
    ∗ (∃ d, owns (c : Thread nD τ) (win0_30.stage (cfg0.slots t 30)) fullShare ((dats m 0 c).before 30 t d))
    ∗ (∃ d, owns (c : Thread nD τ) (win0_31.stage (cfg0.slots t 31)) fullShare ((dats m 0 c).before 31 t d))
    ∗ (∃ d, owns (c : Thread nD τ) (win0_32.stage (cfg0.slots t 32)) fullShare ((dats m 0 c).before 32 t d))
    ∗ (∃ X, owns (c : Thread nD τ) (win0_33.stage (cfg0.slots t 33)) fullShare X)
    ∗ (∃ X, owns (c : Thread nD τ) (win0_34.stage (cfg0.slots t 34)) fullShare X)
    ∗ (∃ X, owns (c : Thread nD τ) (win0_35.stage (cfg0.slots t 35)) fullShare X)
    ∗ (∃ X, owns (c : Thread nD τ) (win0_36.stage (cfg0.slots t 36)) fullShare X)
    ∗ (∃ X, owns (c : Thread nD τ) (win0_37.stage (cfg0.slots t 37)) fullShare X)
    ∗ (∃ X, owns (c : Thread nD τ) (win0_38.stage (cfg0.slots t 38)) fullShare X)
    ∗ (∃ X, owns (c : Thread nD τ) (win0_39.stage (cfg0.slots t 39)) fullShare X)
    ∗ (∃ X, owns (c : Thread nD τ) (win0_40.stage (cfg0.slots t 40)) fullShare X))

theorem kept_of_given (c : Dev nD) (t : Fin cfg0.N) : given m c t ⊢ kept m c t := by
  unfold given kept
  rw [scoped_eq]
  refine BIClass.sep_mono .rfl (BIClass.sep_mono .rfl ?_)
  refine BIClass.sep_mono (found_0 m c t) ?_
  refine BIClass.sep_mono (found_1 m c t) ?_
  refine BIClass.sep_mono (found_2 m c t) ?_
  refine BIClass.sep_mono (found_3 m c t) ?_
  refine BIClass.sep_mono (found_4 m c t) ?_
  refine BIClass.sep_mono (found_5 m c t) ?_
  refine BIClass.sep_mono (found_6 m c t) ?_
  refine BIClass.sep_mono (found_7 m c t) ?_
  refine BIClass.sep_mono (found_8 m c t) ?_
  refine BIClass.sep_mono (found_9 m c t) ?_
  refine BIClass.sep_mono (found_10 m c t) ?_
  refine BIClass.sep_mono (found_11 m c t) ?_
  refine BIClass.sep_mono (found_12 m c t) ?_
  refine BIClass.sep_mono (found_13 m c t) ?_
  refine BIClass.sep_mono (found_14 m c t) ?_
  refine BIClass.sep_mono (found_15 m c t) ?_
  refine BIClass.sep_mono (found_16 m c t) ?_
  refine BIClass.sep_mono (found_17 m c t) ?_
  refine BIClass.sep_mono (found_18 m c t) ?_
  refine BIClass.sep_mono (found_19 m c t) ?_
  refine BIClass.sep_mono (found_20 m c t) ?_
  refine BIClass.sep_mono (found_21 m c t) ?_
  refine BIClass.sep_mono (found_22 m c t) ?_
  refine BIClass.sep_mono (found_23 m c t) ?_
  refine BIClass.sep_mono (found_24 m c t) ?_
  refine BIClass.sep_mono (found_25 m c t) ?_
  refine BIClass.sep_mono (found_26 m c t) ?_
  refine BIClass.sep_mono (found_27 m c t) ?_
  refine BIClass.sep_mono (found_28 m c t) ?_
  refine BIClass.sep_mono (found_29 m c t) ?_
  refine BIClass.sep_mono (found_30 m c t) ?_
  refine BIClass.sep_mono (found_31 m c t) ?_
  refine BIClass.sep_mono (found_32 m c t) ?_
  exact .rfl

/-- What it returns. -/
def taken (c : Dev nD) (t : Fin cfg0.N) : sProp (Res F) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ owns (c : Thread nD τ) (win0_22.stage (cfg0.slots t 22)) fullShare ((dats m 0 c).after 22 t)
    ∗ owns (c : Thread nD τ) (win0_23.stage (cfg0.slots t 23)) fullShare ((dats m 0 c).after 23 t)
    ∗ owns (c : Thread nD τ) (win0_24.stage (cfg0.slots t 24)) fullShare ((dats m 0 c).after 24 t)
    ∗ owns (c : Thread nD τ) (win0_25.stage (cfg0.slots t 25)) fullShare ((dats m 0 c).after 25 t)
    ∗ owns (c : Thread nD τ) (win0_26.stage (cfg0.slots t 26)) fullShare ((dats m 0 c).after 26 t)
    ∗ owns (c : Thread nD τ) (win0_27.stage (cfg0.slots t 27)) fullShare ((dats m 0 c).after 27 t)
    ∗ owns (c : Thread nD τ) (win0_28.stage (cfg0.slots t 28)) fullShare ((dats m 0 c).after 28 t)
    ∗ owns (c : Thread nD τ) (win0_29.stage (cfg0.slots t 29)) fullShare ((dats m 0 c).after 29 t)
    ∗ owns (c : Thread nD τ) (win0_30.stage (cfg0.slots t 30)) fullShare ((dats m 0 c).after 30 t)
    ∗ owns (c : Thread nD τ) (win0_31.stage (cfg0.slots t 31)) fullShare ((dats m 0 c).after 31 t)
    ∗ owns (c : Thread nD τ) (win0_32.stage (cfg0.slots t 32)) fullShare ((dats m 0 c).after 32 t)
    ∗ (∃ X, owns (c : Thread nD τ) (win0_33.stage (cfg0.slots t 33)) fullShare X)
    ∗ (∃ X, owns (c : Thread nD τ) (win0_34.stage (cfg0.slots t 34)) fullShare X)
    ∗ (∃ X, owns (c : Thread nD τ) (win0_35.stage (cfg0.slots t 35)) fullShare X)
    ∗ (∃ X, owns (c : Thread nD τ) (win0_36.stage (cfg0.slots t 36)) fullShare X)
    ∗ (∃ X, owns (c : Thread nD τ) (win0_37.stage (cfg0.slots t 37)) fullShare X)
    ∗ (∃ X, owns (c : Thread nD τ) (win0_38.stage (cfg0.slots t 38)) fullShare X)
    ∗ (∃ X, owns (c : Thread nD τ) (win0_39.stage (cfg0.slots t 39)) fullShare X)
    ∗ (∃ X, owns (c : Thread nD τ) (win0_40.stage (cfg0.slots t 40)) fullShare X))

theorem left_0 (c : Dev nD) (t : Fin cfg0.N) :
    (owns (c : Thread nD τ) (win0_0.stage (cfg0.slots t 0)) fullShare (iblk m c 0 t) : sProp (Res F)) ⊢ owns (c : Thread nD τ) (win0_0.stage (cfg0.slots t 0)) fullShare ((dats m 0 c).after 0 t) :=
  .of_eq (congrArg _ (show iblk m c 0 t = (dats m 0 c).after 0 t by dsimp only [dats]))
theorem left_1 (c : Dev nD) (t : Fin cfg0.N) :
    (owns (c : Thread nD τ) (win0_1.stage (cfg0.slots t 1)) fullShare (iblk m c 1 t) : sProp (Res F)) ⊢ owns (c : Thread nD τ) (win0_1.stage (cfg0.slots t 1)) fullShare ((dats m 0 c).after 1 t) :=
  .of_eq (congrArg _ (show iblk m c 1 t = (dats m 0 c).after 1 t by dsimp only [dats]))
theorem left_2 (c : Dev nD) (t : Fin cfg0.N) :
    (owns (c : Thread nD τ) (win0_2.stage (cfg0.slots t 2)) fullShare (iblk m c 2 t) : sProp (Res F)) ⊢ owns (c : Thread nD τ) (win0_2.stage (cfg0.slots t 2)) fullShare ((dats m 0 c).after 2 t) :=
  .of_eq (congrArg _ (show iblk m c 2 t = (dats m 0 c).after 2 t by dsimp only [dats]))
theorem left_3 (c : Dev nD) (t : Fin cfg0.N) :
    (owns (c : Thread nD τ) (win0_3.stage (cfg0.slots t 3)) fullShare (iblk m c 3 t) : sProp (Res F)) ⊢ owns (c : Thread nD τ) (win0_3.stage (cfg0.slots t 3)) fullShare ((dats m 0 c).after 3 t) :=
  .of_eq (congrArg _ (show iblk m c 3 t = (dats m 0 c).after 3 t by dsimp only [dats]))
theorem left_4 (c : Dev nD) (t : Fin cfg0.N) :
    (owns (c : Thread nD τ) (win0_4.stage (cfg0.slots t 4)) fullShare (iblk m c 4 t) : sProp (Res F)) ⊢ owns (c : Thread nD τ) (win0_4.stage (cfg0.slots t 4)) fullShare ((dats m 0 c).after 4 t) :=
  .of_eq (congrArg _ (show iblk m c 4 t = (dats m 0 c).after 4 t by dsimp only [dats]))
theorem left_5 (c : Dev nD) (t : Fin cfg0.N) :
    (owns (c : Thread nD τ) (win0_5.stage (cfg0.slots t 5)) fullShare (iblk m c 5 t) : sProp (Res F)) ⊢ owns (c : Thread nD τ) (win0_5.stage (cfg0.slots t 5)) fullShare ((dats m 0 c).after 5 t) :=
  .of_eq (congrArg _ (show iblk m c 5 t = (dats m 0 c).after 5 t by dsimp only [dats]))
theorem left_6 (c : Dev nD) (t : Fin cfg0.N) :
    (owns (c : Thread nD τ) (win0_6.stage (cfg0.slots t 6)) fullShare (iblk m c 6 t) : sProp (Res F)) ⊢ owns (c : Thread nD τ) (win0_6.stage (cfg0.slots t 6)) fullShare ((dats m 0 c).after 6 t) :=
  .of_eq (congrArg _ (show iblk m c 6 t = (dats m 0 c).after 6 t by dsimp only [dats]))
theorem left_7 (c : Dev nD) (t : Fin cfg0.N) :
    (owns (c : Thread nD τ) (win0_7.stage (cfg0.slots t 7)) fullShare (iblk m c 7 t) : sProp (Res F)) ⊢ owns (c : Thread nD τ) (win0_7.stage (cfg0.slots t 7)) fullShare ((dats m 0 c).after 7 t) :=
  .of_eq (congrArg _ (show iblk m c 7 t = (dats m 0 c).after 7 t by dsimp only [dats]))
theorem left_8 (c : Dev nD) (t : Fin cfg0.N) :
    (owns (c : Thread nD τ) (win0_8.stage (cfg0.slots t 8)) fullShare (iblk m c 8 t) : sProp (Res F)) ⊢ owns (c : Thread nD τ) (win0_8.stage (cfg0.slots t 8)) fullShare ((dats m 0 c).after 8 t) :=
  .of_eq (congrArg _ (show iblk m c 8 t = (dats m 0 c).after 8 t by dsimp only [dats]))
theorem left_9 (c : Dev nD) (t : Fin cfg0.N) :
    (owns (c : Thread nD τ) (win0_9.stage (cfg0.slots t 9)) fullShare (iblk m c 9 t) : sProp (Res F)) ⊢ owns (c : Thread nD τ) (win0_9.stage (cfg0.slots t 9)) fullShare ((dats m 0 c).after 9 t) :=
  .of_eq (congrArg _ (show iblk m c 9 t = (dats m 0 c).after 9 t by dsimp only [dats]))
theorem left_10 (c : Dev nD) (t : Fin cfg0.N) :
    (owns (c : Thread nD τ) (win0_10.stage (cfg0.slots t 10)) fullShare (iblk m c 10 t) : sProp (Res F)) ⊢ owns (c : Thread nD τ) (win0_10.stage (cfg0.slots t 10)) fullShare ((dats m 0 c).after 10 t) :=
  .of_eq (congrArg _ (show iblk m c 10 t = (dats m 0 c).after 10 t by dsimp only [dats]))
theorem left_11 (c : Dev nD) (t : Fin cfg0.N) :
    (owns (c : Thread nD τ) (win0_11.stage (cfg0.slots t 11)) fullShare (iblk m c 11 t) : sProp (Res F)) ⊢ owns (c : Thread nD τ) (win0_11.stage (cfg0.slots t 11)) fullShare ((dats m 0 c).after 11 t) :=
  .of_eq (congrArg _ (show iblk m c 11 t = (dats m 0 c).after 11 t by dsimp only [dats]))
theorem left_12 (c : Dev nD) (t : Fin cfg0.N) :
    (owns (c : Thread nD τ) (win0_12.stage (cfg0.slots t 12)) fullShare (iblk m c 12 t) : sProp (Res F)) ⊢ owns (c : Thread nD τ) (win0_12.stage (cfg0.slots t 12)) fullShare ((dats m 0 c).after 12 t) :=
  .of_eq (congrArg _ (show iblk m c 12 t = (dats m 0 c).after 12 t by dsimp only [dats]))
theorem left_13 (c : Dev nD) (t : Fin cfg0.N) :
    (owns (c : Thread nD τ) (win0_13.stage (cfg0.slots t 13)) fullShare (iblk m c 13 t) : sProp (Res F)) ⊢ owns (c : Thread nD τ) (win0_13.stage (cfg0.slots t 13)) fullShare ((dats m 0 c).after 13 t) :=
  .of_eq (congrArg _ (show iblk m c 13 t = (dats m 0 c).after 13 t by dsimp only [dats]))
theorem left_14 (c : Dev nD) (t : Fin cfg0.N) :
    (owns (c : Thread nD τ) (win0_14.stage (cfg0.slots t 14)) fullShare (iblk m c 14 t) : sProp (Res F)) ⊢ owns (c : Thread nD τ) (win0_14.stage (cfg0.slots t 14)) fullShare ((dats m 0 c).after 14 t) :=
  .of_eq (congrArg _ (show iblk m c 14 t = (dats m 0 c).after 14 t by dsimp only [dats]))
theorem left_15 (c : Dev nD) (t : Fin cfg0.N) :
    (owns (c : Thread nD τ) (win0_15.stage (cfg0.slots t 15)) fullShare (iblk m c 15 t) : sProp (Res F)) ⊢ owns (c : Thread nD τ) (win0_15.stage (cfg0.slots t 15)) fullShare ((dats m 0 c).after 15 t) :=
  .of_eq (congrArg _ (show iblk m c 15 t = (dats m 0 c).after 15 t by dsimp only [dats]))
theorem left_16 (c : Dev nD) (t : Fin cfg0.N) :
    (owns (c : Thread nD τ) (win0_16.stage (cfg0.slots t 16)) fullShare (iblk m c 16 t) : sProp (Res F)) ⊢ owns (c : Thread nD τ) (win0_16.stage (cfg0.slots t 16)) fullShare ((dats m 0 c).after 16 t) :=
  .of_eq (congrArg _ (show iblk m c 16 t = (dats m 0 c).after 16 t by dsimp only [dats]))
theorem left_17 (c : Dev nD) (t : Fin cfg0.N) :
    (owns (c : Thread nD τ) (win0_17.stage (cfg0.slots t 17)) fullShare (iblk m c 17 t) : sProp (Res F)) ⊢ owns (c : Thread nD τ) (win0_17.stage (cfg0.slots t 17)) fullShare ((dats m 0 c).after 17 t) :=
  .of_eq (congrArg _ (show iblk m c 17 t = (dats m 0 c).after 17 t by dsimp only [dats]))
theorem left_18 (c : Dev nD) (t : Fin cfg0.N) :
    (owns (c : Thread nD τ) (win0_18.stage (cfg0.slots t 18)) fullShare (iblk m c 18 t) : sProp (Res F)) ⊢ owns (c : Thread nD τ) (win0_18.stage (cfg0.slots t 18)) fullShare ((dats m 0 c).after 18 t) :=
  .of_eq (congrArg _ (show iblk m c 18 t = (dats m 0 c).after 18 t by dsimp only [dats]))
theorem left_19 (c : Dev nD) (t : Fin cfg0.N) :
    (owns (c : Thread nD τ) (win0_19.stage (cfg0.slots t 19)) fullShare (iblk m c 19 t) : sProp (Res F)) ⊢ owns (c : Thread nD τ) (win0_19.stage (cfg0.slots t 19)) fullShare ((dats m 0 c).after 19 t) :=
  .of_eq (congrArg _ (show iblk m c 19 t = (dats m 0 c).after 19 t by dsimp only [dats]))
theorem left_20 (c : Dev nD) (t : Fin cfg0.N) :
    (owns (c : Thread nD τ) (win0_20.stage (cfg0.slots t 20)) fullShare (iblk m c 20 t) : sProp (Res F)) ⊢ owns (c : Thread nD τ) (win0_20.stage (cfg0.slots t 20)) fullShare ((dats m 0 c).after 20 t) :=
  .of_eq (congrArg _ (show iblk m c 20 t = (dats m 0 c).after 20 t by dsimp only [dats]))
theorem left_21 (c : Dev nD) (t : Fin cfg0.N) :
    (owns (c : Thread nD τ) (win0_21.stage (cfg0.slots t 21)) fullShare (iblk m c 21 t) : sProp (Res F)) ⊢ owns (c : Thread nD τ) (win0_21.stage (cfg0.slots t 21)) fullShare ((dats m 0 c).after 21 t) :=
  .of_eq (congrArg _ (show iblk m c 21 t = (dats m 0 c).after 21 t by dsimp only [dats]))
theorem left_22 (c : Dev nD) (t : Fin cfg0.N) :
    (owns (c : Thread nD τ) (win0_22.stage (cfg0.slots t 22)) fullShare (iblk m c 22 t) : sProp (Res F)) ⊢ owns (c : Thread nD τ) (win0_22.stage (cfg0.slots t 22)) fullShare ((dats m 0 c).after 22 t) :=
  .of_eq (congrArg _ (show iblk m c 22 t = (dats m 0 c).after 22 t by dsimp only [dats]))
theorem left_23 (c : Dev nD) (t : Fin cfg0.N) :
    (owns (c : Thread nD τ) (win0_23.stage (cfg0.slots t 23)) fullShare (iblk m c 23 t) : sProp (Res F)) ⊢ owns (c : Thread nD τ) (win0_23.stage (cfg0.slots t 23)) fullShare ((dats m 0 c).after 23 t) :=
  .of_eq (congrArg _ (show iblk m c 23 t = (dats m 0 c).after 23 t by dsimp only [dats]))
theorem left_24 (c : Dev nD) (t : Fin cfg0.N) :
    (owns (c : Thread nD τ) (win0_24.stage (cfg0.slots t 24)) fullShare (iblk m c 24 t) : sProp (Res F)) ⊢ owns (c : Thread nD τ) (win0_24.stage (cfg0.slots t 24)) fullShare ((dats m 0 c).after 24 t) :=
  .of_eq (congrArg _ (show iblk m c 24 t = (dats m 0 c).after 24 t by dsimp only [dats]))
theorem left_25 (c : Dev nD) (t : Fin cfg0.N) :
    (owns (c : Thread nD τ) (win0_25.stage (cfg0.slots t 25)) fullShare (iblk m c 25 t) : sProp (Res F)) ⊢ owns (c : Thread nD τ) (win0_25.stage (cfg0.slots t 25)) fullShare ((dats m 0 c).after 25 t) :=
  .of_eq (congrArg _ (show iblk m c 25 t = (dats m 0 c).after 25 t by dsimp only [dats]))
theorem left_26 (c : Dev nD) (t : Fin cfg0.N) :
    (owns (c : Thread nD τ) (win0_26.stage (cfg0.slots t 26)) fullShare (iblk m c 26 t) : sProp (Res F)) ⊢ owns (c : Thread nD τ) (win0_26.stage (cfg0.slots t 26)) fullShare ((dats m 0 c).after 26 t) :=
  .of_eq (congrArg _ (show iblk m c 26 t = (dats m 0 c).after 26 t by dsimp only [dats]))
theorem left_27 (c : Dev nD) (t : Fin cfg0.N) :
    (owns (c : Thread nD τ) (win0_27.stage (cfg0.slots t 27)) fullShare (iblk m c 27 t) : sProp (Res F)) ⊢ owns (c : Thread nD τ) (win0_27.stage (cfg0.slots t 27)) fullShare ((dats m 0 c).after 27 t) :=
  .of_eq (congrArg _ (show iblk m c 27 t = (dats m 0 c).after 27 t by dsimp only [dats]))
theorem left_28 (c : Dev nD) (t : Fin cfg0.N) :
    (owns (c : Thread nD τ) (win0_28.stage (cfg0.slots t 28)) fullShare (iblk m c 28 t) : sProp (Res F)) ⊢ owns (c : Thread nD τ) (win0_28.stage (cfg0.slots t 28)) fullShare ((dats m 0 c).after 28 t) :=
  .of_eq (congrArg _ (show iblk m c 28 t = (dats m 0 c).after 28 t by dsimp only [dats]))
theorem left_29 (c : Dev nD) (t : Fin cfg0.N) :
    (owns (c : Thread nD τ) (win0_29.stage (cfg0.slots t 29)) fullShare (iblk m c 29 t) : sProp (Res F)) ⊢ owns (c : Thread nD τ) (win0_29.stage (cfg0.slots t 29)) fullShare ((dats m 0 c).after 29 t) :=
  .of_eq (congrArg _ (show iblk m c 29 t = (dats m 0 c).after 29 t by dsimp only [dats]))
theorem left_30 (c : Dev nD) (t : Fin cfg0.N) :
    (owns (c : Thread nD τ) (win0_30.stage (cfg0.slots t 30)) fullShare (iblk m c 30 t) : sProp (Res F)) ⊢ owns (c : Thread nD τ) (win0_30.stage (cfg0.slots t 30)) fullShare ((dats m 0 c).after 30 t) :=
  .of_eq (congrArg _ (show iblk m c 30 t = (dats m 0 c).after 30 t by dsimp only [dats]))
theorem left_31 (c : Dev nD) (t : Fin cfg0.N) :
    (owns (c : Thread nD τ) (win0_31.stage (cfg0.slots t 31)) fullShare (iblk m c 31 t) : sProp (Res F)) ⊢ owns (c : Thread nD τ) (win0_31.stage (cfg0.slots t 31)) fullShare ((dats m 0 c).after 31 t) :=
  .of_eq (congrArg _ (show iblk m c 31 t = (dats m 0 c).after 31 t by dsimp only [dats]))
theorem left_32 (c : Dev nD) (t : Fin cfg0.N) :
    (owns (c : Thread nD τ) (win0_32.stage (cfg0.slots t 32)) fullShare (iblk m c 32 t) : sProp (Res F)) ⊢ owns (c : Thread nD τ) (win0_32.stage (cfg0.slots t 32)) fullShare ((dats m 0 c).after 32 t) :=
  .of_eq (congrArg _ (show iblk m c 32 t = (dats m 0 c).after 32 t by dsimp only [dats]))

set_option maxHeartbeats 2000000 in
theorem taken_of_kept (c : Dev nD) (t : Fin cfg0.N) : kept m c t ⊢ taken m c t := by
  unfold taken kept
  refine BIClass.sep_mono (.of_eq ((scoped_eq c).symm.trans (show _ = (dats m 0 c).Φ t.succ from rfl))) ?_
  refine BIClass.sep_mono (.of_eq (show (dats m 0 c).owesAt () t.castSucc = (dats m 0 c).owesAt () t.succ from rfl)) ?_
  refine BIClass.sep_mono (left_0 m c t) ?_
  refine BIClass.sep_mono (left_1 m c t) ?_
  refine BIClass.sep_mono (left_2 m c t) ?_
  refine BIClass.sep_mono (left_3 m c t) ?_
  refine BIClass.sep_mono (left_4 m c t) ?_
  refine BIClass.sep_mono (left_5 m c t) ?_
  refine BIClass.sep_mono (left_6 m c t) ?_
  refine BIClass.sep_mono (left_7 m c t) ?_
  refine BIClass.sep_mono (left_8 m c t) ?_
  refine BIClass.sep_mono (left_9 m c t) ?_
  refine BIClass.sep_mono (left_10 m c t) ?_
  refine BIClass.sep_mono (left_11 m c t) ?_
  refine BIClass.sep_mono (left_12 m c t) ?_
  refine BIClass.sep_mono (left_13 m c t) ?_
  refine BIClass.sep_mono (left_14 m c t) ?_
  refine BIClass.sep_mono (left_15 m c t) ?_
  refine BIClass.sep_mono (left_16 m c t) ?_
  refine BIClass.sep_mono (left_17 m c t) ?_
  refine BIClass.sep_mono (left_18 m c t) ?_
  refine BIClass.sep_mono (left_19 m c t) ?_
  refine BIClass.sep_mono (left_20 m c t) ?_
  refine BIClass.sep_mono (left_21 m c t) ?_
  refine BIClass.sep_mono (left_22 m c t) ?_
  refine BIClass.sep_mono (left_23 m c t) ?_
  refine BIClass.sep_mono (left_24 m c t) ?_
  refine BIClass.sep_mono (left_25 m c t) ?_
  refine BIClass.sep_mono (left_26 m c t) ?_
  refine BIClass.sep_mono (left_27 m c t) ?_
  refine BIClass.sep_mono (left_28 m c t) ?_
  refine BIClass.sep_mono (left_29 m c t) ?_
  refine BIClass.sep_mono (left_30 m c t) ?_
  refine BIClass.sep_mono (left_31 m c t) ?_
  refine BIClass.sep_mono (left_32 m c t) ?_
  exact .rfl

theorem sound_at (c : Dev nD) (t : Fin cfg0.N) :
    given m c t ⊢ wp frame (wpE (defs₀ (F := F)) Variants.none (c : Thread nD τ) none) Set.univ (bodyAt0 t) (fun _ => taken m c t) :=
  triple_restated (sound m c t) rfl (kept_of_given m c t) fun _ => taken_of_kept m c t

/-- The row of the body table at a point's slots is the body there. -/
theorem row (t : Fin cfg0.N) : defs₀ (F := F) .tc cfg0.body (cfg0.bodyArgs t (cfg0.slots t)) = bodyAt0 t := by
  unfold defs₀; rw [Defs.onTc_tc]

set_option maxHeartbeats 3000000 in
theorem obligation (c : Dev nD) :
    BodyObligation (dats (F := F) m 0 c) (defs₀ (F := F)) Variants.none () Set.univ forgotten := fun t => by
  rw [bigSep_W0, bigSep_W0, row]
  exact triple_restated (sound_at m c t) rfl .rfl fun _ => .rfl

set_option maxHeartbeats 3000000 in
set_option backward.isDefEq.respectTransparency.types false in
/-- Every run ends, with the inputs' arrays as the pipeline found them and every semaphore counter at zero. -/
theorem run : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget_shared (Q' := _) cfgs (dats m) (0 : Fin 1) launch₀0 defs₀ Variants.none forgotten m ρ main
    (hbody := fun c => (obligation m c).loose) (hq := fun _ _ _ => rfl)
    (howed := fun _ _ => rfl) (V := V m) (hmain := hmain m Variants.none) (hA := A_eq m) (hΦ := fun _ _ => rfl)

set_option maxHeartbeats 3000000 in
/-- The frame: every run ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(Pipeline.RDat.FramePost.arr_in h.1 c 7 rfl).trans ((A_eq m c 7).trans (V_main_arg0 m c)),
      (Pipeline.RDat.FramePost.arr_in h.1 c 27 rfl).trans ((A_eq m c 27).trans (V_main_arg1 m c)),
      (Pipeline.RDat.FramePost.arr_in h.1 c 31 rfl).trans ((A_eq m c 31).trans (V_main_arg2 m c)),
      (Pipeline.RDat.FramePost.arr_in h.1 c 9 rfl).trans ((A_eq m c 9).trans (V_main_arg3 m c)),
      (Pipeline.RDat.FramePost.arr_in h.1 c 10 rfl).trans ((A_eq m c 10).trans (V_main_arg4 m c)),
      (Pipeline.RDat.FramePost.arr_in h.1 c 0 rfl).trans ((A_eq m c 0).trans (V_main_arg5 m c))⟩, h.2⟩) (run m ρ)

end Cert.AttnIdeal.Kept

end
-- ==== Proof.lean ====
module

public import proofs.«01_k».proof.Defs
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Proj0
public import proofs.«01_k».proof.Proof.Gen.Proj0.Skeleton
public import proofs.«01_k».proof.Proof.Gen.Proj0.Launch
public import proofs.«01_k».proof.Proof.Gen.Proj0.Points
public import proofs.«01_k».proof.Proof.Gen.Proj0.Frame
public import proofs.«01_k».proof.Proof.Gen.Proj0Ideal
public import proofs.«01_k».proof.Proof.Gen.Proj0Ideal.Skeleton
public import proofs.«01_k».proof.Proof.Gen.Proj0Ideal.Launch
public import proofs.«01_k».proof.Proof.Gen.Proj0Ideal.Points
public import proofs.«01_k».proof.Proof.Gen.Proj0Ideal.Frame
public import proofs.«01_k».proof.Proof.Gen.Proj0RefIdeal
public import proofs.«01_k».proof.Proof.Gen.Proj1
public import proofs.«01_k».proof.Proof.Gen.Proj1.Skeleton
public import proofs.«01_k».proof.Proof.Gen.Proj1.Launch
public import proofs.«01_k».proof.Proof.Gen.Proj1.Points
public import proofs.«01_k».proof.Proof.Gen.Proj1.Frame
public import proofs.«01_k».proof.Proof.Gen.Proj1Ideal
public import proofs.«01_k».proof.Proof.Gen.Proj1Ideal.Skeleton
public import proofs.«01_k».proof.Proof.Gen.Proj1Ideal.Launch
public import proofs.«01_k».proof.Proof.Gen.Proj1Ideal.Points
public import proofs.«01_k».proof.Proof.Gen.Proj1Ideal.Frame
public import proofs.«01_k».proof.Proof.Gen.Proj1RefIdeal
public import proofs.«01_k».proof.Proof.Gen.Proj2
public import proofs.«01_k».proof.Proof.Gen.Proj2.Skeleton
public import proofs.«01_k».proof.Proof.Gen.Proj2.Launch
public import proofs.«01_k».proof.Proof.Gen.Proj2.Points
public import proofs.«01_k».proof.Proof.Gen.Proj2.Frame
public import proofs.«01_k».proof.Proof.Gen.Proj2Ideal
public import proofs.«01_k».proof.Proof.Gen.Proj2Ideal.Skeleton
public import proofs.«01_k».proof.Proof.Gen.Proj2Ideal.Launch
public import proofs.«01_k».proof.Proof.Gen.Proj2Ideal.Points
public import proofs.«01_k».proof.Proof.Gen.Proj2Ideal.Frame
public import proofs.«01_k».proof.Proof.Gen.Proj2RefIdeal
public import proofs.«01_k».proof.Proof.Gen.OutIdeal.Value
public import proofs.«01_k».proof.Proof.Gen.Proj0Ideal.Value
public import proofs.«01_k».proof.Proof.Gen.Proj1Ideal.Value
public import proofs.«01_k».proof.Proof.Gen.Proj2Ideal.Value
public import proofs.«01_k».proof.Proof.Gen.OutRefIdeal.Run
public import proofs.«01_k».proof.Proof.Gen.Proj0RefIdeal.Run
public import proofs.«01_k».proof.Proof.Gen.Proj1RefIdeal.Run
public import proofs.«01_k».proof.Proof.Gen.Proj2RefIdeal.Run
public import Idealize.ShloMosaic.Adequacy
public import Idealize.ShloMosaic.Init
public import Idealize.ShloMosaic.Lib.Quiescent
public import proofs.«01_k».proof.Proof.OutValue
public import proofs.«01_k».proof.Proof.Proj0Value
public import proofs.«01_k».proof.Proof.Proj1Value
public import proofs.«01_k».proof.Proof.Proj2Value
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.AttnFrame
public import proofs.«01_k».proof.Proof.AttnIdealFrame

@[expose] public section

noncomputable section

namespace Cert.Proof

open Idealize.ShloMosaic Idealize.SL.Sem

/-! ## The references' frames -/

theorem frame_ref_out : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

theorem frame_ref_proj0 : Cert.quiescent_Proj0RefIdeal (hProj0RefIdeal := Cert.Proj0RefIdeal.Gen.facts) := fun m ρ _ =>
  (θ_run Cert.Proj0RefIdeal.defs _ _).mono (fun r h => ⟨fun c => (h c).2.2.2.2, sem_eq_zero_of_no_sems (by decide) r.2⟩)
    (Cert.Proj0RefIdeal.Value.run (F := Ideal) m ρ)

theorem frame_ref_proj1 : Cert.quiescent_Proj1RefIdeal (hProj1RefIdeal := Cert.Proj1RefIdeal.Gen.facts) := fun m ρ _ =>
  (θ_run Cert.Proj1RefIdeal.defs _ _).mono (fun r h => ⟨fun c => (h c).2, sem_eq_zero_of_no_sems (by decide) r.2⟩)
    (Cert.Proj1RefIdeal.Value.run (F := Ideal) m ρ)

theorem frame_ref_proj2 : Cert.quiescent_Proj2RefIdeal (hProj2RefIdeal := Cert.Proj2RefIdeal.Gen.facts) := fun m ρ _ =>
  (θ_run Cert.Proj2RefIdeal.defs _ _).mono (fun r h => ⟨fun c => (h c).2, sem_eq_zero_of_no_sems (by decide) r.2⟩)
    (Cert.Proj2RefIdeal.Value.run (F := Ideal) m ρ)

/-! ## The value claims -/

theorem value_out : Cert.algebraic_OutIdeal_OutRefIdeal (hOutIdeal := Cert.OutIdeal.Gen.facts) (hOutRefIdeal := Cert.OutRefIdeal.Gen.facts) := by
  intro m ρ m' ρ' _ hagree
  refine ⟨fun c => Cert.OutIdeal.Final.F m c, ?_, ?_⟩
  · exact (θ_run Cert.OutIdeal.defs _ _).mono (fun _ h c => ⟨(h c).1.trans (Cert.OutIdeal.Final.final m c), (h c).2⟩)
      (Cert.OutIdeal.Value.run_blocks (F := Ideal) m ρ)
  · refine (θ_run Cert.OutRefIdeal.defs _ _).mono (fun _ h c => ⟨(h c).1.trans ?_, (h c).2⟩) (Cert.OutRefIdeal.Value.run (F := Ideal) m' ρ')
    obtain ⟨e0, e1, e2, e3, e4, e5, e6, e7, e8, e9, e10⟩ := hagree c
    rw [Cert.OutRefIdeal.Stages.result_eq m' c, e0, e1, e2, e3, e4, e5, e6, e7, e8, e9, e10]
    rfl

theorem value_proj1 : Cert.algebraic_Proj1Ideal_Proj1RefIdeal (hProj1Ideal := Cert.Proj1Ideal.Gen.facts) (hProj1RefIdeal := Cert.Proj1RefIdeal.Gen.facts) := by
  intro m ρ m' ρ' _ hagree
  refine ⟨fun c => Cert.Proj1Ideal.Final.G m c, ?_, ?_⟩
  · exact (θ_run Cert.Proj1Ideal.defs _ _).mono (fun _ h c => ⟨(h c).1.trans (Cert.Proj1Ideal.Final.final m c), (h c).2⟩)
      (Cert.Proj1Ideal.Value.run_blocks (F := Ideal) m ρ)
  · refine (θ_run Cert.Proj1RefIdeal.defs _ _).mono (fun _ h c => ⟨(h c).1.trans ?_, (h c).2⟩) (Cert.Proj1RefIdeal.Value.run (F := Ideal) m' ρ')
    obtain ⟨e0, e1⟩ := hagree c
    rw [Cert.Proj1RefIdeal.Stages.result_eq m' c, e0, e1]
    rfl

theorem value_proj2 : Cert.algebraic_Proj2Ideal_Proj2RefIdeal (hProj2Ideal := Cert.Proj2Ideal.Gen.facts) (hProj2RefIdeal := Cert.Proj2RefIdeal.Gen.facts) := by
  intro m ρ m' ρ' _ hagree
  refine ⟨fun c => Cert.Proj2Ideal.Final.G m c, ?_, ?_⟩
  · exact (θ_run Cert.Proj2Ideal.defs _ _).mono (fun _ h c => ⟨(h c).1.trans (Cert.Proj2Ideal.Final.final m c), (h c).2⟩)
      (Cert.Proj2Ideal.Value.run_blocks (F := Ideal) m ρ)
  · refine (θ_run Cert.Proj2RefIdeal.defs _ _).mono (fun _ h c => ⟨(h c).1.trans ?_, (h c).2⟩) (Cert.Proj2RefIdeal.Value.run (F := Ideal) m' ρ')
    obtain ⟨e0, e1⟩ := hagree c
    rw [Cert.Proj2RefIdeal.Stages.result_eq m' c, e0, e1]
    rfl

theorem value_proj0 : Cert.algebraic_Proj0Ideal_Proj0RefIdeal (hProj0Ideal := Cert.Proj0Ideal.Gen.facts) (hProj0RefIdeal := Cert.Proj0RefIdeal.Gen.facts) := by
  intro m ρ m' ρ' _ hagree
  refine ⟨fun c => Cert.Proj0Ideal.Final.G m c, fun c => Cert.Proj0RefIdeal.Stages.rows (Cert.Proj0Ideal.Final.H m c),
    fun c => Cert.Proj0RefIdeal.Stages.keys (Cert.Proj0Ideal.Final.P m c) (Host.cos Cert.Proj0RefIdeal.Stages.angle) (Host.sin Cert.Proj0RefIdeal.Stages.angle),
    fun c => Cert.Proj0RefIdeal.Stages.vals (Cert.Proj0Ideal.Final.P m c), ?_, ?_⟩
  · exact (θ_run Cert.Proj0Ideal.defs _ _).mono (fun _ h c => ⟨(h c).1.trans (Cert.Proj0Ideal.Final.final_slab m c),
      (h c).2.1.trans (Cert.Proj0Ideal.Final.final_rows m c), (h c).2.2.1.trans (Cert.Proj0Ideal.Final.final_keys m c),
      (h c).2.2.2.1.trans (Cert.Proj0Ideal.Final.final_vals m c), (h c).2.2.2.2⟩)
      (Cert.Proj0Ideal.Value.run_blocks (F := Ideal) m ρ)
  · refine (θ_run Cert.Proj0RefIdeal.defs _ _).mono (fun _ h c => ?_) (Cert.Proj0RefIdeal.Stages.run_stages m' ρ')
    obtain ⟨e0, e1, e2⟩ := hagree c
    obtain ⟨h0, h1, h2, h3, h4⟩ := h c
    rw [e0, e1, e2] at h0
    rw [e0, e1] at h1
    rw [e0, e1, e2] at h2
    rw [e0, e1, e2] at h3
    exact ⟨h0, h1, h2, h3, h4⟩

theorem claim : Cert.Claim :=
  ⟨Cert.Out.Gen.facts, Cert.OutIdeal.Gen.facts, Cert.OutRefIdeal.Gen.facts, Cert.Proj0.Gen.facts, Cert.Proj0Ideal.Gen.facts, Cert.Proj0RefIdeal.Gen.facts, Cert.Proj1.Gen.facts, Cert.Proj1Ideal.Gen.facts, Cert.Proj1RefIdeal.Gen.facts, Cert.Proj2.Gen.facts, Cert.Proj2Ideal.Gen.facts, Cert.Proj2RefIdeal.Gen.facts, Cert.Prep.Gen.facts, Cert.PrepIdeal.Gen.facts, Cert.Cmp.Gen.facts, Cert.CmpIdeal.Gen.facts, Cert.Attn.Gen.facts, Cert.AttnIdeal.Gen.facts,
    fun m ρ _ => Cert.Out.Gen.frame m ρ, fun m ρ _ => Cert.OutIdeal.Gen.frame m ρ, frame_ref_out, fun m ρ _ => Cert.Proj0.Gen.frame m ρ, fun m ρ _ => Cert.Proj0Ideal.Gen.frame m ρ, frame_ref_proj0, fun m ρ _ => Cert.Proj1.Gen.frame m ρ, fun m ρ _ => Cert.Proj1Ideal.Gen.frame m ρ, frame_ref_proj1, fun m ρ _ => Cert.Proj2.Gen.frame m ρ, fun m ρ _ => Cert.Proj2Ideal.Gen.frame m ρ, frame_ref_proj2, fun m ρ _ => Cert.Prep.Gen.frame m ρ, fun m ρ _ => Cert.PrepIdeal.Gen.frame m ρ, fun m ρ _ => Cert.Cmp.Gen.frame m ρ, fun m ρ _ => Cert.CmpIdeal.Gen.frame m ρ, fun m ρ _ => Cert.Attn.Kept.frame m ρ, fun m ρ _ => Cert.AttnIdeal.Kept.frame m ρ,
    trivial, trivial, trivial, trivial, trivial, trivial, trivial,
    value_out, value_proj0, value_proj1, value_proj2⟩

end Cert.Proof

end
